-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_InprojSample (m : (ℓ : Loc Cert.InprojSample.nD Cert.InprojSample.τ Cert.InprojSample.sig) → Buf (Elt Bits) ℓ) : Prop :=
  True

def Pre_InprojSampleIdeal (m : (ℓ : Loc Cert.InprojSampleIdeal.nD Cert.InprojSampleIdeal.τ Cert.InprojSampleIdeal.sig) → Buf (Elt Ideal) ℓ) : Prop :=
  True

def Pre_InprojSampleReferenceIdeal (m : (ℓ : Loc Cert.InprojSampleReferenceIdeal.nD Cert.InprojSampleReferenceIdeal.τ Cert.InprojSampleReferenceIdeal.sig) → Buf (Elt Ideal) ℓ) : Prop :=
  True

def Pre_AttnSample (m : (ℓ : Loc Cert.AttnSample.nD Cert.AttnSample.τ Cert.AttnSample.sig) → Buf (Elt Bits) ℓ) : Prop :=
  True

def Pre_AttnSampleIdeal (m : (ℓ : Loc Cert.AttnSampleIdeal.nD Cert.AttnSampleIdeal.τ Cert.AttnSampleIdeal.sig) → Buf (Elt Ideal) ℓ) : Prop :=
  True

def Pre_AttnSampleIdeal_finite_sample [hPre_finite_sample : Cert.Pre_finite_sample.Facts] (m : (ℓ : Loc Cert.AttnSampleIdeal.nD Cert.AttnSampleIdeal.τ Cert.AttnSampleIdeal.sig) → Buf (Elt Ideal) ℓ) : Prop :=
  ∀ c : Dev Cert.AttnSampleIdeal.nD,
    (Cert.Pre_finite_sample.fn (F := Ideal) (m ((c.tc : Thread Cert.AttnSampleIdeal.nD Cert.AttnSampleIdeal.τ).loc Cert.AttnSampleIdeal.main_arg0)) (m ((c.tc : Thread Cert.AttnSampleIdeal.nD Cert.AttnSampleIdeal.τ).loc Cert.AttnSampleIdeal.main_arg1))) = (fun _ => 1#1)

def Pre_AttnSampleReferenceIdeal (m : (ℓ : Loc Cert.AttnSampleReferenceIdeal.nD Cert.AttnSampleReferenceIdeal.τ Cert.AttnSampleReferenceIdeal.sig) → Buf (Elt Ideal) ℓ) : Prop :=
  True

def Pre_AttnSampleReferenceIdeal_finite_sample [hPre_finite_sample : Cert.Pre_finite_sample.Facts] (m : (ℓ : Loc Cert.AttnSampleReferenceIdeal.nD Cert.AttnSampleReferenceIdeal.τ Cert.AttnSampleReferenceIdeal.sig) → Buf (Elt Ideal) ℓ) : Prop :=
  ∀ c : Dev Cert.AttnSampleReferenceIdeal.nD,
    (Cert.Pre_finite_sample.fn (F := Ideal) (m ((c.tc : Thread Cert.AttnSampleReferenceIdeal.nD Cert.AttnSampleReferenceIdeal.τ).loc Cert.AttnSampleReferenceIdeal.main_arg0)) (m ((c.tc : Thread Cert.AttnSampleReferenceIdeal.nD Cert.AttnSampleReferenceIdeal.τ).loc Cert.AttnSampleReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11)
      ∧ r.2.mem ((c.tc : Thread Cert.Ffn.nD Cert.Ffn.τ).loc Cert.Ffn.main_arg12) = m ((c.tc : Thread Cert.Ffn.nD Cert.Ffn.τ).loc Cert.Ffn.main_arg12)
      ∧ r.2.mem ((c.tc : Thread Cert.Ffn.nD Cert.Ffn.τ).loc Cert.Ffn.main_arg13) = m ((c.tc : Thread Cert.Ffn.nD Cert.Ffn.τ).loc Cert.Ffn.main_arg13)
      ∧ r.2.mem ((c.tc : Thread Cert.Ffn.nD Cert.Ffn.τ).loc Cert.Ffn.main_arg14) = m ((c.tc : Thread Cert.Ffn.nD Cert.Ffn.τ).loc Cert.Ffn.main_arg14))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
      ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13)
      ∧ r.2.mem ((c.tc : Thread Cert.FfnIdeal.nD Cert.FfnIdeal.τ).loc Cert.FfnIdeal.main_arg14) = m ((c.tc : Thread Cert.FfnIdeal.nD Cert.FfnIdeal.τ).loc Cert.FfnIdeal.main_arg14))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10)
      ∧ r.2.mem ((c.tc : Thread Cert.FfnReferenceIdeal.nD Cert.FfnReferenceIdeal.τ).loc Cert.FfnReferenceIdeal.main_arg11) = m ((c.tc : Thread Cert.FfnReferenceIdeal.nD Cert.FfnReferenceIdeal.τ).loc Cert.FfnReferenceIdeal.main_arg11)
      ∧ r.2.mem ((c.tc : Thread Cert.FfnReferenceIdeal.nD Cert.FfnReferenceIdeal.τ).loc Cert.FfnReferenceIdeal.main_arg12) = m ((c.tc : Thread Cert.FfnReferenceIdeal.nD Cert.FfnReferenceIdeal.τ).loc Cert.FfnReferenceIdeal.main_arg12)
      ∧ r.2.mem ((c.tc : Thread Cert.FfnReferenceIdeal.nD Cert.FfnReferenceIdeal.τ).loc Cert.FfnReferenceIdeal.main_arg13) = m ((c.tc : Thread Cert.FfnReferenceIdeal.nD Cert.FfnReferenceIdeal.τ).loc Cert.FfnReferenceIdeal.main_arg13)
      ∧ r.2.mem ((c.tc : Thread Cert.FfnReferenceIdeal.nD Cert.FfnReferenceIdeal.τ).loc Cert.FfnReferenceIdeal.main_arg14) = m ((c.tc : Thread Cert.FfnReferenceIdeal.nD Cert.FfnReferenceIdeal.τ).loc Cert.FfnReferenceIdeal.main_arg14))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6)
      ∧ r.2.mem ((c.tc : Thread Cert.FfnSample.nD Cert.FfnSample.τ).loc Cert.FfnSample.main_arg7) = m ((c.tc : Thread Cert.FfnSample.nD Cert.FfnSample.τ).loc Cert.FfnSample.main_arg7)
      ∧ r.2.mem ((c.tc : Thread Cert.FfnSample.nD Cert.FfnSample.τ).loc Cert.FfnSample.main_arg8) = m ((c.tc : Thread Cert.FfnSample.nD Cert.FfnSample.τ).loc Cert.FfnSample.main_arg8)
      ∧ r.2.mem ((c.tc : Thread Cert.FfnSample.nD Cert.FfnSample.τ).loc Cert.FfnSample.main_arg9) = m ((c.tc : Thread Cert.FfnSample.nD Cert.FfnSample.τ).loc Cert.FfnSample.main_arg9)
      ∧ r.2.mem ((c.tc : Thread Cert.FfnSample.nD Cert.FfnSample.τ).loc Cert.FfnSample.main_arg10) = m ((c.tc : Thread Cert.FfnSample.nD Cert.FfnSample.τ).loc Cert.FfnSample.main_arg10)
      ∧ r.2.mem ((c.tc : Thread Cert.FfnSample.nD Cert.FfnSample.τ).loc Cert.FfnSample.main_arg11) = m ((c.tc : Thread Cert.FfnSample.nD Cert.FfnSample.τ).loc Cert.FfnSample.main_arg11)
      ∧ r.2.mem ((c.tc : Thread Cert.FfnSample.nD Cert.FfnSample.τ).loc Cert.FfnSample.main_arg12) = m ((c.tc : Thread Cert.FfnSample.nD Cert.FfnSample.τ).loc Cert.FfnSample.main_arg12)
      ∧ r.2.mem ((c.tc : Thread Cert.FfnSample.nD Cert.FfnSample.τ).loc Cert.FfnSample.main_arg13) = m ((c.tc : Thread Cert.FfnSample.nD Cert.FfnSample.τ).loc Cert.FfnSample.main_arg13)
      ∧ r.2.mem ((c.tc : Thread Cert.FfnSample.nD Cert.FfnSample.τ).loc Cert.FfnSample.main_arg14) = m ((c.tc : Thread Cert.FfnSample.nD Cert.FfnSample.τ).loc Cert.FfnSample.main_arg14))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
      ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
      ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8)
      ∧ r.2.mem ((c.tc : Thread Cert.FfnSampleIdeal.nD Cert.FfnSampleIdeal.τ).loc Cert.FfnSampleIdeal.main_arg9) = m ((c.tc : Thread Cert.FfnSampleIdeal.nD Cert.FfnSampleIdeal.τ).loc Cert.FfnSampleIdeal.main_arg9)
      ∧ r.2.mem ((c.tc : Thread Cert.FfnSampleIdeal.nD Cert.FfnSampleIdeal.τ).loc Cert.FfnSampleIdeal.main_arg10) = m ((c.tc : Thread Cert.FfnSampleIdeal.nD Cert.FfnSampleIdeal.τ).loc Cert.FfnSampleIdeal.main_arg10)
      ∧ r.2.mem ((c.tc : Thread Cert.FfnSampleIdeal.nD Cert.FfnSampleIdeal.τ).loc Cert.FfnSampleIdeal.main_arg11) = m ((c.tc : Thread Cert.FfnSampleIdeal.nD Cert.FfnSampleIdeal.τ).loc Cert.FfnSampleIdeal.main_arg11)
      ∧ r.2.mem ((c.tc : Thread Cert.FfnSampleIdeal.nD Cert.FfnSampleIdeal.τ).loc Cert.FfnSampleIdeal.main_arg12) = m ((c.tc : Thread Cert.FfnSampleIdeal.nD Cert.FfnSampleIdeal.τ).loc Cert.FfnSampleIdeal.main_arg12)
      ∧ r.2.mem ((c.tc : Thread Cert.FfnSampleIdeal.nD Cert.FfnSampleIdeal.τ).loc Cert.FfnSampleIdeal.main_arg13) = m ((c.tc : Thread Cert.FfnSampleIdeal.nD Cert.FfnSampleIdeal.τ).loc Cert.FfnSampleIdeal.main_arg13)
      ∧ r.2.mem ((c.tc : Thread Cert.FfnSampleIdeal.nD Cert.FfnSampleIdeal.τ).loc Cert.FfnSampleIdeal.main_arg14) = m ((c.tc : Thread Cert.FfnSampleIdeal.nD Cert.FfnSampleIdeal.τ).loc Cert.FfnSampleIdeal.main_arg14))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5)
      ∧ r.2.mem ((c.tc : Thread Cert.FfnSampleReferenceIdeal.nD Cert.FfnSampleReferenceIdeal.τ).loc Cert.FfnSampleReferenceIdeal.main_arg6) = m ((c.tc : Thread Cert.FfnSampleReferenceIdeal.nD Cert.FfnSampleReferenceIdeal.τ).loc Cert.FfnSampleReferenceIdeal.main_arg6)
      ∧ r.2.mem ((c.tc : Thread Cert.FfnSampleReferenceIdeal.nD Cert.FfnSampleReferenceIdeal.τ).loc Cert.FfnSampleReferenceIdeal.main_arg7) = m ((c.tc : Thread Cert.FfnSampleReferenceIdeal.nD Cert.FfnSampleReferenceIdeal.τ).loc Cert.FfnSampleReferenceIdeal.main_arg7)
      ∧ r.2.mem ((c.tc : Thread Cert.FfnSampleReferenceIdeal.nD Cert.FfnSampleReferenceIdeal.τ).loc Cert.FfnSampleReferenceIdeal.main_arg8) = m ((c.tc : Thread Cert.FfnSampleReferenceIdeal.nD Cert.FfnSampleReferenceIdeal.τ).loc Cert.FfnSampleReferenceIdeal.main_arg8)
      ∧ r.2.mem ((c.tc : Thread Cert.FfnSampleReferenceIdeal.nD Cert.FfnSampleReferenceIdeal.τ).loc Cert.FfnSampleReferenceIdeal.main_arg9) = m ((c.tc : Thread Cert.FfnSampleReferenceIdeal.nD Cert.FfnSampleReferenceIdeal.τ).loc Cert.FfnSampleReferenceIdeal.main_arg9)
      ∧ r.2.mem ((c.tc : Thread Cert.FfnSampleReferenceIdeal.nD Cert.FfnSampleReferenceIdeal.τ).loc Cert.FfnSampleReferenceIdeal.main_arg10) = m ((c.tc : Thread Cert.FfnSampleReferenceIdeal.nD Cert.FfnSampleReferenceIdeal.τ).loc Cert.FfnSampleReferenceIdeal.main_arg10)
      ∧ r.2.mem ((c.tc : Thread Cert.FfnSampleReferenceIdeal.nD Cert.FfnSampleReferenceIdeal.τ).loc Cert.FfnSampleReferenceIdeal.main_arg11) = m ((c.tc : Thread Cert.FfnSampleReferenceIdeal.nD Cert.FfnSampleReferenceIdeal.τ).loc Cert.FfnSampleReferenceIdeal.main_arg11)
      ∧ r.2.mem ((c.tc : Thread Cert.FfnSampleReferenceIdeal.nD Cert.FfnSampleReferenceIdeal.τ).loc Cert.FfnSampleReferenceIdeal.main_arg12) = m ((c.tc : Thread Cert.FfnSampleReferenceIdeal.nD Cert.FfnSampleReferenceIdeal.τ).loc Cert.FfnSampleReferenceIdeal.main_arg12)
      ∧ r.2.mem ((c.tc : Thread Cert.FfnSampleReferenceIdeal.nD Cert.FfnSampleReferenceIdeal.τ).loc Cert.FfnSampleReferenceIdeal.main_arg13) = m ((c.tc : Thread Cert.FfnSampleReferenceIdeal.nD Cert.FfnSampleReferenceIdeal.τ).loc Cert.FfnSampleReferenceIdeal.main_arg13)
      ∧ r.2.mem ((c.tc : Thread Cert.FfnSampleReferenceIdeal.nD Cert.FfnSampleReferenceIdeal.τ).loc Cert.FfnSampleReferenceIdeal.main_arg14) = m ((c.tc : Thread Cert.FfnSampleReferenceIdeal.nD Cert.FfnSampleReferenceIdeal.τ).loc Cert.FfnSampleReferenceIdeal.main_arg14))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4))
      ∧ r.2.sem = fun _ => 0)

def quiescent_InprojSample [hInprojSample : Cert.InprojSample.Facts] : Prop :=
  ∀ (m : (ℓ : Loc Cert.InprojSample.nD Cert.InprojSample.τ Cert.InprojSample.sig) → Buf (Elt Bits) ℓ) (g : Dev Cert.InprojSample.nD → PrngReg), Pre_InprojSample m →
    θ_run (Cert.InprojSample.defs (F := Bits)) (onTc (τ := Cert.InprojSample.τ) (Cert.InprojSample.main (F := Bits))) ⟨m, fun _ => 0, g⟩ (fun r => (∀ c : Dev Cert.InprojSample.nD,
      r.2.mem ((c.tc : Thread Cert.InprojSample.nD Cert.InprojSample.τ).loc Cert.InprojSample.main_arg0) = m ((c.tc : Thread Cert.InprojSample.nD Cert.InprojSample.τ).loc Cert.InprojSample.main_arg0)
      ∧ r.2.mem ((c.tc : Thread Cert.InprojSample.nD Cert.InprojSample.τ).loc Cert.InprojSample.main_arg1) = m ((c.tc : Thread Cert.InprojSample.nD Cert.InprojSample.τ).loc Cert.InprojSample.main_arg1)
      ∧ r.2.mem ((c.tc : Thread Cert.InprojSample.nD Cert.InprojSample.τ).loc Cert.InprojSample.main_arg2) = m ((c.tc : Thread Cert.InprojSample.nD Cert.InprojSample.τ).loc Cert.InprojSample.main_arg2)
      ∧ r.2.mem ((c.tc : Thread Cert.InprojSample.nD Cert.InprojSample.τ).loc Cert.InprojSample.main_arg3) = m ((c.tc : Thread Cert.InprojSample.nD Cert.InprojSample.τ).loc Cert.InprojSample.main_arg3)
      ∧ r.2.mem ((c.tc : Thread Cert.InprojSample.nD Cert.InprojSample.τ).loc Cert.InprojSample.main_arg4) = m ((c.tc : Thread Cert.InprojSample.nD Cert.InprojSample.τ).loc Cert.InprojSample.main_arg4))
      ∧ r.2.sem = fun _ => 0)

def quiescent_InprojSampleIdeal [hInprojSampleIdeal : Cert.InprojSampleIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
      ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
      ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
      ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4))
      ∧ r.2.sem = fun _ => 0)

def quiescent_InprojSampleReferenceIdeal [hInprojSampleReferenceIdeal : Cert.InprojSampleReferenceIdeal.Facts] : Prop :=
  ∀ (m : (ℓ : Loc Cert.InprojSampleReferenceIdeal.nD Cert.InprojSampleReferenceIdeal.τ Cert.InprojSampleReferenceIdeal.sig) → Buf (Elt Ideal) ℓ) (g : Dev Cert.InprojSampleReferenceIdeal.nD → PrngReg), Pre_InprojSampleReferenceIdeal m →
    θ_run (Cert.InprojSampleReferenceIdeal.defs (F := Ideal)) (onTc (τ := Cert.InprojSampleReferenceIdeal.τ) (Cert.InprojSampleReferenceIdeal.main (F := Ideal))) ⟨m, fun _ => 0, g⟩ (fun r => (∀ c : Dev Cert.InprojSampleReferenceIdeal.nD,
      r.2.mem ((c.tc : Thread Cert.InprojSampleReferenceIdeal.nD Cert.InprojSampleReferenceIdeal.τ).loc Cert.InprojSampleReferenceIdeal.main_arg0) = m ((c.tc : Thread Cert.InprojSampleReferenceIdeal.nD Cert.InprojSampleReferenceIdeal.τ).loc Cert.InprojSampleReferenceIdeal.main_arg0)
      ∧ r.2.mem ((c.tc : Thread Cert.InprojSampleReferenceIdeal.nD Cert.InprojSampleReferenceIdeal.τ).loc Cert.InprojSampleReferenceIdeal.main_arg1) = m ((c.tc : Thread Cert.InprojSampleReferenceIdeal.nD Cert.InprojSampleReferenceIdeal.τ).loc Cert.InprojSampleReferenceIdeal.main_arg1)
      ∧ r.2.mem ((c.tc : Thread Cert.InprojSampleReferenceIdeal.nD Cert.InprojSampleReferenceIdeal.τ).loc Cert.InprojSampleReferenceIdeal.main_arg2) = m ((c.tc : Thread Cert.InprojSampleReferenceIdeal.nD Cert.InprojSampleReferenceIdeal.τ).loc Cert.InprojSampleReferenceIdeal.main_arg2)
      ∧ r.2.mem ((c.tc : Thread Cert.InprojSampleReferenceIdeal.nD Cert.InprojSampleReferenceIdeal.τ).loc Cert.InprojSampleReferenceIdeal.main_arg3) = m ((c.tc : Thread Cert.InprojSampleReferenceIdeal.nD Cert.InprojSampleReferenceIdeal.τ).loc Cert.InprojSampleReferenceIdeal.main_arg3)
      ∧ r.2.mem ((c.tc : Thread Cert.InprojSampleReferenceIdeal.nD Cert.InprojSampleReferenceIdeal.τ).loc Cert.InprojSampleReferenceIdeal.main_arg4) = m ((c.tc : Thread Cert.InprojSampleReferenceIdeal.nD Cert.InprojSampleReferenceIdeal.τ).loc Cert.InprojSampleReferenceIdeal.main_arg4))
      ∧ r.2.sem = fun _ => 0)

def quiescent_AttnSample [hAttnSample : Cert.AttnSample.Facts] : Prop :=
  ∀ (m : (ℓ : Loc Cert.AttnSample.nD Cert.AttnSample.τ Cert.AttnSample.sig) → Buf (Elt Bits) ℓ) (g : Dev Cert.AttnSample.nD → PrngReg), Pre_AttnSample m →
    θ_run (Cert.AttnSample.defs (F := Bits)) (onTc (τ := Cert.AttnSample.τ) (Cert.AttnSample.main (F := Bits))) ⟨m, fun _ => 0, g⟩ (fun r => (∀ c : Dev Cert.AttnSample.nD,
      r.2.mem ((c.tc : Thread Cert.AttnSample.nD Cert.AttnSample.τ).loc Cert.AttnSample.main_arg0) = m ((c.tc : Thread Cert.AttnSample.nD Cert.AttnSample.τ).loc Cert.AttnSample.main_arg0)
      ∧ r.2.mem ((c.tc : Thread Cert.AttnSample.nD Cert.AttnSample.τ).loc Cert.AttnSample.main_arg1) = m ((c.tc : Thread Cert.AttnSample.nD Cert.AttnSample.τ).loc Cert.AttnSample.main_arg1))
      ∧ r.2.sem = fun _ => 0)

def quiescent_AttnSampleIdeal [hAttnSampleIdeal : Cert.AttnSampleIdeal.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1))
      ∧ r.2.sem = fun _ => 0)

def quiescent_AttnSampleIdeal_pre_finite_sample [hAttnSampleIdeal : Cert.AttnSampleIdeal.Facts] [hPre_finite_sample : Cert.Pre_finite_sample.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal_finite_sample m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1))
      ∧ r.2.sem = fun _ => 0)

def quiescent_AttnSampleReferenceIdeal [hAttnSampleReferenceIdeal : Cert.AttnSampleReferenceIdeal.Facts] : Prop :=
  ∀ (m : (ℓ : Loc Cert.AttnSampleReferenceIdeal.nD Cert.AttnSampleReferenceIdeal.τ Cert.AttnSampleReferenceIdeal.sig) → Buf (Elt Ideal) ℓ) (g : Dev Cert.AttnSampleReferenceIdeal.nD → PrngReg), Pre_AttnSampleReferenceIdeal m →
    θ_run (Cert.AttnSampleReferenceIdeal.defs (F := Ideal)) (onTc (τ := Cert.AttnSampleReferenceIdeal.τ) (Cert.AttnSampleReferenceIdeal.main (F := Ideal))) ⟨m, fun _ => 0, g⟩ (fun r => (∀ c : Dev Cert.AttnSampleReferenceIdeal.nD,
      r.2.mem ((c.tc : Thread Cert.AttnSampleReferenceIdeal.nD Cert.AttnSampleReferenceIdeal.τ).loc Cert.AttnSampleReferenceIdeal.main_arg0) = m ((c.tc : Thread Cert.AttnSampleReferenceIdeal.nD Cert.AttnSampleReferenceIdeal.τ).loc Cert.AttnSampleReferenceIdeal.main_arg0)
      ∧ r.2.mem ((c.tc : Thread Cert.AttnSampleReferenceIdeal.nD Cert.AttnSampleReferenceIdeal.τ).loc Cert.AttnSampleReferenceIdeal.main_arg1) = m ((c.tc : Thread Cert.AttnSampleReferenceIdeal.nD Cert.AttnSampleReferenceIdeal.τ).loc Cert.AttnSampleReferenceIdeal.main_arg1))
      ∧ r.2.sem = fun _ => 0)

def quiescent_AttnSampleReferenceIdeal_pre_finite_sample [hAttnSampleReferenceIdeal : Cert.AttnSampleReferenceIdeal.Facts] [hPre_finite_sample : Cert.Pre_finite_sample.Facts] : Prop :=
  ∀ (m : (ℓ : Loc Cert.AttnSampleReferenceIdeal.nD Cert.AttnSampleReferenceIdeal.τ Cert.AttnSampleReferenceIdeal.sig) → Buf (Elt Ideal) ℓ) (g : Dev Cert.AttnSampleReferenceIdeal.nD → PrngReg), Pre_AttnSampleReferenceIdeal_finite_sample m →
    θ_run (Cert.AttnSampleReferenceIdeal.defs (F := Ideal)) (onTc (τ := Cert.AttnSampleReferenceIdeal.τ) (Cert.AttnSampleReferenceIdeal.main (F := Ideal))) ⟨m, fun _ => 0, g⟩ (fun r => (∀ c : Dev Cert.AttnSampleReferenceIdeal.nD,
      r.2.mem ((c.tc : Thread Cert.AttnSampleReferenceIdeal.nD Cert.AttnSampleReferenceIdeal.τ).loc Cert.AttnSampleReferenceIdeal.main_arg0) = m ((c.tc : Thread Cert.AttnSampleReferenceIdeal.nD Cert.AttnSampleReferenceIdeal.τ).loc Cert.AttnSampleReferenceIdeal.main_arg0)
      ∧ r.2.mem ((c.tc : Thread Cert.AttnSampleReferenceIdeal.nD Cert.AttnSampleReferenceIdeal.τ).loc Cert.AttnSampleReferenceIdeal.main_arg1) = m ((c.tc : Thread Cert.AttnSampleReferenceIdeal.nD Cert.AttnSampleReferenceIdeal.τ).loc Cert.AttnSampleReferenceIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "neg" .f32 0xF149F2CA#32 ⊥
  ∧ IdealRules.named_const.Statement Cert.KernelIdeal.κ "qscale" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)
      ∧ m' ((c.tc : Thread Cert.FfnReferenceIdeal.nD Cert.FfnReferenceIdeal.τ).loc Cert.FfnReferenceIdeal.main_arg10) = m ((c.tc : Thread Cert.FfnIdeal.nD Cert.FfnIdeal.τ).loc Cert.FfnIdeal.main_arg10)
      ∧ m' ((c.tc : Thread Cert.FfnReferenceIdeal.nD Cert.FfnReferenceIdeal.τ).loc Cert.FfnReferenceIdeal.main_arg11) = m ((c.tc : Thread Cert.FfnIdeal.nD Cert.FfnIdeal.τ).loc Cert.FfnIdeal.main_arg11)
      ∧ m' ((c.tc : Thread Cert.FfnReferenceIdeal.nD Cert.FfnReferenceIdeal.τ).loc Cert.FfnReferenceIdeal.main_arg12) = m ((c.tc : Thread Cert.FfnIdeal.nD Cert.FfnIdeal.τ).loc Cert.FfnIdeal.main_arg12)
      ∧ m' ((c.tc : Thread Cert.FfnReferenceIdeal.nD Cert.FfnReferenceIdeal.τ).loc Cert.FfnReferenceIdeal.main_arg13) = m ((c.tc : Thread Cert.FfnIdeal.nD Cert.FfnIdeal.τ).loc Cert.FfnIdeal.main_arg13)
      ∧ m' ((c.tc : Thread Cert.FfnReferenceIdeal.nD Cert.FfnReferenceIdeal.τ).loc Cert.FfnReferenceIdeal.main_arg14) = m ((c.tc : Thread Cert.FfnIdeal.nD Cert.FfnIdeal.τ).loc Cert.FfnIdeal.main_arg14)) →
    ∃ (v0 : (c : Dev Cert.FfnIdeal.nD) → Buf (Elt Ideal) ((c.tc : Thread Cert.FfnIdeal.nD Cert.FfnIdeal.τ).loc Cert.FfnIdeal.main_v28)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v28) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
          ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
          ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13)
          ∧ r.2.mem ((c.tc : Thread Cert.FfnIdeal.nD Cert.FfnIdeal.τ).loc Cert.FfnIdeal.main_arg14) = m ((c.tc : Thread Cert.FfnIdeal.nD Cert.FfnIdeal.τ).loc Cert.FfnIdeal.main_arg14))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v66) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9)
          ∧ r.2.mem ((c.tc : Thread Cert.FfnReferenceIdeal.nD Cert.FfnReferenceIdeal.τ).loc Cert.FfnReferenceIdeal.main_arg10) = m' ((c.tc : Thread Cert.FfnReferenceIdeal.nD Cert.FfnReferenceIdeal.τ).loc Cert.FfnReferenceIdeal.main_arg10)
          ∧ r.2.mem ((c.tc : Thread Cert.FfnReferenceIdeal.nD Cert.FfnReferenceIdeal.τ).loc Cert.FfnReferenceIdeal.main_arg11) = m' ((c.tc : Thread Cert.FfnReferenceIdeal.nD Cert.FfnReferenceIdeal.τ).loc Cert.FfnReferenceIdeal.main_arg11)
          ∧ r.2.mem ((c.tc : Thread Cert.FfnReferenceIdeal.nD Cert.FfnReferenceIdeal.τ).loc Cert.FfnReferenceIdeal.main_arg12) = m' ((c.tc : Thread Cert.FfnReferenceIdeal.nD Cert.FfnReferenceIdeal.τ).loc Cert.FfnReferenceIdeal.main_arg12)
          ∧ r.2.mem ((c.tc : Thread Cert.FfnReferenceIdeal.nD Cert.FfnReferenceIdeal.τ).loc Cert.FfnReferenceIdeal.main_arg13) = m' ((c.tc : Thread Cert.FfnReferenceIdeal.nD Cert.FfnReferenceIdeal.τ).loc Cert.FfnReferenceIdeal.main_arg13)
          ∧ r.2.mem ((c.tc : Thread Cert.FfnReferenceIdeal.nD Cert.FfnReferenceIdeal.τ).loc Cert.FfnReferenceIdeal.main_arg14) = m' ((c.tc : Thread Cert.FfnReferenceIdeal.nD Cert.FfnReferenceIdeal.τ).loc Cert.FfnReferenceIdeal.main_arg14))

def preserves_FfnSample_FfnSampleIdeal : Prop :=
  True

def algebraic_FfnSampleIdeal_FfnSampleReferenceIdeal [hFfnSampleIdeal : Cert.FfnSampleIdeal.Facts] [hFfnSampleReferenceIdeal : Cert.FfnSampleReferenceIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleIdeal m →
    (∀ c : Dev Cert.FfnSampleIdeal.nD,
      m' ((c.tc : Thread Cert.FfnSampleReferenceIdeal.nD Cert.FfnSampleReferenceIdeal.τ).loc Cert.FfnSampleReferenceIdeal.main_arg0) = m ((c.tc : Thread Cert.FfnSampleIdeal.nD Cert.FfnSampleIdeal.τ).loc Cert.FfnSampleIdeal.main_arg0)
      ∧ m' ((c.tc : Thread Cert.FfnSampleReferenceIdeal.nD Cert.FfnSampleReferenceIdeal.τ).loc Cert.FfnSampleReferenceIdeal.main_arg1) = m ((c.tc : Thread Cert.FfnSampleIdeal.nD Cert.FfnSampleIdeal.τ).loc Cert.FfnSampleIdeal.main_arg1)
      ∧ m' ((c.tc : Thread Cert.FfnSampleReferenceIdeal.nD Cert.FfnSampleReferenceIdeal.τ).loc Cert.FfnSampleReferenceIdeal.main_arg2) = m ((c.tc : Thread Cert.FfnSampleIdeal.nD Cert.FfnSampleIdeal.τ).loc Cert.FfnSampleIdeal.main_arg2)
      ∧ m' ((c.tc : Thread Cert.FfnSampleReferenceIdeal.nD Cert.FfnSampleReferenceIdeal.τ).loc Cert.FfnSampleReferenceIdeal.main_arg3) = m ((c.tc : Thread Cert.FfnSampleIdeal.nD Cert.FfnSampleIdeal.τ).loc Cert.FfnSampleIdeal.main_arg3)
      ∧ m' ((c.tc : Thread Cert.FfnSampleReferenceIdeal.nD Cert.FfnSampleReferenceIdeal.τ).loc Cert.FfnSampleReferenceIdeal.main_arg4) = m ((c.tc : Thread Cert.FfnSampleIdeal.nD Cert.FfnSampleIdeal.τ).loc Cert.FfnSampleIdeal.main_arg4)
      ∧ m' ((c.tc : Thread Cert.FfnSampleReferenceIdeal.nD Cert.FfnSampleReferenceIdeal.τ).loc Cert.FfnSampleReferenceIdeal.main_arg5) = m ((c.tc : Thread Cert.FfnSampleIdeal.nD Cert.FfnSampleIdeal.τ).loc Cert.FfnSampleIdeal.main_arg5)
      ∧ m' ((c.tc : Thread Cert.FfnSampleReferenceIdeal.nD Cert.FfnSampleReferenceIdeal.τ).loc Cert.FfnSampleReferenceIdeal.main_arg6) = m ((c.tc : Thread Cert.FfnSampleIdeal.nD Cert.FfnSampleIdeal.τ).loc Cert.FfnSampleIdeal.main_arg6)
      ∧ m' ((c.tc : Thread Cert.FfnSampleReferenceIdeal.nD Cert.FfnSampleReferenceIdeal.τ).loc Cert.FfnSampleReferenceIdeal.main_arg7) = m ((c.tc : Thread Cert.FfnSampleIdeal.nD Cert.FfnSampleIdeal.τ).loc Cert.FfnSampleIdeal.main_arg7)
      ∧ m' ((c.tc : Thread Cert.FfnSampleReferenceIdeal.nD Cert.FfnSampleReferenceIdeal.τ).loc Cert.FfnSampleReferenceIdeal.main_arg8) = m ((c.tc : Thread Cert.FfnSampleIdeal.nD Cert.FfnSampleIdeal.τ).loc Cert.FfnSampleIdeal.main_arg8)
      ∧ m' ((c.tc : Thread Cert.FfnSampleReferenceIdeal.nD Cert.FfnSampleReferenceIdeal.τ).loc Cert.FfnSampleReferenceIdeal.main_arg9) = m ((c.tc : Thread Cert.FfnSampleIdeal.nD Cert.FfnSampleIdeal.τ).loc Cert.FfnSampleIdeal.main_arg9)
      ∧ m' ((c.tc : Thread Cert.FfnSampleReferenceIdeal.nD Cert.FfnSampleReferenceIdeal.τ).loc Cert.FfnSampleReferenceIdeal.main_arg10) = m ((c.tc : Thread Cert.FfnSampleIdeal.nD Cert.FfnSampleIdeal.τ).loc Cert.FfnSampleIdeal.main_arg10)
      ∧ m' ((c.tc : Thread Cert.FfnSampleReferenceIdeal.nD Cert.FfnSampleReferenceIdeal.τ).loc Cert.FfnSampleReferenceIdeal.main_arg11) = m ((c.tc : Thread Cert.FfnSampleIdeal.nD Cert.FfnSampleIdeal.τ).loc Cert.FfnSampleIdeal.main_arg11)
      ∧ m' ((c.tc : Thread Cert.FfnSampleReferenceIdeal.nD Cert.FfnSampleReferenceIdeal.τ).loc Cert.FfnSampleReferenceIdeal.main_arg12) = m ((c.tc : Thread Cert.FfnSampleIdeal.nD Cert.FfnSampleIdeal.τ).loc Cert.FfnSampleIdeal.main_arg12)
      ∧ m' ((c.tc : Thread Cert.FfnSampleReferenceIdeal.nD Cert.FfnSampleReferenceIdeal.τ).loc Cert.FfnSampleReferenceIdeal.main_arg13) = m ((c.tc : Thread Cert.FfnSampleIdeal.nD Cert.FfnSampleIdeal.τ).loc Cert.FfnSampleIdeal.main_arg13)
      ∧ m' ((c.tc : Thread Cert.FfnSampleReferenceIdeal.nD Cert.FfnSampleReferenceIdeal.τ).loc Cert.FfnSampleReferenceIdeal.main_arg14) = m ((c.tc : Thread Cert.FfnSampleIdeal.nD Cert.FfnSampleIdeal.τ).loc Cert.FfnSampleIdeal.main_arg14)) →
    ∃ (v0 : (c : Dev Cert.FfnSampleIdeal.nD) → Buf (Elt Ideal) ((c.tc : Thread Cert.FfnSampleIdeal.nD Cert.FfnSampleIdeal.τ).loc Cert.FfnSampleIdeal.main_v28)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v28) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
          ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
          ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8)
          ∧ r.2.mem ((c.tc : Thread Cert.FfnSampleIdeal.nD Cert.FfnSampleIdeal.τ).loc Cert.FfnSampleIdeal.main_arg9) = m ((c.tc : Thread Cert.FfnSampleIdeal.nD Cert.FfnSampleIdeal.τ).loc Cert.FfnSampleIdeal.main_arg9)
          ∧ r.2.mem ((c.tc : Thread Cert.FfnSampleIdeal.nD Cert.FfnSampleIdeal.τ).loc Cert.FfnSampleIdeal.main_arg10) = m ((c.tc : Thread Cert.FfnSampleIdeal.nD Cert.FfnSampleIdeal.τ).loc Cert.FfnSampleIdeal.main_arg10)
          ∧ r.2.mem ((c.tc : Thread Cert.FfnSampleIdeal.nD Cert.FfnSampleIdeal.τ).loc Cert.FfnSampleIdeal.main_arg11) = m ((c.tc : Thread Cert.FfnSampleIdeal.nD Cert.FfnSampleIdeal.τ).loc Cert.FfnSampleIdeal.main_arg11)
          ∧ r.2.mem ((c.tc : Thread Cert.FfnSampleIdeal.nD Cert.FfnSampleIdeal.τ).loc Cert.FfnSampleIdeal.main_arg12) = m ((c.tc : Thread Cert.FfnSampleIdeal.nD Cert.FfnSampleIdeal.τ).loc Cert.FfnSampleIdeal.main_arg12)
          ∧ r.2.mem ((c.tc : Thread Cert.FfnSampleIdeal.nD Cert.FfnSampleIdeal.τ).loc Cert.FfnSampleIdeal.main_arg13) = m ((c.tc : Thread Cert.FfnSampleIdeal.nD Cert.FfnSampleIdeal.τ).loc Cert.FfnSampleIdeal.main_arg13)
          ∧ r.2.mem ((c.tc : Thread Cert.FfnSampleIdeal.nD Cert.FfnSampleIdeal.τ).loc Cert.FfnSampleIdeal.main_arg14) = m ((c.tc : Thread Cert.FfnSampleIdeal.nD Cert.FfnSampleIdeal.τ).loc Cert.FfnSampleIdeal.main_arg14))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v66) = v0 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5)
          ∧ r.2.mem ((c.tc : Thread Cert.FfnSampleReferenceIdeal.nD Cert.FfnSampleReferenceIdeal.τ).loc Cert.FfnSampleReferenceIdeal.main_arg6) = m' ((c.tc : Thread Cert.FfnSampleReferenceIdeal.nD Cert.FfnSampleReferenceIdeal.τ).loc Cert.FfnSampleReferenceIdeal.main_arg6)
          ∧ r.2.mem ((c.tc : Thread Cert.FfnSampleReferenceIdeal.nD Cert.FfnSampleReferenceIdeal.τ).loc Cert.FfnSampleReferenceIdeal.main_arg7) = m' ((c.tc : Thread Cert.FfnSampleReferenceIdeal.nD Cert.FfnSampleReferenceIdeal.τ).loc Cert.FfnSampleReferenceIdeal.main_arg7)
          ∧ r.2.mem ((c.tc : Thread Cert.FfnSampleReferenceIdeal.nD Cert.FfnSampleReferenceIdeal.τ).loc Cert.FfnSampleReferenceIdeal.main_arg8) = m' ((c.tc : Thread Cert.FfnSampleReferenceIdeal.nD Cert.FfnSampleReferenceIdeal.τ).loc Cert.FfnSampleReferenceIdeal.main_arg8)
          ∧ r.2.mem ((c.tc : Thread Cert.FfnSampleReferenceIdeal.nD Cert.FfnSampleReferenceIdeal.τ).loc Cert.FfnSampleReferenceIdeal.main_arg9) = m' ((c.tc : Thread Cert.FfnSampleReferenceIdeal.nD Cert.FfnSampleReferenceIdeal.τ).loc Cert.FfnSampleReferenceIdeal.main_arg9)
          ∧ r.2.mem ((c.tc : Thread Cert.FfnSampleReferenceIdeal.nD Cert.FfnSampleReferenceIdeal.τ).loc Cert.FfnSampleReferenceIdeal.main_arg10) = m' ((c.tc : Thread Cert.FfnSampleReferenceIdeal.nD Cert.FfnSampleReferenceIdeal.τ).loc Cert.FfnSampleReferenceIdeal.main_arg10)
          ∧ r.2.mem ((c.tc : Thread Cert.FfnSampleReferenceIdeal.nD Cert.FfnSampleReferenceIdeal.τ).loc Cert.FfnSampleReferenceIdeal.main_arg11) = m' ((c.tc : Thread Cert.FfnSampleReferenceIdeal.nD Cert.FfnSampleReferenceIdeal.τ).loc Cert.FfnSampleReferenceIdeal.main_arg11)
          ∧ r.2.mem ((c.tc : Thread Cert.FfnSampleReferenceIdeal.nD Cert.FfnSampleReferenceIdeal.τ).loc Cert.FfnSampleReferenceIdeal.main_arg12) = m' ((c.tc : Thread Cert.FfnSampleReferenceIdeal.nD Cert.FfnSampleReferenceIdeal.τ).loc Cert.FfnSampleReferenceIdeal.main_arg12)
          ∧ r.2.mem ((c.tc : Thread Cert.FfnSampleReferenceIdeal.nD Cert.FfnSampleReferenceIdeal.τ).loc Cert.FfnSampleReferenceIdeal.main_arg13) = m' ((c.tc : Thread Cert.FfnSampleReferenceIdeal.nD Cert.FfnSampleReferenceIdeal.τ).loc Cert.FfnSampleReferenceIdeal.main_arg13)
          ∧ r.2.mem ((c.tc : Thread Cert.FfnSampleReferenceIdeal.nD Cert.FfnSampleReferenceIdeal.τ).loc Cert.FfnSampleReferenceIdeal.main_arg14) = m' ((c.tc : Thread Cert.FfnSampleReferenceIdeal.nD Cert.FfnSampleReferenceIdeal.τ).loc Cert.FfnSampleReferenceIdeal.main_arg14))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v11_0)) (v1 : (c : Dev Cert.InprojIdeal.nD) → Buf (Elt Ideal) ((c.tc : Thread Cert.InprojIdeal.nD Cert.InprojIdeal.τ).loc Cert.InprojIdeal.main_v11_1)) (v2 : (c : Dev Cert.InprojIdeal.nD) → Buf (Elt Ideal) ((c.tc : Thread Cert.InprojIdeal.nD Cert.InprojIdeal.τ).loc Cert.InprojIdeal.main_v11_2)) (v3 : (c : Dev Cert.InprojIdeal.nD) → Buf (Elt Ideal) ((c.tc : Thread Cert.InprojIdeal.nD Cert.InprojIdeal.τ).loc Cert.InprojIdeal.main_v11_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v11_0) = v0 c
          ∧ r.2.mem ((c.tc : Thread Cert.InprojIdeal.nD Cert.InprojIdeal.τ).loc Cert.InprojIdeal.main_v11_1) = v1 c
          ∧ r.2.mem ((c.tc : Thread Cert.InprojIdeal.nD Cert.InprojIdeal.τ).loc Cert.InprojIdeal.main_v11_2) = v2 c
          ∧ r.2.mem ((c.tc : Thread Cert.InprojIdeal.nD Cert.InprojIdeal.τ).loc Cert.InprojIdeal.main_v11_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v50) = v0 c
          ∧ r.2.mem ((c.tc : Thread Cert.InprojReferenceIdeal.nD Cert.InprojReferenceIdeal.τ).loc Cert.InprojReferenceIdeal.main_v52) = v1 c
          ∧ r.2.mem ((c.tc : Thread Cert.InprojReferenceIdeal.nD Cert.InprojReferenceIdeal.τ).loc Cert.InprojReferenceIdeal.main_v54) = v2 c
          ∧ r.2.mem ((c.tc : Thread Cert.InprojReferenceIdeal.nD Cert.InprojReferenceIdeal.τ).loc Cert.InprojReferenceIdeal.main_v56) = v3 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4))

def preserves_InprojSample_InprojSampleIdeal : Prop :=
  True

def algebraic_InprojSampleIdeal_InprojSampleReferenceIdeal [hInprojSampleIdeal : Cert.InprojSampleIdeal.Facts] [hInprojSampleReferenceIdeal : Cert.InprojSampleReferenceIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg)
    (m' : (ℓ : Loc Cert.InprojSampleReferenceIdeal.nD Cert.InprojSampleReferenceIdeal.τ Cert.InprojSampleReferenceIdeal.sig) → Buf (Elt Ideal) ℓ) (g' : Dev Cert.InprojSampleReferenceIdeal.nD → PrngReg), Pre_InprojSampleIdeal m →
    (∀ c : Dev Cert.InprojSampleIdeal.nD,
      m' ((c.tc : Thread Cert.InprojSampleReferenceIdeal.nD Cert.InprojSampleReferenceIdeal.τ).loc Cert.InprojSampleReferenceIdeal.main_arg0) = m ((c.tc : Thread Cert.InprojSampleIdeal.nD Cert.InprojSampleIdeal.τ).loc Cert.InprojSampleIdeal.main_arg0)
      ∧ m' ((c.tc : Thread Cert.InprojSampleReferenceIdeal.nD Cert.InprojSampleReferenceIdeal.τ).loc Cert.InprojSampleReferenceIdeal.main_arg1) = m ((c.tc : Thread Cert.InprojSampleIdeal.nD Cert.InprojSampleIdeal.τ).loc Cert.InprojSampleIdeal.main_arg1)
      ∧ m' ((c.tc : Thread Cert.InprojSampleReferenceIdeal.nD Cert.InprojSampleReferenceIdeal.τ).loc Cert.InprojSampleReferenceIdeal.main_arg2) = m ((c.tc : Thread Cert.InprojSampleIdeal.nD Cert.InprojSampleIdeal.τ).loc Cert.InprojSampleIdeal.main_arg2)
      ∧ m' ((c.tc : Thread Cert.InprojSampleReferenceIdeal.nD Cert.InprojSampleReferenceIdeal.τ).loc Cert.InprojSampleReferenceIdeal.main_arg3) = m ((c.tc : Thread Cert.InprojSampleIdeal.nD Cert.InprojSampleIdeal.τ).loc Cert.InprojSampleIdeal.main_arg3)
      ∧ m' ((c.tc : Thread Cert.InprojSampleReferenceIdeal.nD Cert.InprojSampleReferenceIdeal.τ).loc Cert.InprojSampleReferenceIdeal.main_arg4) = m ((c.tc : Thread Cert.InprojSampleIdeal.nD Cert.InprojSampleIdeal.τ).loc Cert.InprojSampleIdeal.main_arg4)) →
    ∃ (v0 : (c : Dev Cert.InprojSampleIdeal.nD) → Buf (Elt Ideal) ((c.tc : Thread Cert.InprojSampleIdeal.nD Cert.InprojSampleIdeal.τ).loc Cert.InprojSampleIdeal.main_v11_0)) (v1 : (c : Dev Cert.InprojSampleIdeal.nD) → Buf (Elt Ideal) ((c.tc : Thread Cert.InprojSampleIdeal.nD Cert.InprojSampleIdeal.τ).loc Cert.InprojSampleIdeal.main_v11_1)) (v2 : (c : Dev Cert.InprojSampleIdeal.nD) → Buf (Elt Ideal) ((c.tc : Thread Cert.InprojSampleIdeal.nD Cert.InprojSampleIdeal.τ).loc Cert.InprojSampleIdeal.main_v11_2)) (v3 : (c : Dev Cert.InprojSampleIdeal.nD) → Buf (Elt Ideal) ((c.tc : Thread Cert.InprojSampleIdeal.nD Cert.InprojSampleIdeal.τ).loc Cert.InprojSampleIdeal.main_v11_3)),
      θ_run (Cert.InprojSampleIdeal.defs (F := Ideal)) (onTc (τ := Cert.InprojSampleIdeal.τ) (Cert.InprojSampleIdeal.main (F := Ideal))) ⟨m, fun _ => 0, g⟩ (fun r => ∀ c : Dev Cert.InprojSampleIdeal.nD,
          r.2.mem ((c.tc : Thread Cert.InprojSampleIdeal.nD Cert.InprojSampleIdeal.τ).loc Cert.InprojSampleIdeal.main_v11_0) = v0 c
          ∧ r.2.mem ((c.tc : Thread Cert.InprojSampleIdeal.nD Cert.InprojSampleIdeal.τ).loc Cert.InprojSampleIdeal.main_v11_1) = v1 c
          ∧ r.2.mem ((c.tc : Thread Cert.InprojSampleIdeal.nD Cert.InprojSampleIdeal.τ).loc Cert.InprojSampleIdeal.main_v11_2) = v2 c
          ∧ r.2.mem ((c.tc : Thread Cert.InprojSampleIdeal.nD Cert.InprojSampleIdeal.τ).loc Cert.InprojSampleIdeal.main_v11_3) = v3 c
          ∧ r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
          ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
          ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
          ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
          ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4))
      ∧ θ_run (Cert.InprojSampleReferenceIdeal.defs (F := Ideal)) (onTc (τ := Cert.InprojSampleReferenceIdeal.τ) (Cert.InprojSampleReferenceIdeal.main (F := Ideal))) ⟨m', fun _ => 0, g'⟩ (fun r => ∀ c : Dev Cert.InprojSampleReferenceIdeal.nD,
          r.2.mem ((c.tc : Thread Cert.InprojSampleReferenceIdeal.nD Cert.InprojSampleReferenceIdeal.τ).loc Cert.InprojSampleReferenceIdeal.main_v50) = v0 c
          ∧ r.2.mem ((c.tc : Thread Cert.InprojSampleReferenceIdeal.nD Cert.InprojSampleReferenceIdeal.τ).loc Cert.InprojSampleReferenceIdeal.main_v52) = v1 c
          ∧ r.2.mem ((c.tc : Thread Cert.InprojSampleReferenceIdeal.nD Cert.InprojSampleReferenceIdeal.τ).loc Cert.InprojSampleReferenceIdeal.main_v54) = v2 c
          ∧ r.2.mem ((c.tc : Thread Cert.InprojSampleReferenceIdeal.nD Cert.InprojSampleReferenceIdeal.τ).loc Cert.InprojSampleReferenceIdeal.main_v56) = v3 c
          ∧ r.2.mem ((c.tc : Thread Cert.InprojSampleReferenceIdeal.nD Cert.InprojSampleReferenceIdeal.τ).loc Cert.InprojSampleReferenceIdeal.main_arg0) = m' ((c.tc : Thread Cert.InprojSampleReferenceIdeal.nD Cert.InprojSampleReferenceIdeal.τ).loc Cert.InprojSampleReferenceIdeal.main_arg0)
          ∧ r.2.mem ((c.tc : Thread Cert.InprojSampleReferenceIdeal.nD Cert.InprojSampleReferenceIdeal.τ).loc Cert.InprojSampleReferenceIdeal.main_arg1) = m' ((c.tc : Thread Cert.InprojSampleReferenceIdeal.nD Cert.InprojSampleReferenceIdeal.τ).loc Cert.InprojSampleReferenceIdeal.main_arg1)
          ∧ r.2.mem ((c.tc : Thread Cert.InprojSampleReferenceIdeal.nD Cert.InprojSampleReferenceIdeal.τ).loc Cert.InprojSampleReferenceIdeal.main_arg2) = m' ((c.tc : Thread Cert.InprojSampleReferenceIdeal.nD Cert.InprojSampleReferenceIdeal.τ).loc Cert.InprojSampleReferenceIdeal.main_arg2)
          ∧ r.2.mem ((c.tc : Thread Cert.InprojSampleReferenceIdeal.nD Cert.InprojSampleReferenceIdeal.τ).loc Cert.InprojSampleReferenceIdeal.main_arg3) = m' ((c.tc : Thread Cert.InprojSampleReferenceIdeal.nD Cert.InprojSampleReferenceIdeal.τ).loc Cert.InprojSampleReferenceIdeal.main_arg3)
          ∧ r.2.mem ((c.tc : Thread Cert.InprojSampleReferenceIdeal.nD Cert.InprojSampleReferenceIdeal.τ).loc Cert.InprojSampleReferenceIdeal.main_arg4) = m' ((c.tc : Thread Cert.InprojSampleReferenceIdeal.nD Cert.InprojSampleReferenceIdeal.τ).loc Cert.InprojSampleReferenceIdeal.main_arg4))

def preserves_AttnSample_AttnSampleIdeal : Prop :=
  IdealRules.named_const.Statement Cert.AttnSampleIdeal.κ "log2e" .f32 0x3FB8AA3B#32 (((Real.log 2)⁻¹ : ℝ) : EReal)
  ∧ IdealRules.named_const.Statement Cert.AttnSampleIdeal.κ "neg" .f32 0xF149F2CA#32 ⊥
  ∧ IdealRules.named_const.Statement Cert.AttnSampleIdeal.κ "qscale" .f32 0x3E38AA3B#32 ((8⁻¹ * (Real.log 2)⁻¹ : ℝ) : EReal)

def algebraic_AttnSampleIdeal_AttnSampleReferenceIdeal_pre_finite_sample [hAttnSampleIdeal : Cert.AttnSampleIdeal.Facts] [hAttnSampleReferenceIdeal : Cert.AttnSampleReferenceIdeal.Facts] [hPre_finite_sample : Cert.Pre_finite_sample.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg)
    (m' : (ℓ : Loc Cert.AttnSampleReferenceIdeal.nD Cert.AttnSampleReferenceIdeal.τ Cert.AttnSampleReferenceIdeal.sig) → Buf (Elt Ideal) ℓ) (g' : Dev Cert.AttnSampleReferenceIdeal.nD → PrngReg), Pre_AttnSampleIdeal_finite_sample m →
    (∀ c : Dev Cert.AttnSampleIdeal.nD,
      m' ((c.tc : Thread Cert.AttnSampleReferenceIdeal.nD Cert.AttnSampleReferenceIdeal.τ).loc Cert.AttnSampleReferenceIdeal.main_arg0) = m ((c.tc : Thread Cert.AttnSampleIdeal.nD Cert.AttnSampleIdeal.τ).loc Cert.AttnSampleIdeal.main_arg0)
      ∧ m' ((c.tc : Thread Cert.AttnSampleReferenceIdeal.nD Cert.AttnSampleReferenceIdeal.τ).loc Cert.AttnSampleReferenceIdeal.main_arg1) = m ((c.tc : Thread Cert.AttnSampleIdeal.nD Cert.AttnSampleIdeal.τ).loc Cert.AttnSampleIdeal.main_arg1)) →
    ∃ (v0 : (c : Dev Cert.AttnSampleIdeal.nD) → Buf (Elt Ideal) ((c.tc : Thread Cert.AttnSampleIdeal.nD Cert.AttnSampleIdeal.τ).loc Cert.AttnSampleIdeal.main_v3)),
      θ_run (Cert.AttnSampleIdeal.defs (F := Ideal)) (onTc (τ := Cert.AttnSampleIdeal.τ) (Cert.AttnSampleIdeal.main (F := Ideal))) ⟨m, fun _ => 0, g⟩ (fun r => ∀ c : Dev Cert.AttnSampleIdeal.nD,
          r.2.mem ((c.tc : Thread Cert.AttnSampleIdeal.nD Cert.AttnSampleIdeal.τ).loc Cert.AttnSampleIdeal.main_v3) = v0 c
          ∧ r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
          ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1))
      ∧ θ_run (Cert.AttnSampleReferenceIdeal.defs (F := Ideal)) (onTc (τ := Cert.AttnSampleReferenceIdeal.τ) (Cert.AttnSampleReferenceIdeal.main (F := Ideal))) ⟨m', fun _ => 0, g'⟩ (fun r => ∀ c : Dev Cert.AttnSampleReferenceIdeal.nD,
          r.2.mem ((c.tc : Thread Cert.AttnSampleReferenceIdeal.nD Cert.AttnSampleReferenceIdeal.τ).loc Cert.AttnSampleReferenceIdeal.main_v103) = v0 c
          ∧ r.2.mem ((c.tc : Thread Cert.AttnSampleReferenceIdeal.nD Cert.AttnSampleReferenceIdeal.τ).loc Cert.AttnSampleReferenceIdeal.main_arg0) = m' ((c.tc : Thread Cert.AttnSampleReferenceIdeal.nD Cert.AttnSampleReferenceIdeal.τ).loc Cert.AttnSampleReferenceIdeal.main_arg0)
          ∧ r.2.mem ((c.tc : Thread Cert.AttnSampleReferenceIdeal.nD Cert.AttnSampleReferenceIdeal.τ).loc Cert.AttnSampleReferenceIdeal.main_arg1) = m' ((c.tc : Thread Cert.AttnSampleReferenceIdeal.nD Cert.AttnSampleReferenceIdeal.τ).loc Cert.AttnSampleReferenceIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnSample : Cert.FfnSample.Facts) (hFfnSampleIdeal : Cert.FfnSampleIdeal.Facts) (hFfnSampleReferenceIdeal : Cert.FfnSampleReferenceIdeal.Facts) (hInproj : Cert.Inproj.Facts) (hInprojIdeal : Cert.InprojIdeal.Facts) (hInprojReferenceIdeal : Cert.InprojReferenceIdeal.Facts) (hInprojSample : Cert.InprojSample.Facts) (hInprojSampleIdeal : Cert.InprojSampleIdeal.Facts) (hInprojSampleReferenceIdeal : Cert.InprojSampleReferenceIdeal.Facts) (hAttnSample : Cert.AttnSample.Facts) (hAttnSampleIdeal : Cert.AttnSampleIdeal.Facts) (hAttnSampleReferenceIdeal : Cert.AttnSampleReferenceIdeal.Facts) (hPre_finite : Cert.Pre_finite.Facts) (hPre_finite_sample : Cert.Pre_finite_sample.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnSample (hFfnSample := hFfnSample)
    ∧ quiescent_FfnSampleIdeal (hFfnSampleIdeal := hFfnSampleIdeal)
    ∧ quiescent_FfnSampleReferenceIdeal (hFfnSampleReferenceIdeal := hFfnSampleReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_InprojSample (hInprojSample := hInprojSample)
    ∧ quiescent_InprojSampleIdeal (hInprojSampleIdeal := hInprojSampleIdeal)
    ∧ quiescent_InprojSampleReferenceIdeal (hInprojSampleReferenceIdeal := hInprojSampleReferenceIdeal)
    ∧ quiescent_AttnSample (hAttnSample := hAttnSample)
    ∧ quiescent_AttnSampleIdeal (hAttnSampleIdeal := hAttnSampleIdeal)
    ∧ quiescent_AttnSampleIdeal_pre_finite_sample (hAttnSampleIdeal := hAttnSampleIdeal) (hPre_finite_sample := hPre_finite_sample)
    ∧ quiescent_AttnSampleReferenceIdeal (hAttnSampleReferenceIdeal := hAttnSampleReferenceIdeal)
    ∧ quiescent_AttnSampleReferenceIdeal_pre_finite_sample (hAttnSampleReferenceIdeal := hAttnSampleReferenceIdeal) (hPre_finite_sample := hPre_finite_sample)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_FfnSample_FfnSampleIdeal
    ∧ algebraic_FfnSampleIdeal_FfnSampleReferenceIdeal (hFfnSampleIdeal := hFfnSampleIdeal) (hFfnSampleReferenceIdeal := hFfnSampleReferenceIdeal)
    ∧ preserves_Inproj_InprojIdeal
    ∧ algebraic_InprojIdeal_InprojReferenceIdeal (hInprojIdeal := hInprojIdeal) (hInprojReferenceIdeal := hInprojReferenceIdeal)
    ∧ preserves_InprojSample_InprojSampleIdeal
    ∧ algebraic_InprojSampleIdeal_InprojSampleReferenceIdeal (hInprojSampleIdeal := hInprojSampleIdeal) (hInprojSampleReferenceIdeal := hInprojSampleReferenceIdeal)
    ∧ preserves_AttnSample_AttnSampleIdeal
    ∧ algebraic_AttnSampleIdeal_AttnSampleReferenceIdeal_pre_finite_sample (hAttnSampleIdeal := hAttnSampleIdeal) (hAttnSampleReferenceIdeal := hAttnSampleReferenceIdeal) (hPre_finite_sample := hPre_finite_sample)
-- ==== Pre_finite.lean ====
abbrev S4x4096x1536 : Shape := ⟨3, ![4, 4096, 1536]⟩
abbrev S1x8x15x31 : Shape := ⟨4, ![1, 8, 15, 31]⟩
abbrev S_ : Shape := ⟨0, ![]⟩

class Facts : Prop where
  bcast_S_S4x4096x1536 : S_.BroadcastsInDim S4x4096x1536 (![] : Fin 0 → Fin S4x4096x1536.rank)
  reducesTo_S4x4096x1536_S_d0_1_2 : S4x4096x1536.ReducesTo [0, 1, 2] S_
  h_S_ : 0 < S_.numel
  bcast_S_S1x8x15x31 : S_.BroadcastsInDim S1x8x15x31 (![] : Fin 0 → Fin S1x8x15x31.rank)
  reducesTo_S1x8x15x31_S_d0_1_2_3 : S1x8x15x31.ReducesTo [0, 1, 2, 3] S_

variable [Facts]

def fn {F : FTy → Type} [FloatOps F] (main_arg0 : FVec F S4x4096x1536 .f32) (main_arg1 : FVec F S1x8x15x31 .f32) : IVec S_ 1 :=
  let main_v0 : FVec F S4x4096x1536 .f32 := Host.absf main_arg0
  let main_cst : FVec F S_ .f32 := constant S_ .f32 0x7F800000#32
  let main_v1 : FVec F S4x4096x1536 .f32 := broadcastInDim S4x4096x1536 ![] bcast_S_S4x4096x1536 main_cst
  let main_v2 : IVec S4x4096x1536 1 := cmpf .olt main_v0 main_v1
  let main_c : IVec S_ 1 := constantI S_ 1 1#1
  let main_v3 : IVec S_ 1 := (fun x v => Host.reduce IntOp.andi x v reducesTo_S4x4096x1536_S_d0_1_2 h_S_) main_v2 main_c
  let main_v4 : FVec F S1x8x15x31 .f32 := Host.absf main_arg1
  let main_cst_0 : FVec F S_ .f32 := constant S_ .f32 0x7F800000#32
  let main_v5 : FVec F S1x8x15x31 .f32 := broadcastInDim S1x8x15x31 ![] bcast_S_S1x8x15x31 main_cst_0
  let main_v6 : IVec S1x8x15x31 1 := cmpf .olt main_v4 main_v5
  let main_c_1 : IVec S_ 1 := constantI S_ 1 1#1
  let main_v7 : IVec S_ 1 := (fun x v => Host.reduce IntOp.andi x v reducesTo_S1x8x15x31_S_d0_1_2_3 h_S_) main_v6 main_c_1
  let main_v8 : IVec S_ 1 := andi main_v3 main_v7
  main_v8
-- ==== Pre_finite_sample.lean ====
abbrev S1x16384x1536 : Shape := ⟨3, ![1, 16384, 1536]⟩
abbrev S1x8x15x31 : Shape := ⟨4, ![1, 8, 15, 31]⟩
abbrev S_ : Shape := ⟨0, ![]⟩

class Facts : Prop where
  bcast_S_S1x16384x1536 : S_.BroadcastsInDim S1x16384x1536 (![] : Fin 0 → Fin S1x16384x1536.rank)
  reducesTo_S1x16384x1536_S_d0_1_2 : S1x16384x1536.ReducesTo [0, 1, 2] S_
  h_S_ : 0 < S_.numel
  bcast_S_S1x8x15x31 : S_.BroadcastsInDim S1x8x15x31 (![] : Fin 0 → Fin S1x8x15x31.rank)
  reducesTo_S1x8x15x31_S_d0_1_2_3 : S1x8x15x31.ReducesTo [0, 1, 2, 3] S_

variable [Facts]

def fn {F : FTy → Type} [FloatOps F] (main_arg0 : FVec F S1x16384x1536 .f32) (main_arg1 : FVec F S1x8x15x31 .f32) : IVec S_ 1 :=
  let main_v0 : FVec F S1x16384x1536 .f32 := Host.absf main_arg0
  let main_cst : FVec F S_ .f32 := constant S_ .f32 0x7F800000#32
  let main_v1 : FVec F S1x16384x1536 .f32 := broadcastInDim S1x16384x1536 ![] bcast_S_S1x16384x1536 main_cst
  let main_v2 : IVec S1x16384x1536 1 := cmpf .olt main_v0 main_v1
  let main_c : IVec S_ 1 := constantI S_ 1 1#1
  let main_v3 : IVec S_ 1 := (fun x v => Host.reduce IntOp.andi x v reducesTo_S1x16384x1536_S_d0_1_2 h_S_) main_v2 main_c
  let main_v4 : FVec F S1x8x15x31 .f32 := Host.absf main_arg1
  let main_cst_0 : FVec F S_ .f32 := constant S_ .f32 0x7F800000#32
  let main_v5 : FVec F S1x8x15x31 .f32 := broadcastInDim S1x8x15x31 ![] bcast_S_S1x8x15x31 main_cst_0
  let main_v6 : IVec S1x8x15x31 1 := cmpf .olt main_v4 main_v5
  let main_c_1 : IVec S_ 1 := constantI S_ 1 1#1
  let main_v7 : IVec S_ 1 := (fun x v => Host.reduce IntOp.andi x v reducesTo_S1x8x15x31_S_d0_1_2_3 h_S_) main_v6 main_c_1
  let main_v8 : IVec S_ 1 := andi main_v3 main_v7
  main_v8
-- ==== Kernel.lean ====
abbrev S4x4096x1536 : Shape := ⟨3, ![4, 4096, 1536]⟩
abbrev S1x8x15x31 : Shape := ⟨4, ![1, 8, 15, 31]⟩
abbrev S8x15x31 : Shape := ⟨3, ![8, 15, 31]⟩
abbrev S3720 : Shape := ⟨1, ![3720]⟩
abbrev S4x4096x512 : Shape := ⟨3, ![4, 4096, 512]⟩
abbrev S1x1024x512 : Shape := ⟨3, ![1, 1024, 512]⟩
abbrev S1x1536x512 : Shape := ⟨3, ![1, 1536, 512]⟩
abbrev S60x64x128 : Shape := ⟨3, ![60, 64, 128]⟩
abbrev S64x128 : Shape := ⟨2, ![64, 128]⟩
abbrev S1 : Shape := ⟨1, ![1]⟩
abbrev S1x64x128 : Shape := ⟨3, ![1, 64, 128]⟩
abbrev S512x128 : Shape := ⟨2, ![512, 128]⟩
abbrev S1x64x512 : Shape := ⟨3, ![1, 64, 512]⟩
abbrev S64x512 : Shape := ⟨2, ![64, 512]⟩
abbrev S128x128 : Shape := ⟨2, ![128, 128]⟩
abbrev S1x512x128 : Shape := ⟨3, ![1, 512, 128]⟩
abbrev S128 : Shape := ⟨1, ![128]⟩
abbrev S1x128 : Shape := ⟨2, ![1, 128]⟩
abbrev S128x512 : Shape := ⟨2, ![128, 512]⟩
abbrev S512x256 : Shape := ⟨2, ![512, 256]⟩
abbrev S128x256 : Shape := ⟨2, ![128, 256]⟩

abbrev nBuf : Space → Nat
  | .hbm => 6
  | .vmem => 9
  | .smem => 1
  | _ => 0

abbrev bufTy : (tb : Table) → Fin (tcTables nBuf tb) → BufTy
  | .hbm, ⟨0, _⟩ => ⟨S4x4096x1536, .f32⟩
  | .hbm, ⟨1, _⟩ => ⟨S1x8x15x31, .f32⟩
  | .hbm, ⟨2, _⟩ => ⟨S4x4096x1536, .bf16⟩
  | .hbm, ⟨3, _⟩ => ⟨S8x15x31, .f32⟩
  | .hbm, ⟨4, _⟩ => ⟨S3720, .f32⟩
  | .hbm, ⟨5, _⟩ => ⟨S4x4096x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1536x512, .bf16⟩
  | .local _ .vmem, ⟨3, _⟩ => ⟨S1x1536x512, .bf16⟩
  | .local _ .vmem, ⟨4, _⟩ => ⟨S1x1536x512, .bf16⟩
  | .local _ .vmem, ⟨5, _⟩ => ⟨S1x1536x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S60x64x128, .f32⟩
  | .local _ .smem, ⟨0, _⟩ => ⟨S3720, .f32⟩
  | _, _ => ⟨S4x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_9 : BitVec 32 := 0#32
  let c60_i32 : BitVec 32 := 60#32
  let v38 : BitVec 32 := Scalar.addi c0_i32_9 c60_i32
  let c1_i32_10 : BitVec 32 := 1#32
  ⟨c0_i32_9, v38, c1_i32_10⟩
def k0_off1 (k0_t1 : Fin k0_t1_loop.trips) (c0_i32_32 : BitVec 32) : Fin 1 → Nat :=
  let c2_i32_25 : BitVec 32 := 2#32
  let c0_i32_9 : BitVec 32 := 0#32
  let c1_i32_10 : BitVec 32 := 1#32
  let arg8 : BitVec 32 := Scf.iv c0_i32_9 c1_i32_10 k0_t1
  let c0_i32_13 : BitVec 32 := 0#32
  let v40 : BitVec 1 := Scalar.cmpi .sgt arg8 c0_i32_13
  let v41 : BitVec 32 := Scalar.extui v40
  let c0_i32_14 : BitVec 32 := 0#32
  let v42 : BitVec 1 := Scalar.cmpi .slt arg8 c0_i32_14
  let v43 : BitVec 32 := Scalar.extui v42
  let v44 : BitVec 32 := Scalar.subi v41 v43
  let c15_i32_12 : BitVec 32 := 15#32
  let c0_i32_15 : BitVec 32 := 0#32
  let v45 : BitVec 1 := Scalar.cmpi .sgt c15_i32_12 c0_i32_15
  let v46 : BitVec 32 := Scalar.extui v45
  let c0_i32_16 : BitVec 32 := 0#32
  let v47 : BitVec 1 := Scalar.cmpi .slt c15_i32_12 c0_i32_16
  let v48 : BitVec 32 := Scalar.extui v47
  let v49 : BitVec 32 := Scalar.subi v46 v48
  let v50 : BitVec 1 := Scalar.cmpi .ne v44 v49
  let v51 : BitVec 32 := Scalar.remsi arg8 c15_i32_12
  let c0_i32_17 : BitVec 32 := 0#32
  let v52 : BitVec 1 := Scalar.cmpi .ne v51 c0_i32_17
  let v53 : BitVec 1 := Scalar.andi v50 v52
  let v39 : BitVec 32 := Scalar.divsi arg8 c15_i32_12
  let c1_i32_18 : BitVec 32 := 1#32
  let v54 : BitVec 32 := Scalar.subi v39 c1_i32_18
  let v55 : BitVec 32 := Scalar.select v53 v54 v39
  let v66 : BitVec 32 := Scalar.muli c2_i32_25 v55
  let c15_i32_26 : BitVec 32 := 15#32
  let v67 : BitVec 32 := Scalar.muli v66 c15_i32_26
  let c15_i32_19 : BitVec 32 := 15#32
  let c0_i32_20 : BitVec 32 := 0#32
  let v56 : BitVec 1 := Scalar.cmpi .eq c15_i32_19 c0_i32_20
  let c1_i32_21 : BitVec 32 := 1#32
  let v57 : BitVec 32 := Scalar.select v56 c1_i32_21 c15_i32_19
  let v58 : BitVec 32 := Scalar.remsi arg8 v57
  let c0_i32_23 : BitVec 32 := 0#32
  let v60 : BitVec 1 := Scalar.cmpi .slt v58 c0_i32_23
  let c0_i32_24 : BitVec 32 := 0#32
  let v61 : BitVec 1 := Scalar.cmpi .slt v57 c0_i32_24
  let v62 : BitVec 1 := Scalar.xori v60 v61
  let c0_i32_22 : BitVec 32 := 0#32
  let v59 : BitVec 1 := Scalar.cmpi .ne v58 c0_i32_22
  let v63 : BitVec 1 := Scalar.andi v62 v59
  let v64 : BitVec 32 := Scalar.addi v58 v57
  let v65 : BitVec 32 := Scalar.select v63 v64 v58
  let v68 : BitVec 32 := Scalar.addi v67 v65
  let c31_i32 : BitVec 32 := 31#32
  let v69 : BitVec 32 := Scalar.muli v68 c31_i32
  let v76 : BitVec 32 := Scalar.addi v69 c0_i32_32
  let v77 : Index := Scalar.indexCast v76
  ![v77.toNat]
def k0_off2 (k0_t1 : Fin k0_t1_loop.trips) (c0_i32_33 : BitVec 32) : Fin 1 → Nat :=
  let c2_i32_27 : BitVec 32 := 2#32
  let c0_i32_9 : BitVec 32 := 0#32
  let c1_i32_10 : BitVec 32 := 1#32
  let arg8 : BitVec 32 := Scf.iv c0_i32_9 c1_i32_10 k0_t1
  let c0_i32_13 : BitVec 32 := 0#32
  let v40 : BitVec 1 := Scalar.cmpi .sgt arg8 c0_i32_13
  let v41 : BitVec 32 := Scalar.extui v40
  let c0_i32_14 : BitVec 32 := 0#32
  let v42 : BitVec 1 := Scalar.cmpi .slt arg8 c0_i32_14
  let v43 : BitVec 32 := Scalar.extui v42
  let v44 : BitVec 32 := Scalar.subi v41 v43
  let c15_i32_12 : BitVec 32 := 15#32
  let c0_i32_15 : BitVec 32 := 0#32
  let v45 : BitVec 1 := Scalar.cmpi .sgt c15_i32_12 c0_i32_15
  let v46 : BitVec 32 := Scalar.extui v45
  let c0_i32_16 : BitVec 32 := 0#32
  let v47 : BitVec 1 := Scalar.cmpi .slt c15_i32_12 c0_i32_16
  let v48 : BitVec 32 := Scalar.extui v47
  let v49 : BitVec 32 := Scalar.subi v46 v48
  let v50 : BitVec 1 := Scalar.cmpi .ne v44 v49
  let v51 : BitVec 32 := Scalar.remsi arg8 c15_i32_12
  let c0_i32_17 : BitVec 32 := 0#32
  let v52 : BitVec 1 := Scalar.cmpi .ne v51 c0_i32_17
  let v53 : BitVec 1 := Scalar.andi v50 v52
  let v39 : BitVec 32 := Scalar.divsi arg8 c15_i32_12
  let c1_i32_18 : BitVec 32 := 1#32
  let v54 : BitVec 32 := Scalar.subi v39 c1_i32_18
  let v55 : BitVec 32 := Scalar.select v53 v54 v39
  let v70 : BitVec 32 := Scalar.muli c2_i32_27 v55
  let c1_i32_28 : BitVec 32 := 1#32
  let v71 : BitVec 32 := Scalar.addi v70 c1_i32_28
  let c15_i32_29 : BitVec 32 := 15#32
  let v72 : BitVec 32 := Scalar.muli v71 c15_i32_29
  let c15_i32_19 : BitVec 32 := 15#32
  let c0_i32_20 : BitVec 32 := 0#32
  let v56 : BitVec 1 := Scalar.cmpi .eq c15_i32_19 c0_i32_20
  let c1_i32_21 : BitVec 32 := 1#32
  let v57 : BitVec 32 := Scalar.select v56 c1_i32_21 c15_i32_19
  let v58 : BitVec 32 := Scalar.remsi arg8 v57
  let c0_i32_23 : BitVec 32 := 0#32
  let v60 : BitVec 1 := Scalar.cmpi .slt v58 c0_i32_23
  let c0_i32_24 : BitVec 32 := 0#32
  let v61 : BitVec 1 := Scalar.cmpi .slt v57 c0_i32_24
  let v62 : BitVec 1 := Scalar.xori v60 v61
  let c0_i32_22 : BitVec 32 := 0#32
  let v59 : BitVec 1 := Scalar.cmpi .ne v58 c0_i32_22
  let v63 : BitVec 1 := Scalar.andi v62 v59
  let v64 : BitVec 32 := Scalar.addi v58 v57
  let v65 : BitVec 32 := Scalar.select v63 v64 v58
  let v73 : BitVec 32 := Scalar.addi v72 v65
  let c31_i32_30 : BitVec 32 := 31#32
  let v74 : BitVec 32 := Scalar.muli v73 c31_i32_30
  let v79 : BitVec 32 := Scalar.addi v74 c0_i32_33
  let v80 : Index := Scalar.indexCast v79
  ![v80.toNat]
def k0_off3 (k0_t1 : Fin k0_t1_loop.trips) : Fin 3 → Nat :=
  let c0_i32_9 : BitVec 32 := 0#32
  let c1_i32_10 : BitVec 32 := 1#32
  let arg8 : BitVec 32 := Scf.iv c0_i32_9 c1_i32_10 k0_t1
  let v452 : Index := Scalar.indexCast arg8
  let c0 : Index := 0#32
  let c0_103 : Index := 0#32
  ![v452.toNat, 0, 0]
@[reducible] def k0_t2_loop : Scf.Loop 32 :=
  let c0_i32_3 : BitVec 32 := 0#32
  let c2_i32 : BitVec 32 := 2#32
  let v13 : BitVec 32 := Scalar.addi c0_i32_3 c2_i32
  let c1_i32 : BitVec 32 := 1#32
  ⟨c0_i32_3, v13, c1_i32⟩
def k0_mult1 (i : grid0.Coords) (k0_t2 : Fin k0_t2_loop.trips) : BitVec 32 :=
  let c56_i32 : BitVec 32 := 56#32
  let c0_i32_7 : BitVec 32 := 0#32
  let arg1 : BitVec 32 := BitVec.ofNat 32 (i 1).val
  let c16_i32_5 : BitVec 32 := 16#32
  let v15 : BitVec 32 := Scalar.muli arg1 c16_i32_5
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v16 : BitVec 32 := Scalar.addi v15 v14
  let c4_i32_6 : BitVec 32 := 4#32
  let v17 : BitVec 32 := Scalar.subi v16 c4_i32_6
  let v18 : BitVec 32 := Scalar.maxsi c0_i32_7 v17
  let v19 : BitVec 32 := Scalar.minsi c56_i32 v18
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v22 : BitVec 32 := Scalar.subi v19 v12
  let c64_i32_8 : BitVec 32 := 64#32
  let v23 : BitVec 32 := Scalar.muli v22 c64_i32_8
  v23
def k0_mult2 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c64_i32_9 : BitVec 32 := 64#32
  let v25 : BitVec 32 := Scalar.muli v14 c64_i32_9
  v25
def k0_off4 (k0_t2 : Fin k0_t2_loop.trips) : Fin 3 → Nat :=
  let c0 : Index := 0#32
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c64_i32_9 : BitVec 32 := 64#32
  let v25 : BitVec 32 := Scalar.muli v14 c64_i32_9
  let v26 : BitVec 32 := v25
  let v27 : Index := Scalar.indexCast v26
  let c0_10 : Index := 0#32
  ![0, v27.toNat, 0]
def k0_off5 (i : grid0.Coords) (k0_t2 : Fin k0_t2_loop.trips) : Fin 3 → Nat :=
  let c0_13 : Index := 0#32
  let c56_i32 : BitVec 32 := 56#32
  let c0_i32_7 : BitVec 32 := 0#32
  let arg1 : BitVec 32 := BitVec.ofNat 32 (i 1).val
  let c16_i32_5 : BitVec 32 := 16#32
  let v15 : BitVec 32 := Scalar.muli arg1 c16_i32_5
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v16 : BitVec 32 := Scalar.addi v15 v14
  let c4_i32_6 : BitVec 32 := 4#32
  let v17 : BitVec 32 := Scalar.subi v16 c4_i32_6
  let v18 : BitVec 32 := Scalar.maxsi c0_i32_7 v17
  let v19 : BitVec 32 := Scalar.minsi c56_i32 v18
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v22 : BitVec 32 := Scalar.subi v19 v12
  let c64_i32_8 : BitVec 32 := 64#32
  let v23 : BitVec 32 := Scalar.muli v22 c64_i32_8
  let v24 : BitVec 32 := v23
  let v39 : Index := Scalar.indexCast v24
  let c0_14 : Index := 0#32
  ![0, v39.toNat, 0]
def k0_off6 (i : grid0.Coords) (k0_t2 : Fin k0_t2_loop.trips) : Fin 3 → Nat :=
  let c0_17 : Index := 0#32
  let c56_i32 : BitVec 32 := 56#32
  let c0_i32_7 : BitVec 32 := 0#32
  let arg1 : BitVec 32 := BitVec.ofNat 32 (i 1).val
  let c16_i32_5 : BitVec 32 := 16#32
  let v15 : BitVec 32 := Scalar.muli arg1 c16_i32_5
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v16 : BitVec 32 := Scalar.addi v15 v14
  let c4_i32_6 : BitVec 32 := 4#32
  let v17 : BitVec 32 := Scalar.subi v16 c4_i32_6
  let v18 : BitVec 32 := Scalar.maxsi c0_i32_7 v17
  let v19 : BitVec 32 := Scalar.minsi c56_i32 v18
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v22 : BitVec 32 := Scalar.subi v19 v12
  let c64_i32_8 : BitVec 32 := 64#32
  let v23 : BitVec 32 := Scalar.muli v22 c64_i32_8
  let v24 : BitVec 32 := v23
  let v48 : Index := Scalar.indexCast v24
  let c128 : Index := 128#32
  ![0, v48.toNat, 128]
def k0_off7 (i : grid0.Coords) (k0_t2 : Fin k0_t2_loop.trips) : Fin 3 → Nat :=
  let c0_20 : Index := 0#32
  let c56_i32 : BitVec 32 := 56#32
  let c0_i32_7 : BitVec 32 := 0#32
  let arg1 : BitVec 32 := BitVec.ofNat 32 (i 1).val
  let c16_i32_5 : BitVec 32 := 16#32
  let v15 : BitVec 32 := Scalar.muli arg1 c16_i32_5
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v16 : BitVec 32 := Scalar.addi v15 v14
  let c4_i32_6 : BitVec 32 := 4#32
  let v17 : BitVec 32 := Scalar.subi v16 c4_i32_6
  let v18 : BitVec 32 := Scalar.maxsi c0_i32_7 v17
  let v19 : BitVec 32 := Scalar.minsi c56_i32 v18
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v22 : BitVec 32 := Scalar.subi v19 v12
  let c64_i32_8 : BitVec 32 := 64#32
  let v23 : BitVec 32 := Scalar.muli v22 c64_i32_8
  let v24 : BitVec 32 := v23
  let v57 : Index := Scalar.indexCast v24
  let c256 : Index := 256#32
  ![0, v57.toNat, 256]
def k0_off8 (i : grid0.Coords) (k0_t2 : Fin k0_t2_loop.trips) : Fin 3 → Nat :=
  let c0_23 : Index := 0#32
  let c56_i32 : BitVec 32 := 56#32
  let c0_i32_7 : BitVec 32 := 0#32
  let arg1 : BitVec 32 := BitVec.ofNat 32 (i 1).val
  let c16_i32_5 : BitVec 32 := 16#32
  let v15 : BitVec 32 := Scalar.muli arg1 c16_i32_5
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v16 : BitVec 32 := Scalar.addi v15 v14
  let c4_i32_6 : BitVec 32 := 4#32
  let v17 : BitVec 32 := Scalar.subi v16 c4_i32_6
  let v18 : BitVec 32 := Scalar.maxsi c0_i32_7 v17
  let v19 : BitVec 32 := Scalar.minsi c56_i32 v18
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v22 : BitVec 32 := Scalar.subi v19 v12
  let c64_i32_8 : BitVec 32 := 64#32
  let v23 : BitVec 32 := Scalar.muli v22 c64_i32_8
  let v24 : BitVec 32 := v23
  let v66 : Index := Scalar.indexCast v24
  let c384 : Index := 384#32
  ![0, v66.toNat, 384]
def k0_mult3 (i : grid0.Coords) (k0_t2 : Fin k0_t2_loop.trips) : BitVec 32 :=
  let c56_i32_30 : BitVec 32 := 56#32
  let c0_i32_29 : BitVec 32 := 0#32
  let arg1 : BitVec 32 := BitVec.ofNat 32 (i 1).val
  let c16_i32_27 : BitVec 32 := 16#32
  let v72 : BitVec 32 := Scalar.muli arg1 c16_i32_27
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c0_i32_25 : BitVec 32 := 0#32
  let v70 : BitVec 32 := Scalar.addi v14 c0_i32_25
  let c1_i32_26 : BitVec 32 := 1#32
  let v71 : BitVec 32 := Scalar.addi v70 c1_i32_26
  let v73 : BitVec 32 := Scalar.addi v72 v71
  let c4_i32_28 : BitVec 32 := 4#32
  let v74 : BitVec 32 := Scalar.subi v73 c4_i32_28
  let v75 : BitVec 32 := Scalar.maxsi c0_i32_29 v74
  let v76 : BitVec 32 := Scalar.minsi c56_i32_30 v75
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v79 : BitVec 32 := Scalar.subi v76 v12
  let c64_i32_32 : BitVec 32 := 64#32
  let v80 : BitVec 32 := Scalar.muli v79 c64_i32_32
  v80
def k0_mult4 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c0_i32_25 : BitVec 32 := 0#32
  let v70 : BitVec 32 := Scalar.addi v14 c0_i32_25
  let c1_i32_26 : BitVec 32 := 1#32
  let v71 : BitVec 32 := Scalar.addi v70 c1_i32_26
  let c64_i32_33 : BitVec 32 := 64#32
  let v82 : BitVec 32 := Scalar.muli v71 c64_i32_33
  v82
def k0_off9 (k0_t2 : Fin k0_t2_loop.trips) (c0_i32_25 : BitVec 32) : Fin 3 → Nat :=
  let c0_34 : Index := 0#32
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v70 : BitVec 32 := Scalar.addi v14 c0_i32_25
  let c1_i32_26 : BitVec 32 := 1#32
  let v71 : BitVec 32 := Scalar.addi v70 c1_i32_26
  let c64_i32_33 : BitVec 32 := 64#32
  let v82 : BitVec 32 := Scalar.muli v71 c64_i32_33
  let v83 : BitVec 32 := v82
  let v84 : Index := Scalar.indexCast v83
  let c0_35 : Index := 0#32
  ![0, v84.toNat, 0]
def k0_off10 (i : grid0.Coords) (k0_t2 : Fin k0_t2_loop.trips) (c0_i32_25 : BitVec 32) : Fin 3 → Nat :=
  let c0_38 : Index := 0#32
  let c56_i32_30 : BitVec 32 := 56#32
  let c0_i32_29 : BitVec 32 := 0#32
  let arg1 : BitVec 32 := BitVec.ofNat 32 (i 1).val
  let c16_i32_27 : BitVec 32 := 16#32
  let v72 : BitVec 32 := Scalar.muli arg1 c16_i32_27
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v70 : BitVec 32 := Scalar.addi v14 c0_i32_25
  let c1_i32_26 : BitVec 32 := 1#32
  let v71 : BitVec 32 := Scalar.addi v70 c1_i32_26
  let v73 : BitVec 32 := Scalar.addi v72 v71
  let c4_i32_28 : BitVec 32 := 4#32
  let v74 : BitVec 32 := Scalar.subi v73 c4_i32_28
  let v75 : BitVec 32 := Scalar.maxsi c0_i32_29 v74
  let v76 : BitVec 32 := Scalar.minsi c56_i32_30 v75
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v79 : BitVec 32 := Scalar.subi v76 v12
  let c64_i32_32 : BitVec 32 := 64#32
  let v80 : BitVec 32 := Scalar.muli v79 c64_i32_32
  let v81 : BitVec 32 := v80
  let v96 : Index := Scalar.indexCast v81
  let c0_39 : Index := 0#32
  ![0, v96.toNat, 0]
def k0_off11 (i : grid0.Coords) (k0_t2 : Fin k0_t2_loop.trips) (c0_i32_25 : BitVec 32) : Fin 3 → Nat :=
  let c0_42 : Index := 0#32
  let c56_i32_30 : BitVec 32 := 56#32
  let c0_i32_29 : BitVec 32 := 0#32
  let arg1 : BitVec 32 := BitVec.ofNat 32 (i 1).val
  let c16_i32_27 : BitVec 32 := 16#32
  let v72 : BitVec 32 := Scalar.muli arg1 c16_i32_27
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v70 : BitVec 32 := Scalar.addi v14 c0_i32_25
  let c1_i32_26 : BitVec 32 := 1#32
  let v71 : BitVec 32 := Scalar.addi v70 c1_i32_26
  let v73 : BitVec 32 := Scalar.addi v72 v71
  let c4_i32_28 : BitVec 32 := 4#32
  let v74 : BitVec 32 := Scalar.subi v73 c4_i32_28
  let v75 : BitVec 32 := Scalar.maxsi c0_i32_29 v74
  let v76 : BitVec 32 := Scalar.minsi c56_i32_30 v75
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v79 : BitVec 32 := Scalar.subi v76 v12
  let c64_i32_32 : BitVec 32 := 64#32
  let v80 : BitVec 32 := Scalar.muli v79 c64_i32_32
  let v81 : BitVec 32 := v80
  let v105 : Index := Scalar.indexCast v81
  let c128_43 : Index := 128#32
  ![0, v105.toNat, 128]
def k0_off12 (i : grid0.Coords) (k0_t2 : Fin k0_t2_loop.trips) (c0_i32_25 : BitVec 32) : Fin 3 → Nat :=
  let c0_46 : Index := 0#32
  let c56_i32_30 : BitVec 32 := 56#32
  let c0_i32_29 : BitVec 32 := 0#32
  let arg1 : BitVec 32 := BitVec.ofNat 32 (i 1).val
  let c16_i32_27 : BitVec 32 := 16#32
  let v72 : BitVec 32 := Scalar.muli arg1 c16_i32_27
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v70 : BitVec 32 := Scalar.addi v14 c0_i32_25
  let c1_i32_26 : BitVec 32 := 1#32
  let v71 : BitVec 32 := Scalar.addi v70 c1_i32_26
  let v73 : BitVec 32 := Scalar.addi v72 v71
  let c4_i32_28 : BitVec 32 := 4#32
  let v74 : BitVec 32 := Scalar.subi v73 c4_i32_28
  let v75 : BitVec 32 := Scalar.maxsi c0_i32_29 v74
  let v76 : BitVec 32 := Scalar.minsi c56_i32_30 v75
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v79 : BitVec 32 := Scalar.subi v76 v12
  let c64_i32_32 : BitVec 32 := 64#32
  let v80 : BitVec 32 := Scalar.muli v79 c64_i32_32
  let v81 : BitVec 32 := v80
  let v114 : Index := Scalar.indexCast v81
  let c256_47 : Index := 256#32
  ![0, v114.toNat, 256]
def k0_off13 (i : grid0.Coords) (k0_t2 : Fin k0_t2_loop.trips) (c0_i32_25 : BitVec 32) : Fin 3 → Nat :=
  let c0_50 : Index := 0#32
  let c56_i32_30 : BitVec 32 := 56#32
  let c0_i32_29 : BitVec 32 := 0#32
  let arg1 : BitVec 32 := BitVec.ofNat 32 (i 1).val
  let c16_i32_27 : BitVec 32 := 16#32
  let v72 : BitVec 32 := Scalar.muli arg1 c16_i32_27
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v70 : BitVec 32 := Scalar.addi v14 c0_i32_25
  let c1_i32_26 : BitVec 32 := 1#32
  let v71 : BitVec 32 := Scalar.addi v70 c1_i32_26
  let v73 : BitVec 32 := Scalar.addi v72 v71
  let c4_i32_28 : BitVec 32 := 4#32
  let v74 : BitVec 32 := Scalar.subi v73 c4_i32_28
  let v75 : BitVec 32 := Scalar.maxsi c0_i32_29 v74
  let v76 : BitVec 32 := Scalar.minsi c56_i32_30 v75
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v79 : BitVec 32 := Scalar.subi v76 v12
  let c64_i32_32 : BitVec 32 := 64#32
  let v80 : BitVec 32 := Scalar.muli v79 c64_i32_32
  let v81 : BitVec 32 := v80
  let v123 : Index := Scalar.indexCast v81
  let c384_51 : Index := 384#32
  ![0, v123.toNat, 384]
def k0_off14 (i : grid0.Coords) (k0_t2 : Fin k0_t2_loop.trips) (c0_i32_54 : BitVec 32) (c0_i32_55 : BitVec 32) : Fin 3 → Nat :=
  let c56_i32 : BitVec 32 := 56#32
  let c0_i32_7 : BitVec 32 := 0#32
  let arg1 : BitVec 32 := BitVec.ofNat 32 (i 1).val
  let c16_i32_5 : BitVec 32 := 16#32
  let v15 : BitVec 32 := Scalar.muli arg1 c16_i32_5
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v16 : BitVec 32 := Scalar.addi v15 v14
  let c4_i32_6 : BitVec 32 := 4#32
  let v17 : BitVec 32 := Scalar.subi v16 c4_i32_6
  let v18 : BitVec 32 := Scalar.maxsi c0_i32_7 v17
  let v19 : BitVec 32 := Scalar.minsi c56_i32 v18
  let v20 : BitVec 32 := Scalar.subi v19 v16
  let c7_i32 : BitVec 32 := 7#32
  let v21 : BitVec 32 := Scalar.addi v20 c7_i32
  let v129 : BitVec 32 := Scalar.addi c0_i32_54 v21
  let v130 : BitVec 32 := Scalar.addi v129 c0_i32_55
  let v131 : Index := Scalar.indexCast v130
  let c0_56 : Index := 0#32
  let c0_57 : Index := 0#32
  ![v131.toNat, 0, 0]
def k0_mult5 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c0_i32_53 : BitVec 32 := 0#32
  let v127 : BitVec 32 := Scalar.addi v14 c0_i32_53
  let c64_i32_192 : BitVec 32 := 64#32
  let v540 : BitVec 32 := Scalar.muli v127 c64_i32_192
  v540
def k0_off15 (k0_t2 : Fin k0_t2_loop.trips) (c0_i32_53 : BitVec 32) : Fin 3 → Nat :=
  let c0_193 : Index := 0#32
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v127 : BitVec 32 := Scalar.addi v14 c0_i32_53
  let c64_i32_192 : BitVec 32 := 64#32
  let v540 : BitVec 32 := Scalar.muli v127 c64_i32_192
  let v541 : BitVec 32 := v540
  let v544 : Index := Scalar.indexCast v541
  let c0_194 : Index := 0#32
  ![0, v544.toNat, 0]
def k0_mult6 (i : grid0.Coords) (k0_t2 : Fin k0_t2_loop.trips) : BitVec 32 :=
  let c56_i32_200 : BitVec 32 := 56#32
  let c0_i32_199 : BitVec 32 := 0#32
  let arg1 : BitVec 32 := BitVec.ofNat 32 (i 1).val
  let c16_i32_197 : BitVec 32 := 16#32
  let v550 : BitVec 32 := Scalar.muli arg1 c16_i32_197
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c1_i32_195 : BitVec 32 := 1#32
  let v548 : BitVec 32 := Scalar.addi v14 c1_i32_195
  let c1_i32_196 : BitVec 32 := 1#32
  let v549 : BitVec 32 := Scalar.addi v548 c1_i32_196
  let v551 : BitVec 32 := Scalar.addi v550 v549
  let c4_i32_198 : BitVec 32 := 4#32
  let v552 : BitVec 32 := Scalar.subi v551 c4_i32_198
  let v553 : BitVec 32 := Scalar.maxsi c0_i32_199 v552
  let v554 : BitVec 32 := Scalar.minsi c56_i32_200 v553
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v557 : BitVec 32 := Scalar.subi v554 v12
  let c64_i32_202 : BitVec 32 := 64#32
  let v558 : BitVec 32 := Scalar.muli v557 c64_i32_202
  v558
def k0_mult7 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c1_i32_195 : BitVec 32 := 1#32
  let v548 : BitVec 32 := Scalar.addi v14 c1_i32_195
  let c1_i32_196 : BitVec 32 := 1#32
  let v549 : BitVec 32 := Scalar.addi v548 c1_i32_196
  let c64_i32_203 : BitVec 32 := 64#32
  let v560 : BitVec 32 := Scalar.muli v549 c64_i32_203
  v560
def k0_off16 (i : grid0.Coords) (k0_t2 : Fin k0_t2_loop.trips) (c0_i32_224 : BitVec 32) (c0_i32_25 : BitVec 32) (c0_i32_225 : BitVec 32) : Fin 3 → Nat :=
  let c56_i32_30 : BitVec 32 := 56#32
  let c0_i32_29 : BitVec 32 := 0#32
  let arg1 : BitVec 32 := BitVec.ofNat 32 (i 1).val
  let c16_i32_27 : BitVec 32 := 16#32
  let v72 : BitVec 32 := Scalar.muli arg1 c16_i32_27
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v70 : BitVec 32 := Scalar.addi v14 c0_i32_25
  let c1_i32_26 : BitVec 32 := 1#32
  let v71 : BitVec 32 := Scalar.addi v70 c1_i32_26
  let v73 : BitVec 32 := Scalar.addi v72 v71
  let c4_i32_28 : BitVec 32 := 4#32
  let v74 : BitVec 32 := Scalar.subi v73 c4_i32_28
  let v75 : BitVec 32 := Scalar.maxsi c0_i32_29 v74
  let v76 : BitVec 32 := Scalar.minsi c56_i32_30 v75
  let v77 : BitVec 32 := Scalar.subi v76 v73
  let c7_i32_31 : BitVec 32 := 7#32
  let v78 : BitVec 32 := Scalar.addi v77 c7_i32_31
  let v607 : BitVec 32 := Scalar.addi c0_i32_224 v78
  let v608 : BitVec 32 := Scalar.addi v607 c0_i32_225
  let v609 : Index := Scalar.indexCast v608
  let c0_226 : Index := 0#32
  let c0_227 : Index := 0#32
  ![v609.toNat, 0, 0]
def k0_mult8 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c1_i32_223 : BitVec 32 := 1#32
  let v605 : BitVec 32 := Scalar.addi v14 c1_i32_223
  let c64_i32_368 : BitVec 32 := 64#32
  let v1018 : BitVec 32 := Scalar.muli v605 c64_i32_368
  v1018
def k0_mult9 (i : grid0.Coords) (k0_t2 : Fin k0_t2_loop.trips) : BitVec 32 :=
  let c56_i32_376 : BitVec 32 := 56#32
  let c0_i32_375 : BitVec 32 := 0#32
  let arg1 : BitVec 32 := BitVec.ofNat 32 (i 1).val
  let c16_i32_373 : BitVec 32 := 16#32
  let v1028 : BitVec 32 := Scalar.muli arg1 c16_i32_373
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c2_i32_371 : BitVec 32 := 2#32
  let v1026 : BitVec 32 := Scalar.addi v14 c2_i32_371
  let c1_i32_372 : BitVec 32 := 1#32
  let v1027 : BitVec 32 := Scalar.addi v1026 c1_i32_372
  let v1029 : BitVec 32 := Scalar.addi v1028 v1027
  let c4_i32_374 : BitVec 32 := 4#32
  let v1030 : BitVec 32 := Scalar.subi v1029 c4_i32_374
  let v1031 : BitVec 32 := Scalar.maxsi c0_i32_375 v1030
  let v1032 : BitVec 32 := Scalar.minsi c56_i32_376 v1031
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v1035 : BitVec 32 := Scalar.subi v1032 v12
  let c64_i32_378 : BitVec 32 := 64#32
  let v1036 : BitVec 32 := Scalar.muli v1035 c64_i32_378
  v1036
def k0_mult10 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c2_i32_371 : BitVec 32 := 2#32
  let v1026 : BitVec 32 := Scalar.addi v14 c2_i32_371
  let c1_i32_372 : BitVec 32 := 1#32
  let v1027 : BitVec 32 := Scalar.addi v1026 c1_i32_372
  let c64_i32_379 : BitVec 32 := 64#32
  let v1038 : BitVec 32 := Scalar.muli v1027 c64_i32_379
  v1038
def k0_mult11 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c2_i32_399 : BitVec 32 := 2#32
  let v1083 : BitVec 32 := Scalar.addi v14 c2_i32_399
  let c64_i32_544 : BitVec 32 := 64#32
  let v1496 : BitVec 32 := Scalar.muli v1083 c64_i32_544
  v1496
def k0_mult12 (i : grid0.Coords) (k0_t2 : Fin k0_t2_loop.trips) : BitVec 32 :=
  let c56_i32_552 : BitVec 32 := 56#32
  let c0_i32_551 : BitVec 32 := 0#32
  let arg1 : BitVec 32 := BitVec.ofNat 32 (i 1).val
  let c16_i32_549 : BitVec 32 := 16#32
  let v1506 : BitVec 32 := Scalar.muli arg1 c16_i32_549
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c3_i32_547 : BitVec 32 := 3#32
  let v1504 : BitVec 32 := Scalar.addi v14 c3_i32_547
  let c1_i32_548 : BitVec 32 := 1#32
  let v1505 : BitVec 32 := Scalar.addi v1504 c1_i32_548
  let v1507 : BitVec 32 := Scalar.addi v1506 v1505
  let c4_i32_550 : BitVec 32 := 4#32
  let v1508 : BitVec 32 := Scalar.subi v1507 c4_i32_550
  let v1509 : BitVec 32 := Scalar.maxsi c0_i32_551 v1508
  let v1510 : BitVec 32 := Scalar.minsi c56_i32_552 v1509
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v1513 : BitVec 32 := Scalar.subi v1510 v12
  let c64_i32_554 : BitVec 32 := 64#32
  let v1514 : BitVec 32 := Scalar.muli v1513 c64_i32_554
  v1514
def k0_mult13 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c3_i32_547 : BitVec 32 := 3#32
  let v1504 : BitVec 32 := Scalar.addi v14 c3_i32_547
  let c1_i32_548 : BitVec 32 := 1#32
  let v1505 : BitVec 32 := Scalar.addi v1504 c1_i32_548
  let c64_i32_555 : BitVec 32 := 64#32
  let v1516 : BitVec 32 := Scalar.muli v1505 c64_i32_555
  v1516
def k0_mult14 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c3_i32_575 : BitVec 32 := 3#32
  let v1561 : BitVec 32 := Scalar.addi v14 c3_i32_575
  let c64_i32_720 : BitVec 32 := 64#32
  let v1974 : BitVec 32 := Scalar.muli v1561 c64_i32_720
  v1974
def k0_mult15 (i : grid0.Coords) (k0_t2 : Fin k0_t2_loop.trips) : BitVec 32 :=
  let c56_i32_728 : BitVec 32 := 56#32
  let c0_i32_727 : BitVec 32 := 0#32
  let arg1 : BitVec 32 := BitVec.ofNat 32 (i 1).val
  let c16_i32_725 : BitVec 32 := 16#32
  let v1984 : BitVec 32 := Scalar.muli arg1 c16_i32_725
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c4_i32_723 : BitVec 32 := 4#32
  let v1982 : BitVec 32 := Scalar.addi v14 c4_i32_723
  let c1_i32_724 : BitVec 32 := 1#32
  let v1983 : BitVec 32 := Scalar.addi v1982 c1_i32_724
  let v1985 : BitVec 32 := Scalar.addi v1984 v1983
  let c4_i32_726 : BitVec 32 := 4#32
  let v1986 : BitVec 32 := Scalar.subi v1985 c4_i32_726
  let v1987 : BitVec 32 := Scalar.maxsi c0_i32_727 v1986
  let v1988 : BitVec 32 := Scalar.minsi c56_i32_728 v1987
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v1991 : BitVec 32 := Scalar.subi v1988 v12
  let c64_i32_730 : BitVec 32 := 64#32
  let v1992 : BitVec 32 := Scalar.muli v1991 c64_i32_730
  v1992
def k0_mult16 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c4_i32_723 : BitVec 32 := 4#32
  let v1982 : BitVec 32 := Scalar.addi v14 c4_i32_723
  let c1_i32_724 : BitVec 32 := 1#32
  let v1983 : BitVec 32 := Scalar.addi v1982 c1_i32_724
  let c64_i32_731 : BitVec 32 := 64#32
  let v1994 : BitVec 32 := Scalar.muli v1983 c64_i32_731
  v1994
def k0_mult17 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c4_i32_751 : BitVec 32 := 4#32
  let v2039 : BitVec 32 := Scalar.addi v14 c4_i32_751
  let c64_i32_896 : BitVec 32 := 64#32
  let v2452 : BitVec 32 := Scalar.muli v2039 c64_i32_896
  v2452
def k0_mult18 (i : grid0.Coords) (k0_t2 : Fin k0_t2_loop.trips) : BitVec 32 :=
  let c56_i32_904 : BitVec 32 := 56#32
  let c0_i32_903 : BitVec 32 := 0#32
  let arg1 : BitVec 32 := BitVec.ofNat 32 (i 1).val
  let c16_i32_901 : BitVec 32 := 16#32
  let v2462 : BitVec 32 := Scalar.muli arg1 c16_i32_901
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c5_i32_899 : BitVec 32 := 5#32
  let v2460 : BitVec 32 := Scalar.addi v14 c5_i32_899
  let c1_i32_900 : BitVec 32 := 1#32
  let v2461 : BitVec 32 := Scalar.addi v2460 c1_i32_900
  let v2463 : BitVec 32 := Scalar.addi v2462 v2461
  let c4_i32_902 : BitVec 32 := 4#32
  let v2464 : BitVec 32 := Scalar.subi v2463 c4_i32_902
  let v2465 : BitVec 32 := Scalar.maxsi c0_i32_903 v2464
  let v2466 : BitVec 32 := Scalar.minsi c56_i32_904 v2465
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v2469 : BitVec 32 := Scalar.subi v2466 v12
  let c64_i32_906 : BitVec 32 := 64#32
  let v2470 : BitVec 32 := Scalar.muli v2469 c64_i32_906
  v2470
def k0_mult19 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c5_i32_899 : BitVec 32 := 5#32
  let v2460 : BitVec 32 := Scalar.addi v14 c5_i32_899
  let c1_i32_900 : BitVec 32 := 1#32
  let v2461 : BitVec 32 := Scalar.addi v2460 c1_i32_900
  let c64_i32_907 : BitVec 32 := 64#32
  let v2472 : BitVec 32 := Scalar.muli v2461 c64_i32_907
  v2472
def k0_mult20 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c5_i32_927 : BitVec 32 := 5#32
  let v2517 : BitVec 32 := Scalar.addi v14 c5_i32_927
  let c64_i32_1072 : BitVec 32 := 64#32
  let v2930 : BitVec 32 := Scalar.muli v2517 c64_i32_1072
  v2930
def k0_mult21 (i : grid0.Coords) (k0_t2 : Fin k0_t2_loop.trips) : BitVec 32 :=
  let c56_i32_1080 : BitVec 32 := 56#32
  let c0_i32_1079 : BitVec 32 := 0#32
  let arg1 : BitVec 32 := BitVec.ofNat 32 (i 1).val
  let c16_i32_1077 : BitVec 32 := 16#32
  let v2940 : BitVec 32 := Scalar.muli arg1 c16_i32_1077
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c6_i32_1075 : BitVec 32 := 6#32
  let v2938 : BitVec 32 := Scalar.addi v14 c6_i32_1075
  let c1_i32_1076 : BitVec 32 := 1#32
  let v2939 : BitVec 32 := Scalar.addi v2938 c1_i32_1076
  let v2941 : BitVec 32 := Scalar.addi v2940 v2939
  let c4_i32_1078 : BitVec 32 := 4#32
  let v2942 : BitVec 32 := Scalar.subi v2941 c4_i32_1078
  let v2943 : BitVec 32 := Scalar.maxsi c0_i32_1079 v2942
  let v2944 : BitVec 32 := Scalar.minsi c56_i32_1080 v2943
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v2947 : BitVec 32 := Scalar.subi v2944 v12
  let c64_i32_1082 : BitVec 32 := 64#32
  let v2948 : BitVec 32 := Scalar.muli v2947 c64_i32_1082
  v2948
def k0_mult22 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c6_i32_1075 : BitVec 32 := 6#32
  let v2938 : BitVec 32 := Scalar.addi v14 c6_i32_1075
  let c1_i32_1076 : BitVec 32 := 1#32
  let v2939 : BitVec 32 := Scalar.addi v2938 c1_i32_1076
  let c64_i32_1083 : BitVec 32 := 64#32
  let v2950 : BitVec 32 := Scalar.muli v2939 c64_i32_1083
  v2950
def k0_mult23 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c6_i32_1103 : BitVec 32 := 6#32
  let v2995 : BitVec 32 := Scalar.addi v14 c6_i32_1103
  let c64_i32_1248 : BitVec 32 := 64#32
  let v3408 : BitVec 32 := Scalar.muli v2995 c64_i32_1248
  v3408
def k0_mult24 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c7_i32_1251 : BitVec 32 := 7#32
  let v3416 : BitVec 32 := Scalar.addi v14 c7_i32_1251
  let c64_i32_1396 : BitVec 32 := 64#32
  let v3829 : BitVec 32 := Scalar.muli v3416 c64_i32_1396
  v3829
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.subi v0 c4_i32
  let c0_i32 : BitVec 32 := 0#32
  let c40_i32 : BitVec 32 := 40#32
  let v2 : BitVec 32 := Scalar.maxsi c0_i32 v1
  let v3 : BitVec 32 := Scalar.minsi c40_i32 v2
  let c64_i32 : BitVec 32 := 64#32
  let v4 : BitVec 32 := Scalar.muli v3 c64_i32
  let c512_i32 : BitVec 32 := 512#32
  let c0_i32_0 : BitVec 32 := 0#32
  ![arg0.toNat, v4.toNat, c512_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.subi v0 c4_i32
  let c0_i32 : BitVec 32 := 0#32
  let c40_i32 : BitVec 32 := 40#32
  let v2 : BitVec 32 := Scalar.maxsi c0_i32 v1
  let v3 : BitVec 32 := Scalar.minsi c40_i32 v2
  let c64_i32 : BitVec 32 := 64#32
  let v4 : BitVec 32 := Scalar.muli v3 c64_i32
  let c1024_i32 : BitVec 32 := 1024#32
  let c0_i32_0 : BitVec 32 := 0#32
  ![arg0.toNat, v4.toNat, c1024_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S3720 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
abbrev S4x4096x1536 : Shape := ⟨3, ![4, 4096, 1536]⟩
abbrev S1x8x15x31 : Shape := ⟨4, ![1, 8, 15, 31]⟩
abbrev S8x15x31 : Shape := ⟨3, ![8, 15, 31]⟩
abbrev S3720 : Shape := ⟨1, ![3720]⟩
abbrev S4x4096x512 : Shape := ⟨3, ![4, 4096, 512]⟩
abbrev S1x1024x512 : Shape := ⟨3, ![1, 1024, 512]⟩
abbrev S1x1536x512 : Shape := ⟨3, ![1, 1536, 512]⟩
abbrev S60x64x128 : Shape := ⟨3, ![60, 64, 128]⟩
abbrev S64x128 : Shape := ⟨2, ![64, 128]⟩
abbrev S1 : Shape := ⟨1, ![1]⟩
abbrev S1x64x128 : Shape := ⟨3, ![1, 64, 128]⟩
abbrev S512x128 : Shape := ⟨2, ![512, 128]⟩
abbrev S1x64x512 : Shape := ⟨3, ![1, 64, 512]⟩
abbrev S64x512 : Shape := ⟨2, ![64, 512]⟩
abbrev S128x128 : Shape := ⟨2, ![128, 128]⟩
abbrev S1x512x128 : Shape := ⟨3, ![1, 512, 128]⟩
abbrev S128 : Shape := ⟨1, ![128]⟩
abbrev S1x128 : Shape := ⟨2, ![1, 128]⟩
abbrev S128x512 : Shape := ⟨2, ![128, 512]⟩
abbrev S512x256 : Shape := ⟨2, ![512, 256]⟩
abbrev S128x256 : Shape := ⟨2, ![128, 256]⟩

abbrev nBuf : Space → Nat
  | .hbm => 6
  | .vmem => 9
  | .smem => 1
  | _ => 0

abbrev bufTy : (tb : Table) → Fin (tcTables nBuf tb) → BufTy
  | .hbm, ⟨0, _⟩ => ⟨S4x4096x1536, .f32⟩
  | .hbm, ⟨1, _⟩ => ⟨S1x8x15x31, .f32⟩
  | .hbm, ⟨2, _⟩ => ⟨S4x4096x1536, .bf16⟩
  | .hbm, ⟨3, _⟩ => ⟨S8x15x31, .f32⟩
  | .hbm, ⟨4, _⟩ => ⟨S3720, .f32⟩
  | .hbm, ⟨5, _⟩ => ⟨S4x4096x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1536x512, .bf16⟩
  | .local _ .vmem, ⟨3, _⟩ => ⟨S1x1536x512, .bf16⟩
  | .local _ .vmem, ⟨4, _⟩ => ⟨S1x1536x512, .bf16⟩
  | .local _ .vmem, ⟨5, _⟩ => ⟨S1x1536x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S60x64x128, .f32⟩
  | .local _ .smem, ⟨0, _⟩ => ⟨S3720, .f32⟩
  | _, _ => ⟨S4x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F] [Named F]

def κ : String → Option EReal := fun
  | "log2e" => some (((Real.log 2)⁻¹ : ℝ) : EReal)
  | "neg" => some ⊥
  | "qscale" => some ((8⁻¹ * (Real.log 2)⁻¹ : ℝ) : EReal)
  | _ => none

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_9 : BitVec 32 := 0#32
  let c60_i32 : BitVec 32 := 60#32
  let v38 : BitVec 32 := Scalar.addi c0_i32_9 c60_i32
  let c1_i32_10 : BitVec 32 := 1#32
  ⟨c0_i32_9, v38, c1_i32_10⟩
def k0_off1 (k0_t1 : Fin k0_t1_loop.trips) (c0_i32_32 : BitVec 32) : Fin 1 → Nat :=
  let c2_i32_25 : BitVec 32 := 2#32
  let c0_i32_9 : BitVec 32 := 0#32
  let c1_i32_10 : BitVec 32 := 1#32
  let arg8 : BitVec 32 := Scf.iv c0_i32_9 c1_i32_10 k0_t1
  let c0_i32_13 : BitVec 32 := 0#32
  let v40 : BitVec 1 := Scalar.cmpi .sgt arg8 c0_i32_13
  let v41 : BitVec 32 := Scalar.extui v40
  let c0_i32_14 : BitVec 32 := 0#32
  let v42 : BitVec 1 := Scalar.cmpi .slt arg8 c0_i32_14
  let v43 : BitVec 32 := Scalar.extui v42
  let v44 : BitVec 32 := Scalar.subi v41 v43
  let c15_i32_12 : BitVec 32 := 15#32
  let c0_i32_15 : BitVec 32 := 0#32
  let v45 : BitVec 1 := Scalar.cmpi .sgt c15_i32_12 c0_i32_15
  let v46 : BitVec 32 := Scalar.extui v45
  let c0_i32_16 : BitVec 32 := 0#32
  let v47 : BitVec 1 := Scalar.cmpi .slt c15_i32_12 c0_i32_16
  let v48 : BitVec 32 := Scalar.extui v47
  let v49 : BitVec 32 := Scalar.subi v46 v48
  let v50 : BitVec 1 := Scalar.cmpi .ne v44 v49
  let v51 : BitVec 32 := Scalar.remsi arg8 c15_i32_12
  let c0_i32_17 : BitVec 32 := 0#32
  let v52 : BitVec 1 := Scalar.cmpi .ne v51 c0_i32_17
  let v53 : BitVec 1 := Scalar.andi v50 v52
  let v39 : BitVec 32 := Scalar.divsi arg8 c15_i32_12
  let c1_i32_18 : BitVec 32 := 1#32
  let v54 : BitVec 32 := Scalar.subi v39 c1_i32_18
  let v55 : BitVec 32 := Scalar.select v53 v54 v39
  let v66 : BitVec 32 := Scalar.muli c2_i32_25 v55
  let c15_i32_26 : BitVec 32 := 15#32
  let v67 : BitVec 32 := Scalar.muli v66 c15_i32_26
  let c15_i32_19 : BitVec 32 := 15#32
  let c0_i32_20 : BitVec 32 := 0#32
  let v56 : BitVec 1 := Scalar.cmpi .eq c15_i32_19 c0_i32_20
  let c1_i32_21 : BitVec 32 := 1#32
  let v57 : BitVec 32 := Scalar.select v56 c1_i32_21 c15_i32_19
  let v58 : BitVec 32 := Scalar.remsi arg8 v57
  let c0_i32_23 : BitVec 32 := 0#32
  let v60 : BitVec 1 := Scalar.cmpi .slt v58 c0_i32_23
  let c0_i32_24 : BitVec 32 := 0#32
  let v61 : BitVec 1 := Scalar.cmpi .slt v57 c0_i32_24
  let v62 : BitVec 1 := Scalar.xori v60 v61
  let c0_i32_22 : BitVec 32 := 0#32
  let v59 : BitVec 1 := Scalar.cmpi .ne v58 c0_i32_22
  let v63 : BitVec 1 := Scalar.andi v62 v59
  let v64 : BitVec 32 := Scalar.addi v58 v57
  let v65 : BitVec 32 := Scalar.select v63 v64 v58
  let v68 : BitVec 32 := Scalar.addi v67 v65
  let c31_i32 : BitVec 32 := 31#32
  let v69 : BitVec 32 := Scalar.muli v68 c31_i32
  let v76 : BitVec 32 := Scalar.addi v69 c0_i32_32
  let v77 : Index := Scalar.indexCast v76
  ![v77.toNat]
def k0_off2 (k0_t1 : Fin k0_t1_loop.trips) (c0_i32_33 : BitVec 32) : Fin 1 → Nat :=
  let c2_i32_27 : BitVec 32 := 2#32
  let c0_i32_9 : BitVec 32 := 0#32
  let c1_i32_10 : BitVec 32 := 1#32
  let arg8 : BitVec 32 := Scf.iv c0_i32_9 c1_i32_10 k0_t1
  let c0_i32_13 : BitVec 32 := 0#32
  let v40 : BitVec 1 := Scalar.cmpi .sgt arg8 c0_i32_13
  let v41 : BitVec 32 := Scalar.extui v40
  let c0_i32_14 : BitVec 32 := 0#32
  let v42 : BitVec 1 := Scalar.cmpi .slt arg8 c0_i32_14
  let v43 : BitVec 32 := Scalar.extui v42
  let v44 : BitVec 32 := Scalar.subi v41 v43
  let c15_i32_12 : BitVec 32 := 15#32
  let c0_i32_15 : BitVec 32 := 0#32
  let v45 : BitVec 1 := Scalar.cmpi .sgt c15_i32_12 c0_i32_15
  let v46 : BitVec 32 := Scalar.extui v45
  let c0_i32_16 : BitVec 32 := 0#32
  let v47 : BitVec 1 := Scalar.cmpi .slt c15_i32_12 c0_i32_16
  let v48 : BitVec 32 := Scalar.extui v47
  let v49 : BitVec 32 := Scalar.subi v46 v48
  let v50 : BitVec 1 := Scalar.cmpi .ne v44 v49
  let v51 : BitVec 32 := Scalar.remsi arg8 c15_i32_12
  let c0_i32_17 : BitVec 32 := 0#32
  let v52 : BitVec 1 := Scalar.cmpi .ne v51 c0_i32_17
  let v53 : BitVec 1 := Scalar.andi v50 v52
  let v39 : BitVec 32 := Scalar.divsi arg8 c15_i32_12
  let c1_i32_18 : BitVec 32 := 1#32
  let v54 : BitVec 32 := Scalar.subi v39 c1_i32_18
  let v55 : BitVec 32 := Scalar.select v53 v54 v39
  let v70 : BitVec 32 := Scalar.muli c2_i32_27 v55
  let c1_i32_28 : BitVec 32 := 1#32
  let v71 : BitVec 32 := Scalar.addi v70 c1_i32_28
  let c15_i32_29 : BitVec 32 := 15#32
  let v72 : BitVec 32 := Scalar.muli v71 c15_i32_29
  let c15_i32_19 : BitVec 32 := 15#32
  let c0_i32_20 : BitVec 32 := 0#32
  let v56 : BitVec 1 := Scalar.cmpi .eq c15_i32_19 c0_i32_20
  let c1_i32_21 : BitVec 32 := 1#32
  let v57 : BitVec 32 := Scalar.select v56 c1_i32_21 c15_i32_19
  let v58 : BitVec 32 := Scalar.remsi arg8 v57
  let c0_i32_23 : BitVec 32 := 0#32
  let v60 : BitVec 1 := Scalar.cmpi .slt v58 c0_i32_23
  let c0_i32_24 : BitVec 32 := 0#32
  let v61 : BitVec 1 := Scalar.cmpi .slt v57 c0_i32_24
  let v62 : BitVec 1 := Scalar.xori v60 v61
  let c0_i32_22 : BitVec 32 := 0#32
  let v59 : BitVec 1 := Scalar.cmpi .ne v58 c0_i32_22
  let v63 : BitVec 1 := Scalar.andi v62 v59
  let v64 : BitVec 32 := Scalar.addi v58 v57
  let v65 : BitVec 32 := Scalar.select v63 v64 v58
  let v73 : BitVec 32 := Scalar.addi v72 v65
  let c31_i32_30 : BitVec 32 := 31#32
  let v74 : BitVec 32 := Scalar.muli v73 c31_i32_30
  let v79 : BitVec 32 := Scalar.addi v74 c0_i32_33
  let v80 : Index := Scalar.indexCast v79
  ![v80.toNat]
def k0_off3 (k0_t1 : Fin k0_t1_loop.trips) : Fin 3 → Nat :=
  let c0_i32_9 : BitVec 32 := 0#32
  let c1_i32_10 : BitVec 32 := 1#32
  let arg8 : BitVec 32 := Scf.iv c0_i32_9 c1_i32_10 k0_t1
  let v452 : Index := Scalar.indexCast arg8
  let c0 : Index := 0#32
  let c0_103 : Index := 0#32
  ![v452.toNat, 0, 0]
@[reducible] def k0_t2_loop : Scf.Loop 32 :=
  let c0_i32_3 : BitVec 32 := 0#32
  let c2_i32 : BitVec 32 := 2#32
  let v13 : BitVec 32 := Scalar.addi c0_i32_3 c2_i32
  let c1_i32 : BitVec 32 := 1#32
  ⟨c0_i32_3, v13, c1_i32⟩
def k0_mult1 (i : grid0.Coords) (k0_t2 : Fin k0_t2_loop.trips) : BitVec 32 :=
  let c56_i32 : BitVec 32 := 56#32
  let c0_i32_7 : BitVec 32 := 0#32
  let arg1 : BitVec 32 := BitVec.ofNat 32 (i 1).val
  let c16_i32_5 : BitVec 32 := 16#32
  let v15 : BitVec 32 := Scalar.muli arg1 c16_i32_5
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v16 : BitVec 32 := Scalar.addi v15 v14
  let c4_i32_6 : BitVec 32 := 4#32
  let v17 : BitVec 32 := Scalar.subi v16 c4_i32_6
  let v18 : BitVec 32 := Scalar.maxsi c0_i32_7 v17
  let v19 : BitVec 32 := Scalar.minsi c56_i32 v18
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v22 : BitVec 32 := Scalar.subi v19 v12
  let c64_i32_8 : BitVec 32 := 64#32
  let v23 : BitVec 32 := Scalar.muli v22 c64_i32_8
  v23
def k0_mult2 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c64_i32_9 : BitVec 32 := 64#32
  let v25 : BitVec 32 := Scalar.muli v14 c64_i32_9
  v25
def k0_off4 (k0_t2 : Fin k0_t2_loop.trips) : Fin 3 → Nat :=
  let c0 : Index := 0#32
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c64_i32_9 : BitVec 32 := 64#32
  let v25 : BitVec 32 := Scalar.muli v14 c64_i32_9
  let v26 : BitVec 32 := v25
  let v27 : Index := Scalar.indexCast v26
  let c0_10 : Index := 0#32
  ![0, v27.toNat, 0]
def k0_off5 (i : grid0.Coords) (k0_t2 : Fin k0_t2_loop.trips) : Fin 3 → Nat :=
  let c0_13 : Index := 0#32
  let c56_i32 : BitVec 32 := 56#32
  let c0_i32_7 : BitVec 32 := 0#32
  let arg1 : BitVec 32 := BitVec.ofNat 32 (i 1).val
  let c16_i32_5 : BitVec 32 := 16#32
  let v15 : BitVec 32 := Scalar.muli arg1 c16_i32_5
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v16 : BitVec 32 := Scalar.addi v15 v14
  let c4_i32_6 : BitVec 32 := 4#32
  let v17 : BitVec 32 := Scalar.subi v16 c4_i32_6
  let v18 : BitVec 32 := Scalar.maxsi c0_i32_7 v17
  let v19 : BitVec 32 := Scalar.minsi c56_i32 v18
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v22 : BitVec 32 := Scalar.subi v19 v12
  let c64_i32_8 : BitVec 32 := 64#32
  let v23 : BitVec 32 := Scalar.muli v22 c64_i32_8
  let v24 : BitVec 32 := v23
  let v39 : Index := Scalar.indexCast v24
  let c0_14 : Index := 0#32
  ![0, v39.toNat, 0]
def k0_off6 (i : grid0.Coords) (k0_t2 : Fin k0_t2_loop.trips) : Fin 3 → Nat :=
  let c0_17 : Index := 0#32
  let c56_i32 : BitVec 32 := 56#32
  let c0_i32_7 : BitVec 32 := 0#32
  let arg1 : BitVec 32 := BitVec.ofNat 32 (i 1).val
  let c16_i32_5 : BitVec 32 := 16#32
  let v15 : BitVec 32 := Scalar.muli arg1 c16_i32_5
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v16 : BitVec 32 := Scalar.addi v15 v14
  let c4_i32_6 : BitVec 32 := 4#32
  let v17 : BitVec 32 := Scalar.subi v16 c4_i32_6
  let v18 : BitVec 32 := Scalar.maxsi c0_i32_7 v17
  let v19 : BitVec 32 := Scalar.minsi c56_i32 v18
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v22 : BitVec 32 := Scalar.subi v19 v12
  let c64_i32_8 : BitVec 32 := 64#32
  let v23 : BitVec 32 := Scalar.muli v22 c64_i32_8
  let v24 : BitVec 32 := v23
  let v48 : Index := Scalar.indexCast v24
  let c128 : Index := 128#32
  ![0, v48.toNat, 128]
def k0_off7 (i : grid0.Coords) (k0_t2 : Fin k0_t2_loop.trips) : Fin 3 → Nat :=
  let c0_20 : Index := 0#32
  let c56_i32 : BitVec 32 := 56#32
  let c0_i32_7 : BitVec 32 := 0#32
  let arg1 : BitVec 32 := BitVec.ofNat 32 (i 1).val
  let c16_i32_5 : BitVec 32 := 16#32
  let v15 : BitVec 32 := Scalar.muli arg1 c16_i32_5
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v16 : BitVec 32 := Scalar.addi v15 v14
  let c4_i32_6 : BitVec 32 := 4#32
  let v17 : BitVec 32 := Scalar.subi v16 c4_i32_6
  let v18 : BitVec 32 := Scalar.maxsi c0_i32_7 v17
  let v19 : BitVec 32 := Scalar.minsi c56_i32 v18
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v22 : BitVec 32 := Scalar.subi v19 v12
  let c64_i32_8 : BitVec 32 := 64#32
  let v23 : BitVec 32 := Scalar.muli v22 c64_i32_8
  let v24 : BitVec 32 := v23
  let v57 : Index := Scalar.indexCast v24
  let c256 : Index := 256#32
  ![0, v57.toNat, 256]
def k0_off8 (i : grid0.Coords) (k0_t2 : Fin k0_t2_loop.trips) : Fin 3 → Nat :=
  let c0_23 : Index := 0#32
  let c56_i32 : BitVec 32 := 56#32
  let c0_i32_7 : BitVec 32 := 0#32
  let arg1 : BitVec 32 := BitVec.ofNat 32 (i 1).val
  let c16_i32_5 : BitVec 32 := 16#32
  let v15 : BitVec 32 := Scalar.muli arg1 c16_i32_5
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v16 : BitVec 32 := Scalar.addi v15 v14
  let c4_i32_6 : BitVec 32 := 4#32
  let v17 : BitVec 32 := Scalar.subi v16 c4_i32_6
  let v18 : BitVec 32 := Scalar.maxsi c0_i32_7 v17
  let v19 : BitVec 32 := Scalar.minsi c56_i32 v18
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v22 : BitVec 32 := Scalar.subi v19 v12
  let c64_i32_8 : BitVec 32 := 64#32
  let v23 : BitVec 32 := Scalar.muli v22 c64_i32_8
  let v24 : BitVec 32 := v23
  let v66 : Index := Scalar.indexCast v24
  let c384 : Index := 384#32
  ![0, v66.toNat, 384]
def k0_mult3 (i : grid0.Coords) (k0_t2 : Fin k0_t2_loop.trips) : BitVec 32 :=
  let c56_i32_30 : BitVec 32 := 56#32
  let c0_i32_29 : BitVec 32 := 0#32
  let arg1 : BitVec 32 := BitVec.ofNat 32 (i 1).val
  let c16_i32_27 : BitVec 32 := 16#32
  let v72 : BitVec 32 := Scalar.muli arg1 c16_i32_27
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c0_i32_25 : BitVec 32 := 0#32
  let v70 : BitVec 32 := Scalar.addi v14 c0_i32_25
  let c1_i32_26 : BitVec 32 := 1#32
  let v71 : BitVec 32 := Scalar.addi v70 c1_i32_26
  let v73 : BitVec 32 := Scalar.addi v72 v71
  let c4_i32_28 : BitVec 32 := 4#32
  let v74 : BitVec 32 := Scalar.subi v73 c4_i32_28
  let v75 : BitVec 32 := Scalar.maxsi c0_i32_29 v74
  let v76 : BitVec 32 := Scalar.minsi c56_i32_30 v75
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v79 : BitVec 32 := Scalar.subi v76 v12
  let c64_i32_32 : BitVec 32 := 64#32
  let v80 : BitVec 32 := Scalar.muli v79 c64_i32_32
  v80
def k0_mult4 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c0_i32_25 : BitVec 32 := 0#32
  let v70 : BitVec 32 := Scalar.addi v14 c0_i32_25
  let c1_i32_26 : BitVec 32 := 1#32
  let v71 : BitVec 32 := Scalar.addi v70 c1_i32_26
  let c64_i32_33 : BitVec 32 := 64#32
  let v82 : BitVec 32 := Scalar.muli v71 c64_i32_33
  v82
def k0_off9 (k0_t2 : Fin k0_t2_loop.trips) (c0_i32_25 : BitVec 32) : Fin 3 → Nat :=
  let c0_34 : Index := 0#32
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v70 : BitVec 32 := Scalar.addi v14 c0_i32_25
  let c1_i32_26 : BitVec 32 := 1#32
  let v71 : BitVec 32 := Scalar.addi v70 c1_i32_26
  let c64_i32_33 : BitVec 32 := 64#32
  let v82 : BitVec 32 := Scalar.muli v71 c64_i32_33
  let v83 : BitVec 32 := v82
  let v84 : Index := Scalar.indexCast v83
  let c0_35 : Index := 0#32
  ![0, v84.toNat, 0]
def k0_off10 (i : grid0.Coords) (k0_t2 : Fin k0_t2_loop.trips) (c0_i32_25 : BitVec 32) : Fin 3 → Nat :=
  let c0_38 : Index := 0#32
  let c56_i32_30 : BitVec 32 := 56#32
  let c0_i32_29 : BitVec 32 := 0#32
  let arg1 : BitVec 32 := BitVec.ofNat 32 (i 1).val
  let c16_i32_27 : BitVec 32 := 16#32
  let v72 : BitVec 32 := Scalar.muli arg1 c16_i32_27
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v70 : BitVec 32 := Scalar.addi v14 c0_i32_25
  let c1_i32_26 : BitVec 32 := 1#32
  let v71 : BitVec 32 := Scalar.addi v70 c1_i32_26
  let v73 : BitVec 32 := Scalar.addi v72 v71
  let c4_i32_28 : BitVec 32 := 4#32
  let v74 : BitVec 32 := Scalar.subi v73 c4_i32_28
  let v75 : BitVec 32 := Scalar.maxsi c0_i32_29 v74
  let v76 : BitVec 32 := Scalar.minsi c56_i32_30 v75
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v79 : BitVec 32 := Scalar.subi v76 v12
  let c64_i32_32 : BitVec 32 := 64#32
  let v80 : BitVec 32 := Scalar.muli v79 c64_i32_32
  let v81 : BitVec 32 := v80
  let v96 : Index := Scalar.indexCast v81
  let c0_39 : Index := 0#32
  ![0, v96.toNat, 0]
def k0_off11 (i : grid0.Coords) (k0_t2 : Fin k0_t2_loop.trips) (c0_i32_25 : BitVec 32) : Fin 3 → Nat :=
  let c0_42 : Index := 0#32
  let c56_i32_30 : BitVec 32 := 56#32
  let c0_i32_29 : BitVec 32 := 0#32
  let arg1 : BitVec 32 := BitVec.ofNat 32 (i 1).val
  let c16_i32_27 : BitVec 32 := 16#32
  let v72 : BitVec 32 := Scalar.muli arg1 c16_i32_27
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v70 : BitVec 32 := Scalar.addi v14 c0_i32_25
  let c1_i32_26 : BitVec 32 := 1#32
  let v71 : BitVec 32 := Scalar.addi v70 c1_i32_26
  let v73 : BitVec 32 := Scalar.addi v72 v71
  let c4_i32_28 : BitVec 32 := 4#32
  let v74 : BitVec 32 := Scalar.subi v73 c4_i32_28
  let v75 : BitVec 32 := Scalar.maxsi c0_i32_29 v74
  let v76 : BitVec 32 := Scalar.minsi c56_i32_30 v75
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v79 : BitVec 32 := Scalar.subi v76 v12
  let c64_i32_32 : BitVec 32 := 64#32
  let v80 : BitVec 32 := Scalar.muli v79 c64_i32_32
  let v81 : BitVec 32 := v80
  let v105 : Index := Scalar.indexCast v81
  let c128_43 : Index := 128#32
  ![0, v105.toNat, 128]
def k0_off12 (i : grid0.Coords) (k0_t2 : Fin k0_t2_loop.trips) (c0_i32_25 : BitVec 32) : Fin 3 → Nat :=
  let c0_46 : Index := 0#32
  let c56_i32_30 : BitVec 32 := 56#32
  let c0_i32_29 : BitVec 32 := 0#32
  let arg1 : BitVec 32 := BitVec.ofNat 32 (i 1).val
  let c16_i32_27 : BitVec 32 := 16#32
  let v72 : BitVec 32 := Scalar.muli arg1 c16_i32_27
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v70 : BitVec 32 := Scalar.addi v14 c0_i32_25
  let c1_i32_26 : BitVec 32 := 1#32
  let v71 : BitVec 32 := Scalar.addi v70 c1_i32_26
  let v73 : BitVec 32 := Scalar.addi v72 v71
  let c4_i32_28 : BitVec 32 := 4#32
  let v74 : BitVec 32 := Scalar.subi v73 c4_i32_28
  let v75 : BitVec 32 := Scalar.maxsi c0_i32_29 v74
  let v76 : BitVec 32 := Scalar.minsi c56_i32_30 v75
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v79 : BitVec 32 := Scalar.subi v76 v12
  let c64_i32_32 : BitVec 32 := 64#32
  let v80 : BitVec 32 := Scalar.muli v79 c64_i32_32
  let v81 : BitVec 32 := v80
  let v114 : Index := Scalar.indexCast v81
  let c256_47 : Index := 256#32
  ![0, v114.toNat, 256]
def k0_off13 (i : grid0.Coords) (k0_t2 : Fin k0_t2_loop.trips) (c0_i32_25 : BitVec 32) : Fin 3 → Nat :=
  let c0_50 : Index := 0#32
  let c56_i32_30 : BitVec 32 := 56#32
  let c0_i32_29 : BitVec 32 := 0#32
  let arg1 : BitVec 32 := BitVec.ofNat 32 (i 1).val
  let c16_i32_27 : BitVec 32 := 16#32
  let v72 : BitVec 32 := Scalar.muli arg1 c16_i32_27
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v70 : BitVec 32 := Scalar.addi v14 c0_i32_25
  let c1_i32_26 : BitVec 32 := 1#32
  let v71 : BitVec 32 := Scalar.addi v70 c1_i32_26
  let v73 : BitVec 32 := Scalar.addi v72 v71
  let c4_i32_28 : BitVec 32 := 4#32
  let v74 : BitVec 32 := Scalar.subi v73 c4_i32_28
  let v75 : BitVec 32 := Scalar.maxsi c0_i32_29 v74
  let v76 : BitVec 32 := Scalar.minsi c56_i32_30 v75
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v79 : BitVec 32 := Scalar.subi v76 v12
  let c64_i32_32 : BitVec 32 := 64#32
  let v80 : BitVec 32 := Scalar.muli v79 c64_i32_32
  let v81 : BitVec 32 := v80
  let v123 : Index := Scalar.indexCast v81
  let c384_51 : Index := 384#32
  ![0, v123.toNat, 384]
def k0_off14 (i : grid0.Coords) (k0_t2 : Fin k0_t2_loop.trips) (c0_i32_54 : BitVec 32) (c0_i32_55 : BitVec 32) : Fin 3 → Nat :=
  let c56_i32 : BitVec 32 := 56#32
  let c0_i32_7 : BitVec 32 := 0#32
  let arg1 : BitVec 32 := BitVec.ofNat 32 (i 1).val
  let c16_i32_5 : BitVec 32 := 16#32
  let v15 : BitVec 32 := Scalar.muli arg1 c16_i32_5
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v16 : BitVec 32 := Scalar.addi v15 v14
  let c4_i32_6 : BitVec 32 := 4#32
  let v17 : BitVec 32 := Scalar.subi v16 c4_i32_6
  let v18 : BitVec 32 := Scalar.maxsi c0_i32_7 v17
  let v19 : BitVec 32 := Scalar.minsi c56_i32 v18
  let v20 : BitVec 32 := Scalar.subi v19 v16
  let c7_i32 : BitVec 32 := 7#32
  let v21 : BitVec 32 := Scalar.addi v20 c7_i32
  let v129 : BitVec 32 := Scalar.addi c0_i32_54 v21
  let v130 : BitVec 32 := Scalar.addi v129 c0_i32_55
  let v131 : Index := Scalar.indexCast v130
  let c0_56 : Index := 0#32
  let c0_57 : Index := 0#32
  ![v131.toNat, 0, 0]
def k0_mult5 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c0_i32_53 : BitVec 32 := 0#32
  let v127 : BitVec 32 := Scalar.addi v14 c0_i32_53
  let c64_i32_192 : BitVec 32 := 64#32
  let v540 : BitVec 32 := Scalar.muli v127 c64_i32_192
  v540
def k0_off15 (k0_t2 : Fin k0_t2_loop.trips) (c0_i32_53 : BitVec 32) : Fin 3 → Nat :=
  let c0_193 : Index := 0#32
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v127 : BitVec 32 := Scalar.addi v14 c0_i32_53
  let c64_i32_192 : BitVec 32 := 64#32
  let v540 : BitVec 32 := Scalar.muli v127 c64_i32_192
  let v541 : BitVec 32 := v540
  let v544 : Index := Scalar.indexCast v541
  let c0_194 : Index := 0#32
  ![0, v544.toNat, 0]
def k0_mult6 (i : grid0.Coords) (k0_t2 : Fin k0_t2_loop.trips) : BitVec 32 :=
  let c56_i32_200 : BitVec 32 := 56#32
  let c0_i32_199 : BitVec 32 := 0#32
  let arg1 : BitVec 32 := BitVec.ofNat 32 (i 1).val
  let c16_i32_197 : BitVec 32 := 16#32
  let v550 : BitVec 32 := Scalar.muli arg1 c16_i32_197
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c1_i32_195 : BitVec 32 := 1#32
  let v548 : BitVec 32 := Scalar.addi v14 c1_i32_195
  let c1_i32_196 : BitVec 32 := 1#32
  let v549 : BitVec 32 := Scalar.addi v548 c1_i32_196
  let v551 : BitVec 32 := Scalar.addi v550 v549
  let c4_i32_198 : BitVec 32 := 4#32
  let v552 : BitVec 32 := Scalar.subi v551 c4_i32_198
  let v553 : BitVec 32 := Scalar.maxsi c0_i32_199 v552
  let v554 : BitVec 32 := Scalar.minsi c56_i32_200 v553
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v557 : BitVec 32 := Scalar.subi v554 v12
  let c64_i32_202 : BitVec 32 := 64#32
  let v558 : BitVec 32 := Scalar.muli v557 c64_i32_202
  v558
def k0_mult7 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c1_i32_195 : BitVec 32 := 1#32
  let v548 : BitVec 32 := Scalar.addi v14 c1_i32_195
  let c1_i32_196 : BitVec 32 := 1#32
  let v549 : BitVec 32 := Scalar.addi v548 c1_i32_196
  let c64_i32_203 : BitVec 32 := 64#32
  let v560 : BitVec 32 := Scalar.muli v549 c64_i32_203
  v560
def k0_off16 (i : grid0.Coords) (k0_t2 : Fin k0_t2_loop.trips) (c0_i32_224 : BitVec 32) (c0_i32_25 : BitVec 32) (c0_i32_225 : BitVec 32) : Fin 3 → Nat :=
  let c56_i32_30 : BitVec 32 := 56#32
  let c0_i32_29 : BitVec 32 := 0#32
  let arg1 : BitVec 32 := BitVec.ofNat 32 (i 1).val
  let c16_i32_27 : BitVec 32 := 16#32
  let v72 : BitVec 32 := Scalar.muli arg1 c16_i32_27
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v70 : BitVec 32 := Scalar.addi v14 c0_i32_25
  let c1_i32_26 : BitVec 32 := 1#32
  let v71 : BitVec 32 := Scalar.addi v70 c1_i32_26
  let v73 : BitVec 32 := Scalar.addi v72 v71
  let c4_i32_28 : BitVec 32 := 4#32
  let v74 : BitVec 32 := Scalar.subi v73 c4_i32_28
  let v75 : BitVec 32 := Scalar.maxsi c0_i32_29 v74
  let v76 : BitVec 32 := Scalar.minsi c56_i32_30 v75
  let v77 : BitVec 32 := Scalar.subi v76 v73
  let c7_i32_31 : BitVec 32 := 7#32
  let v78 : BitVec 32 := Scalar.addi v77 c7_i32_31
  let v607 : BitVec 32 := Scalar.addi c0_i32_224 v78
  let v608 : BitVec 32 := Scalar.addi v607 c0_i32_225
  let v609 : Index := Scalar.indexCast v608
  let c0_226 : Index := 0#32
  let c0_227 : Index := 0#32
  ![v609.toNat, 0, 0]
def k0_mult8 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c1_i32_223 : BitVec 32 := 1#32
  let v605 : BitVec 32 := Scalar.addi v14 c1_i32_223
  let c64_i32_368 : BitVec 32 := 64#32
  let v1018 : BitVec 32 := Scalar.muli v605 c64_i32_368
  v1018
def k0_mult9 (i : grid0.Coords) (k0_t2 : Fin k0_t2_loop.trips) : BitVec 32 :=
  let c56_i32_376 : BitVec 32 := 56#32
  let c0_i32_375 : BitVec 32 := 0#32
  let arg1 : BitVec 32 := BitVec.ofNat 32 (i 1).val
  let c16_i32_373 : BitVec 32 := 16#32
  let v1028 : BitVec 32 := Scalar.muli arg1 c16_i32_373
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c2_i32_371 : BitVec 32 := 2#32
  let v1026 : BitVec 32 := Scalar.addi v14 c2_i32_371
  let c1_i32_372 : BitVec 32 := 1#32
  let v1027 : BitVec 32 := Scalar.addi v1026 c1_i32_372
  let v1029 : BitVec 32 := Scalar.addi v1028 v1027
  let c4_i32_374 : BitVec 32 := 4#32
  let v1030 : BitVec 32 := Scalar.subi v1029 c4_i32_374
  let v1031 : BitVec 32 := Scalar.maxsi c0_i32_375 v1030
  let v1032 : BitVec 32 := Scalar.minsi c56_i32_376 v1031
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v1035 : BitVec 32 := Scalar.subi v1032 v12
  let c64_i32_378 : BitVec 32 := 64#32
  let v1036 : BitVec 32 := Scalar.muli v1035 c64_i32_378
  v1036
def k0_mult10 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c2_i32_371 : BitVec 32 := 2#32
  let v1026 : BitVec 32 := Scalar.addi v14 c2_i32_371
  let c1_i32_372 : BitVec 32 := 1#32
  let v1027 : BitVec 32 := Scalar.addi v1026 c1_i32_372
  let c64_i32_379 : BitVec 32 := 64#32
  let v1038 : BitVec 32 := Scalar.muli v1027 c64_i32_379
  v1038
def k0_mult11 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c2_i32_399 : BitVec 32 := 2#32
  let v1083 : BitVec 32 := Scalar.addi v14 c2_i32_399
  let c64_i32_544 : BitVec 32 := 64#32
  let v1496 : BitVec 32 := Scalar.muli v1083 c64_i32_544
  v1496
def k0_mult12 (i : grid0.Coords) (k0_t2 : Fin k0_t2_loop.trips) : BitVec 32 :=
  let c56_i32_552 : BitVec 32 := 56#32
  let c0_i32_551 : BitVec 32 := 0#32
  let arg1 : BitVec 32 := BitVec.ofNat 32 (i 1).val
  let c16_i32_549 : BitVec 32 := 16#32
  let v1506 : BitVec 32 := Scalar.muli arg1 c16_i32_549
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c3_i32_547 : BitVec 32 := 3#32
  let v1504 : BitVec 32 := Scalar.addi v14 c3_i32_547
  let c1_i32_548 : BitVec 32 := 1#32
  let v1505 : BitVec 32 := Scalar.addi v1504 c1_i32_548
  let v1507 : BitVec 32 := Scalar.addi v1506 v1505
  let c4_i32_550 : BitVec 32 := 4#32
  let v1508 : BitVec 32 := Scalar.subi v1507 c4_i32_550
  let v1509 : BitVec 32 := Scalar.maxsi c0_i32_551 v1508
  let v1510 : BitVec 32 := Scalar.minsi c56_i32_552 v1509
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v1513 : BitVec 32 := Scalar.subi v1510 v12
  let c64_i32_554 : BitVec 32 := 64#32
  let v1514 : BitVec 32 := Scalar.muli v1513 c64_i32_554
  v1514
def k0_mult13 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c3_i32_547 : BitVec 32 := 3#32
  let v1504 : BitVec 32 := Scalar.addi v14 c3_i32_547
  let c1_i32_548 : BitVec 32 := 1#32
  let v1505 : BitVec 32 := Scalar.addi v1504 c1_i32_548
  let c64_i32_555 : BitVec 32 := 64#32
  let v1516 : BitVec 32 := Scalar.muli v1505 c64_i32_555
  v1516
def k0_mult14 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c3_i32_575 : BitVec 32 := 3#32
  let v1561 : BitVec 32 := Scalar.addi v14 c3_i32_575
  let c64_i32_720 : BitVec 32 := 64#32
  let v1974 : BitVec 32 := Scalar.muli v1561 c64_i32_720
  v1974
def k0_mult15 (i : grid0.Coords) (k0_t2 : Fin k0_t2_loop.trips) : BitVec 32 :=
  let c56_i32_728 : BitVec 32 := 56#32
  let c0_i32_727 : BitVec 32 := 0#32
  let arg1 : BitVec 32 := BitVec.ofNat 32 (i 1).val
  let c16_i32_725 : BitVec 32 := 16#32
  let v1984 : BitVec 32 := Scalar.muli arg1 c16_i32_725
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c4_i32_723 : BitVec 32 := 4#32
  let v1982 : BitVec 32 := Scalar.addi v14 c4_i32_723
  let c1_i32_724 : BitVec 32 := 1#32
  let v1983 : BitVec 32 := Scalar.addi v1982 c1_i32_724
  let v1985 : BitVec 32 := Scalar.addi v1984 v1983
  let c4_i32_726 : BitVec 32 := 4#32
  let v1986 : BitVec 32 := Scalar.subi v1985 c4_i32_726
  let v1987 : BitVec 32 := Scalar.maxsi c0_i32_727 v1986
  let v1988 : BitVec 32 := Scalar.minsi c56_i32_728 v1987
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v1991 : BitVec 32 := Scalar.subi v1988 v12
  let c64_i32_730 : BitVec 32 := 64#32
  let v1992 : BitVec 32 := Scalar.muli v1991 c64_i32_730
  v1992
def k0_mult16 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c4_i32_723 : BitVec 32 := 4#32
  let v1982 : BitVec 32 := Scalar.addi v14 c4_i32_723
  let c1_i32_724 : BitVec 32 := 1#32
  let v1983 : BitVec 32 := Scalar.addi v1982 c1_i32_724
  let c64_i32_731 : BitVec 32 := 64#32
  let v1994 : BitVec 32 := Scalar.muli v1983 c64_i32_731
  v1994
def k0_mult17 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c4_i32_751 : BitVec 32 := 4#32
  let v2039 : BitVec 32 := Scalar.addi v14 c4_i32_751
  let c64_i32_896 : BitVec 32 := 64#32
  let v2452 : BitVec 32 := Scalar.muli v2039 c64_i32_896
  v2452
def k0_mult18 (i : grid0.Coords) (k0_t2 : Fin k0_t2_loop.trips) : BitVec 32 :=
  let c56_i32_904 : BitVec 32 := 56#32
  let c0_i32_903 : BitVec 32 := 0#32
  let arg1 : BitVec 32 := BitVec.ofNat 32 (i 1).val
  let c16_i32_901 : BitVec 32 := 16#32
  let v2462 : BitVec 32 := Scalar.muli arg1 c16_i32_901
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c5_i32_899 : BitVec 32 := 5#32
  let v2460 : BitVec 32 := Scalar.addi v14 c5_i32_899
  let c1_i32_900 : BitVec 32 := 1#32
  let v2461 : BitVec 32 := Scalar.addi v2460 c1_i32_900
  let v2463 : BitVec 32 := Scalar.addi v2462 v2461
  let c4_i32_902 : BitVec 32 := 4#32
  let v2464 : BitVec 32 := Scalar.subi v2463 c4_i32_902
  let v2465 : BitVec 32 := Scalar.maxsi c0_i32_903 v2464
  let v2466 : BitVec 32 := Scalar.minsi c56_i32_904 v2465
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v2469 : BitVec 32 := Scalar.subi v2466 v12
  let c64_i32_906 : BitVec 32 := 64#32
  let v2470 : BitVec 32 := Scalar.muli v2469 c64_i32_906
  v2470
def k0_mult19 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c5_i32_899 : BitVec 32 := 5#32
  let v2460 : BitVec 32 := Scalar.addi v14 c5_i32_899
  let c1_i32_900 : BitVec 32 := 1#32
  let v2461 : BitVec 32 := Scalar.addi v2460 c1_i32_900
  let c64_i32_907 : BitVec 32 := 64#32
  let v2472 : BitVec 32 := Scalar.muli v2461 c64_i32_907
  v2472
def k0_mult20 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c5_i32_927 : BitVec 32 := 5#32
  let v2517 : BitVec 32 := Scalar.addi v14 c5_i32_927
  let c64_i32_1072 : BitVec 32 := 64#32
  let v2930 : BitVec 32 := Scalar.muli v2517 c64_i32_1072
  v2930
def k0_mult21 (i : grid0.Coords) (k0_t2 : Fin k0_t2_loop.trips) : BitVec 32 :=
  let c56_i32_1080 : BitVec 32 := 56#32
  let c0_i32_1079 : BitVec 32 := 0#32
  let arg1 : BitVec 32 := BitVec.ofNat 32 (i 1).val
  let c16_i32_1077 : BitVec 32 := 16#32
  let v2940 : BitVec 32 := Scalar.muli arg1 c16_i32_1077
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c6_i32_1075 : BitVec 32 := 6#32
  let v2938 : BitVec 32 := Scalar.addi v14 c6_i32_1075
  let c1_i32_1076 : BitVec 32 := 1#32
  let v2939 : BitVec 32 := Scalar.addi v2938 c1_i32_1076
  let v2941 : BitVec 32 := Scalar.addi v2940 v2939
  let c4_i32_1078 : BitVec 32 := 4#32
  let v2942 : BitVec 32 := Scalar.subi v2941 c4_i32_1078
  let v2943 : BitVec 32 := Scalar.maxsi c0_i32_1079 v2942
  let v2944 : BitVec 32 := Scalar.minsi c56_i32_1080 v2943
  let c40_i32 : BitVec 32 := 40#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c40_i32 v11
  let v2947 : BitVec 32 := Scalar.subi v2944 v12
  let c64_i32_1082 : BitVec 32 := 64#32
  let v2948 : BitVec 32 := Scalar.muli v2947 c64_i32_1082
  v2948
def k0_mult22 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c6_i32_1075 : BitVec 32 := 6#32
  let v2938 : BitVec 32 := Scalar.addi v14 c6_i32_1075
  let c1_i32_1076 : BitVec 32 := 1#32
  let v2939 : BitVec 32 := Scalar.addi v2938 c1_i32_1076
  let c64_i32_1083 : BitVec 32 := 64#32
  let v2950 : BitVec 32 := Scalar.muli v2939 c64_i32_1083
  v2950
def k0_mult23 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c6_i32_1103 : BitVec 32 := 6#32
  let v2995 : BitVec 32 := Scalar.addi v14 c6_i32_1103
  let c64_i32_1248 : BitVec 32 := 64#32
  let v3408 : BitVec 32 := Scalar.muli v2995 c64_i32_1248
  v3408
def k0_mult24 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c7_i32_1251 : BitVec 32 := 7#32
  let v3416 : BitVec 32 := Scalar.addi v14 c7_i32_1251
  let c64_i32_1396 : BitVec 32 := 64#32
  let v3829 : BitVec 32 := Scalar.muli v3416 c64_i32_1396
  v3829
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.subi v0 c4_i32
  let c0_i32 : BitVec 32 := 0#32
  let c40_i32 : BitVec 32 := 40#32
  let v2 : BitVec 32 := Scalar.maxsi c0_i32 v1
  let v3 : BitVec 32 := Scalar.minsi c40_i32 v2
  let c64_i32 : BitVec 32 := 64#32
  let v4 : BitVec 32 := Scalar.muli v3 c64_i32
  let c512_i32 : BitVec 32 := 512#32
  let c0_i32_0 : BitVec 32 := 0#32
  ![arg0.toNat, v4.toNat, c512_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.subi v0 c4_i32
  let c0_i32 : BitVec 32 := 0#32
  let c40_i32 : BitVec 32 := 40#32
  let v2 : BitVec 32 := Scalar.maxsi c0_i32 v1
  let v3 : BitVec 32 := Scalar.minsi c40_i32 v2
  let c64_i32 : BitVec 32 := 64#32
  let v4 : BitVec 32 := Scalar.muli v3 c64_i32
  let c1024_i32 : BitVec 32 := 1024#32
  let c0_i32_0 : BitVec 32 := 0#32
  ![arg0.toNat, v4.toNat, c1024_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S3720 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x4096x1536 : Shape := ⟨3, ![4, 4096, 1536]⟩
abbrev S1x8x15x31 : Shape := ⟨4, ![1, 8, 15, 31]⟩
abbrev S8x15x31 : Shape := ⟨3, ![8, 15, 31]⟩
abbrev S4x4096x512 : Shape := ⟨3, ![4, 4096, 512]⟩
abbrev S4x64x64x8x64 : Shape := ⟨5, ![4, 64, 64, 8, 64]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S64x8x1 : Shape := ⟨3, ![64, 8, 1]⟩
abbrev S4x64x8x64x8x64 : Shape := ⟨6, ![4, 64, 8, 64, 8, 64]⟩
abbrev S1x64 : Shape := ⟨2, ![1, 64]⟩
abbrev S64x64 : Shape := ⟨2, ![64, 64]⟩
abbrev S64x1x8x1 : Shape := ⟨4, ![64, 1, 8, 1]⟩
abbrev S1x64x1x64 : Shape := ⟨4, ![1, 64, 1, 64]⟩
abbrev S64x64x8x64 : Shape := ⟨4, ![64, 64, 8, 64]⟩
abbrev S64x64x8x64x1 : Shape := ⟨5, ![64, 64, 8, 64, 1]⟩
abbrev S64x64x8x64x2 : Shape := ⟨5, ![64, 64, 8, 64, 2]⟩
abbrev S8x64x64x8x64 : Shape := ⟨5, ![8, 64, 64, 8, 64]⟩
abbrev S64x8x64x8x64 : Shape := ⟨5, ![64, 8, 64, 8, 64]⟩
abbrev S1x64x8x64x8x64 : Shape := ⟨6, ![1, 64, 8, 64, 8, 64]⟩
abbrev S64x1x64 : Shape := ⟨3, ![64, 1, 64]⟩
abbrev S4x64x8x64x512 : Shape := ⟨5, ![4, 64, 8, 64, 512]⟩
abbrev S4x64x8x64 : Shape := ⟨4, ![4, 64, 8, 64]⟩
abbrev S4x64x8x64x1 : Shape := ⟨5, ![4, 64, 8, 64, 1]⟩
abbrev S4x64x8x64x64 : Shape := ⟨5, ![4, 64, 8, 64, 64]⟩

abbrev nBuf : Space → Nat
  | .hbm => 149
  | .vmem => 0
  | .smem => 0
  | _ => 0

abbrev hbmTy0_0 (i : Nat) : BufTy := match i % 128 with
  | 0 => ⟨S4x4096x1536, .f32⟩
  | 1 => ⟨S1x8x15x31, .f32⟩
  | 2 => ⟨S8x15x31, .f32⟩
  | 3 => ⟨S4x4096x512, .f32⟩
  | 4 => ⟨S4x4096x512, .f32⟩
  | 5 => ⟨S4x4096x512, .f32⟩
  | 6 => ⟨S4x64x64x8x64, .f32⟩
  | 7 => ⟨S4x64x64x8x64, .f32⟩
  | 8 => ⟨S4x64x64x8x64, .f32⟩
  | 9 => ⟨S64, .i32⟩
  | 10 => ⟨S_, .i32⟩
  | 11 => ⟨S64, .i32⟩
  | 12 => ⟨S64, .i32⟩
  | 13 => ⟨S_, .i32⟩
  | 14 => ⟨S_, .i32⟩
  | 15 => ⟨S_, .i32⟩
  | 16 => ⟨S64, .i32⟩
  | 17 => ⟨S64, .i32⟩
  | 18 => ⟨S_, .i32⟩
  | 19 => ⟨S64, .i32⟩
  | 20 => ⟨S64, .i32⟩
  | 21 => ⟨S64x1, .i32⟩
  | 22 => ⟨S8, .i32⟩
  | 23 => ⟨S1x8, .i32⟩
  | 24 => ⟨S64x8, .i32⟩
  | 25 => ⟨S64x8, .i32⟩
  | 26 => ⟨S64x8, .i32⟩
  | 27 => ⟨S_, .i32⟩
  | 28 => ⟨S64x8, .i32⟩
  | 29 => ⟨S64x8, .i1⟩
  | 30 => ⟨S_, .i32⟩
  | 31 => ⟨S64x8, .i32⟩
  | 32 => ⟨S64x8, .i32⟩
  | 33 => ⟨S64x8, .i32⟩
  | 34 => ⟨S64x8x1, .i32⟩
  | 35 => ⟨S4x64x8x64x8x64, .f32⟩
  | 36 => ⟨S_, .i32⟩
  | 37 => ⟨S64x8, .i32⟩
  | 38 => ⟨S64x8, .i1⟩
  | 39 => ⟨S_, .i32⟩
  | 40 => ⟨S64x8, .i32⟩
  | 41 => ⟨S64x8, .i32⟩
  | 42 => ⟨S64x8, .i32⟩
  | 43 => ⟨S64x8x1, .i32⟩
  | 44 => ⟨S4x64x8x64x8x64, .f32⟩
  | 45 => ⟨S64, .i32⟩
  | 46 => ⟨S_, .i32⟩
  | 47 => ⟨S64, .i32⟩
  | 48 => ⟨S64, .i32⟩
  | 49 => ⟨S_, .i32⟩
  | 50 => ⟨S_, .i32⟩
  | 51 => ⟨S_, .i32⟩
  | 52 => ⟨S64, .i32⟩
  | 53 => ⟨S64, .i32⟩
  | 54 => ⟨S_, .i32⟩
  | 55 => ⟨S64, .i32⟩
  | 56 => ⟨S64, .i32⟩
  | 57 => ⟨S1x64, .i32⟩
  | 58 => ⟨S64x1, .i32⟩
  | 59 => ⟨S64x64, .i32⟩
  | 60 => ⟨S64x64, .i32⟩
  | 61 => ⟨S64x64, .i1⟩
  | 62 => ⟨S1x64, .i32⟩
  | 63 => ⟨S64x1, .i32⟩
  | 64 => ⟨S_, .i32⟩
  | 65 => ⟨S64x1, .i32⟩
  | 66 => ⟨S64x1, .i32⟩
  | 67 => ⟨S64x64, .i32⟩
  | 68 => ⟨S64x64, .i32⟩
  | 69 => ⟨S64x64, .i1⟩
  | 70 => ⟨S64x64, .i1⟩
  | 71 => ⟨S64x1, .i32⟩
  | 72 => ⟨S64x8, .i32⟩
  | 73 => ⟨S64x8, .i32⟩
  | 74 => ⟨S_, .i32⟩
  | 75 => ⟨S64x8, .i32⟩
  | 76 => ⟨S64x8, .i32⟩
  | 77 => ⟨S1x64, .i32⟩
  | 78 => ⟨S64x1, .i32⟩
  | 79 => ⟨S64x64, .i32⟩
  | 80 => ⟨S64x64, .i32⟩
  | 81 => ⟨S64x64, .i32⟩
  | 82 => ⟨S_, .i32⟩
  | 83 => ⟨S_, .i32⟩
  | 84 => ⟨S_, .i32⟩
  | 85 => ⟨S64x64, .i32⟩
  | 86 => ⟨S64x64, .i32⟩
  | 87 => ⟨S_, .i32⟩
  | 88 => ⟨S64x64, .i32⟩
  | 89 => ⟨S64x64, .i32⟩
  | 90 => ⟨S_, .i32⟩
  | 91 => ⟨S64x64, .i32⟩
  | 92 => ⟨S64x64, .i32⟩
  | 93 => ⟨S64x1x8x1, .i32⟩
  | 94 => ⟨S1x64x1x64, .i32⟩
  | 95 => ⟨S_, .i32⟩
  | 96 => ⟨S64x1x8x1, .i32⟩
  | 97 => ⟨S64x1x8x1, .i1⟩
  | 98 => ⟨S_, .i32⟩
  | 99 => ⟨S64x1x8x1, .i32⟩
  | 100 => ⟨S64x1x8x1, .i32⟩
  | 101 => ⟨S64x1x8x1, .i32⟩
  | 102 => ⟨S_, .i32⟩
  | 103 => ⟨S1x64x1x64, .i32⟩
  | 104 => ⟨S1x64x1x64, .i1⟩
  | 105 => ⟨S_, .i32⟩
  | 106 => ⟨S1x64x1x64, .i32⟩
  | 107 => ⟨S1x64x1x64, .i32⟩
  | 108 => ⟨S1x64x1x64, .i32⟩
  | 109 => ⟨S64x64x8x64, .i32⟩
  | 110 => ⟨S64x64x8x64, .i32⟩
  | 111 => ⟨S64x64x8x64x1, .i32⟩
  | 112 => ⟨S64x64x8x64x1, .i32⟩
  | 113 => ⟨S64x64x8x64x2, .i32⟩
  | 114 => ⟨S8x64x64x8x64, .f32⟩
  | 115 => ⟨S64x8x64x8x64, .f32⟩
  | 116 => ⟨S4x64x8x64x8x64, .f32⟩
  | 117 => ⟨S_, .f32⟩
  | 118 => ⟨S4x64x8x64x8x64, .f32⟩
  | 119 => ⟨S4x64x8x64x8x64, .f32⟩
  | 120 => ⟨S1x64x8x64x8x64, .f32⟩
  | 121 => ⟨S4x64x8x64x8x64, .f32⟩
  | 122 => ⟨S4x64x8x64x8x64, .f32⟩
  | 123 => ⟨S64x1x64, .i1⟩
  | 124 => ⟨S_, .f32⟩
  | 125 => ⟨S_, .f32⟩
  | 126 => ⟨S4x64x8x64x8x64, .i1⟩
  | 127 => ⟨S4x64x8x64x8x64, .f32⟩
  | _ => ⟨S4x4096x1536, .f32⟩

abbrev hbmTy0_1 (i : Nat) : BufTy := match i % 128 with
  | 0 => ⟨S4x64x8x64x8x64, .f32⟩
  | 1 => ⟨S4x64x8x64x512, .f32⟩
  | 2 => ⟨S_, .f32⟩
  | 3 => ⟨S4x64x8x64, .f32⟩
  | 4 => ⟨S_, .f32⟩
  | 5 => ⟨S4x64x8x64, .f32⟩
  | 6 => ⟨S4x64x8x64, .f32⟩
  | 7 => ⟨S4x64x8x64x1, .f32⟩
  | 8 => ⟨S4x64x8x64x512, .f32⟩
  | 9 => ⟨S4x64x8x64x512, .f32⟩
  | 10 => ⟨S4x64x8x64x512, .f32⟩
  | 11 => ⟨S_, .f32⟩
  | 12 => ⟨S4x64x8x64, .f32⟩
  | 13 => ⟨S4x64x8x64x1, .f32⟩
  | 14 => ⟨S4x64x8x64x512, .f32⟩
  | 15 => ⟨S4x64x8x64x512, .f32⟩
  | 16 => ⟨S4x64x8x64x8x64, .f32⟩
  | 17 => ⟨S4x64x8x64x64, .f32⟩
  | 18 => ⟨S4x64x64x8x64, .f32⟩
  | 19 => ⟨S4x4096x512, .f32⟩
  | 20 => ⟨S4x4096x512, .bf16⟩
  | _ => ⟨S4x4096x1536, .f32⟩

abbrev hbmTy (i : Nat) : BufTy := match i / 128 with
  | 0 => hbmTy0_0 i
  | 1 => hbmTy0_1 i
  | _ => ⟨S4x4096x1536, .f32⟩

abbrev bufTy : (tb : Table) → Fin (tcTables nBuf tb) → BufTy
  | .hbm, ⟨i, _⟩ => hbmTy i
  | _, _ => ⟨S4x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_c_8 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_c_12 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_v58 : Ref sig .tc := ⟨.hbm, 89, rfl⟩
abbrev main_c_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_14 : Ref sig .tc := ⟨.hbm, 95, rfl⟩
abbrev main_v63 : Ref sig .tc := ⟨.hbm, 96, rfl⟩
abbrev main_v64 : Ref sig .tc := ⟨.hbm, 97, rfl⟩
abbrev main_c_15 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_16 : Ref sig .tc := ⟨.hbm, 102, rfl⟩
abbrev main_v68 : Ref sig .tc := ⟨.hbm, 103, rfl⟩
abbrev main_v69 : Ref sig .tc := ⟨.hbm, 104, rfl⟩
abbrev main_c_17 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_18 : Ref sig .tc := ⟨.hbm, 124, rfl⟩
abbrev main_call3_v0 : Ref sig .tc := ⟨.hbm, 125, rfl⟩
abbrev main_call3_v1 : Ref sig .tc := ⟨.hbm, 126, rfl⟩
abbrev main_call3_v2 : Ref sig .tc := ⟨.hbm, 127, rfl⟩
abbrev main_v87 : Ref sig .tc := ⟨.hbm, 128, rfl⟩
abbrev main_v88 : Ref sig .tc := ⟨.hbm, 129, rfl⟩
abbrev main_cst_19 : Ref sig .tc := ⟨.hbm, 130, rfl⟩
abbrev main_v89 : Ref sig .tc := ⟨.hbm, 131, rfl⟩
abbrev main_cst_20 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_21 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩

abbrev nD : Nat := 1
abbrev τ : Topo := Topo.v7x

variable {F : FTy → Type} [FloatOps F]
-- ==== Ffn.lean ====
abbrev S4x4096x512 : Shape := ⟨3, ![4, 4096, 512]⟩
abbrev S4x4096x2048 : Shape := ⟨3, ![4, 4096, 2048]⟩
abbrev S4x4096x1024 : Shape := ⟨3, ![4, 4096, 1024]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S16384x512 : Shape := ⟨2, ![16384, 512]⟩
abbrev S512 : Shape := ⟨1, ![512]⟩
abbrev S16384x2048 : Shape := ⟨2, ![16384, 2048]⟩
abbrev S16384x1024 : Shape := ⟨2, ![16384, 1024]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S512x512 : Shape := ⟨2, ![512, 512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 44
  | .vmem => 25
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x2048, .f32⟩
  | .hbm, ⟨5, _⟩ => ⟨S4x4096x1024, .f32⟩
  | .hbm, ⟨6, _⟩ => ⟨S1x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024x2816, .f32⟩
  | .hbm, ⟨12, _⟩ => ⟨S1x1024x2816, .f32⟩
  | .hbm, ⟨13, _⟩ => ⟨S1x2816x1024, .f32⟩
  | .hbm, ⟨14, _⟩ => ⟨S1024, .f32⟩
  | .hbm, ⟨15, _⟩ => ⟨S16384x512, .f32⟩
  | .hbm, ⟨16, _⟩ => ⟨S16384x512, .bf16⟩
  | .hbm, ⟨17, _⟩ => ⟨S16384x512, .f32⟩
  | .hbm, ⟨18, _⟩ => ⟨S16384x512, .bf16⟩
  | .hbm, ⟨19, _⟩ => ⟨S16384x512, .f32⟩
  | .hbm, ⟨20, _⟩ => ⟨S16384x512, .bf16⟩
  | .hbm, ⟨21, _⟩ => ⟨S16384x512, .f32⟩
  | .hbm, ⟨22, _⟩ => ⟨S16384x512, .bf16⟩
  | .hbm, ⟨23, _⟩ => ⟨S512, .f32⟩
  | .hbm, ⟨24, _⟩ => ⟨S16384x2048, .f32⟩
  | .hbm, ⟨25, _⟩ => ⟨S16384x2048, .bf16⟩
  | .hbm, ⟨26, _⟩ => ⟨S16384x1024, .f32⟩
  | .hbm, ⟨27, _⟩ => ⟨S512x1024, .f32⟩
  | .hbm, ⟨28, _⟩ => ⟨S512x1024, .bf16⟩
  | .hbm, ⟨29, _⟩ => ⟨S512x1024, .f32⟩
  | .hbm, ⟨30, _⟩ => ⟨S512x1024, .bf16⟩
  | .hbm, ⟨31, _⟩ => ⟨S1024x1024, .f32⟩
  | .hbm, ⟨32, _⟩ => ⟨S1024x1024, .bf16⟩
  | .hbm, ⟨33, _⟩ => ⟨S1024, .f32⟩
  | .hbm, ⟨34, _⟩ => ⟨S1024x2816, .f32⟩
  | .hbm, ⟨35, _⟩ => ⟨S1024x2816, .bf16⟩
  | .hbm, ⟨36, _⟩ => ⟨S1024x2816, .f32⟩
  | .hbm, ⟨37, _⟩ => ⟨S1024x2816, .bf16⟩
  | .hbm, ⟨38, _⟩ => ⟨S2816x1024, .f32⟩
  | .hbm, ⟨39, _⟩ => ⟨S2816x1024, .bf16⟩
  | .hbm, ⟨40, _⟩ => ⟨S1x512, .f32⟩
  | .hbm, ⟨41, _⟩ => ⟨S1x1024, .f32⟩
  | .hbm, ⟨42, _⟩ => ⟨S1x1024, .f32⟩
  | .hbm, ⟨43, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x2816, .bf16⟩
  | .local _ .vmem, ⟨20, _⟩ => ⟨S1024x2816, .bf16⟩
  | .local _ .vmem, ⟨21, _⟩ => ⟨S2816x1024, .bf16⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== FfnIdeal.lean ====
abbrev S4x4096x512 : Shape := ⟨3, ![4, 4096, 512]⟩
abbrev S4x4096x2048 : Shape := ⟨3, ![4, 4096, 2048]⟩
abbrev S4x4096x1024 : Shape := ⟨3, ![4, 4096, 1024]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S16384x512 : Shape := ⟨2, ![16384, 512]⟩
abbrev S512 : Shape := ⟨1, ![512]⟩
abbrev S16384x2048 : Shape := ⟨2, ![16384, 2048]⟩
abbrev S16384x1024 : Shape := ⟨2, ![16384, 1024]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S512x512 : Shape := ⟨2, ![512, 512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 44
  | .vmem => 25
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x2048, .f32⟩
  | .hbm, ⟨5, _⟩ => ⟨S4x4096x1024, .f32⟩
  | .hbm, ⟨6, _⟩ => ⟨S1x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024x2816, .f32⟩
  | .hbm, ⟨12, _⟩ => ⟨S1x1024x2816, .f32⟩
  | .hbm, ⟨13, _⟩ => ⟨S1x2816x1024, .f32⟩
  | .hbm, ⟨14, _⟩ => ⟨S1024, .f32⟩
  | .hbm, ⟨15, _⟩ => ⟨S16384x512, .f32⟩
  | .hbm, ⟨16, _⟩ => ⟨S16384x512, .bf16⟩
  | .hbm, ⟨17, _⟩ => ⟨S16384x512, .f32⟩
  | .hbm, ⟨18, _⟩ => ⟨S16384x512, .bf16⟩
  | .hbm, ⟨19, _⟩ => ⟨S16384x512, .f32⟩
  | .hbm, ⟨20, _⟩ => ⟨S16384x512, .bf16⟩
  | .hbm, ⟨21, _⟩ => ⟨S16384x512, .f32⟩
  | .hbm, ⟨22, _⟩ => ⟨S16384x512, .bf16⟩
  | .hbm, ⟨23, _⟩ => ⟨S512, .f32⟩
  | .hbm, ⟨24, _⟩ => ⟨S16384x2048, .f32⟩
  | .hbm, ⟨25, _⟩ => ⟨S16384x2048, .bf16⟩
  | .hbm, ⟨26, _⟩ => ⟨S16384x1024, .f32⟩
  | .hbm, ⟨27, _⟩ => ⟨S512x1024, .f32⟩
  | .hbm, ⟨28, _⟩ => ⟨S512x1024, .bf16⟩
  | .hbm, ⟨29, _⟩ => ⟨S512x1024, .f32⟩
  | .hbm, ⟨30, _⟩ => ⟨S512x1024, .bf16⟩
  | .hbm, ⟨31, _⟩ => ⟨S1024x1024, .f32⟩
  | .hbm, ⟨32, _⟩ => ⟨S1024x1024, .bf16⟩
  | .hbm, ⟨33, _⟩ => ⟨S1024, .f32⟩
  | .hbm, ⟨34, _⟩ => ⟨S1024x2816, .f32⟩
  | .hbm, ⟨35, _⟩ => ⟨S1024x2816, .bf16⟩
  | .hbm, ⟨36, _⟩ => ⟨S1024x2816, .f32⟩
  | .hbm, ⟨37, _⟩ => ⟨S1024x2816, .bf16⟩
  | .hbm, ⟨38, _⟩ => ⟨S2816x1024, .f32⟩
  | .hbm, ⟨39, _⟩ => ⟨S2816x1024, .bf16⟩
  | .hbm, ⟨40, _⟩ => ⟨S1x512, .f32⟩
  | .hbm, ⟨41, _⟩ => ⟨S1x1024, .f32⟩
  | .hbm, ⟨42, _⟩ => ⟨S1x1024, .f32⟩
  | .hbm, ⟨43, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x2816, .bf16⟩
  | .local _ .vmem, ⟨20, _⟩ => ⟨S1024x2816, .bf16⟩
  | .local _ .vmem, ⟨21, _⟩ => ⟨S2816x1024, .bf16⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== FfnReferenceIdeal.lean ====
abbrev S4x4096x512 : Shape := ⟨3, ![4, 4096, 512]⟩
abbrev S4x4096x2048 : Shape := ⟨3, ![4, 4096, 2048]⟩
abbrev S4x4096x1024 : Shape := ⟨3, ![4, 4096, 1024]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S512 : Shape := ⟨1, ![512]⟩
abbrev S1x1x512 : Shape := ⟨3, ![1, 1, 512]⟩
abbrev S_ : Shape := ⟨0, ![]⟩
abbrev S512x1024 : Shape := ⟨2, ![512, 1024]⟩
abbrev S1024x1024 : Shape := ⟨2, ![1024, 1024]⟩
abbrev S4x4096 : Shape := ⟨2, ![4, 4096]⟩
abbrev S4x4096x1 : Shape := ⟨3, ![4, 4096, 1]⟩
abbrev S1x1x1024 : Shape := ⟨3, ![1, 1, 1024]⟩
abbrev S1024x2816 : Shape := ⟨2, ![1024, 2816]⟩
abbrev S4x4096x2816 : Shape := ⟨3, ![4, 4096, 2816]⟩
abbrev S2816x1024 : Shape := ⟨2, ![2816, 1024]⟩
abbrev S16384x1024 : Shape := ⟨2, ![16384, 1024]⟩

abbrev nBuf : Space → Nat
  | .hbm => 100
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x2048, .f32⟩
  | .hbm, ⟨5, _⟩ => ⟨S4x4096x1024, .f32⟩
  | .hbm, ⟨6, _⟩ => ⟨S1x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024x2816, .f32⟩
  | .hbm, ⟨12, _⟩ => ⟨S1x1024x2816, .f32⟩
  | .hbm, ⟨13, _⟩ => ⟨S1x2816x1024, .f32⟩
  | .hbm, ⟨14, _⟩ => ⟨S1024, .f32⟩
  | .hbm, ⟨15, _⟩ => ⟨S4x4096x1024, .f32⟩
  | .hbm, ⟨16, _⟩ => ⟨S4x4096x1024, .f32⟩
  | .hbm, ⟨17, _⟩ => ⟨S512, .f32⟩
  | .hbm, ⟨18, _⟩ => ⟨S1x1x512, .f32⟩
  | .hbm, ⟨19, _⟩ => ⟨S4x4096x512, .f32⟩
  | .hbm, ⟨20, _⟩ => ⟨S4x4096x512, .f32⟩
  | .hbm, ⟨21, _⟩ => ⟨S4x4096x512, .f32⟩
  | .hbm, ⟨22, _⟩ => ⟨S4x4096x512, .f32⟩
  | .hbm, ⟨23, _⟩ => ⟨S4x4096x1024, .f32⟩
  | .hbm, ⟨24, _⟩ => ⟨S4x4096x1024, .f32⟩
  | .hbm, ⟨25, _⟩ => ⟨S_, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096x1024, .f32⟩
  | .hbm, ⟨30, _⟩ => ⟨S4x4096x1024, .f32⟩
  | .hbm, ⟨31, _⟩ => ⟨S512x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096x1024, .f32⟩
  | .hbm, ⟨38, _⟩ => ⟨S4x4096x1024, .f32⟩
  | .hbm, ⟨39, _⟩ => ⟨S_, .f32⟩
  | .hbm, ⟨40, _⟩ => ⟨S4x4096x1024, .f32⟩
  | .hbm, ⟨41, _⟩ => ⟨S4x4096x1024, .f32⟩
  | .hbm, ⟨42, _⟩ => ⟨S512x1024, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S1024x1024, .f32⟩
  | .hbm, ⟨47, _⟩ => ⟨S4x4096x1024, .f32⟩
  | .hbm, ⟨48, _⟩ => ⟨S4x4096x1024, .f32⟩
  | .hbm, ⟨49, _⟩ => ⟨S1024, .f32⟩
  | .hbm, ⟨50, _⟩ => ⟨S4x4096x1024, .f32⟩
  | .hbm, ⟨51, _⟩ => ⟨S_, .f32⟩
  | .hbm, ⟨52, _⟩ => ⟨S4x4096, .f32⟩
  | .hbm, ⟨53, _⟩ => ⟨S4x4096x1, .f32⟩
  | .hbm, ⟨54, _⟩ => ⟨S_, .f32⟩
  | .hbm, ⟨55, _⟩ => ⟨S4x4096x1, .f32⟩
  | .hbm, ⟨56, _⟩ => ⟨S4x4096x1, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S4x4096x1, .f32⟩
  | .hbm, ⟨61, _⟩ => ⟨S4x4096x1024, .f32⟩
  | .hbm, ⟨62, _⟩ => ⟨S4x4096x1024, .f32⟩
  | .hbm, ⟨63, _⟩ => ⟨S1x1x1024, .f32⟩
  | .hbm, ⟨64, _⟩ => ⟨S4x4096x1024, .f32⟩
  | .hbm, ⟨65, _⟩ => ⟨S4x4096x1024, .f32⟩
  | .hbm, ⟨66, _⟩ => ⟨S1024x2816, .f32⟩
  | .hbm, ⟨67, _⟩ => ⟨S4x4096x2816, .f32⟩
  | .hbm, ⟨68, _⟩ => ⟨S4x4096x2816, .f32⟩
  | .hbm, ⟨69, _⟩ => ⟨S4x4096x2816, .f32⟩
  | .hbm, ⟨70, _⟩ => ⟨S_, .f32⟩
  | .hbm, ⟨71, _⟩ => ⟨S4x4096x2816, .f32⟩
  | .hbm, ⟨72, _⟩ => ⟨S4x4096x2816, .f32⟩
  | .hbm, ⟨73, _⟩ => ⟨S_, .f32⟩
  | .hbm, ⟨74, _⟩ => ⟨S4x4096x2816, .f32⟩
  | .hbm, ⟨75, _⟩ => ⟨S4x4096x2816, .f32⟩
  | .hbm, ⟨76, _⟩ => ⟨S4x4096x2816, .f32⟩
  | .hbm, ⟨77, _⟩ => ⟨S1024x2816, .f32⟩
  | .hbm, ⟨78, _⟩ => ⟨S4x4096x2816, .f32⟩
  | .hbm, ⟨79, _⟩ => ⟨S4x4096x2816, .f32⟩
  | .hbm, ⟨80, _⟩ => ⟨S2816x1024, .f32⟩
  | .hbm, ⟨81, _⟩ => ⟨S4x4096x1024, .f32⟩
  | .hbm, ⟨82, _⟩ => ⟨S4x4096x1024, .f32⟩
  | .hbm, ⟨83, _⟩ => ⟨S4x4096x1024, .f32⟩
  | .hbm, ⟨84, _⟩ => ⟨S_, .f32⟩
  | .hbm, ⟨85, _⟩ => ⟨S4x4096, .f32⟩
  | .hbm, ⟨86, _⟩ => ⟨S4x4096x1, .f32⟩
  | .hbm, ⟨87, _⟩ => ⟨S_, .f32⟩
  | .hbm, ⟨88, _⟩ => ⟨S4x4096x1, .f32⟩
  | .hbm, ⟨89, _⟩ => ⟨S4x4096x1, .f32⟩
  | .hbm, ⟨90, _⟩ => ⟨S_, .f32⟩
  | .hbm, ⟨91, _⟩ => ⟨S4x4096x1, .f32⟩
  | .hbm, ⟨92, _⟩ => ⟨S4x4096x1, .f32⟩
  | .hbm, ⟨93, _⟩ => ⟨S4x4096x1, .f32⟩
  | .hbm, ⟨94, _⟩ => ⟨S4x4096x1024, .f32⟩
  | .hbm, ⟨95, _⟩ => ⟨S4x4096x1024, .f32⟩
  | .hbm, ⟨96, _⟩ => ⟨S1x1x1024, .f32⟩
  | .hbm, ⟨97, _⟩ => ⟨S4x4096x1024, .f32⟩
  | .hbm, ⟨98, _⟩ => ⟨S4x4096x1024, .f32⟩
  | .hbm, ⟨99, _⟩ => ⟨S16384x1024, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_6 : Ref sig .tc := ⟨.hbm, 84, rfl⟩
abbrev main_v54 : Ref sig .tc := ⟨.hbm, 85, rfl⟩
abbrev main_v55 : Ref sig .tc := ⟨.hbm, 86, rfl⟩
abbrev main_cst_7 : Ref sig .tc := ⟨.hbm, 87, rfl⟩
abbrev main_v56 : Ref sig .tc := ⟨.hbm, 88, rfl⟩
abbrev main_v57 : Ref sig .tc := ⟨.hbm, 89, rfl⟩
abbrev main_cst_8 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩

abbrev nD : Nat := 1
abbrev τ : Topo := Topo.v7x

variable {F : FTy → Type} [FloatOps F]
-- ==== FfnSample.lean ====
abbrev S1x16384x512 : Shape := ⟨3, ![1, 16384, 512]⟩
abbrev S1x16384x2048 : Shape := ⟨3, ![1, 16384, 2048]⟩
abbrev S1x16384x1024 : Shape := ⟨3, ![1, 16384, 1024]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S16384x512 : Shape := ⟨2, ![16384, 512]⟩
abbrev S512 : Shape := ⟨1, ![512]⟩
abbrev S16384x2048 : Shape := ⟨2, ![16384, 2048]⟩
abbrev S16384x1024 : Shape := ⟨2, ![16384, 1024]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S512x512 : Shape := ⟨2, ![512, 512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 44
  | .vmem => 25
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .f32⟩
  | .hbm, ⟨2, _⟩ => ⟨S1x16384x512, .f32⟩
  | .hbm, ⟨3, _⟩ => ⟨S1x16384x512, .f32⟩
  | .hbm, ⟨4, _⟩ => ⟨S1x16384x2048, .f32⟩
  | .hbm, ⟨5, _⟩ => ⟨S1x16384x1024, .f32⟩
  | .hbm, ⟨6, _⟩ => ⟨S1x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024x2816, .f32⟩
  | .hbm, ⟨12, _⟩ => ⟨S1x1024x2816, .f32⟩
  | .hbm, ⟨13, _⟩ => ⟨S1x2816x1024, .f32⟩
  | .hbm, ⟨14, _⟩ => ⟨S1024, .f32⟩
  | .hbm, ⟨15, _⟩ => ⟨S16384x512, .f32⟩
  | .hbm, ⟨16, _⟩ => ⟨S16384x512, .bf16⟩
  | .hbm, ⟨17, _⟩ => ⟨S16384x512, .f32⟩
  | .hbm, ⟨18, _⟩ => ⟨S16384x512, .bf16⟩
  | .hbm, ⟨19, _⟩ => ⟨S16384x512, .f32⟩
  | .hbm, ⟨20, _⟩ => ⟨S16384x512, .bf16⟩
  | .hbm, ⟨21, _⟩ => ⟨S16384x512, .f32⟩
  | .hbm, ⟨22, _⟩ => ⟨S16384x512, .bf16⟩
  | .hbm, ⟨23, _⟩ => ⟨S512, .f32⟩
  | .hbm, ⟨24, _⟩ => ⟨S16384x2048, .f32⟩
  | .hbm, ⟨25, _⟩ => ⟨S16384x2048, .bf16⟩
  | .hbm, ⟨26, _⟩ => ⟨S16384x1024, .f32⟩
  | .hbm, ⟨27, _⟩ => ⟨S512x1024, .f32⟩
  | .hbm, ⟨28, _⟩ => ⟨S512x1024, .bf16⟩
  | .hbm, ⟨29, _⟩ => ⟨S512x1024, .f32⟩
  | .hbm, ⟨30, _⟩ => ⟨S512x1024, .bf16⟩
  | .hbm, ⟨31, _⟩ => ⟨S1024x1024, .f32⟩
  | .hbm, ⟨32, _⟩ => ⟨S1024x1024, .bf16⟩
  | .hbm, ⟨33, _⟩ => ⟨S1024, .f32⟩
  | .hbm, ⟨34, _⟩ => ⟨S1024x2816, .f32⟩
  | .hbm, ⟨35, _⟩ => ⟨S1024x2816, .bf16⟩
  | .hbm, ⟨36, _⟩ => ⟨S1024x2816, .f32⟩
  | .hbm, ⟨37, _⟩ => ⟨S1024x2816, .bf16⟩
  | .hbm, ⟨38, _⟩ => ⟨S2816x1024, .f32⟩
  | .hbm, ⟨39, _⟩ => ⟨S2816x1024, .bf16⟩
  | .hbm, ⟨40, _⟩ => ⟨S1x512, .f32⟩
  | .hbm, ⟨41, _⟩ => ⟨S1x1024, .f32⟩
  | .hbm, ⟨42, _⟩ => ⟨S1x1024, .f32⟩
  | .hbm, ⟨43, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x2816, .bf16⟩
  | .local _ .vmem, ⟨20, _⟩ => ⟨S1024x2816, .bf16⟩
  | .local _ .vmem, ⟨21, _⟩ => ⟨S2816x1024, .bf16⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== FfnSampleReferenceIdeal.lean ====
abbrev S1x16384x512 : Shape := ⟨3, ![1, 16384, 512]⟩
abbrev S1x16384x2048 : Shape := ⟨3, ![1, 16384, 2048]⟩
abbrev S1x16384x1024 : Shape := ⟨3, ![1, 16384, 1024]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S512 : Shape := ⟨1, ![512]⟩
abbrev S1x1x512 : Shape := ⟨3, ![1, 1, 512]⟩
abbrev S_ : Shape := ⟨0, ![]⟩
abbrev S512x1024 : Shape := ⟨2, ![512, 1024]⟩
abbrev S1024x1024 : Shape := ⟨2, ![1024, 1024]⟩
abbrev S1x16384 : Shape := ⟨2, ![1, 16384]⟩
abbrev S1x16384x1 : Shape := ⟨3, ![1, 16384, 1]⟩
abbrev S1x1x1024 : Shape := ⟨3, ![1, 1, 1024]⟩
abbrev S1024x2816 : Shape := ⟨2, ![1024, 2816]⟩
abbrev S1x16384x2816 : Shape := ⟨3, ![1, 16384, 2816]⟩
abbrev S2816x1024 : Shape := ⟨2, ![2816, 1024]⟩
abbrev S16384x1024 : Shape := ⟨2, ![16384, 1024]⟩

abbrev nBuf : Space → Nat
  | .hbm => 100
  | .vmem => 0
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .f32⟩
  | .hbm, ⟨2, _⟩ => ⟨S1x16384x512, .f32⟩
  | .hbm, ⟨3, _⟩ => ⟨S1x16384x512, .f32⟩
  | .hbm, ⟨4, _⟩ => ⟨S1x16384x2048, .f32⟩
  | .hbm, ⟨5, _⟩ => ⟨S1x16384x1024, .f32⟩
  | .hbm, ⟨6, _⟩ => ⟨S1x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024x2816, .f32⟩
  | .hbm, ⟨12, _⟩ => ⟨S1x1024x2816, .f32⟩
  | .hbm, ⟨13, _⟩ => ⟨S1x2816x1024, .f32⟩
  | .hbm, ⟨14, _⟩ => ⟨S1024, .f32⟩
  | .hbm, ⟨15, _⟩ => ⟨S1x16384x1024, .f32⟩
  | .hbm, ⟨16, _⟩ => ⟨S1x16384x1024, .f32⟩
  | .hbm, ⟨17, _⟩ => ⟨S512, .f32⟩
  | .hbm, ⟨18, _⟩ => ⟨S1x1x512, .f32⟩
  | .hbm, ⟨19, _⟩ => ⟨S1x16384x512, .f32⟩
  | .hbm, ⟨20, _⟩ => ⟨S1x16384x512, .f32⟩
  | .hbm, ⟨21, _⟩ => ⟨S1x16384x512, .f32⟩
  | .hbm, ⟨22, _⟩ => ⟨S1x16384x512, .f32⟩
  | .hbm, ⟨23, _⟩ => ⟨S1x16384x1024, .f32⟩
  | .hbm, ⟨24, _⟩ => ⟨S1x16384x1024, .f32⟩
  | .hbm, ⟨25, _⟩ => ⟨S_, .f32⟩
  | .hbm, ⟨26, _⟩ => ⟨S1x16384x1024, .f32⟩
  | .hbm, ⟨27, _⟩ => ⟨S1x16384x1024, .f32⟩
  | .hbm, ⟨28, _⟩ => ⟨S_, .f32⟩
  | .hbm, ⟨29, _⟩ => ⟨S1x16384x1024, .f32⟩
  | .hbm, ⟨30, _⟩ => ⟨S1x16384x1024, .f32⟩
  | .hbm, ⟨31, _⟩ => ⟨S512x1024, .f32⟩
  | .hbm, ⟨32, _⟩ => ⟨S1x16384x1024, .f32⟩
  | .hbm, ⟨33, _⟩ => ⟨S1x16384x1024, .f32⟩
  | .hbm, ⟨34, _⟩ => ⟨S1x16384x1024, .f32⟩
  | .hbm, ⟨35, _⟩ => ⟨S1x16384x1024, .f32⟩
  | .hbm, ⟨36, _⟩ => ⟨S_, .f32⟩
  | .hbm, ⟨37, _⟩ => ⟨S1x16384x1024, .f32⟩
  | .hbm, ⟨38, _⟩ => ⟨S1x16384x1024, .f32⟩
  | .hbm, ⟨39, _⟩ => ⟨S_, .f32⟩
  | .hbm, ⟨40, _⟩ => ⟨S1x16384x1024, .f32⟩
  | .hbm, ⟨41, _⟩ => ⟨S1x16384x1024, .f32⟩
  | .hbm, ⟨42, _⟩ => ⟨S512x1024, .f32⟩
  | .hbm, ⟨43, _⟩ => ⟨S1x16384x1024, .f32⟩
  | .hbm, ⟨44, _⟩ => ⟨S1x16384x1024, .f32⟩
  | .hbm, ⟨45, _⟩ => ⟨S1x16384x1024, .f32⟩
  | .hbm, ⟨46, _⟩ => ⟨S1024x1024, .f32⟩
  | .hbm, ⟨47, _⟩ => ⟨S1x16384x1024, .f32⟩
  | .hbm, ⟨48, _⟩ => ⟨S1x16384x1024, .f32⟩
  | .hbm, ⟨49, _⟩ => ⟨S1024, .f32⟩
  | .hbm, ⟨50, _⟩ => ⟨S1x16384x1024, .f32⟩
  | .hbm, ⟨51, _⟩ => ⟨S_, .f32⟩
  | .hbm, ⟨52, _⟩ => ⟨S1x16384, .f32⟩
  | .hbm, ⟨53, _⟩ => ⟨S1x16384x1, .f32⟩
  | .hbm, ⟨54, _⟩ => ⟨S_, .f32⟩
  | .hbm, ⟨55, _⟩ => ⟨S1x16384x1, .f32⟩
  | .hbm, ⟨56, _⟩ => ⟨S1x16384x1, .f32⟩
  | .hbm, ⟨57, _⟩ => ⟨S_, .f32⟩
  | .hbm, ⟨58, _⟩ => ⟨S1x16384x1, .f32⟩
  | .hbm, ⟨59, _⟩ => ⟨S1x16384x1, .f32⟩
  | .hbm, ⟨60, _⟩ => ⟨S1x16384x1, .f32⟩
  | .hbm, ⟨61, _⟩ => ⟨S1x16384x1024, .f32⟩
  | .hbm, ⟨62, _⟩ => ⟨S1x16384x1024, .f32⟩
  | .hbm, ⟨63, _⟩ => ⟨S1x1x1024, .f32⟩
  | .hbm, ⟨64, _⟩ => ⟨S1x16384x1024, .f32⟩
  | .hbm, ⟨65, _⟩ => ⟨S1x16384x1024, .f32⟩
  | .hbm, ⟨66, _⟩ => ⟨S1024x2816, .f32⟩
  | .hbm, ⟨67, _⟩ => ⟨S1x16384x2816, .f32⟩
  | .hbm, ⟨68, _⟩ => ⟨S1x16384x2816, .f32⟩
  | .hbm, ⟨69, _⟩ => ⟨S1x16384x2816, .f32⟩
  | .hbm, ⟨70, _⟩ => ⟨S_, .f32⟩
  | .hbm, ⟨71, _⟩ => ⟨S1x16384x2816, .f32⟩
  | .hbm, ⟨72, _⟩ => ⟨S1x16384x2816, .f32⟩
  | .hbm, ⟨73, _⟩ => ⟨S_, .f32⟩
  | .hbm, ⟨74, _⟩ => ⟨S1x16384x2816, .f32⟩
  | .hbm, ⟨75, _⟩ => ⟨S1x16384x2816, .f32⟩
  | .hbm, ⟨76, _⟩ => ⟨S1x16384x2816, .f32⟩
  | .hbm, ⟨77, _⟩ => ⟨S1024x2816, .f32⟩
  | .hbm, ⟨78, _⟩ => ⟨S1x16384x2816, .f32⟩
  | .hbm, ⟨79, _⟩ => ⟨S1x16384x2816, .f32⟩
  | .hbm, ⟨80, _⟩ => ⟨S2816x1024, .f32⟩
  | .hbm, ⟨81, _⟩ => ⟨S1x16384x1024, .f32⟩
  | .hbm, ⟨82, _⟩ => ⟨S1x16384x1024, .f32⟩
  | .hbm, ⟨83, _⟩ => ⟨S1x16384x1024, .f32⟩
  | .hbm, ⟨84, _⟩ => ⟨S_, .f32⟩
  | .hbm, ⟨85, _⟩ => ⟨S1x16384, .f32⟩
  | .hbm, ⟨86, _⟩ => ⟨S1x16384x1, .f32⟩
  | .hbm, ⟨87, _⟩ => ⟨S_, .f32⟩
  | .hbm, ⟨88, _⟩ => ⟨S1x16384x1, .f32⟩
  | .hbm, ⟨89, _⟩ => ⟨S1x16384x1, .f32⟩
  | .hbm, ⟨90, _⟩ => ⟨S_, .f32⟩
  | .hbm, ⟨91, _⟩ => ⟨S1x16384x1, .f32⟩
  | .hbm, ⟨92, _⟩ => ⟨S1x16384x1, .f32⟩
  | .hbm, ⟨93, _⟩ => ⟨S1x16384x1, .f32⟩
  | .hbm, ⟨94, _⟩ => ⟨S1x16384x1024, .f32⟩
  | .hbm, ⟨95, _⟩ => ⟨S1x16384x1024, .f32⟩
  | .hbm, ⟨96, _⟩ => ⟨S1x1x1024, .f32⟩
  | .hbm, ⟨97, _⟩ => ⟨S1x16384x1024, .f32⟩
  | .hbm, ⟨98, _⟩ => ⟨S1x16384x1024, .f32⟩
  | .hbm, ⟨99, _⟩ => ⟨S16384x1024, .f32⟩
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_6 : Ref sig .tc := ⟨.hbm, 84, rfl⟩
abbrev main_v54 : Ref sig .tc := ⟨.hbm, 85, rfl⟩
abbrev main_v55 : Ref sig .tc := ⟨.hbm, 86, rfl⟩
abbrev main_cst_7 : Ref sig .tc := ⟨.hbm, 87, rfl⟩
abbrev main_v56 : Ref sig .tc := ⟨.hbm, 88, rfl⟩
abbrev main_v57 : Ref sig .tc := ⟨.hbm, 89, rfl⟩
abbrev main_cst_8 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩

abbrev nD : Nat := 1
abbrev τ : Topo := Topo.v7x

variable {F : FTy → Type} [FloatOps F]
-- ==== Inproj.lean ====
abbrev S4x4096x1024 : Shape := ⟨3, ![4, 4096, 1024]⟩
abbrev S1x1024 : Shape := ⟨2, ![1, 1024]⟩
abbrev S1x1024x5120 : Shape := ⟨3, ![1, 1024, 5120]⟩
abbrev S1x3x1536 : Shape := ⟨3, ![1, 3, 1536]⟩
abbrev S1x1536 : Shape := ⟨2, ![1, 1536]⟩
abbrev S16384x1024 : Shape := ⟨2, ![16384, 1024]⟩
abbrev S1024 : Shape := ⟨1, ![1024]⟩
abbrev S1024x5120 : Shape := ⟨2, ![1024, 5120]⟩
abbrev S3x1536 : Shape := ⟨2, ![3, 1536]⟩
abbrev S1536 : Shape := ⟨1, ![1536]⟩
abbrev S1024x1536 : Shape := ⟨2, ![1024, 1536]⟩
abbrev S1024x2048 : Shape := ⟨2, ![1024, 2048]⟩
abbrev S16384x1536 : Shape := ⟨2, ![16384, 1536]⟩
abbrev S16384x512 : Shape := ⟨2, ![16384, 512]⟩
abbrev S16384x2048 : Shape := ⟨2, ![16384, 2048]⟩
abbrev S1024x1024 : Shape := ⟨2, ![1024, 1024]⟩
abbrev S8x1024 : Shape := ⟨2, ![8, 1024]⟩
abbrev S1024x512 : Shape := ⟨2, ![1024, 512]⟩
abbrev S1024x1 : Shape := ⟨2, ![1024, 1]⟩
abbrev S16x1024 : Shape := ⟨2, ![16, 1024]⟩
abbrev S16 : Shape := ⟨1, ![16]⟩
abbrev S16x1 : Shape := ⟨2, ![16, 1]⟩
abbrev S16x512 : Shape := ⟨2, ![16, 512]⟩
abbrev S1x512 : Shape := ⟨2, ![1, 512]⟩
abbrev S3x512 : Shape := ⟨2, ![3, 512]⟩

abbrev nBuf : Space → Nat
  | .hbm => 20
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5120, .f32⟩
  | .hbm, ⟨3, _⟩ => ⟨S1x3x1536, .f32⟩
  | .hbm, ⟨4, _⟩ => ⟨S1x1536, .f32⟩
  | .hbm, ⟨5, _⟩ => ⟨S16384x1024, .f32⟩
  | .hbm, ⟨6, _⟩ => ⟨S1024, .f32⟩
  | .hbm, ⟨7, _⟩ => ⟨S1024x5120, .f32⟩
  | .hbm, ⟨8, _⟩ => ⟨S1024x5120, .bf16⟩
  | .hbm, ⟨9, _⟩ => ⟨S3x1536, .f32⟩
  | .hbm, ⟨10, _⟩ => ⟨S1536, .f32⟩
  | .hbm, ⟨11, _⟩ => ⟨S1024x1536, .bf16⟩
  | .hbm, ⟨12, _⟩ => ⟨S1024x1536, .bf16⟩
  | .hbm, ⟨13, _⟩ => ⟨S1024x2048, .bf16⟩
  | .hbm, ⟨14, _⟩ => ⟨S1x1024, .f32⟩
  | .hbm, ⟨15, _⟩ => ⟨S1x1536, .f32⟩
  | .hbm, ⟨16, _⟩ => ⟨S16384x1536, .bf16⟩
  | .hbm, ⟨17, _⟩ => ⟨S16384x512, .bf16⟩
  | .hbm, ⟨18, _⟩ => ⟨S16384x512, .bf16⟩
  | .hbm, ⟨19, _⟩ => ⟨S16384x2048, .bf16⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x1536, .bf16⟩
  | .local _ .vmem, ⟨8, _⟩ => ⟨S1024x1536, .bf16⟩
  | .local _ .vmem, ⟨9, _⟩ => ⟨S1024x2048, .bf16⟩
  | .local _ .vmem, ⟨10, _⟩ => ⟨S3x1536, .f32⟩
  | .local _ .vmem, ⟨11, _⟩ => ⟨S1x1536, .f32⟩
  | .local _ .vmem, ⟨12, _⟩ => ⟨S1024x1536, .bf16⟩
  | .local _ .vmem, ⟨13, _⟩ => ⟨S1024x1536, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x2048, .bf16⟩
  | .local _ .vmem, ⟨19, _⟩ => ⟨S1024x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InprojIdeal.lean ====
abbrev S4x4096x1024 : Shape := ⟨3, ![4, 4096, 1024]⟩
  | .hbm, ⟨0, _⟩ => ⟨S4x4096x1024, .f32⟩
  | _, _ => ⟨S4x4096x1024, .f32⟩
-- ==== InprojReferenceIdeal.lean ====
abbrev S4x4096x1024 : Shape := ⟨3, ![4, 4096, 1024]⟩
abbrev S1x1024 : Shape := ⟨2, ![1, 1024]⟩
abbrev S1x1024x5120 : Shape := ⟨3, ![1, 1024, 5120]⟩
abbrev S1x3x1536 : Shape := ⟨3, ![1, 3, 1536]⟩
abbrev S1x1536 : Shape := ⟨2, ![1, 1536]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5120 : Shape := ⟨2, ![1024, 5120]⟩
abbrev S4x4096x5120 : Shape := ⟨3, ![4, 4096, 5120]⟩
abbrev S4x4096x1536 : Shape := ⟨3, ![4, 4096, 1536]⟩
abbrev S4x4096x2048 : Shape := ⟨3, ![4, 4096, 2048]⟩
abbrev S3x1536 : Shape := ⟨2, ![3, 1536]⟩
abbrev S1536 : Shape := ⟨1, ![1536]⟩
abbrev S4x4098x1536 : Shape := ⟨3, ![4, 4098, 1536]⟩
abbrev S1x1x1536 : Shape := ⟨3, ![1, 1, 1536]⟩
abbrev S4x4096x512 : Shape := ⟨3, ![4, 4096, 512]⟩
abbrev S16384x1536 : Shape := ⟨2, ![16384, 1536]⟩
abbrev S16384x512 : Shape := ⟨2, ![16384, 512]⟩
abbrev S16384x2048 : Shape := ⟨2, ![16384, 2048]⟩

abbrev nBuf : Space → Nat
  | .hbm => 67
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5120, .f32⟩
  | .hbm, ⟨3, _⟩ => ⟨S1x3x1536, .f32⟩
  | .hbm, ⟨4, _⟩ => ⟨S1x1536, .f32⟩
  | .hbm, ⟨5, _⟩ => ⟨S1024, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S1024x5120, .f32⟩
  | .hbm, ⟨23, _⟩ => ⟨S4x4096x5120, .f32⟩
  | .hbm, ⟨24, _⟩ => ⟨S4x4096x1536, .f32⟩
  | .hbm, ⟨25, _⟩ => ⟨S4x4096x1536, .f32⟩
  | .hbm, ⟨26, _⟩ => ⟨S4x4096x2048, .f32⟩
  | .hbm, ⟨27, _⟩ => ⟨S3x1536, .f32⟩
  | .hbm, ⟨28, _⟩ => ⟨S1536, .f32⟩
  | .hbm, ⟨29, _⟩ => ⟨S_, .i32⟩
  | .hbm, ⟨30, _⟩ => ⟨S_, .f32⟩
  | .hbm, ⟨31, _⟩ => ⟨S4x4098x1536, .f32⟩
  | .hbm, ⟨32, _⟩ => ⟨S4x4096x1536, .f32⟩
  | .hbm, ⟨33, _⟩ => ⟨S1x1536, .f32⟩
  | .hbm, ⟨34, _⟩ => ⟨S1536, .f32⟩
  | .hbm, ⟨35, _⟩ => ⟨S1x1x1536, .f32⟩
  | .hbm, ⟨36, _⟩ => ⟨S4x4096x1536, .f32⟩
  | .hbm, ⟨37, _⟩ => ⟨S4x4096x1536, .f32⟩
  | .hbm, ⟨38, _⟩ => ⟨S4x4096x1536, .f32⟩
  | .hbm, ⟨39, _⟩ => ⟨S1x1536, .f32⟩
  | .hbm, ⟨40, _⟩ => ⟨S1536, .f32⟩
  | .hbm, ⟨41, _⟩ => ⟨S1x1x1536, .f32⟩
  | .hbm, ⟨42, _⟩ => ⟨S4x4096x1536, .f32⟩
  | .hbm, ⟨43, _⟩ => ⟨S4x4096x1536, .f32⟩
  | .hbm, ⟨44, _⟩ => ⟨S4x4096x1536, .f32⟩
  | .hbm, ⟨45, _⟩ => ⟨S4x4096x1536, .f32⟩
  | .hbm, ⟨46, _⟩ => ⟨S1x1536, .f32⟩
  | .hbm, ⟨47, _⟩ => ⟨S1536, .f32⟩
  | .hbm, ⟨48, _⟩ => ⟨S1x1x1536, .f32⟩
  | .hbm, ⟨49, _⟩ => ⟨S4x4096x1536, .f32⟩
  | .hbm, ⟨50, _⟩ => ⟨S4x4096x1536, .f32⟩
  | .hbm, ⟨51, _⟩ => ⟨S4x4096x1536, .f32⟩
  | .hbm, ⟨52, _⟩ => ⟨S1x1x1536, .f32⟩
  | .hbm, ⟨53, _⟩ => ⟨S4x4096x1536, .f32⟩
  | .hbm, ⟨54, _⟩ => ⟨S4x4096x1536, .f32⟩
  | .hbm, ⟨55, _⟩ => ⟨S4x4096x512, .f32⟩
  | .hbm, ⟨56, _⟩ => ⟨S4x4096x512, .f32⟩
  | .hbm, ⟨57, _⟩ => ⟨S4x4096x512, .f32⟩
  | .hbm, ⟨58, _⟩ => ⟨S4x4096x512, .f32⟩
  | .hbm, ⟨59, _⟩ => ⟨S4x4096x1536, .bf16⟩
  | .hbm, ⟨60, _⟩ => ⟨S16384x1536, .bf16⟩
  | .hbm, ⟨61, _⟩ => ⟨S4x4096x512, .bf16⟩
  | .hbm, ⟨62, _⟩ => ⟨S16384x512, .bf16⟩
  | .hbm, ⟨63, _⟩ => ⟨S4x4096x512, .bf16⟩
  | .hbm, ⟨64, _⟩ => ⟨S16384x512, .bf16⟩
  | .hbm, ⟨65, _⟩ => ⟨S4x4096x2048, .bf16⟩
  | .hbm, ⟨66, _⟩ => ⟨S16384x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩

abbrev nD : Nat := 1
abbrev τ : Topo := Topo.v7x

variable {F : FTy → Type} [FloatOps F]
-- ==== InprojSample.lean ====
abbrev S1x16384x1024 : Shape := ⟨3, ![1, 16384, 1024]⟩
abbrev S1x1024 : Shape := ⟨2, ![1, 1024]⟩
abbrev S1x1024x5120 : Shape := ⟨3, ![1, 1024, 5120]⟩
abbrev S1x3x1536 : Shape := ⟨3, ![1, 3, 1536]⟩
abbrev S1x1536 : Shape := ⟨2, ![1, 1536]⟩
abbrev S16384x1024 : Shape := ⟨2, ![16384, 1024]⟩
abbrev S1024 : Shape := ⟨1, ![1024]⟩
abbrev S1024x5120 : Shape := ⟨2, ![1024, 5120]⟩
abbrev S3x1536 : Shape := ⟨2, ![3, 1536]⟩
abbrev S1536 : Shape := ⟨1, ![1536]⟩
abbrev S1024x1536 : Shape := ⟨2, ![1024, 1536]⟩
abbrev S1024x2048 : Shape := ⟨2, ![1024, 2048]⟩
abbrev S16384x1536 : Shape := ⟨2, ![16384, 1536]⟩
abbrev S16384x512 : Shape := ⟨2, ![16384, 512]⟩
abbrev S16384x2048 : Shape := ⟨2, ![16384, 2048]⟩
abbrev S1024x1024 : Shape := ⟨2, ![1024, 1024]⟩
abbrev S8x1024 : Shape := ⟨2, ![8, 1024]⟩
abbrev S1024x512 : Shape := ⟨2, ![1024, 512]⟩
abbrev S1024x1 : Shape := ⟨2, ![1024, 1]⟩
abbrev S16x1024 : Shape := ⟨2, ![16, 1024]⟩
abbrev S16 : Shape := ⟨1, ![16]⟩
abbrev S16x1 : Shape := ⟨2, ![16, 1]⟩
abbrev S16x512 : Shape := ⟨2, ![16, 512]⟩
abbrev S1x512 : Shape := ⟨2, ![1, 512]⟩
abbrev S3x512 : Shape := ⟨2, ![3, 512]⟩

abbrev nBuf : Space → Nat
  | .hbm => 20
  | .vmem => 20
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x5120, .f32⟩
  | .hbm, ⟨3, _⟩ => ⟨S1x3x1536, .f32⟩
  | .hbm, ⟨4, _⟩ => ⟨S1x1536, .f32⟩
  | .hbm, ⟨5, _⟩ => ⟨S16384x1024, .f32⟩
  | .hbm, ⟨6, _⟩ => ⟨S1024, .f32⟩
  | .hbm, ⟨7, _⟩ => ⟨S1024x5120, .f32⟩
  | .hbm, ⟨8, _⟩ => ⟨S1024x5120, .bf16⟩
  | .hbm, ⟨9, _⟩ => ⟨S3x1536, .f32⟩
  | .hbm, ⟨10, _⟩ => ⟨S1536, .f32⟩
  | .hbm, ⟨11, _⟩ => ⟨S1024x1536, .bf16⟩
  | .hbm, ⟨12, _⟩ => ⟨S1024x1536, .bf16⟩
  | .hbm, ⟨13, _⟩ => ⟨S1024x2048, .bf16⟩
  | .hbm, ⟨14, _⟩ => ⟨S1x1024, .f32⟩
  | .hbm, ⟨15, _⟩ => ⟨S1x1536, .f32⟩
  | .hbm, ⟨16, _⟩ => ⟨S16384x1536, .bf16⟩
  | .hbm, ⟨17, _⟩ => ⟨S16384x512, .bf16⟩
  | .hbm, ⟨18, _⟩ => ⟨S16384x512, .bf16⟩
  | .hbm, ⟨19, _⟩ => ⟨S16384x2048, .bf16⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x1536, .bf16⟩
  | .local _ .vmem, ⟨8, _⟩ => ⟨S1024x1536, .bf16⟩
  | .local _ .vmem, ⟨9, _⟩ => ⟨S1024x2048, .bf16⟩
  | .local _ .vmem, ⟨10, _⟩ => ⟨S3x1536, .f32⟩
  | .local _ .vmem, ⟨11, _⟩ => ⟨S1x1536, .f32⟩
  | .local _ .vmem, ⟨12, _⟩ => ⟨S1024x1536, .bf16⟩
  | .local _ .vmem, ⟨13, _⟩ => ⟨S1024x1536, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x2048, .bf16⟩
  | .local _ .vmem, ⟨19, _⟩ => ⟨S1024x2048, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InprojSampleReferenceIdeal.lean ====
abbrev S1x16384x1024 : Shape := ⟨3, ![1, 16384, 1024]⟩
abbrev S1x1024 : Shape := ⟨2, ![1, 1024]⟩
abbrev S1x1024x5120 : Shape := ⟨3, ![1, 1024, 5120]⟩
abbrev S1x3x1536 : Shape := ⟨3, ![1, 3, 1536]⟩
abbrev S1x1536 : Shape := ⟨2, ![1, 1536]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x5120 : Shape := ⟨2, ![1024, 5120]⟩
abbrev S1x16384x5120 : Shape := ⟨3, ![1, 16384, 5120]⟩
abbrev S1x16384x1536 : Shape := ⟨3, ![1, 16384, 1536]⟩
abbrev S1x16384x2048 : Shape := ⟨3, ![1, 16384, 2048]⟩
abbrev S3x1536 : Shape := ⟨2, ![3, 1536]⟩
abbrev S1536 : Shape := ⟨1, ![1536]⟩
abbrev S1x16386x1536 : Shape := ⟨3, ![1, 16386, 1536]⟩
abbrev S1x1x1536 : Shape := ⟨3, ![1, 1, 1536]⟩
abbrev S1x16384x512 : Shape := ⟨3, ![1, 16384, 512]⟩
abbrev S16384x1536 : Shape := ⟨2, ![16384, 1536]⟩
abbrev S16384x512 : Shape := ⟨2, ![16384, 512]⟩
abbrev S16384x2048 : Shape := ⟨2, ![16384, 2048]⟩

abbrev nBuf : Space → Nat
  | .hbm => 67
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x5120, .f32⟩
  | .hbm, ⟨3, _⟩ => ⟨S1x3x1536, .f32⟩
  | .hbm, ⟨4, _⟩ => ⟨S1x1536, .f32⟩
  | .hbm, ⟨5, _⟩ => ⟨S1024, .f32⟩
  | .hbm, ⟨6, _⟩ => ⟨S1x16384x1024, .f32⟩
  | .hbm, ⟨7, _⟩ => ⟨S_, .f32⟩
  | .hbm, ⟨8, _⟩ => ⟨S1x16384, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S1x16384x1, .f32⟩
  | .hbm, ⟨17, _⟩ => ⟨S1x16384x1024, .f32⟩
  | .hbm, ⟨18, _⟩ => ⟨S1x16384x1024, .f32⟩
  | .hbm, ⟨19, _⟩ => ⟨S1x1x1024, .f32⟩
  | .hbm, ⟨20, _⟩ => ⟨S1x16384x1024, .f32⟩
  | .hbm, ⟨21, _⟩ => ⟨S1x16384x1024, .f32⟩
  | .hbm, ⟨22, _⟩ => ⟨S1024x5120, .f32⟩
  | .hbm, ⟨23, _⟩ => ⟨S1x16384x5120, .f32⟩
  | .hbm, ⟨24, _⟩ => ⟨S1x16384x1536, .f32⟩
  | .hbm, ⟨25, _⟩ => ⟨S1x16384x1536, .f32⟩
  | .hbm, ⟨26, _⟩ => ⟨S1x16384x2048, .f32⟩
  | .hbm, ⟨27, _⟩ => ⟨S3x1536, .f32⟩
  | .hbm, ⟨28, _⟩ => ⟨S1536, .f32⟩
  | .hbm, ⟨29, _⟩ => ⟨S_, .i32⟩
  | .hbm, ⟨30, _⟩ => ⟨S_, .f32⟩
  | .hbm, ⟨31, _⟩ => ⟨S1x16386x1536, .f32⟩
  | .hbm, ⟨32, _⟩ => ⟨S1x16384x1536, .f32⟩
  | .hbm, ⟨33, _⟩ => ⟨S1x1536, .f32⟩
  | .hbm, ⟨34, _⟩ => ⟨S1536, .f32⟩
  | .hbm, ⟨35, _⟩ => ⟨S1x1x1536, .f32⟩
  | .hbm, ⟨36, _⟩ => ⟨S1x16384x1536, .f32⟩
  | .hbm, ⟨37, _⟩ => ⟨S1x16384x1536, .f32⟩
  | .hbm, ⟨38, _⟩ => ⟨S1x16384x1536, .f32⟩
  | .hbm, ⟨39, _⟩ => ⟨S1x1536, .f32⟩
  | .hbm, ⟨40, _⟩ => ⟨S1536, .f32⟩
  | .hbm, ⟨41, _⟩ => ⟨S1x1x1536, .f32⟩
  | .hbm, ⟨42, _⟩ => ⟨S1x16384x1536, .f32⟩
  | .hbm, ⟨43, _⟩ => ⟨S1x16384x1536, .f32⟩
  | .hbm, ⟨44, _⟩ => ⟨S1x16384x1536, .f32⟩
  | .hbm, ⟨45, _⟩ => ⟨S1x16384x1536, .f32⟩
  | .hbm, ⟨46, _⟩ => ⟨S1x1536, .f32⟩
  | .hbm, ⟨47, _⟩ => ⟨S1536, .f32⟩
  | .hbm, ⟨48, _⟩ => ⟨S1x1x1536, .f32⟩
  | .hbm, ⟨49, _⟩ => ⟨S1x16384x1536, .f32⟩
  | .hbm, ⟨50, _⟩ => ⟨S1x16384x1536, .f32⟩
  | .hbm, ⟨51, _⟩ => ⟨S1x16384x1536, .f32⟩
  | .hbm, ⟨52, _⟩ => ⟨S1x1x1536, .f32⟩
  | .hbm, ⟨53, _⟩ => ⟨S1x16384x1536, .f32⟩
  | .hbm, ⟨54, _⟩ => ⟨S1x16384x1536, .f32⟩
  | .hbm, ⟨55, _⟩ => ⟨S1x16384x512, .f32⟩
  | .hbm, ⟨56, _⟩ => ⟨S1x16384x512, .f32⟩
  | .hbm, ⟨57, _⟩ => ⟨S1x16384x512, .f32⟩
  | .hbm, ⟨58, _⟩ => ⟨S1x16384x512, .f32⟩
  | .hbm, ⟨59, _⟩ => ⟨S1x16384x1536, .bf16⟩
  | .hbm, ⟨60, _⟩ => ⟨S16384x1536, .bf16⟩
  | .hbm, ⟨61, _⟩ => ⟨S1x16384x512, .bf16⟩
  | .hbm, ⟨62, _⟩ => ⟨S16384x512, .bf16⟩
  | .hbm, ⟨63, _⟩ => ⟨S1x16384x512, .bf16⟩
  | .hbm, ⟨64, _⟩ => ⟨S16384x512, .bf16⟩
  | .hbm, ⟨65, _⟩ => ⟨S1x16384x2048, .bf16⟩
  | .hbm, ⟨66, _⟩ => ⟨S16384x2048, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩

abbrev nD : Nat := 1
abbrev τ : Topo := Topo.v7x

variable {F : FTy → Type} [FloatOps F]
-- ==== AttnSample.lean ====
abbrev S1x16384x1536 : Shape := ⟨3, ![1, 16384, 1536]⟩
abbrev S1x8x15x31 : Shape := ⟨4, ![1, 8, 15, 31]⟩
abbrev S8x15x31 : Shape := ⟨3, ![8, 15, 31]⟩
abbrev S3720 : Shape := ⟨1, ![3720]⟩
abbrev S1x16384x512 : Shape := ⟨3, ![1, 16384, 512]⟩
abbrev S1x1024x512 : Shape := ⟨3, ![1, 1024, 512]⟩
abbrev S1x1536x512 : Shape := ⟨3, ![1, 1536, 512]⟩
abbrev S60x64x128 : Shape := ⟨3, ![60, 64, 128]⟩
abbrev S64x128 : Shape := ⟨2, ![64, 128]⟩
abbrev S1 : Shape := ⟨1, ![1]⟩
abbrev S1x64x128 : Shape := ⟨3, ![1, 64, 128]⟩
abbrev S512x128 : Shape := ⟨2, ![512, 128]⟩
abbrev S1x64x512 : Shape := ⟨3, ![1, 64, 512]⟩
abbrev S64x512 : Shape := ⟨2, ![64, 512]⟩
abbrev S128x128 : Shape := ⟨2, ![128, 128]⟩
abbrev S1x512x128 : Shape := ⟨3, ![1, 512, 128]⟩
abbrev S128 : Shape := ⟨1, ![128]⟩
abbrev S1x128 : Shape := ⟨2, ![1, 128]⟩
abbrev S128x512 : Shape := ⟨2, ![128, 512]⟩
abbrev S512x256 : Shape := ⟨2, ![512, 256]⟩
abbrev S128x256 : Shape := ⟨2, ![128, 256]⟩

abbrev nBuf : Space → Nat
  | .hbm => 6
  | .vmem => 9
  | .smem => 1
  | _ => 0

abbrev bufTy : (tb : Table) → Fin (tcTables nBuf tb) → BufTy
  | .hbm, ⟨0, _⟩ => ⟨S1x16384x1536, .f32⟩
  | .hbm, ⟨1, _⟩ => ⟨S1x8x15x31, .f32⟩
  | .hbm, ⟨2, _⟩ => ⟨S1x16384x1536, .bf16⟩
  | .hbm, ⟨3, _⟩ => ⟨S8x15x31, .f32⟩
  | .hbm, ⟨4, _⟩ => ⟨S3720, .f32⟩
  | .hbm, ⟨5, _⟩ => ⟨S1x16384x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1536x512, .bf16⟩
  | .local _ .vmem, ⟨3, _⟩ => ⟨S1x1536x512, .bf16⟩
  | .local _ .vmem, ⟨4, _⟩ => ⟨S1x1536x512, .bf16⟩
  | .local _ .vmem, ⟨5, _⟩ => ⟨S1x1536x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S60x64x128, .f32⟩
  | .local _ .smem, ⟨0, _⟩ => ⟨S3720, .f32⟩
  | _, _ => ⟨S1x16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_9 : BitVec 32 := 0#32
  let c60_i32 : BitVec 32 := 60#32
  let v38 : BitVec 32 := Scalar.addi c0_i32_9 c60_i32
  let c1_i32_10 : BitVec 32 := 1#32
  ⟨c0_i32_9, v38, c1_i32_10⟩
def k0_off1 (k0_t1 : Fin k0_t1_loop.trips) (c0_i32_32 : BitVec 32) : Fin 1 → Nat :=
  let c2_i32_25 : BitVec 32 := 2#32
  let c0_i32_9 : BitVec 32 := 0#32
  let c1_i32_10 : BitVec 32 := 1#32
  let arg8 : BitVec 32 := Scf.iv c0_i32_9 c1_i32_10 k0_t1
  let c0_i32_13 : BitVec 32 := 0#32
  let v40 : BitVec 1 := Scalar.cmpi .sgt arg8 c0_i32_13
  let v41 : BitVec 32 := Scalar.extui v40
  let c0_i32_14 : BitVec 32 := 0#32
  let v42 : BitVec 1 := Scalar.cmpi .slt arg8 c0_i32_14
  let v43 : BitVec 32 := Scalar.extui v42
  let v44 : BitVec 32 := Scalar.subi v41 v43
  let c15_i32_12 : BitVec 32 := 15#32
  let c0_i32_15 : BitVec 32 := 0#32
  let v45 : BitVec 1 := Scalar.cmpi .sgt c15_i32_12 c0_i32_15
  let v46 : BitVec 32 := Scalar.extui v45
  let c0_i32_16 : BitVec 32 := 0#32
  let v47 : BitVec 1 := Scalar.cmpi .slt c15_i32_12 c0_i32_16
  let v48 : BitVec 32 := Scalar.extui v47
  let v49 : BitVec 32 := Scalar.subi v46 v48
  let v50 : BitVec 1 := Scalar.cmpi .ne v44 v49
  let v51 : BitVec 32 := Scalar.remsi arg8 c15_i32_12
  let c0_i32_17 : BitVec 32 := 0#32
  let v52 : BitVec 1 := Scalar.cmpi .ne v51 c0_i32_17
  let v53 : BitVec 1 := Scalar.andi v50 v52
  let v39 : BitVec 32 := Scalar.divsi arg8 c15_i32_12
  let c1_i32_18 : BitVec 32 := 1#32
  let v54 : BitVec 32 := Scalar.subi v39 c1_i32_18
  let v55 : BitVec 32 := Scalar.select v53 v54 v39
  let v66 : BitVec 32 := Scalar.muli c2_i32_25 v55
  let c15_i32_26 : BitVec 32 := 15#32
  let v67 : BitVec 32 := Scalar.muli v66 c15_i32_26
  let c15_i32_19 : BitVec 32 := 15#32
  let c0_i32_20 : BitVec 32 := 0#32
  let v56 : BitVec 1 := Scalar.cmpi .eq c15_i32_19 c0_i32_20
  let c1_i32_21 : BitVec 32 := 1#32
  let v57 : BitVec 32 := Scalar.select v56 c1_i32_21 c15_i32_19
  let v58 : BitVec 32 := Scalar.remsi arg8 v57
  let c0_i32_23 : BitVec 32 := 0#32
  let v60 : BitVec 1 := Scalar.cmpi .slt v58 c0_i32_23
  let c0_i32_24 : BitVec 32 := 0#32
  let v61 : BitVec 1 := Scalar.cmpi .slt v57 c0_i32_24
  let v62 : BitVec 1 := Scalar.xori v60 v61
  let c0_i32_22 : BitVec 32 := 0#32
  let v59 : BitVec 1 := Scalar.cmpi .ne v58 c0_i32_22
  let v63 : BitVec 1 := Scalar.andi v62 v59
  let v64 : BitVec 32 := Scalar.addi v58 v57
  let v65 : BitVec 32 := Scalar.select v63 v64 v58
  let v68 : BitVec 32 := Scalar.addi v67 v65
  let c31_i32 : BitVec 32 := 31#32
  let v69 : BitVec 32 := Scalar.muli v68 c31_i32
  let v76 : BitVec 32 := Scalar.addi v69 c0_i32_32
  let v77 : Index := Scalar.indexCast v76
  ![v77.toNat]
def k0_off2 (k0_t1 : Fin k0_t1_loop.trips) (c0_i32_33 : BitVec 32) : Fin 1 → Nat :=
  let c2_i32_27 : BitVec 32 := 2#32
  let c0_i32_9 : BitVec 32 := 0#32
  let c1_i32_10 : BitVec 32 := 1#32
  let arg8 : BitVec 32 := Scf.iv c0_i32_9 c1_i32_10 k0_t1
  let c0_i32_13 : BitVec 32 := 0#32
  let v40 : BitVec 1 := Scalar.cmpi .sgt arg8 c0_i32_13
  let v41 : BitVec 32 := Scalar.extui v40
  let c0_i32_14 : BitVec 32 := 0#32
  let v42 : BitVec 1 := Scalar.cmpi .slt arg8 c0_i32_14
  let v43 : BitVec 32 := Scalar.extui v42
  let v44 : BitVec 32 := Scalar.subi v41 v43
  let c15_i32_12 : BitVec 32 := 15#32
  let c0_i32_15 : BitVec 32 := 0#32
  let v45 : BitVec 1 := Scalar.cmpi .sgt c15_i32_12 c0_i32_15
  let v46 : BitVec 32 := Scalar.extui v45
  let c0_i32_16 : BitVec 32 := 0#32
  let v47 : BitVec 1 := Scalar.cmpi .slt c15_i32_12 c0_i32_16
  let v48 : BitVec 32 := Scalar.extui v47
  let v49 : BitVec 32 := Scalar.subi v46 v48
  let v50 : BitVec 1 := Scalar.cmpi .ne v44 v49
  let v51 : BitVec 32 := Scalar.remsi arg8 c15_i32_12
  let c0_i32_17 : BitVec 32 := 0#32
  let v52 : BitVec 1 := Scalar.cmpi .ne v51 c0_i32_17
  let v53 : BitVec 1 := Scalar.andi v50 v52
  let v39 : BitVec 32 := Scalar.divsi arg8 c15_i32_12
  let c1_i32_18 : BitVec 32 := 1#32
  let v54 : BitVec 32 := Scalar.subi v39 c1_i32_18
  let v55 : BitVec 32 := Scalar.select v53 v54 v39
  let v70 : BitVec 32 := Scalar.muli c2_i32_27 v55
  let c1_i32_28 : BitVec 32 := 1#32
  let v71 : BitVec 32 := Scalar.addi v70 c1_i32_28
  let c15_i32_29 : BitVec 32 := 15#32
  let v72 : BitVec 32 := Scalar.muli v71 c15_i32_29
  let c15_i32_19 : BitVec 32 := 15#32
  let c0_i32_20 : BitVec 32 := 0#32
  let v56 : BitVec 1 := Scalar.cmpi .eq c15_i32_19 c0_i32_20
  let c1_i32_21 : BitVec 32 := 1#32
  let v57 : BitVec 32 := Scalar.select v56 c1_i32_21 c15_i32_19
  let v58 : BitVec 32 := Scalar.remsi arg8 v57
  let c0_i32_23 : BitVec 32 := 0#32
  let v60 : BitVec 1 := Scalar.cmpi .slt v58 c0_i32_23
  let c0_i32_24 : BitVec 32 := 0#32
  let v61 : BitVec 1 := Scalar.cmpi .slt v57 c0_i32_24
  let v62 : BitVec 1 := Scalar.xori v60 v61
  let c0_i32_22 : BitVec 32 := 0#32
  let v59 : BitVec 1 := Scalar.cmpi .ne v58 c0_i32_22
  let v63 : BitVec 1 := Scalar.andi v62 v59
  let v64 : BitVec 32 := Scalar.addi v58 v57
  let v65 : BitVec 32 := Scalar.select v63 v64 v58
  let v73 : BitVec 32 := Scalar.addi v72 v65
  let c31_i32_30 : BitVec 32 := 31#32
  let v74 : BitVec 32 := Scalar.muli v73 c31_i32_30
  let v79 : BitVec 32 := Scalar.addi v74 c0_i32_33
  let v80 : Index := Scalar.indexCast v79
  ![v80.toNat]
def k0_off3 (k0_t1 : Fin k0_t1_loop.trips) : Fin 3 → Nat :=
  let c0_i32_9 : BitVec 32 := 0#32
  let c1_i32_10 : BitVec 32 := 1#32
  let arg8 : BitVec 32 := Scf.iv c0_i32_9 c1_i32_10 k0_t1
  let v452 : Index := Scalar.indexCast arg8
  let c0 : Index := 0#32
  let c0_103 : Index := 0#32
  ![v452.toNat, 0, 0]
@[reducible] def k0_t2_loop : Scf.Loop 32 :=
  let c0_i32_3 : BitVec 32 := 0#32
  let c2_i32 : BitVec 32 := 2#32
  let v13 : BitVec 32 := Scalar.addi c0_i32_3 c2_i32
  let c1_i32 : BitVec 32 := 1#32
  ⟨c0_i32_3, v13, c1_i32⟩
def k0_mult1 (i : grid0.Coords) (k0_t2 : Fin k0_t2_loop.trips) : BitVec 32 :=
  let c248_i32 : BitVec 32 := 248#32
  let c0_i32_7 : BitVec 32 := 0#32
  let arg1 : BitVec 32 := BitVec.ofNat 32 (i 1).val
  let c16_i32_5 : BitVec 32 := 16#32
  let v15 : BitVec 32 := Scalar.muli arg1 c16_i32_5
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v16 : BitVec 32 := Scalar.addi v15 v14
  let c4_i32_6 : BitVec 32 := 4#32
  let v17 : BitVec 32 := Scalar.subi v16 c4_i32_6
  let v18 : BitVec 32 := Scalar.maxsi c0_i32_7 v17
  let v19 : BitVec 32 := Scalar.minsi c248_i32 v18
  let c232_i32 : BitVec 32 := 232#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c232_i32 v11
  let v22 : BitVec 32 := Scalar.subi v19 v12
  let c64_i32_8 : BitVec 32 := 64#32
  let v23 : BitVec 32 := Scalar.muli v22 c64_i32_8
  v23
def k0_mult2 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c64_i32_9 : BitVec 32 := 64#32
  let v25 : BitVec 32 := Scalar.muli v14 c64_i32_9
  v25
def k0_off4 (k0_t2 : Fin k0_t2_loop.trips) : Fin 3 → Nat :=
  let c0 : Index := 0#32
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c64_i32_9 : BitVec 32 := 64#32
  let v25 : BitVec 32 := Scalar.muli v14 c64_i32_9
  let v26 : BitVec 32 := v25
  let v27 : Index := Scalar.indexCast v26
  let c0_10 : Index := 0#32
  ![0, v27.toNat, 0]
def k0_off5 (i : grid0.Coords) (k0_t2 : Fin k0_t2_loop.trips) : Fin 3 → Nat :=
  let c0_13 : Index := 0#32
  let c248_i32 : BitVec 32 := 248#32
  let c0_i32_7 : BitVec 32 := 0#32
  let arg1 : BitVec 32 := BitVec.ofNat 32 (i 1).val
  let c16_i32_5 : BitVec 32 := 16#32
  let v15 : BitVec 32 := Scalar.muli arg1 c16_i32_5
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v16 : BitVec 32 := Scalar.addi v15 v14
  let c4_i32_6 : BitVec 32 := 4#32
  let v17 : BitVec 32 := Scalar.subi v16 c4_i32_6
  let v18 : BitVec 32 := Scalar.maxsi c0_i32_7 v17
  let v19 : BitVec 32 := Scalar.minsi c248_i32 v18
  let c232_i32 : BitVec 32 := 232#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c232_i32 v11
  let v22 : BitVec 32 := Scalar.subi v19 v12
  let c64_i32_8 : BitVec 32 := 64#32
  let v23 : BitVec 32 := Scalar.muli v22 c64_i32_8
  let v24 : BitVec 32 := v23
  let v39 : Index := Scalar.indexCast v24
  let c0_14 : Index := 0#32
  ![0, v39.toNat, 0]
def k0_off6 (i : grid0.Coords) (k0_t2 : Fin k0_t2_loop.trips) : Fin 3 → Nat :=
  let c0_17 : Index := 0#32
  let c248_i32 : BitVec 32 := 248#32
  let c0_i32_7 : BitVec 32 := 0#32
  let arg1 : BitVec 32 := BitVec.ofNat 32 (i 1).val
  let c16_i32_5 : BitVec 32 := 16#32
  let v15 : BitVec 32 := Scalar.muli arg1 c16_i32_5
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v16 : BitVec 32 := Scalar.addi v15 v14
  let c4_i32_6 : BitVec 32 := 4#32
  let v17 : BitVec 32 := Scalar.subi v16 c4_i32_6
  let v18 : BitVec 32 := Scalar.maxsi c0_i32_7 v17
  let v19 : BitVec 32 := Scalar.minsi c248_i32 v18
  let c232_i32 : BitVec 32 := 232#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c232_i32 v11
  let v22 : BitVec 32 := Scalar.subi v19 v12
  let c64_i32_8 : BitVec 32 := 64#32
  let v23 : BitVec 32 := Scalar.muli v22 c64_i32_8
  let v24 : BitVec 32 := v23
  let v48 : Index := Scalar.indexCast v24
  let c128 : Index := 128#32
  ![0, v48.toNat, 128]
def k0_off7 (i : grid0.Coords) (k0_t2 : Fin k0_t2_loop.trips) : Fin 3 → Nat :=
  let c0_20 : Index := 0#32
  let c248_i32 : BitVec 32 := 248#32
  let c0_i32_7 : BitVec 32 := 0#32
  let arg1 : BitVec 32 := BitVec.ofNat 32 (i 1).val
  let c16_i32_5 : BitVec 32 := 16#32
  let v15 : BitVec 32 := Scalar.muli arg1 c16_i32_5
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v16 : BitVec 32 := Scalar.addi v15 v14
  let c4_i32_6 : BitVec 32 := 4#32
  let v17 : BitVec 32 := Scalar.subi v16 c4_i32_6
  let v18 : BitVec 32 := Scalar.maxsi c0_i32_7 v17
  let v19 : BitVec 32 := Scalar.minsi c248_i32 v18
  let c232_i32 : BitVec 32 := 232#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c232_i32 v11
  let v22 : BitVec 32 := Scalar.subi v19 v12
  let c64_i32_8 : BitVec 32 := 64#32
  let v23 : BitVec 32 := Scalar.muli v22 c64_i32_8
  let v24 : BitVec 32 := v23
  let v57 : Index := Scalar.indexCast v24
  let c256 : Index := 256#32
  ![0, v57.toNat, 256]
def k0_off8 (i : grid0.Coords) (k0_t2 : Fin k0_t2_loop.trips) : Fin 3 → Nat :=
  let c0_23 : Index := 0#32
  let c248_i32 : BitVec 32 := 248#32
  let c0_i32_7 : BitVec 32 := 0#32
  let arg1 : BitVec 32 := BitVec.ofNat 32 (i 1).val
  let c16_i32_5 : BitVec 32 := 16#32
  let v15 : BitVec 32 := Scalar.muli arg1 c16_i32_5
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v16 : BitVec 32 := Scalar.addi v15 v14
  let c4_i32_6 : BitVec 32 := 4#32
  let v17 : BitVec 32 := Scalar.subi v16 c4_i32_6
  let v18 : BitVec 32 := Scalar.maxsi c0_i32_7 v17
  let v19 : BitVec 32 := Scalar.minsi c248_i32 v18
  let c232_i32 : BitVec 32 := 232#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c232_i32 v11
  let v22 : BitVec 32 := Scalar.subi v19 v12
  let c64_i32_8 : BitVec 32 := 64#32
  let v23 : BitVec 32 := Scalar.muli v22 c64_i32_8
  let v24 : BitVec 32 := v23
  let v66 : Index := Scalar.indexCast v24
  let c384 : Index := 384#32
  ![0, v66.toNat, 384]
def k0_mult3 (i : grid0.Coords) (k0_t2 : Fin k0_t2_loop.trips) : BitVec 32 :=
  let c248_i32_30 : BitVec 32 := 248#32
  let c0_i32_29 : BitVec 32 := 0#32
  let arg1 : BitVec 32 := BitVec.ofNat 32 (i 1).val
  let c16_i32_27 : BitVec 32 := 16#32
  let v72 : BitVec 32 := Scalar.muli arg1 c16_i32_27
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c0_i32_25 : BitVec 32 := 0#32
  let v70 : BitVec 32 := Scalar.addi v14 c0_i32_25
  let c1_i32_26 : BitVec 32 := 1#32
  let v71 : BitVec 32 := Scalar.addi v70 c1_i32_26
  let v73 : BitVec 32 := Scalar.addi v72 v71
  let c4_i32_28 : BitVec 32 := 4#32
  let v74 : BitVec 32 := Scalar.subi v73 c4_i32_28
  let v75 : BitVec 32 := Scalar.maxsi c0_i32_29 v74
  let v76 : BitVec 32 := Scalar.minsi c248_i32_30 v75
  let c232_i32 : BitVec 32 := 232#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c232_i32 v11
  let v79 : BitVec 32 := Scalar.subi v76 v12
  let c64_i32_32 : BitVec 32 := 64#32
  let v80 : BitVec 32 := Scalar.muli v79 c64_i32_32
  v80
def k0_mult4 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c0_i32_25 : BitVec 32 := 0#32
  let v70 : BitVec 32 := Scalar.addi v14 c0_i32_25
  let c1_i32_26 : BitVec 32 := 1#32
  let v71 : BitVec 32 := Scalar.addi v70 c1_i32_26
  let c64_i32_33 : BitVec 32 := 64#32
  let v82 : BitVec 32 := Scalar.muli v71 c64_i32_33
  v82
def k0_off9 (k0_t2 : Fin k0_t2_loop.trips) (c0_i32_25 : BitVec 32) : Fin 3 → Nat :=
  let c0_34 : Index := 0#32
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v70 : BitVec 32 := Scalar.addi v14 c0_i32_25
  let c1_i32_26 : BitVec 32 := 1#32
  let v71 : BitVec 32 := Scalar.addi v70 c1_i32_26
  let c64_i32_33 : BitVec 32 := 64#32
  let v82 : BitVec 32 := Scalar.muli v71 c64_i32_33
  let v83 : BitVec 32 := v82
  let v84 : Index := Scalar.indexCast v83
  let c0_35 : Index := 0#32
  ![0, v84.toNat, 0]
def k0_off10 (i : grid0.Coords) (k0_t2 : Fin k0_t2_loop.trips) (c0_i32_25 : BitVec 32) : Fin 3 → Nat :=
  let c0_38 : Index := 0#32
  let c248_i32_30 : BitVec 32 := 248#32
  let c0_i32_29 : BitVec 32 := 0#32
  let arg1 : BitVec 32 := BitVec.ofNat 32 (i 1).val
  let c16_i32_27 : BitVec 32 := 16#32
  let v72 : BitVec 32 := Scalar.muli arg1 c16_i32_27
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v70 : BitVec 32 := Scalar.addi v14 c0_i32_25
  let c1_i32_26 : BitVec 32 := 1#32
  let v71 : BitVec 32 := Scalar.addi v70 c1_i32_26
  let v73 : BitVec 32 := Scalar.addi v72 v71
  let c4_i32_28 : BitVec 32 := 4#32
  let v74 : BitVec 32 := Scalar.subi v73 c4_i32_28
  let v75 : BitVec 32 := Scalar.maxsi c0_i32_29 v74
  let v76 : BitVec 32 := Scalar.minsi c248_i32_30 v75
  let c232_i32 : BitVec 32 := 232#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c232_i32 v11
  let v79 : BitVec 32 := Scalar.subi v76 v12
  let c64_i32_32 : BitVec 32 := 64#32
  let v80 : BitVec 32 := Scalar.muli v79 c64_i32_32
  let v81 : BitVec 32 := v80
  let v96 : Index := Scalar.indexCast v81
  let c0_39 : Index := 0#32
  ![0, v96.toNat, 0]
def k0_off11 (i : grid0.Coords) (k0_t2 : Fin k0_t2_loop.trips) (c0_i32_25 : BitVec 32) : Fin 3 → Nat :=
  let c0_42 : Index := 0#32
  let c248_i32_30 : BitVec 32 := 248#32
  let c0_i32_29 : BitVec 32 := 0#32
  let arg1 : BitVec 32 := BitVec.ofNat 32 (i 1).val
  let c16_i32_27 : BitVec 32 := 16#32
  let v72 : BitVec 32 := Scalar.muli arg1 c16_i32_27
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v70 : BitVec 32 := Scalar.addi v14 c0_i32_25
  let c1_i32_26 : BitVec 32 := 1#32
  let v71 : BitVec 32 := Scalar.addi v70 c1_i32_26
  let v73 : BitVec 32 := Scalar.addi v72 v71
  let c4_i32_28 : BitVec 32 := 4#32
  let v74 : BitVec 32 := Scalar.subi v73 c4_i32_28
  let v75 : BitVec 32 := Scalar.maxsi c0_i32_29 v74
  let v76 : BitVec 32 := Scalar.minsi c248_i32_30 v75
  let c232_i32 : BitVec 32 := 232#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c232_i32 v11
  let v79 : BitVec 32 := Scalar.subi v76 v12
  let c64_i32_32 : BitVec 32 := 64#32
  let v80 : BitVec 32 := Scalar.muli v79 c64_i32_32
  let v81 : BitVec 32 := v80
  let v105 : Index := Scalar.indexCast v81
  let c128_43 : Index := 128#32
  ![0, v105.toNat, 128]
def k0_off12 (i : grid0.Coords) (k0_t2 : Fin k0_t2_loop.trips) (c0_i32_25 : BitVec 32) : Fin 3 → Nat :=
  let c0_46 : Index := 0#32
  let c248_i32_30 : BitVec 32 := 248#32
  let c0_i32_29 : BitVec 32 := 0#32
  let arg1 : BitVec 32 := BitVec.ofNat 32 (i 1).val
  let c16_i32_27 : BitVec 32 := 16#32
  let v72 : BitVec 32 := Scalar.muli arg1 c16_i32_27
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v70 : BitVec 32 := Scalar.addi v14 c0_i32_25
  let c1_i32_26 : BitVec 32 := 1#32
  let v71 : BitVec 32 := Scalar.addi v70 c1_i32_26
  let v73 : BitVec 32 := Scalar.addi v72 v71
  let c4_i32_28 : BitVec 32 := 4#32
  let v74 : BitVec 32 := Scalar.subi v73 c4_i32_28
  let v75 : BitVec 32 := Scalar.maxsi c0_i32_29 v74
  let v76 : BitVec 32 := Scalar.minsi c248_i32_30 v75
  let c232_i32 : BitVec 32 := 232#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c232_i32 v11
  let v79 : BitVec 32 := Scalar.subi v76 v12
  let c64_i32_32 : BitVec 32 := 64#32
  let v80 : BitVec 32 := Scalar.muli v79 c64_i32_32
  let v81 : BitVec 32 := v80
  let v114 : Index := Scalar.indexCast v81
  let c256_47 : Index := 256#32
  ![0, v114.toNat, 256]
def k0_off13 (i : grid0.Coords) (k0_t2 : Fin k0_t2_loop.trips) (c0_i32_25 : BitVec 32) : Fin 3 → Nat :=
  let c0_50 : Index := 0#32
  let c248_i32_30 : BitVec 32 := 248#32
  let c0_i32_29 : BitVec 32 := 0#32
  let arg1 : BitVec 32 := BitVec.ofNat 32 (i 1).val
  let c16_i32_27 : BitVec 32 := 16#32
  let v72 : BitVec 32 := Scalar.muli arg1 c16_i32_27
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v70 : BitVec 32 := Scalar.addi v14 c0_i32_25
  let c1_i32_26 : BitVec 32 := 1#32
  let v71 : BitVec 32 := Scalar.addi v70 c1_i32_26
  let v73 : BitVec 32 := Scalar.addi v72 v71
  let c4_i32_28 : BitVec 32 := 4#32
  let v74 : BitVec 32 := Scalar.subi v73 c4_i32_28
  let v75 : BitVec 32 := Scalar.maxsi c0_i32_29 v74
  let v76 : BitVec 32 := Scalar.minsi c248_i32_30 v75
  let c232_i32 : BitVec 32 := 232#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c232_i32 v11
  let v79 : BitVec 32 := Scalar.subi v76 v12
  let c64_i32_32 : BitVec 32 := 64#32
  let v80 : BitVec 32 := Scalar.muli v79 c64_i32_32
  let v81 : BitVec 32 := v80
  let v123 : Index := Scalar.indexCast v81
  let c384_51 : Index := 384#32
  ![0, v123.toNat, 384]
def k0_off14 (i : grid0.Coords) (k0_t2 : Fin k0_t2_loop.trips) (c0_i32_54 : BitVec 32) (c0_i32_55 : BitVec 32) : Fin 3 → Nat :=
  let c248_i32 : BitVec 32 := 248#32
  let c0_i32_7 : BitVec 32 := 0#32
  let arg1 : BitVec 32 := BitVec.ofNat 32 (i 1).val
  let c16_i32_5 : BitVec 32 := 16#32
  let v15 : BitVec 32 := Scalar.muli arg1 c16_i32_5
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v16 : BitVec 32 := Scalar.addi v15 v14
  let c4_i32_6 : BitVec 32 := 4#32
  let v17 : BitVec 32 := Scalar.subi v16 c4_i32_6
  let v18 : BitVec 32 := Scalar.maxsi c0_i32_7 v17
  let v19 : BitVec 32 := Scalar.minsi c248_i32 v18
  let v20 : BitVec 32 := Scalar.subi v19 v16
  let c7_i32 : BitVec 32 := 7#32
  let v21 : BitVec 32 := Scalar.addi v20 c7_i32
  let v129 : BitVec 32 := Scalar.addi c0_i32_54 v21
  let v130 : BitVec 32 := Scalar.addi v129 c0_i32_55
  let v131 : Index := Scalar.indexCast v130
  let c0_56 : Index := 0#32
  let c0_57 : Index := 0#32
  ![v131.toNat, 0, 0]
def k0_mult5 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c0_i32_53 : BitVec 32 := 0#32
  let v127 : BitVec 32 := Scalar.addi v14 c0_i32_53
  let c64_i32_192 : BitVec 32 := 64#32
  let v540 : BitVec 32 := Scalar.muli v127 c64_i32_192
  v540
def k0_off15 (k0_t2 : Fin k0_t2_loop.trips) (c0_i32_53 : BitVec 32) : Fin 3 → Nat :=
  let c0_193 : Index := 0#32
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v127 : BitVec 32 := Scalar.addi v14 c0_i32_53
  let c64_i32_192 : BitVec 32 := 64#32
  let v540 : BitVec 32 := Scalar.muli v127 c64_i32_192
  let v541 : BitVec 32 := v540
  let v544 : Index := Scalar.indexCast v541
  let c0_194 : Index := 0#32
  ![0, v544.toNat, 0]
def k0_mult6 (i : grid0.Coords) (k0_t2 : Fin k0_t2_loop.trips) : BitVec 32 :=
  let c248_i32_200 : BitVec 32 := 248#32
  let c0_i32_199 : BitVec 32 := 0#32
  let arg1 : BitVec 32 := BitVec.ofNat 32 (i 1).val
  let c16_i32_197 : BitVec 32 := 16#32
  let v550 : BitVec 32 := Scalar.muli arg1 c16_i32_197
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c1_i32_195 : BitVec 32 := 1#32
  let v548 : BitVec 32 := Scalar.addi v14 c1_i32_195
  let c1_i32_196 : BitVec 32 := 1#32
  let v549 : BitVec 32 := Scalar.addi v548 c1_i32_196
  let v551 : BitVec 32 := Scalar.addi v550 v549
  let c4_i32_198 : BitVec 32 := 4#32
  let v552 : BitVec 32 := Scalar.subi v551 c4_i32_198
  let v553 : BitVec 32 := Scalar.maxsi c0_i32_199 v552
  let v554 : BitVec 32 := Scalar.minsi c248_i32_200 v553
  let c232_i32 : BitVec 32 := 232#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c232_i32 v11
  let v557 : BitVec 32 := Scalar.subi v554 v12
  let c64_i32_202 : BitVec 32 := 64#32
  let v558 : BitVec 32 := Scalar.muli v557 c64_i32_202
  v558
def k0_mult7 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c1_i32_195 : BitVec 32 := 1#32
  let v548 : BitVec 32 := Scalar.addi v14 c1_i32_195
  let c1_i32_196 : BitVec 32 := 1#32
  let v549 : BitVec 32 := Scalar.addi v548 c1_i32_196
  let c64_i32_203 : BitVec 32 := 64#32
  let v560 : BitVec 32 := Scalar.muli v549 c64_i32_203
  v560
def k0_off16 (i : grid0.Coords) (k0_t2 : Fin k0_t2_loop.trips) (c0_i32_224 : BitVec 32) (c0_i32_25 : BitVec 32) (c0_i32_225 : BitVec 32) : Fin 3 → Nat :=
  let c248_i32_30 : BitVec 32 := 248#32
  let c0_i32_29 : BitVec 32 := 0#32
  let arg1 : BitVec 32 := BitVec.ofNat 32 (i 1).val
  let c16_i32_27 : BitVec 32 := 16#32
  let v72 : BitVec 32 := Scalar.muli arg1 c16_i32_27
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let v70 : BitVec 32 := Scalar.addi v14 c0_i32_25
  let c1_i32_26 : BitVec 32 := 1#32
  let v71 : BitVec 32 := Scalar.addi v70 c1_i32_26
  let v73 : BitVec 32 := Scalar.addi v72 v71
  let c4_i32_28 : BitVec 32 := 4#32
  let v74 : BitVec 32 := Scalar.subi v73 c4_i32_28
  let v75 : BitVec 32 := Scalar.maxsi c0_i32_29 v74
  let v76 : BitVec 32 := Scalar.minsi c248_i32_30 v75
  let v77 : BitVec 32 := Scalar.subi v76 v73
  let c7_i32_31 : BitVec 32 := 7#32
  let v78 : BitVec 32 := Scalar.addi v77 c7_i32_31
  let v607 : BitVec 32 := Scalar.addi c0_i32_224 v78
  let v608 : BitVec 32 := Scalar.addi v607 c0_i32_225
  let v609 : Index := Scalar.indexCast v608
  let c0_226 : Index := 0#32
  let c0_227 : Index := 0#32
  ![v609.toNat, 0, 0]
def k0_mult8 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c1_i32_223 : BitVec 32 := 1#32
  let v605 : BitVec 32 := Scalar.addi v14 c1_i32_223
  let c64_i32_368 : BitVec 32 := 64#32
  let v1018 : BitVec 32 := Scalar.muli v605 c64_i32_368
  v1018
def k0_mult9 (i : grid0.Coords) (k0_t2 : Fin k0_t2_loop.trips) : BitVec 32 :=
  let c248_i32_376 : BitVec 32 := 248#32
  let c0_i32_375 : BitVec 32 := 0#32
  let arg1 : BitVec 32 := BitVec.ofNat 32 (i 1).val
  let c16_i32_373 : BitVec 32 := 16#32
  let v1028 : BitVec 32 := Scalar.muli arg1 c16_i32_373
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c2_i32_371 : BitVec 32 := 2#32
  let v1026 : BitVec 32 := Scalar.addi v14 c2_i32_371
  let c1_i32_372 : BitVec 32 := 1#32
  let v1027 : BitVec 32 := Scalar.addi v1026 c1_i32_372
  let v1029 : BitVec 32 := Scalar.addi v1028 v1027
  let c4_i32_374 : BitVec 32 := 4#32
  let v1030 : BitVec 32 := Scalar.subi v1029 c4_i32_374
  let v1031 : BitVec 32 := Scalar.maxsi c0_i32_375 v1030
  let v1032 : BitVec 32 := Scalar.minsi c248_i32_376 v1031
  let c232_i32 : BitVec 32 := 232#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c232_i32 v11
  let v1035 : BitVec 32 := Scalar.subi v1032 v12
  let c64_i32_378 : BitVec 32 := 64#32
  let v1036 : BitVec 32 := Scalar.muli v1035 c64_i32_378
  v1036
def k0_mult10 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c2_i32_371 : BitVec 32 := 2#32
  let v1026 : BitVec 32 := Scalar.addi v14 c2_i32_371
  let c1_i32_372 : BitVec 32 := 1#32
  let v1027 : BitVec 32 := Scalar.addi v1026 c1_i32_372
  let c64_i32_379 : BitVec 32 := 64#32
  let v1038 : BitVec 32 := Scalar.muli v1027 c64_i32_379
  v1038
def k0_mult11 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c2_i32_399 : BitVec 32 := 2#32
  let v1083 : BitVec 32 := Scalar.addi v14 c2_i32_399
  let c64_i32_544 : BitVec 32 := 64#32
  let v1496 : BitVec 32 := Scalar.muli v1083 c64_i32_544
  v1496
def k0_mult12 (i : grid0.Coords) (k0_t2 : Fin k0_t2_loop.trips) : BitVec 32 :=
  let c248_i32_552 : BitVec 32 := 248#32
  let c0_i32_551 : BitVec 32 := 0#32
  let arg1 : BitVec 32 := BitVec.ofNat 32 (i 1).val
  let c16_i32_549 : BitVec 32 := 16#32
  let v1506 : BitVec 32 := Scalar.muli arg1 c16_i32_549
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c3_i32_547 : BitVec 32 := 3#32
  let v1504 : BitVec 32 := Scalar.addi v14 c3_i32_547
  let c1_i32_548 : BitVec 32 := 1#32
  let v1505 : BitVec 32 := Scalar.addi v1504 c1_i32_548
  let v1507 : BitVec 32 := Scalar.addi v1506 v1505
  let c4_i32_550 : BitVec 32 := 4#32
  let v1508 : BitVec 32 := Scalar.subi v1507 c4_i32_550
  let v1509 : BitVec 32 := Scalar.maxsi c0_i32_551 v1508
  let v1510 : BitVec 32 := Scalar.minsi c248_i32_552 v1509
  let c232_i32 : BitVec 32 := 232#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c232_i32 v11
  let v1513 : BitVec 32 := Scalar.subi v1510 v12
  let c64_i32_554 : BitVec 32 := 64#32
  let v1514 : BitVec 32 := Scalar.muli v1513 c64_i32_554
  v1514
def k0_mult13 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c3_i32_547 : BitVec 32 := 3#32
  let v1504 : BitVec 32 := Scalar.addi v14 c3_i32_547
  let c1_i32_548 : BitVec 32 := 1#32
  let v1505 : BitVec 32 := Scalar.addi v1504 c1_i32_548
  let c64_i32_555 : BitVec 32 := 64#32
  let v1516 : BitVec 32 := Scalar.muli v1505 c64_i32_555
  v1516
def k0_mult14 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c3_i32_575 : BitVec 32 := 3#32
  let v1561 : BitVec 32 := Scalar.addi v14 c3_i32_575
  let c64_i32_720 : BitVec 32 := 64#32
  let v1974 : BitVec 32 := Scalar.muli v1561 c64_i32_720
  v1974
def k0_mult15 (i : grid0.Coords) (k0_t2 : Fin k0_t2_loop.trips) : BitVec 32 :=
  let c248_i32_728 : BitVec 32 := 248#32
  let c0_i32_727 : BitVec 32 := 0#32
  let arg1 : BitVec 32 := BitVec.ofNat 32 (i 1).val
  let c16_i32_725 : BitVec 32 := 16#32
  let v1984 : BitVec 32 := Scalar.muli arg1 c16_i32_725
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c4_i32_723 : BitVec 32 := 4#32
  let v1982 : BitVec 32 := Scalar.addi v14 c4_i32_723
  let c1_i32_724 : BitVec 32 := 1#32
  let v1983 : BitVec 32 := Scalar.addi v1982 c1_i32_724
  let v1985 : BitVec 32 := Scalar.addi v1984 v1983
  let c4_i32_726 : BitVec 32 := 4#32
  let v1986 : BitVec 32 := Scalar.subi v1985 c4_i32_726
  let v1987 : BitVec 32 := Scalar.maxsi c0_i32_727 v1986
  let v1988 : BitVec 32 := Scalar.minsi c248_i32_728 v1987
  let c232_i32 : BitVec 32 := 232#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c232_i32 v11
  let v1991 : BitVec 32 := Scalar.subi v1988 v12
  let c64_i32_730 : BitVec 32 := 64#32
  let v1992 : BitVec 32 := Scalar.muli v1991 c64_i32_730
  v1992
def k0_mult16 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c4_i32_723 : BitVec 32 := 4#32
  let v1982 : BitVec 32 := Scalar.addi v14 c4_i32_723
  let c1_i32_724 : BitVec 32 := 1#32
  let v1983 : BitVec 32 := Scalar.addi v1982 c1_i32_724
  let c64_i32_731 : BitVec 32 := 64#32
  let v1994 : BitVec 32 := Scalar.muli v1983 c64_i32_731
  v1994
def k0_mult17 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c4_i32_751 : BitVec 32 := 4#32
  let v2039 : BitVec 32 := Scalar.addi v14 c4_i32_751
  let c64_i32_896 : BitVec 32 := 64#32
  let v2452 : BitVec 32 := Scalar.muli v2039 c64_i32_896
  v2452
def k0_mult18 (i : grid0.Coords) (k0_t2 : Fin k0_t2_loop.trips) : BitVec 32 :=
  let c248_i32_904 : BitVec 32 := 248#32
  let c0_i32_903 : BitVec 32 := 0#32
  let arg1 : BitVec 32 := BitVec.ofNat 32 (i 1).val
  let c16_i32_901 : BitVec 32 := 16#32
  let v2462 : BitVec 32 := Scalar.muli arg1 c16_i32_901
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c5_i32_899 : BitVec 32 := 5#32
  let v2460 : BitVec 32 := Scalar.addi v14 c5_i32_899
  let c1_i32_900 : BitVec 32 := 1#32
  let v2461 : BitVec 32 := Scalar.addi v2460 c1_i32_900
  let v2463 : BitVec 32 := Scalar.addi v2462 v2461
  let c4_i32_902 : BitVec 32 := 4#32
  let v2464 : BitVec 32 := Scalar.subi v2463 c4_i32_902
  let v2465 : BitVec 32 := Scalar.maxsi c0_i32_903 v2464
  let v2466 : BitVec 32 := Scalar.minsi c248_i32_904 v2465
  let c232_i32 : BitVec 32 := 232#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c232_i32 v11
  let v2469 : BitVec 32 := Scalar.subi v2466 v12
  let c64_i32_906 : BitVec 32 := 64#32
  let v2470 : BitVec 32 := Scalar.muli v2469 c64_i32_906
  v2470
def k0_mult19 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c5_i32_899 : BitVec 32 := 5#32
  let v2460 : BitVec 32 := Scalar.addi v14 c5_i32_899
  let c1_i32_900 : BitVec 32 := 1#32
  let v2461 : BitVec 32 := Scalar.addi v2460 c1_i32_900
  let c64_i32_907 : BitVec 32 := 64#32
  let v2472 : BitVec 32 := Scalar.muli v2461 c64_i32_907
  v2472
def k0_mult20 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c5_i32_927 : BitVec 32 := 5#32
  let v2517 : BitVec 32 := Scalar.addi v14 c5_i32_927
  let c64_i32_1072 : BitVec 32 := 64#32
  let v2930 : BitVec 32 := Scalar.muli v2517 c64_i32_1072
  v2930
def k0_mult21 (i : grid0.Coords) (k0_t2 : Fin k0_t2_loop.trips) : BitVec 32 :=
  let c248_i32_1080 : BitVec 32 := 248#32
  let c0_i32_1079 : BitVec 32 := 0#32
  let arg1 : BitVec 32 := BitVec.ofNat 32 (i 1).val
  let c16_i32_1077 : BitVec 32 := 16#32
  let v2940 : BitVec 32 := Scalar.muli arg1 c16_i32_1077
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c6_i32_1075 : BitVec 32 := 6#32
  let v2938 : BitVec 32 := Scalar.addi v14 c6_i32_1075
  let c1_i32_1076 : BitVec 32 := 1#32
  let v2939 : BitVec 32 := Scalar.addi v2938 c1_i32_1076
  let v2941 : BitVec 32 := Scalar.addi v2940 v2939
  let c4_i32_1078 : BitVec 32 := 4#32
  let v2942 : BitVec 32 := Scalar.subi v2941 c4_i32_1078
  let v2943 : BitVec 32 := Scalar.maxsi c0_i32_1079 v2942
  let v2944 : BitVec 32 := Scalar.minsi c248_i32_1080 v2943
  let c232_i32 : BitVec 32 := 232#32
  let c0_i32_2 : BitVec 32 := 0#32
  let c16_i32 : BitVec 32 := 16#32
  let v9 : BitVec 32 := Scalar.muli arg1 c16_i32
  let c4_i32 : BitVec 32 := 4#32
  let v10 : BitVec 32 := Scalar.subi v9 c4_i32
  let v11 : BitVec 32 := Scalar.maxsi c0_i32_2 v10
  let v12 : BitVec 32 := Scalar.minsi c232_i32 v11
  let v2947 : BitVec 32 := Scalar.subi v2944 v12
  let c64_i32_1082 : BitVec 32 := 64#32
  let v2948 : BitVec 32 := Scalar.muli v2947 c64_i32_1082
  v2948
def k0_mult22 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c6_i32_1075 : BitVec 32 := 6#32
  let v2938 : BitVec 32 := Scalar.addi v14 c6_i32_1075
  let c1_i32_1076 : BitVec 32 := 1#32
  let v2939 : BitVec 32 := Scalar.addi v2938 c1_i32_1076
  let c64_i32_1083 : BitVec 32 := 64#32
  let v2950 : BitVec 32 := Scalar.muli v2939 c64_i32_1083
  v2950
def k0_mult23 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c6_i32_1103 : BitVec 32 := 6#32
  let v2995 : BitVec 32 := Scalar.addi v14 c6_i32_1103
  let c64_i32_1248 : BitVec 32 := 64#32
  let v3408 : BitVec 32 := Scalar.muli v2995 c64_i32_1248
  v3408
def k0_mult24 (k0_t2 : Fin k0_t2_loop.trips) : BitVec 32 :=
  let c0_i32_3 : BitVec 32 := 0#32
  let c1_i32 : BitVec 32 := 1#32
  let arg8 : BitVec 32 := Scf.iv c0_i32_3 c1_i32 k0_t2
  let c8_i32 : BitVec 32 := 8#32
  let v14 : BitVec 32 := Scalar.muli arg8 c8_i32
  let c7_i32_1251 : BitVec 32 := 7#32
  let v3416 : BitVec 32 := Scalar.addi v14 c7_i32_1251
  let c64_i32_1396 : BitVec 32 := 64#32
  let v3829 : BitVec 32 := Scalar.muli v3416 c64_i32_1396
  v3829
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.subi v0 c4_i32
  let c0_i32 : BitVec 32 := 0#32
  let c232_i32 : BitVec 32 := 232#32
  let v2 : BitVec 32 := Scalar.maxsi c0_i32 v1
  let v3 : BitVec 32 := Scalar.minsi c232_i32 v2
  let c64_i32 : BitVec 32 := 64#32
  let v4 : BitVec 32 := Scalar.muli v3 c64_i32
  let c512_i32 : BitVec 32 := 512#32
  let c0_i32_0 : BitVec 32 := 0#32
  ![arg0.toNat, v4.toNat, c512_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.subi v0 c4_i32
  let c0_i32 : BitVec 32 := 0#32
  let c232_i32 : BitVec 32 := 232#32
  let v2 : BitVec 32 := Scalar.maxsi c0_i32 v1
  let v3 : BitVec 32 := Scalar.minsi c232_i32 v2
  let c64_i32 : BitVec 32 := 64#32
  let v4 : BitVec 32 := Scalar.muli v3 c64_i32
  let c1024_i32 : BitVec 32 := 1024#32
  let c0_i32_0 : BitVec 32 := 0#32
  ![arg0.toNat, v4.toNat, c1024_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S3720 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnSampleIdeal.lean ====
variable {F : FTy → Type} [FloatOps F] [Named F]
def κ : String → Option EReal := fun
  | "log2e" => some (((Real.log 2)⁻¹ : ℝ) : EReal)
  | "neg" => some ⊥
  | "qscale" => some ((8⁻¹ * (Real.log 2)⁻¹ : ℝ) : EReal)
  | _ => none
-- ==== AttnSampleReferenceIdeal.lean ====
abbrev S1x16384x1536 : Shape := ⟨3, ![1, 16384, 1536]⟩
abbrev S1x8x15x31 : Shape := ⟨4, ![1, 8, 15, 31]⟩
abbrev S8x15x31 : Shape := ⟨3, ![8, 15, 31]⟩
abbrev S1x16384x512 : Shape := ⟨3, ![1, 16384, 512]⟩
abbrev S1x256x64x8x64 : Shape := ⟨5, ![1, 256, 64, 8, 64]⟩
abbrev S256 : Shape := ⟨1, ![256]⟩
abbrev S_ : Shape := ⟨0, ![]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S256x8x1 : Shape := ⟨3, ![256, 8, 1]⟩
abbrev S1x256x8x64x8x64 : Shape := ⟨6, ![1, 256, 8, 64, 8, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S256x1x8x1 : Shape := ⟨4, ![256, 1, 8, 1]⟩
abbrev S1x64x1x64 : Shape := ⟨4, ![1, 64, 1, 64]⟩
abbrev S256x64x8x64 : Shape := ⟨4, ![256, 64, 8, 64]⟩
abbrev S256x64x8x64x1 : Shape := ⟨5, ![256, 64, 8, 64, 1]⟩
abbrev S256x64x8x64x2 : Shape := ⟨5, ![256, 64, 8, 64, 2]⟩
abbrev S8x256x64x8x64 : Shape := ⟨5, ![8, 256, 64, 8, 64]⟩
abbrev S256x8x64x8x64 : Shape := ⟨5, ![256, 8, 64, 8, 64]⟩
abbrev S64x1x64 : Shape := ⟨3, ![64, 1, 64]⟩
abbrev S1x256x8x64x512 : Shape := ⟨5, ![1, 256, 8, 64, 512]⟩
abbrev S1x256x8x64 : Shape := ⟨4, ![1, 256, 8, 64]⟩
abbrev S1x256x8x64x1 : Shape := ⟨5, ![1, 256, 8, 64, 1]⟩
abbrev S1x256x8x64x64 : Shape := ⟨5, ![1, 256, 8, 64, 64]⟩

abbrev nBuf : Space → Nat
  | .hbm => 148
  | .vmem => 0
  | .smem => 0
  | _ => 0

abbrev hbmTy0_0 (i : Nat) : BufTy := match i % 128 with
  | 0 => ⟨S1x16384x1536, .f32⟩
  | 1 => ⟨S1x8x15x31, .f32⟩
  | 2 => ⟨S8x15x31, .f32⟩
  | 3 => ⟨S1x16384x512, .f32⟩
  | 4 => ⟨S1x16384x512, .f32⟩
  | 5 => ⟨S1x16384x512, .f32⟩
  | 6 => ⟨S1x256x64x8x64, .f32⟩
  | 7 => ⟨S1x256x64x8x64, .f32⟩
  | 8 => ⟨S1x256x64x8x64, .f32⟩
  | 9 => ⟨S256, .i32⟩
  | 10 => ⟨S_, .i32⟩
  | 11 => ⟨S256, .i32⟩
  | 12 => ⟨S256, .i32⟩
  | 13 => ⟨S_, .i32⟩
  | 14 => ⟨S_, .i32⟩
  | 15 => ⟨S_, .i32⟩
  | 16 => ⟨S256, .i32⟩
  | 17 => ⟨S256, .i32⟩
  | 18 => ⟨S_, .i32⟩
  | 19 => ⟨S256, .i32⟩
  | 20 => ⟨S256, .i32⟩
  | 21 => ⟨S256x1, .i32⟩
  | 22 => ⟨S8, .i32⟩
  | 23 => ⟨S1x8, .i32⟩
  | 24 => ⟨S256x8, .i32⟩
  | 25 => ⟨S256x8, .i32⟩
  | 26 => ⟨S256x8, .i32⟩
  | 27 => ⟨S_, .i32⟩
  | 28 => ⟨S256x8, .i32⟩
  | 29 => ⟨S256x8, .i1⟩
  | 30 => ⟨S_, .i32⟩
  | 31 => ⟨S256x8, .i32⟩
  | 32 => ⟨S256x8, .i32⟩
  | 33 => ⟨S256x8, .i32⟩
  | 34 => ⟨S256x8x1, .i32⟩
  | 35 => ⟨S1x256x8x64x8x64, .f32⟩
  | 36 => ⟨S_, .i32⟩
  | 37 => ⟨S256x8, .i32⟩
  | 38 => ⟨S256x8, .i1⟩
  | 39 => ⟨S_, .i32⟩
  | 40 => ⟨S256x8, .i32⟩
  | 41 => ⟨S256x8, .i32⟩
  | 42 => ⟨S256x8, .i32⟩
  | 43 => ⟨S256x8x1, .i32⟩
  | 44 => ⟨S1x256x8x64x8x64, .f32⟩
  | 45 => ⟨S64, .i32⟩
  | 46 => ⟨S_, .i32⟩
  | 47 => ⟨S64, .i32⟩
  | 48 => ⟨S64, .i32⟩
  | 49 => ⟨S_, .i32⟩
  | 50 => ⟨S_, .i32⟩
  | 51 => ⟨S_, .i32⟩
  | 52 => ⟨S64, .i32⟩
  | 53 => ⟨S64, .i32⟩
  | 54 => ⟨S_, .i32⟩
  | 55 => ⟨S64, .i32⟩
  | 56 => ⟨S64, .i32⟩
  | 57 => ⟨S1x64, .i32⟩
  | 58 => ⟨S64x1, .i32⟩
  | 59 => ⟨S64x64, .i32⟩
  | 60 => ⟨S64x64, .i32⟩
  | 61 => ⟨S64x64, .i1⟩
  | 62 => ⟨S1x64, .i32⟩
  | 63 => ⟨S64x1, .i32⟩
  | 64 => ⟨S_, .i32⟩
  | 65 => ⟨S64x1, .i32⟩
  | 66 => ⟨S64x1, .i32⟩
  | 67 => ⟨S64x64, .i32⟩
  | 68 => ⟨S64x64, .i32⟩
  | 69 => ⟨S64x64, .i1⟩
  | 70 => ⟨S64x64, .i1⟩
  | 71 => ⟨S256x1, .i32⟩
  | 72 => ⟨S256x8, .i32⟩
  | 73 => ⟨S256x8, .i32⟩
  | 74 => ⟨S_, .i32⟩
  | 75 => ⟨S256x8, .i32⟩
  | 76 => ⟨S256x8, .i32⟩
  | 77 => ⟨S1x64, .i32⟩
  | 78 => ⟨S64x1, .i32⟩
  | 79 => ⟨S64x64, .i32⟩
  | 80 => ⟨S64x64, .i32⟩
  | 81 => ⟨S64x64, .i32⟩
  | 82 => ⟨S_, .i32⟩
  | 83 => ⟨S_, .i32⟩
  | 84 => ⟨S_, .i32⟩
  | 85 => ⟨S64x64, .i32⟩
  | 86 => ⟨S64x64, .i32⟩
  | 87 => ⟨S_, .i32⟩
  | 88 => ⟨S64x64, .i32⟩
  | 89 => ⟨S64x64, .i32⟩
  | 90 => ⟨S_, .i32⟩
  | 91 => ⟨S64x64, .i32⟩
  | 92 => ⟨S64x64, .i32⟩
  | 93 => ⟨S256x1x8x1, .i32⟩
  | 94 => ⟨S1x64x1x64, .i32⟩
  | 95 => ⟨S_, .i32⟩
  | 96 => ⟨S256x1x8x1, .i32⟩
  | 97 => ⟨S256x1x8x1, .i1⟩
  | 98 => ⟨S_, .i32⟩
  | 99 => ⟨S256x1x8x1, .i32⟩
  | 100 => ⟨S256x1x8x1, .i32⟩
  | 101 => ⟨S256x1x8x1, .i32⟩
  | 102 => ⟨S_, .i32⟩
  | 103 => ⟨S1x64x1x64, .i32⟩
  | 104 => ⟨S1x64x1x64, .i1⟩
  | 105 => ⟨S_, .i32⟩
  | 106 => ⟨S1x64x1x64, .i32⟩
  | 107 => ⟨S1x64x1x64, .i32⟩
  | 108 => ⟨S1x64x1x64, .i32⟩
  | 109 => ⟨S256x64x8x64, .i32⟩
  | 110 => ⟨S256x64x8x64, .i32⟩
  | 111 => ⟨S256x64x8x64x1, .i32⟩
  | 112 => ⟨S256x64x8x64x1, .i32⟩
  | 113 => ⟨S256x64x8x64x2, .i32⟩
  | 114 => ⟨S8x256x64x8x64, .f32⟩
  | 115 => ⟨S256x8x64x8x64, .f32⟩
  | 116 => ⟨S1x256x8x64x8x64, .f32⟩
  | 117 => ⟨S_, .f32⟩
  | 118 => ⟨S1x256x8x64x8x64, .f32⟩
  | 119 => ⟨S1x256x8x64x8x64, .f32⟩
  | 120 => ⟨S1x256x8x64x8x64, .f32⟩
  | 121 => ⟨S1x256x8x64x8x64, .f32⟩
  | 122 => ⟨S64x1x64, .i1⟩
  | 123 => ⟨S_, .f32⟩
  | 124 => ⟨S_, .f32⟩
  | 125 => ⟨S1x256x8x64x8x64, .i1⟩
  | 126 => ⟨S1x256x8x64x8x64, .f32⟩
  | 127 => ⟨S1x256x8x64x8x64, .f32⟩
  | _ => ⟨S1x16384x1536, .f32⟩

abbrev hbmTy0_1 (i : Nat) : BufTy := match i % 128 with
  | 0 => ⟨S1x256x8x64x512, .f32⟩
  | 1 => ⟨S_, .f32⟩
  | 2 => ⟨S1x256x8x64, .f32⟩
  | 3 => ⟨S_, .f32⟩
  | 4 => ⟨S1x256x8x64, .f32⟩
  | 5 => ⟨S1x256x8x64, .f32⟩
  | 6 => ⟨S1x256x8x64x1, .f32⟩
  | 7 => ⟨S1x256x8x64x512, .f32⟩
  | 8 => ⟨S1x256x8x64x512, .f32⟩
  | 9 => ⟨S1x256x8x64x512, .f32⟩
  | 10 => ⟨S_, .f32⟩
  | 11 => ⟨S1x256x8x64, .f32⟩
  | 12 => ⟨S1x256x8x64x1, .f32⟩
  | 13 => ⟨S1x256x8x64x512, .f32⟩
  | 14 => ⟨S1x256x8x64x512, .f32⟩
  | 15 => ⟨S1x256x8x64x8x64, .f32⟩
  | 16 => ⟨S1x256x8x64x64, .f32⟩
  | 17 => ⟨S1x256x64x8x64, .f32⟩
  | 18 => ⟨S1x16384x512, .f32⟩
  | 19 => ⟨S1x16384x512, .bf16⟩
  | _ => ⟨S1x16384x1536, .f32⟩

abbrev hbmTy (i : Nat) : BufTy := match i / 128 with
  | 0 => hbmTy0_0 i
  | 1 => hbmTy0_1 i
  | _ => ⟨S1x16384x1536, .f32⟩

abbrev bufTy : (tb : Table) → Fin (tcTables nBuf tb) → BufTy
  | .hbm, ⟨i, _⟩ => hbmTy i
  | _, _ => ⟨S1x16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_c_8 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_c_12 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_v58 : Ref sig .tc := ⟨.hbm, 89, rfl⟩
abbrev main_c_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_14 : Ref sig .tc := ⟨.hbm, 95, rfl⟩
abbrev main_v63 : Ref sig .tc := ⟨.hbm, 96, rfl⟩
abbrev main_v64 : Ref sig .tc := ⟨.hbm, 97, rfl⟩
abbrev main_c_15 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_16 : Ref sig .tc := ⟨.hbm, 102, rfl⟩
abbrev main_v68 : Ref sig .tc := ⟨.hbm, 103, rfl⟩
abbrev main_v69 : Ref sig .tc := ⟨.hbm, 104, rfl⟩
abbrev main_c_17 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_18 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_v86 : Ref sig .tc := ⟨.hbm, 127, rfl⟩
abbrev main_v87 : Ref sig .tc := ⟨.hbm, 128, rfl⟩
abbrev main_cst_19 : Ref sig .tc := ⟨.hbm, 129, rfl⟩
abbrev main_v88 : Ref sig .tc := ⟨.hbm, 130, rfl⟩
abbrev main_cst_20 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_21 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩

abbrev nD : Nat := 1
abbrev τ : Topo := Topo.v7x

variable {F : FTy → Type} [FloatOps F]
-- ==== Proof.Attn.Run.lean ====
/- The body of the attention call run at a grid point: at the first point (the bias tiles are built) and at a later one. -/
module

public import proofs.«01_k».proof.Proof.Gen.KernelIdeal.Frame.Runs

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The bias tiles the first loop leaves in the scratch: its sixty pieces tile the scratch. -/
theorem tiles_cover (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : cond0_0 i) (x0 : BufTy.Contents (Elt F) arg2.view.ty) (y : S60x64x128.Idx) :
    ∃ pc ∈ (pb_k0_t1 (F := F) Variants.none c none i arg2 harg2 arg3 harg3 arg4 harg4 arg5 harg5 arg6 harg6 arg7 harg7 hc0 x0 (Scf.trips k0_t1_loop.lb k0_t1_loop.ub k0_t1_loop.st)), y ∈ pc.1.set :=
  View.cover_of_tiledL (pb_k0_t1 (F := F) Variants.none c none i arg2 harg2 arg3 harg3 arg4 harg4 arg5 harg5 arg6 harg6 arg7 harg7 hc0 x0 (Scf.trips k0_t1_loop.lb k0_t1_loop.ub k0_t1_loop.st)) S1x64x128.size (by sl_kernel_rfl) y

/-- So what the scratch holds after the loop does not depend on what it held before. -/
theorem tiles_rebase (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : cond0_0 i) (x0 : BufTy.Contents (Elt F) arg2.view.ty) (f : BufTy.Contents (Elt F) arg7.view.ty) :
    arg7.view.writes (Elt F) f (pb_k0_t1 (F := F) Variants.none c none i arg2 harg2 arg3 harg3 arg4 harg4 arg5 harg5 arg6 harg6 arg7 harg7 hc0 x0 (Scf.trips k0_t1_loop.lb k0_t1_loop.ub k0_t1_loop.st))
      = harg7.unread (VS0_0.read (Elt F) (VS0_0.writes (Elt F) VS0_0.junk (pb_k0_t1 (F := F) Variants.none c none i arg2 harg2 arg3 harg3 arg4 harg4 arg5 harg5 arg6 harg6 arg7 harg7 hc0 x0 (Scf.trips k0_t1_loop.lb k0_t1_loop.ub k0_t1_loop.st)))) :=
  harg7.eq_unread (View.read_writes_of_cover _ _ _ _ _ (tiles_cover c i arg2 harg2 arg3 harg3 arg4 harg4 arg5 harg5 arg6 harg6 arg7 harg7 hc0 x0))

-- (the run's proof term is large: the definition's epilogue — `abstractNestedProofs` — walks it past the default budget)
set_option maxHeartbeats 1000000 in
/-- The body at the first point, run: the bias tiles are written over the whole scratch, then the rows of the block are
    computed from them. The pieces stored are found by the run. -/
noncomputable def runA (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : cond0_0 i)
    (x0 : Vec F S3720 .f32) (x1 : Vec F S1x1024x512 .bf16) (x2 : Vec F S1x1536x512 .bf16) (x3 : Vec F S1x1536x512 .bf16) :
    Σ' (L4 : List (View.Piece (Elt F) S1x1024x512 .bf16)), { LS0 : List (View.Piece (Elt F) S60x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0_nbr_attention i arg2 harg2 arg3 harg3 arg4 harg4 arg5 harg5 arg6 harg6 arg7 harg7) K } := by
  refine ⟨?_, pb_k0_t1 (F := F) Variants.none c none i arg2 harg2 arg3 harg3 arg4 harg4 arg5 harg5 arg6 harg6 arg7 harg7 hc0 (harg2.unread x0) (Scf.trips k0_t1_loop.lb k0_t1_loop.ub k0_t1_loop.st), fun E K => ?run⟩
  case run =>
    simp only [cc0_nbr_attention_eq_skeleton]; unfold cc0_nbr_attention_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    rw [tiles_rebase]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists arg7.view.junk; rw [tiles_rebase]; iexact HS0

-- (the run's proof term is large: the definition's epilogue — `abstractNestedProofs` — walks it past the default budget)
set_option maxHeartbeats 1000000 in
/-- The body at a later point, run: the scratch is only read. -/
noncomputable def runB (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : ¬cond0_0 i)
    (x0 : Vec F S3720 .f32) (x1 : Vec F S1x1024x512 .bf16) (x2 : Vec F S1x1536x512 .bf16) (x3 : Vec F S1x1536x512 .bf16) (xs0 : Vec F S60x64x128 .f32) :
    Σ' (L4 : List (View.Piece (Elt F) S1x1024x512 .bf16)), { LS0 : List (View.Piece (Elt F) S60x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc0_nbr_attention i arg2 harg2 arg3 harg3 arg4 harg4 arg5 harg5 arg6 harg6 arg7 harg7) K } := by
  refine ⟨?_, [], fun E K => ?run⟩
  case run =>
    simp only [cc0_nbr_attention_eq_skeleton]; unfold cc0_nbr_attention_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

end Cert.KernelIdeal.Attn

end
-- ==== Proof.Attn.Frame.lean ====
/- The frame of the attention call: launch set-up over the runs of `Attn.Run`. -/
module

public import proofs.«01_k».proof.Proof.Attn.Run
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Case A's pieces for output 4 tile its block (16 stores of `S1x64x512`, checked by the kernel's evaluation: Lib/Ring.lean `Piece.tiledL`, linear in the pieces, through a loop's `@[irreducible]` trip theorem too), so they cover it. -/
theorem cover0_A_4 (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : cond0_0 i)
    (x0 : Vec F S3720 .f32) (x1 : Vec F S1x1024x512 .bf16) (x2 : Vec F S1x1536x512 .bf16) (x3 : Vec F S1x1536x512 .bf16) (y : S1x1024x512.Idx) :
    ∃ pc ∈ (runA c i arg2 harg2 arg3 harg3 arg4 harg4 arg5 harg5 arg6 harg6 arg7 harg7 hc0 x0 x1 x2 x3).1, y ∈ pc.1.set :=
  View.cover_of_tiledL (runA c i arg2 harg2 arg3 harg3 arg4 harg4 arg5 harg5 arg6 harg6 arg7 harg7 hc0 x0 x1 x2 x3).1 S1x64x512.size (by sl_kernel_rfl) y

/-- What case A leaves in output 4's staging buffer: its pieces read back over junk. -/
def out0_A_4 (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : cond0_0 i)
    (x0 : Vec F S3720 .f32) (x1 : Vec F S1x1024x512 .bf16) (x2 : Vec F S1x1536x512 .bf16) (x3 : Vec F S1x1536x512 .bf16) : Vec F S1x1024x512 .bf16 :=
  VO0_4.read (Elt F) (VO0_4.writes (Elt F) VO0_4.junk (runA c i arg2 harg2 arg3 harg3 arg4 harg4 arg5 harg5 arg6 harg6 arg7 harg7 hc0 x0 x1 x2 x3).1)

/-- Case A's pieces for scratch `arg7`, which the kernel carries between points, cover it: 60 pieces of `S1x64x128` tiling it (Lib/Ring.lean `Piece.tiledL`). -/
theorem scover0_A_0 (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : cond0_0 i)
    (x0 : Vec F S3720 .f32) (x1 : Vec F S1x1024x512 .bf16) (x2 : Vec F S1x1536x512 .bf16) (x3 : Vec F S1x1536x512 .bf16) (y : S60x64x128.Idx) :
    ∃ pc ∈ (runA c i arg2 harg2 arg3 harg3 arg4 harg4 arg5 harg5 arg6 harg6 arg7 harg7 hc0 x0 x1 x2 x3).2.1, y ∈ pc.1.set :=
  View.cover_of_tiledL (runA c i arg2 harg2 arg3 harg3 arg4 harg4 arg5 harg5 arg6 harg6 arg7 harg7 hc0 x0 x1 x2 x3).2.1 S1x64x128.size (by sl_kernel_rfl) y

/-- What case A leaves in scratch `arg7`: its pieces read back over junk. -/
def sout0_A_0 (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : cond0_0 i)
    (x0 : Vec F S3720 .f32) (x1 : Vec F S1x1024x512 .bf16) (x2 : Vec F S1x1536x512 .bf16) (x3 : Vec F S1x1536x512 .bf16) : Vec F S60x64x128 .f32 :=
  VS0_0.read (Elt F) (VS0_0.writes (Elt F) VS0_0.junk (runA c i arg2 harg2 arg3 harg3 arg4 harg4 arg5 harg5 arg6 harg6 arg7 harg7 hc0 x0 x1 x2 x3).2.1)

/-- Case B's pieces for output 4 tile its block (16 stores of `S1x64x512`, checked by the kernel's evaluation: Lib/Ring.lean `Piece.tiledL`, linear in the pieces, through a loop's `@[irreducible]` trip theorem too), so they cover it. -/
theorem cover0_B_4 (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : ¬cond0_0 i)
    (x0 : Vec F S3720 .f32) (x1 : Vec F S1x1024x512 .bf16) (x2 : Vec F S1x1536x512 .bf16) (x3 : Vec F S1x1536x512 .bf16) (xs0 : Vec F S60x64x128 .f32) (y : S1x1024x512.Idx) :
    ∃ pc ∈ (runB c i arg2 harg2 arg3 harg3 arg4 harg4 arg5 harg5 arg6 harg6 arg7 harg7 hc0 x0 x1 x2 x3 xs0).1, y ∈ pc.1.set :=
  View.cover_of_tiledL (runB c i arg2 harg2 arg3 harg3 arg4 harg4 arg5 harg5 arg6 harg6 arg7 harg7 hc0 x0 x1 x2 x3 xs0).1 S1x64x512.size (by sl_kernel_rfl) y

/-- What case B leaves in output 4's staging buffer: its pieces read back over junk. -/
def out0_B_4 (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : ¬cond0_0 i)
    (x0 : Vec F S3720 .f32) (x1 : Vec F S1x1024x512 .bf16) (x2 : Vec F S1x1536x512 .bf16) (x3 : Vec F S1x1536x512 .bf16) (xs0 : Vec F S60x64x128 .f32) : Vec F S1x1024x512 .bf16 :=
  VO0_4.read (Elt F) (VO0_4.writes (Elt F) VO0_4.junk (runB c i arg2 harg2 arg3 harg3 arg4 harg4 arg5 harg5 arg6 harg6 arg7 harg7 hc0 x0 x1 x2 x3 xs0).1)

/-- Case B stores nothing into scratch `arg7`: it holds what the point before left. -/
def sout0_B_0 (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : ¬cond0_0 i)
    (x0 : Vec F S3720 .f32) (x1 : Vec F S1x1024x512 .bf16) (x2 : Vec F S1x1536x512 .bf16) (x3 : Vec F S1x1536x512 .bf16) (xs0 : Vec F S60x64x128 .f32) : Vec F S60x64x128 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1024x512 .bf16 × Vec F S60x64x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 16 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at a point of case A: that case's contents. -/
theorem outsAt0_A (c : Dev nD) (t : Fin cfg0.N) (h0 : t.val % 16 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outsAt0_A m c t h0]
      unfold out0_A_4 sout0_A_0; (try dsimp only)
      iintro ⟨⟨HS0, Hg⟩, Ho, ⟨%d0, H0⟩, ⟨%d1, H1⟩, ⟨%d2, H2⟩, ⟨%d3, H3⟩, ⟨%d4, H4⟩⟩
      iapply ((runA c (grid0.coords t) _ _ _ _ _ _ _ _ _ _ _ _ ((hcond0_0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold out0_B_4 sout0_B_0; (try dsimp only)
      iintro ⟨⟨HS0, Hg⟩, Ho, ⟨%d0, H0⟩, ⟨%d1, H1⟩, ⟨%d2, H2⟩, ⟨%d3, H3⟩, ⟨%d4, H4⟩⟩
      iapply ((runB c (grid0.coords t) _ _ _ _ _ _ _ _ _ _ _ _ (fun h => h0 ((hcond0_0 t).mp h)) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Attn

end
-- ==== Proof.Attn.Row.lean ====
/- One row of the attention block as a function of what it loads: the scores of a head pair, their probabilities, the
   weighted values, and the four pairs side by side. The pieces one trip of the row loop stores are these. -/
module

public import proofs.«01_k».proof.Proof.Attn.Frame

@[expose] public section

set_option maxRecDepth 16384

noncomputable section

namespace Cert.KernelIdeal.Attn

open Cert.KernelIdeal Cert.KernelIdeal.Gen Idealize.ShloMosaic Idealize.ShloMosaic.TcCoe Idealize.ShloMosaic.Tactic

variable {F : FTy → Type} [FloatOps F] [Named F]

/-- The scores of a head pair against the 512 keys of the row's window: lanes below 64 are the first head's queries. -/
def scoreT (q : FVec F S64x128 .bf16) (kv : Vec F S1x512x128 .bf16) : FVec F S512x128 .f32 :=
  matmul dot_S512x128_S128x128_S512x128_1_1_0_0_n_n none (shapeCast S512x128 kv shapeCasts_S1x512x128_S512x128)
    (concatenate S128x128 0 [⟨S64x128, select k0_pay6 q (broadcast S64x128 (Scalar.ofBits .bf16 0x0000#16 : F .bf16))⟩,
      ⟨S64x128, select k0_pay6 (broadcast S64x128 (Scalar.ofBits .bf16 0x0000#16 : F .bf16)) q⟩]
      concatenates_S64x128_S64x128_S128x128_d0) (constant S512x128 .f32 0x00000000#32)

/-- The scores of the keys of one row of the window. -/
def stRow (st : FVec F S512x128 .f32) : Fin 8 → FVec F S64x128 .f32 := fun c => match c with
  | 0 => extractStridedSlice S64x128 ![0, 0] st slices_S512x128_o0_0_S64x128
  | 1 => extractStridedSlice S64x128 ![64, 0] st slices_S512x128_o64_0_S64x128
  | 2 => extractStridedSlice S64x128 ![128, 0] st slices_S512x128_o128_0_S64x128
  | 3 => extractStridedSlice S64x128 ![192, 0] st slices_S512x128_o192_0_S64x128
  | 4 => extractStridedSlice S64x128 ![256, 0] st slices_S512x128_o256_0_S64x128
  | 5 => extractStridedSlice S64x128 ![320, 0] st slices_S512x128_o320_0_S64x128
  | 6 => extractStridedSlice S64x128 ![384, 0] st slices_S512x128_o384_0_S64x128
  | 7 => extractStridedSlice S64x128 ![448, 0] st slices_S512x128_o448_0_S64x128

/-- The biased scores of one row of the window. -/
def biased (st : FVec F S512x128 .f32) (tt : Fin 8 → Vec F S1x64x128 .f32) (c : Fin 8) : FVec F S64x128 .f32 :=
  addf (stRow st c) (shapeCast S64x128 (tt c) shapeCasts_S1x64x128_S64x128)

/-- The greatest biased score of every lane, as a row. -/
def laneMax (e : Fin 8 → FVec F S64x128 .f32) : FVec F S1x128 .f32 :=
  shapeCast S1x128 (multiReduction .maximumf [0] S128
    (maximumf (maximumf (maximumf (maximumf (maximumf (maximumf (maximumf (e 0) (e 1)) (e 2)) (e 3)) (e 4)) (e 5)) (e 6)) (e 7))
    0xFF800000#32 reduces_S64x128_S128 (.inl rfl) rfl) shapeCasts_S128_S1x128

/-- The exponentials of one row of the window. -/
def expRow (e : Fin 8 → FVec F S64x128 .f32) (c : Fin 8) : FVec F S64x128 .f32 :=
  exp2 (subf (e c) (broadcastTo S64x128 (laneMax e) broadcasts_S1x128_S64x128))

/-- The exponentials of all 512 keys, a query per row. -/
def expAll (e : Fin 8 → FVec F S64x128 .f32) : FVec F S128x512 .bf16 :=
  transpose S128x512 [1, 0] (truncf .bf16 (concatenate S512x128 0 [⟨S64x128, expRow e 0⟩, ⟨S64x128, expRow e 1⟩, ⟨S64x128, expRow e 2⟩,
    ⟨S64x128, expRow e 3⟩, ⟨S64x128, expRow e 4⟩, ⟨S64x128, expRow e 5⟩, ⟨S64x128, expRow e 6⟩, ⟨S64x128, expRow e 7⟩]
    concatenates_S64x128_S64x128_S64x128_S64x128_S64x128_S64x128_S64x128_S64x128_S512x128_d0) bitsLt_bf16_f32) transposes_S512x128_p1_0_S128x512

/-- The weighted values beside the sum of the weights. -/
def sums (pm : FVec F S128x512 .bf16) (vv : Vec F S1x512x128 .bf16) : FVec F S128x256 .f32 :=
  matmul dot_S128x512_S512x256_S128x256_1_0_0_1_n_n none pm
    (concatenate S512x256 1 [⟨S512x128, shapeCast S512x128 vv shapeCasts_S1x512x128_S512x128⟩, ⟨S512x128, k0_pay7⟩]
      concatenates_S512x128_S512x128_S512x256_d1) (constant S128x256 .f32 0x00000000#32)

/-- The quotient of the two. -/
def quot (pm : FVec F S128x512 .bf16) (vv : Vec F S1x512x128 .bf16) : FVec F S128x128 .f32 :=
  divf (extractStridedSlice S128x128 ![0, 0] (sums pm vv) slices_S128x256_o0_0_S128x128)
    (extractStridedSlice S128x128 ![0, 128] (sums pm vv) slices_S128x256_o0_128_S128x128)

/-- A head pair's result: each head's columns from its own queries. -/
def pairOut (q : FVec F S64x128 .bf16) (kv vv : Vec F S1x512x128 .bf16) (tt : Fin 8 → Vec F S1x64x128 .f32) : FVec F S64x128 .f32 :=
  select k0_pay6 (extractStridedSlice S64x128 ![0, 0] (quot (expAll (biased (scoreT q kv) tt)) vv) slices_S128x128_o0_0_S64x128)
    (extractStridedSlice S64x128 ![64, 0] (quot (expAll (biased (scoreT q kv) tt)) vv) slices_S128x128_o64_0_S64x128)

/-- The row's queries, scaled. -/
def qScaled (q : Vec F S1x64x512 .bf16) : FVec F S64x512 .bf16 :=
  truncf .bf16 (mulf (extf .f32 (shapeCast S64x512 q shapeCasts_S1x64x512_S64x512) bitsLt_bf16_f32)
    (broadcast S64x512 (Named.named κ "qscale" 0x3E38AA3B#32 : F .f32))) bitsLt_bf16_f32

/-- A head pair's columns of the row's scaled queries. -/
def qPair (q : Vec F S1x64x512 .bf16) : Fin 4 → FVec F S64x128 .bf16 := fun p => match p with
  | 0 => extractStridedSlice S64x128 ![0, 0] (qScaled q) slices_S64x512_o0_0_S64x128
  | 1 => extractStridedSlice S64x128 ![0, 128] (qScaled q) slices_S64x512_o0_128_S64x128
  | 2 => extractStridedSlice S64x128 ![0, 256] (qScaled q) slices_S64x512_o0_256_S64x128
  | 3 => extractStridedSlice S64x128 ![0, 384] (qScaled q) slices_S64x512_o0_384_S64x128

/-- A row of the block: its four head pairs side by side. -/
def rowOut (q : Vec F S1x64x512 .bf16) (kv vv : Fin 4 → Vec F S1x512x128 .bf16) (tt : Fin 4 → Fin 8 → Vec F S1x64x128 .f32) : FVec F S1x64x512 .bf16 :=
  shapeCast S1x64x512 (truncf .bf16 (concatenate S64x512 1 [⟨S64x128, pairOut (qPair q 0) (kv 0) (vv 0) (tt 0)⟩,
    ⟨S64x128, pairOut (qPair q 1) (kv 1) (vv 1) (tt 1)⟩, ⟨S64x128, pairOut (qPair q 2) (kv 2) (vv 2) (tt 2)⟩,
    ⟨S64x128, pairOut (qPair q 3) (kv 3) (vv 3) (tt 3)⟩] concatenates_S64x128_S64x128_S64x128_S64x128_S64x512_d1) bitsLt_bf16_f32)
    shapeCasts_S64x512_S1x64x512

/-! ## What a row loads -/

section Loads

variable (i : grid0.Coords) (k : Fin k0_t2_loop.trips)

/-- The first row's queries. -/
abbrev qA (M : Memref sig .tc .vmem S1x1024x512 .bf16) (X : BufTy.Contents (Elt F) M.view.ty) : Vec F S1x64x512 .bf16 :=
  View.readAt (Elt F) M.view (Rect.unit (s := S1x1024x512) (k0_off4 k) S1x64x512.size (k0_off4_inb k)).toLoadRect X
/-- The queries of row `r + 1`. -/
abbrev qB (r : Fin 7) (M : Memref sig .tc .vmem S1x1024x512 .bf16) (X : BufTy.Contents (Elt F) M.view.ty) : Vec F S1x64x512 .bf16 :=
  View.readAt (Elt F) M.view (Rect.unit (s := S1x1024x512) (k0_off9 k (BitVec.ofNat 32 r.val)) S1x64x512.size (k0_off9_inb k r)).toLoadRect X
/-- The first row's keys, or values, of each head pair. -/
abbrev kA (M : Memref sig .tc .vmem S1x1536x512 .bf16) (X : BufTy.Contents (Elt F) M.view.ty) : Fin 4 → Vec F S1x512x128 .bf16 := fun p => match p with
  | 0 => View.readAt (Elt F) M.view (Rect.unit (s := S1x1536x512) (k0_off5 i k) S1x512x128.size (k0_off5_inb i k)).toLoadRect X
  | 1 => View.readAt (Elt F) M.view (Rect.unit (s := S1x1536x512) (k0_off6 i k) S1x512x128.size (k0_off6_inb i k)).toLoadRect X
  | 2 => View.readAt (Elt F) M.view (Rect.unit (s := S1x1536x512) (k0_off7 i k) S1x512x128.size (k0_off7_inb i k)).toLoadRect X
  | 3 => View.readAt (Elt F) M.view (Rect.unit (s := S1x1536x512) (k0_off8 i k) S1x512x128.size (k0_off8_inb i k)).toLoadRect X
/-- The keys, or values, of row `r + 1`. -/
abbrev kB (r : Fin 7) (M : Memref sig .tc .vmem S1x1536x512 .bf16) (X : BufTy.Contents (Elt F) M.view.ty) : Fin 4 → Vec F S1x512x128 .bf16 := fun p => match p with
  | 0 => View.readAt (Elt F) M.view (Rect.unit (s := S1x1536x512) (k0_off10 i k (BitVec.ofNat 32 r.val)) S1x512x128.size (k0_off10_inb i k r)).toLoadRect X
  | 1 => View.readAt (Elt F) M.view (Rect.unit (s := S1x1536x512) (k0_off11 i k (BitVec.ofNat 32 r.val)) S1x512x128.size (k0_off11_inb i k r)).toLoadRect X
  | 2 => View.readAt (Elt F) M.view (Rect.unit (s := S1x1536x512) (k0_off12 i k (BitVec.ofNat 32 r.val)) S1x512x128.size (k0_off12_inb i k r)).toLoadRect X
  | 3 => View.readAt (Elt F) M.view (Rect.unit (s := S1x1536x512) (k0_off13 i k (BitVec.ofNat 32 r.val)) S1x512x128.size (k0_off13_inb i k r)).toLoadRect X
/-- The first row's bias tiles. -/
abbrev tA (M : Memref sig .tc .vmem S60x64x128 .f32) (X : BufTy.Contents (Elt F) M.view.ty) (p : Fin 4) (c : Fin 8) : Vec F S1x64x128 .f32 :=
  View.readAt (Elt F) M.view (Rect.unit (s := S60x64x128) (k0_off14 i k (BitVec.ofNat 32 (15 * p.val)) (BitVec.ofNat 32 c.val)) S1x64x128.size (k0_off14_inb i k p c)).toLoadRect X
/-- The bias tiles of row `r + 1`. -/
abbrev tB (r : Fin 7) (M : Memref sig .tc .vmem S60x64x128 .f32) (X : BufTy.Contents (Elt F) M.view.ty) (p : Fin 4) (c : Fin 8) : Vec F S1x64x128 .f32 :=
  View.readAt (Elt F) M.view (Rect.unit (s := S60x64x128) (k0_off16 i k (BitVec.ofNat 32 (15 * p.val)) (BitVec.ofNat 32 r.val) (BitVec.ofNat 32 c.val)) S1x64x128.size (k0_off16_inb i k p r c)).toLoadRect X

variable (arg3 : Memref sig .tc .vmem S1x1024x512 .bf16) (arg4 arg5 : Memref sig .tc .vmem S1x1536x512 .bf16) (arg7 : Memref sig .tc .vmem S60x64x128 .f32)
  (X3 : BufTy.Contents (Elt F) arg3.view.ty) (X4 : BufTy.Contents (Elt F) arg4.view.ty) (X5 : BufTy.Contents (Elt F) arg5.view.ty) (X7 : BufTy.Contents (Elt F) arg7.view.ty)

/-- The first row's piece. -/
def pieceA : View.Piece (Elt F) S1x1024x512 .bf16 :=
  ⟨Rect.unit (s := S1x1024x512) (k0_off15 k 0#32) S1x64x512.size (k0_off15_inb k 0), rowOut (qA k arg3 X3) (kA i k arg4 X4) (kA i k arg5 X5) (tA i k arg7 X7)⟩
/-- The piece of row `r + 1`. -/
def pieceB (r : Fin 7) : View.Piece (Elt F) S1x1024x512 .bf16 :=
  ⟨Rect.unit (s := S1x1024x512) (k0_off15 k (BitVec.ofNat 32 (r.val + 1))) S1x64x512.size (k0_off15_inb k r.succ),
    rowOut (qB k r arg3 X3) (kB i k r arg4 X4) (kB i k r arg5 X5) (tB i k r arg7 X7)⟩

end Loads

/-- What one trip of the row loop stores. -/
theorem trip_rows (𝒱 : Variants) (c : Dev nD) (bd : Option 𝒱.V) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (arg1 : BitVec 32) (v12 : BitVec 32) (X3 : BufTy.Contents (Elt F) arg3.view.ty) (X4 : BufTy.Contents (Elt F) arg4.view.ty) (X5 : BufTy.Contents (Elt F) arg5.view.ty) (X7 : BufTy.Contents (Elt F) arg7.view.ty) (k : Fin k0_t2_loop.trips) :
    tripL_k0_t2 (F := F) 𝒱 c bd i arg2 harg2 arg3 harg3 arg4 harg4 arg5 harg5 arg6 harg6 arg7 harg7 arg1 v12 X3 X4 X5 X7 k
      = [pieceB i k arg3 arg4 arg5 arg7 X3 X4 X5 X7 6, pieceB i k arg3 arg4 arg5 arg7 X3 X4 X5 X7 5, pieceB i k arg3 arg4 arg5 arg7 X3 X4 X5 X7 4,
         pieceB i k arg3 arg4 arg5 arg7 X3 X4 X5 X7 3, pieceB i k arg3 arg4 arg5 arg7 X3 X4 X5 X7 2, pieceB i k arg3 arg4 arg5 arg7 X3 X4 X5 X7 1,
         pieceB i k arg3 arg4 arg5 arg7 X3 X4 X5 X7 0, pieceA i k arg3 arg4 arg5 arg7 X3 X4 X5 X7] := by
  sl_kernel_rfl

end Cert.KernelIdeal.Attn

end
-- ==== Proof.Attn.RowValue.lean ====
/- One row of the attention block at the extended reals, element by element: a quotient of two sums over the 512 keys of
   the row's window, of powers of two of the biased scores less their greatest. -/
module

public import proofs.«01_k».proof.Proof.Attn.Row
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.ShloMosaic.Tactic

/-- The base-two softmax of `e` applied to `v`: one quotient of two sums. -/
def soft2 (e v : Fin 512 → EReal) : EReal :=
  Ideal.div (∑ j, Ideal.exp2 (e j - Finset.univ.sup e) * v j) (∑ j, Ideal.exp2 (e j - Finset.univ.sup e))

/-- The scale of the queries, an eighth over the logarithm of two. -/
abbrev qs : EReal := (Named.named κ "qscale" 0x3E38AA3B#32 : Ideal .f32)

/-- The biased score of key `j` for query `qc` of head `hd` of pair `p`. -/
def rowScore (q : Vec Ideal S1x64x512 .bf16) (kv : Fin 4 → Vec Ideal S1x512x128 .bf16) (tt : Fin 4 → Fin 8 → Vec Ideal S1x64x128 .f32)
    (p : Fin 4) (hd : Fin 2) (qc : Fin 64) (j : Fin 512) : EReal :=
  (∑ d : Fin 64, kv p (ix3 0 j ⟨64 * hd.val + d.val, by omega⟩) * (q (ix3 0 qc ⟨128 * p.val + (64 * hd.val + d.val), by omega⟩) * qs))
    + tt p ⟨j.val / 64, by omega⟩ (ix3 0 ⟨j.val % 64, by omega⟩ ⟨64 * hd.val + qc.val, by omega⟩)

/-- The lanes below 64, as a bit. -/
theorem lane_lt (x : Fin 128) : IntOp.cmpi .slt (BitVec.ofNat 32 x.val) 64#32 = if x.val < 64 then 1#1 else 0#1 := by
  revert x; decide +kernel

/-- The scores of one head of a pair: the lanes of the other head contribute zero. -/
theorem scoreT_apply (q : FVec Ideal S64x128 .bf16) (kv : Vec Ideal S1x512x128 .bf16) (key : Fin 512) (hd : Fin 2) (qc : Fin 64) :
    scoreT q kv (ix2 key ⟨64 * hd.val + qc.val, by omega⟩)
      = ∑ d : Fin 64, kv (ix3 0 key ⟨64 * hd.val + d.val, by omega⟩) * q (ix2 qc ⟨64 * hd.val + d.val, by omega⟩) := by
  pointwise [scoreT, k0_pay6]
  simp only [lane_lt]
  rw [Fin.sum_univ_two_halves 64 64 rfl]
  match hd with
  | 0 =>
    have h : 64 * (0 : Fin 2).val + qc.val < 64 := by simp
    simp only [h, dite_true]
    have h2 : ∀ d : Fin 64, ¬ (64 + d.val < 64) := fun d => by omega
    simp [h2, Scalar.select]
  | 1 =>
    have h : ¬ 64 * (1 : Fin 2).val + qc.val < 64 := by simp
    simp only [h, dite_false]
    have h2 : ∀ d : Fin 64, ¬ (64 + d.val < 64) := fun d => by omega
    simp [h2, Scalar.select]

/-- The biased scores of the keys of row `c` of the window. -/
theorem biased_apply (st : FVec Ideal S512x128 .f32) (tt : Fin 8 → Vec Ideal S1x64x128 .f32) (c : Fin 8) (kc : Fin 64) (r : Fin 128) :
    biased st tt c (ix2 kc r) = st (ix2 ⟨64 * c.val + kc.val, by omega⟩ r) + tt c (ix3 0 kc r) := by
  fin_cases c <;> pointwise [biased, stRow] <;> simp

/-- The greatest biased score of a lane. -/
theorem laneMax_apply (e : Fin 8 → FVec Ideal S64x128 .f32) (r : Fin 128) :
    laneMax e (ix2 0 r) = Finset.univ.sup fun j : Fin 512 => e ⟨j.val / 64, by omega⟩ (ix2 ⟨j.val % 64, by omega⟩ r) := by
  pointwise [laneMax]
  have hb : Ideal.ofBits FTy.f32 4286578688#32 = (⊥ : EReal) := by
    simp [Ideal.ofBits, Ideal.ieee]
  rw [hb]
  show Finset.univ.sup _ = _
  apply le_antisymm
  · refine Finset.sup_le fun x _ => ?_
    have key : ∀ c : Fin 8, e c (ix2 x r) ≤ Finset.univ.sup fun j : Fin 512 => e ⟨j.val / 64, by omega⟩ (ix2 ⟨j.val % 64, by omega⟩ r) := fun c => by
      refine le_trans (le_of_eq ?_) (Finset.le_sup (f := fun j : Fin 512 => e ⟨j.val / 64, by omega⟩ (ix2 ⟨j.val % 64, by omega⟩ r))
        (Finset.mem_univ (⟨64 * c.val + x.val, by omega⟩ : Fin 512)))
      have h1 : (⟨(64 * c.val + x.val) / 64, by omega⟩ : Fin 8) = c := Fin.ext (by simp only; omega)
      have h2 : (⟨(64 * c.val + x.val) % 64, by omega⟩ : Fin 64) = x := Fin.ext (by simp only; omega)
      simp only [h1, h2]
    simp only [max_le_iff]
    exact ⟨⟨⟨⟨⟨⟨⟨key 0, key 1⟩, key 2⟩, key 3⟩, key 4⟩, key 5⟩, key 6⟩, key 7⟩
  · refine Finset.sup_le fun j _ => ?_
    refine le_trans ?_ (Finset.le_sup (Finset.mem_univ (⟨j.val % 64, by omega⟩ : Fin 64)))
    generalize (⟨j.val / 64, by omega⟩ : Fin 8) = c
    fin_cases c <;> simp [le_max_iff]

/-- The exponentials of a lane. -/
theorem expAll_apply (e : Fin 8 → FVec Ideal S64x128 .f32) (r : Fin 128) (j : Fin 512) :
    expAll e (ix2 r j) = Ideal.exp2 (e ⟨j.val / 64, by omega⟩ (ix2 ⟨j.val % 64, by omega⟩ r)
      - Finset.univ.sup fun j : Fin 512 => e ⟨j.val / 64, by omega⟩ (ix2 ⟨j.val % 64, by omega⟩ r)) := by
  have hr : ∀ (c : Fin 8) (k : Fin 64), expRow e c (ix2 k r) = Ideal.exp2 (e c (ix2 k r)
      - Finset.univ.sup fun j : Fin 512 => e ⟨j.val / 64, by omega⟩ (ix2 ⟨j.val % 64, by omega⟩ r)) := fun c k => by
    rw [← laneMax_apply]; pointwise [expRow]; rfl
  rw [← hr]
  have hc : ∀ (c c' : Fin 8) (k k' : Fin 64), c = c' → k = k' → expRow e c (ix2 k r) = expRow e c' (ix2 k' r) := by
    rintro _ _ _ _ rfl rfl; rfl
  pointwise [expAll]
  have hj := j.isLt
  split_ifs <;> refine hc _ _ _ _ (Fin.ext ?_) (Fin.ext ?_) <;> simp only [Fin.val_zero, Fin.val_one, Fin.val_ofNat] <;> omega

/-- A head pair's result. -/
theorem pairOut_apply (q : FVec Ideal S64x128 .bf16) (kv vv : Vec Ideal S1x512x128 .bf16) (tt : Fin 8 → Vec Ideal S1x64x128 .f32)
    (qc : Fin 64) (hd : Fin 2) (d : Fin 64) :
    pairOut q kv vv tt (ix2 qc ⟨64 * hd.val + d.val, by omega⟩)
      = soft2 (fun j => (∑ d : Fin 64, kv (ix3 0 j ⟨64 * hd.val + d.val, by omega⟩) * q (ix2 qc ⟨64 * hd.val + d.val, by omega⟩))
          + tt ⟨j.val / 64, by omega⟩ (ix3 0 ⟨j.val % 64, by omega⟩ ⟨64 * hd.val + qc.val, by omega⟩))
        (fun j => vv (ix3 0 j ⟨64 * hd.val + d.val, by omega⟩)) := by
  have hq : ∀ r l : Fin 128, quot (expAll (biased (scoreT q kv) tt)) vv (ix2 r l)
      = Ideal.div (∑ j, expAll (biased (scoreT q kv) tt) (ix2 r j) * vv (ix3 0 j l)) (∑ j, expAll (biased (scoreT q kv) tt) (ix2 r j)) := fun r l => by
    pointwise [quot, sums, k0_pay7]
  have hs : ∀ j : Fin 512, biased (scoreT q kv) tt ⟨j.val / 64, by omega⟩ (ix2 ⟨j.val % 64, by omega⟩ ⟨64 * hd.val + qc.val, by omega⟩)
      = (∑ d : Fin 64, kv (ix3 0 j ⟨64 * hd.val + d.val, by omega⟩) * q (ix2 qc ⟨64 * hd.val + d.val, by omega⟩))
          + tt ⟨j.val / 64, by omega⟩ (ix3 0 ⟨j.val % 64, by omega⟩ ⟨64 * hd.val + qc.val, by omega⟩) := fun j => by
    have hj : (⟨64 * (j.val / 64) + j.val % 64, by omega⟩ : Fin 512) = j := Fin.ext (by simp only; omega)
    rw [biased_apply]
    simp only [hj]
    rw [scoreT_apply]
  have hl : ∀ l : Fin 128, pairOut q kv vv tt (ix2 qc l)
      = Scalar.select (if l.val < 64 then 1#1 else 0#1) (quot (expAll (biased (scoreT q kv) tt)) vv (ix2 ⟨qc.val, by omega⟩ l))
        (quot (expAll (biased (scoreT q kv) tt)) vv (ix2 ⟨64 + qc.val, by omega⟩ l)) := fun l => by
    rw [← lane_lt]
    pointwise [pairOut, k0_pay6]
  have hsel : pairOut q kv vv tt (ix2 qc ⟨64 * hd.val + d.val, by omega⟩)
      = quot (expAll (biased (scoreT q kv) tt)) vv (ix2 ⟨64 * hd.val + qc.val, by omega⟩ ⟨64 * hd.val + d.val, by omega⟩) := by
    rw [hl]
    match hd with
    | 0 => rw [if_pos (by simp)]; simp [Scalar.select]
    | 1 => rw [if_neg (by simp)]; simp [Scalar.select]
  rw [hsel, hq]
  simp only [expAll_apply, hs]
  rfl

/-- A row of the block, element by element. -/
theorem rowOut_apply (q : Vec Ideal S1x64x512 .bf16) (kv vv : Fin 4 → Vec Ideal S1x512x128 .bf16) (tt : Fin 4 → Fin 8 → Vec Ideal S1x64x128 .f32)
    (qc : Fin 64) (p : Fin 4) (hd : Fin 2) (d : Fin 64) :
    rowOut q kv vv tt (ix3 0 qc ⟨128 * p.val + (64 * hd.val + d.val), by omega⟩)
      = soft2 (rowScore q kv tt p hd qc) (fun j => vv p (ix3 0 j ⟨64 * hd.val + d.val, by omega⟩)) := by
  have hp : ∀ (p : Fin 4) (l : Fin 128), qPair q p (ix2 qc l) = q (ix3 0 qc ⟨128 * p.val + l.val, by omega⟩) * qs := fun p l => by
    fin_cases p <;> pointwise [qPair, qScaled]
  have hr : rowOut q kv vv tt (ix3 0 qc ⟨128 * p.val + (64 * hd.val + d.val), by omega⟩)
      = pairOut (qPair q p) (kv p) (vv p) (tt p) (ix2 qc ⟨64 * hd.val + d.val, by omega⟩) := by
    have hc : ∀ (p p' : Fin 4) (l l' : Fin 128), p = p' → l = l' →
        pairOut (qPair q p) (kv p) (vv p) (tt p) (ix2 qc l) = pairOut (qPair q p') (kv p') (vv p') (tt p') (ix2 qc l') := by
      rintro _ _ _ _ rfl rfl; rfl
    pointwise [rowOut]
    split_ifs <;> refine hc _ _ _ _ (Fin.ext ?_) (Fin.ext ?_) <;> first | omega | (dsimp only; omega) | (clear hc; simp only [Fin.val_zero, Fin.val_one]; omega) | (change 2 = p.val; omega) | (change 3 = p.val; omega)
  rw [hr, pairOut_apply]
  simp only [hp]
  rfl

end Cert.KernelIdeal.Attn

end
-- ==== Proof.Attn.Offsets.lean ====
/- Where each load of the row loop starts, in numbers: the query row, the first key row of its window, its first bias tile. -/
module

public import proofs.«01_k».proof.Proof.Attn.Row

@[expose] public section

set_option maxRecDepth 16384

namespace Cert.KernelIdeal.Attn

open Cert.KernelIdeal Cert.KernelIdeal.Gen Idealize.ShloMosaic

/-- The image row of row `x` of the block at point `i`. -/
abbrev imgRow (i : grid0.Coords) (x : ℕ) : ℕ := 16 * (i 1).val + x
/-- The first key row of a query row's window. -/
abbrev winRow (r : ℕ) : ℕ := min (r - 4) 56
/-- The first key row the block holds. -/
abbrev blkRow (i : grid0.Coords) : ℕ := min (16 * (i 1).val - 4) 40

theorem off5_eq : ∀ (i : grid0.Coords) (k : Fin k0_t2_loop.trips), k0_off5 i k = ![0, 64 * (winRow (imgRow i (8 * k.val)) - blkRow i), 0] := by decide +kernel
theorem off6_eq : ∀ (i : grid0.Coords) (k : Fin k0_t2_loop.trips), k0_off6 i k = ![0, 64 * (winRow (imgRow i (8 * k.val)) - blkRow i), 128] := by decide +kernel
theorem off7_eq : ∀ (i : grid0.Coords) (k : Fin k0_t2_loop.trips), k0_off7 i k = ![0, 64 * (winRow (imgRow i (8 * k.val)) - blkRow i), 256] := by decide +kernel
theorem off8_eq : ∀ (i : grid0.Coords) (k : Fin k0_t2_loop.trips), k0_off8 i k = ![0, 64 * (winRow (imgRow i (8 * k.val)) - blkRow i), 384] := by decide +kernel
theorem off10_eq : ∀ (i : grid0.Coords) (k : Fin k0_t2_loop.trips) (r : Fin 7), k0_off10 i k (BitVec.ofNat 32 r.val) = ![0, 64 * (winRow (imgRow i (8 * k.val + (r.val + 1))) - blkRow i), 0] := by decide +kernel
theorem off11_eq : ∀ (i : grid0.Coords) (k : Fin k0_t2_loop.trips) (r : Fin 7), k0_off11 i k (BitVec.ofNat 32 r.val) = ![0, 64 * (winRow (imgRow i (8 * k.val + (r.val + 1))) - blkRow i), 128] := by decide +kernel
theorem off12_eq : ∀ (i : grid0.Coords) (k : Fin k0_t2_loop.trips) (r : Fin 7), k0_off12 i k (BitVec.ofNat 32 r.val) = ![0, 64 * (winRow (imgRow i (8 * k.val + (r.val + 1))) - blkRow i), 256] := by decide +kernel
theorem off13_eq : ∀ (i : grid0.Coords) (k : Fin k0_t2_loop.trips) (r : Fin 7), k0_off13 i k (BitVec.ofNat 32 r.val) = ![0, 64 * (winRow (imgRow i (8 * k.val + (r.val + 1))) - blkRow i), 384] := by decide +kernel
theorem off14_eq : ∀ (i : grid0.Coords) (k : Fin k0_t2_loop.trips) (p : Fin 4) (c : Fin 8), k0_off14 i k (BitVec.ofNat 32 (15 * p.val)) (BitVec.ofNat 32 c.val)
    = ![15 * p.val + (winRow (imgRow i (8 * k.val)) + 7 - imgRow i (8 * k.val)) + c.val, 0, 0] := by decide +kernel
theorem off16_eq : ∀ (i : grid0.Coords) (k : Fin k0_t2_loop.trips) (p : Fin 4) (r : Fin 7) (c : Fin 8), k0_off16 i k (BitVec.ofNat 32 (15 * p.val)) (BitVec.ofNat 32 r.val) (BitVec.ofNat 32 c.val)
    = ![15 * p.val + (winRow (imgRow i (8 * k.val + (r.val + 1))) + 7 - imgRow i (8 * k.val + (r.val + 1))) + c.val, 0, 0] := by decide +kernel
theorem off4_eq' : ∀ (k : Fin k0_t2_loop.trips), k0_off4 k = ![0, 64 * (8 * k.val), 0] := by decide +kernel
theorem off9_eq' : ∀ (k : Fin k0_t2_loop.trips) (r : Fin 7), k0_off9 k (BitVec.ofNat 32 r.val) = ![0, 64 * (8 * k.val + (r.val + 1)), 0] := by decide +kernel
theorem off15_eq' : ∀ (k : Fin k0_t2_loop.trips) (r : Fin 8), k0_off15 k (BitVec.ofNat 32 r.val) = ![0, 64 * (8 * k.val + r.val), 0] := by decide +kernel
theorem off1_eq : ∀ (k : Fin k0_t1_loop.trips) (r : Fin 31), k0_off1 k (BitVec.ofNat 32 r.val) = ![465 * (2 * (k.val / 15)) + 31 * (k.val % 15) + r.val] := by decide +kernel
theorem off2_eq : ∀ (k : Fin k0_t1_loop.trips) (r : Fin 31), k0_off2 k (BitVec.ofNat 32 r.val) = ![465 * (2 * (k.val / 15) + 1) + 31 * (k.val % 15) + r.val] := by decide +kernel

end Cert.KernelIdeal.Attn

end
-- ==== Proof.Attn.Tile.lean ====
/- One bias tile as a function of the 31 words it loads for each head of a pair, and its elements. -/
module

public import proofs.«01_k».proof.Proof.Attn.Offsets
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.ShloMosaic.Tactic

section Generic

variable {F : FTy → Type} [FloatOps F] [Named F]

/-- The first `n` words picked by the column distance: a later word overrides. -/
def picked (a b : Fin 31 → Elt F .f32) : (n : ℕ) → n ≤ 31 → FVec F S64x128 .f32
  | 0, _ => k0_pay9
  | n + 1, h => select (cmpi .eq k0_pay4 (broadcast S64x128 (BitVec.ofNat 32 n)))
      (select k0_pay2 (broadcast S64x128 (a ⟨n, h⟩ : F .f32)) (broadcast S64x128 (b ⟨n, h⟩ : F .f32))) (picked a b n (by omega))

/-- The tile: the picked word over the logarithm of two where the key column lies in the query's window. -/
def tileOf (a b : Fin 31 → Elt F .f32) : FVec F S1x64x128 .f32 :=
  shapeCast S1x64x128 (select k0_pay3 (mulf (picked a b 31 le_rfl) (broadcast S64x128 (Named.named κ "log2e" 0x3FB8AA3B#32 : F .f32)))
    (broadcast S64x128 (Named.named κ "neg" 0xF149F2CA#32 : F .f32))) shapeCasts_S64x128_S1x64x128

variable (i : grid0.Coords) (h1 : k0_cond1 i = 1#1) (k : Fin k0_t1_loop.trips) (arg2 : Memref sig .tc .smem S3720 .f32) (X : BufTy.Contents (Elt F) arg2.view.ty)

/-- The first head's words. -/
abbrev wordA (n : Fin 31) : Elt F .f32 :=
  View.readAt (Elt F) arg2.view (Rect.unit (s := S3720) (k0_off1 k (BitVec.ofNat 32 n.val)) S1.size (k0_off1_inb i k h1 n)).toLoadRect X (Shape.Idx.first Nat.one_pos)
/-- The second head's words. -/
abbrev wordB (n : Fin 31) : Elt F .f32 :=
  View.readAt (Elt F) arg2.view (Rect.unit (s := S3720) (k0_off2 k (BitVec.ofNat 32 n.val)) S1.size (k0_off2_inb i k h1 n)).toLoadRect X (Shape.Idx.first Nat.one_pos)

/-- What one trip of the tile loop stores. -/
theorem trip_tile (𝒱 : Variants) (c : Dev nD) (bd : Option 𝒱.V) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) :
    tripL_k0_t1 (F := F) 𝒱 c bd i arg2 harg2 arg3 harg3 arg4 harg4 arg5 harg5 arg6 harg6 arg7 harg7 h1 X k
      = [⟨Rect.unit (s := S60x64x128) (k0_off3 k) S1x64x128.size (k0_off3_inb i k h1), tileOf (wordA i h1 k arg2 X) (wordB i h1 k arg2 X)⟩] := by
  sl_kernel_rfl

end Generic

/-- The distance word of a key column and a lane. -/
theorem dist_word : ∀ (kc : Fin 64) (l : Fin 128), IntOp.addi (IntOp.minsi 15#32 (IntOp.maxsi 4294967281#32 (IntOp.subi (BitVec.ofNat 32 kc.val) (IntOp.andi (BitVec.ofNat 32 l.val) 63#32)))) 15#32
    = BitVec.ofNat 32 (min (kc.val + 15 - l.val % 64) 30) := by decide +kernel

/-- The window bit of a key column and a lane. -/
theorem window_bit : ∀ (kc : Fin 64) (l : Fin 128), IntOp.andi (IntOp.cmpi .sge (BitVec.ofNat 32 kc.val) (IntOp.minsi 48#32 (IntOp.maxsi 0#32 (IntOp.subi (IntOp.andi (BitVec.ofNat 32 l.val) 63#32) 8#32))))
      (IntOp.cmpi .slt (BitVec.ofNat 32 kc.val) (IntOp.addi (IntOp.minsi 48#32 (IntOp.maxsi 0#32 (IntOp.subi (IntOp.andi (BitVec.ofNat 32 l.val) 63#32) 8#32))) 16#32))
    = if min (l.val % 64 - 8) 48 ≤ kc.val ∧ kc.val < min (l.val % 64 - 8) 48 + 16 then 1#1 else 0#1 := by decide +kernel

theorem lane_lt2 (x : Fin 128) : IntOp.cmpi .slt (BitVec.ofNat 32 x.val) 64#32 = if x.val < 64 then 1#1 else 0#1 := by
  revert x; decide +kernel

theorem pay4_apply (kc : Fin 64) (l : Fin 128) : k0_pay4 (ix2 kc l) = BitVec.ofNat 32 (min (kc.val + 15 - l.val % 64) 30) := by
  rw [← dist_word]; pointwise [k0_pay4, k0_pay1]

theorem pay3_apply (kc : Fin 64) (l : Fin 128) : k0_pay3 (ix2 kc l)
    = if min (l.val % 64 - 8) 48 ≤ kc.val ∧ kc.val < min (l.val % 64 - 8) 48 + 16 then 1#1 else 0#1 := by
  rw [← window_bit]; pointwise [k0_pay3, k0_pay1]

theorem pay2_apply (kc : Fin 64) (l : Fin 128) : k0_pay2 (ix2 kc l) = if l.val < 64 then 1#1 else 0#1 := by
  rw [← lane_lt2]; pointwise [k0_pay2]

/-- The picked word is the one at the distance, once that is among those looked at. -/
theorem picked_apply (a b : Fin 31 → EReal) (kc : Fin 64) (l : Fin 128) : ∀ (n : ℕ) (h : n ≤ 31) (hd : min (kc.val + 15 - l.val % 64) 30 < n),
    picked (F := Ideal) a b n h (ix2 kc l) = if l.val < 64 then a ⟨min (kc.val + 15 - l.val % 64) 30, by omega⟩ else b ⟨min (kc.val + 15 - l.val % 64) 30, by omega⟩
  | 0, _, hd => absurd hd (Nat.not_lt_zero _)
  | n + 1, h, hd => by
    have hs : picked (F := Ideal) a b (n + 1) h (ix2 kc l) = Scalar.select (IntOp.cmpi .eq (k0_pay4 (ix2 kc l)) (BitVec.ofNat 32 n))
      (Scalar.select (k0_pay2 (ix2 kc l)) (a ⟨n, h⟩) (b ⟨n, h⟩)) (picked (F := Ideal) a b n (by omega) (ix2 kc l)) := rfl
    rw [hs, pay4_apply, pay2_apply]
    by_cases e : min (kc.val + 15 - l.val % 64) 30 = n
    · subst e
      by_cases hl : l.val < 64 <;> simp [hl, Scalar.select, IntOp.cmpi]
    · have hne : IntOp.cmpi .eq (BitVec.ofNat 32 (min (kc.val + 15 - l.val % 64) 30)) (BitVec.ofNat 32 n) = 0#1 := by
        have : BitVec.ofNat 32 (min (kc.val + 15 - l.val % 64) 30) ≠ BitVec.ofNat 32 n := fun h' => e (by
          have := congrArg BitVec.toNat h'
          simp only [BitVec.toNat_ofNat] at this
          omega)
        show BitVec.ofBool (_ == _) = _
        rw [beq_eq_false_iff_ne.mpr this]; rfl
      rw [hne]
      simp only [Scalar.select]
      exact picked_apply a b kc l n (by omega) (by omega)

/-- One over the logarithm of two. -/
abbrev l2e : EReal := (Named.named κ "log2e" 0x3FB8AA3B#32 : Ideal .f32)
/-- The value of a masked score. -/
abbrev neg : EReal := (Named.named κ "neg" 0xF149F2CA#32 : Ideal .f32)

/-- The elements of a tile. -/
theorem tileOf_apply (a b : Fin 31 → EReal) (kc : Fin 64) (l : Fin 128) :
    tileOf (F := Ideal) a b (ix3 0 kc l) = if min (l.val % 64 - 8) 48 ≤ kc.val ∧ kc.val < min (l.val % 64 - 8) 48 + 16 then
      (if l.val < 64 then a ⟨min (kc.val + 15 - l.val % 64) 30, by omega⟩ else b ⟨min (kc.val + 15 - l.val % 64) 30, by omega⟩) * l2e else neg := by
  have h : tileOf (F := Ideal) a b (ix3 0 kc l) = Scalar.select (k0_pay3 (ix2 kc l)) (picked (F := Ideal) a b 31 le_rfl (ix2 kc l) * l2e) neg := by
    pointwise [tileOf]
  rw [h, pay3_apply, picked_apply a b kc l 31 le_rfl (by omega)]
  by_cases hw : min (l.val % 64 - 8) 48 ≤ kc.val ∧ kc.val < min (l.val % 64 - 8) 48 + 16
  · rw [if_pos hw, if_pos hw]; simp only [Scalar.select]; rfl
  · rw [if_neg hw, if_neg hw]; simp only [Scalar.select]; rfl

end Cert.KernelIdeal.Attn

end
-- ==== Proof.Attn.Points.lean ====
/- What a grid point leaves, in closed form: its block of the output, and the bias tiles every point reads. -/
module

public import proofs.«01_k».proof.Proof.Attn.Block
public import proofs.«01_k».proof.Proof.Attn.Tile

@[expose] public section

set_option maxRecDepth 16384

noncomputable section

namespace Cert.KernelIdeal.Attn

open Cert.KernelIdeal Cert.KernelIdeal.Gen Idealize.ShloMosaic Idealize.ShloMosaic.TcCoe Idealize.ShloMosaic.Tactic

/-- All the bias tiles, from the table's words: tile `15 p + e` of key column `kc`, a lane per query column of each head of pair `p`. -/
def tiles (x0 : FVec Ideal S3720 .f32) : S60x64x128.Idx → EReal := fun y =>
  if min ((y 2).val % 64 - 8) 48 ≤ (y 1).val ∧ (y 1).val < min ((y 2).val % 64 - 8) 48 + 16 then
    x0 (ix1 ⟨465 * (2 * ((y 0).val / 15) + (y 2).val / 64) + 31 * ((y 0).val % 15) + min ((y 1).val + 15 - (y 2).val % 64) 30, by
      have h0 : (y 0).val < 60 := (y 0).isLt; have h2 : (y 2).val < 128 := (y 2).isLt; omega⟩) * l2e
  else neg

/-- `tiles` at an index told by its coordinates. -/
theorem tiles_at (x0 : FVec Ideal S3720 .f32) (z : S60x64x128.Idx) (k : Fin 60) (kc : Fin 64) (l : Fin 128) (h0 : (z 0).val = k.val) (h1 : (z 1).val = kc.val) (h2 : (z 2).val = l.val) :
    tiles x0 z = if min (l.val % 64 - 8) 48 ≤ kc.val ∧ kc.val < min (l.val % 64 - 8) 48 + 16 then
      (if l.val < 64 then x0 (ix1 ⟨465 * (2 * (k.val / 15)) + 31 * (k.val % 15) + min (kc.val + 15 - l.val % 64) 30, by omega⟩)
        else x0 (ix1 ⟨465 * (2 * (k.val / 15) + 1) + 31 * (k.val % 15) + min (kc.val + 15 - l.val % 64) 30, by omega⟩)) * l2e else neg := by
  unfold tiles
  simp only [h0, h1, h2]
  refine if_congr Iff.rfl (congrArg (· * l2e) ?_) rfl
  by_cases h : l.val < 64
  · rw [if_pos h]
    refine congrArg x0 (congrArg ix1 (Fin.ext ?_))
    simp only
    have : l.val / 64 = 0 := by omega
    omega
  · rw [if_neg h]
    refine congrArg x0 (congrArg ix1 (Fin.ext ?_))
    simp only
    have : l.val / 64 = 1 := by omega
    omega

/-- A word of the table. -/
theorem load_w (M : Memref sig .tc .smem S3720 .f32) (hM : M.IsWhole) (x : FVec Ideal S3720 .f32) (off : Fin 1 → ℕ)
    (inb : ∀ a, off a + S1.size a ≤ S3720.size a) (n : ℕ) (ho : off = ![n]) (hn : n < 3720) :
    View.readAt (Elt Ideal) M.view (Rect.unit (s := S3720) off S1.size inb).toLoadRect (hM.unread (Val := Elt Ideal) x) (Shape.Idx.first Nat.one_pos) = x (ix1 ⟨n, hn⟩) := by
  subst ho
  rw [View.readAt_eq_ld, hM.read_unread]
  exact View.ld_unit_apply_of (Val := Elt Ideal) (e := .f32) (S := S3720) x ![n] S1.size inb _ (ix1 ⟨n, hn⟩) (fun a => by fin_cases a; rfl)

section

variable (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole)
  (x0 : FVec Ideal S3720 .f32) (x1 : FVec Ideal S1x1024x512 .bf16) (x2 x3 : FVec Ideal S1x1536x512 .bf16) (xs0 : FVec Ideal S60x64x128 .f32)

theorem t1_lt (k : Fin k0_t1_loop.trips) : k.val < 60 := k.isLt

/-- The tile one trip stores is `tiles` there. -/
theorem tile_piece (h1 : k0_cond1 i = 1#1) (k : Fin k0_t1_loop.trips) (y : (Rect.unit (s := S60x64x128) (k0_off3 k) S1x64x128.size (k0_off3_inb i k h1)).shape.Idx) :
    tileOf (F := Ideal) (wordA i h1 k arg2 (harg2.unread (Val := Elt Ideal) x0)) (wordB i h1 k arg2 (harg2.unread (Val := Elt Ideal) x0)) y
      = tiles x0 ((Rect.unit (s := S60x64x128) (k0_off3 k) S1x64x128.size (k0_off3_inb i k h1)).emb y) := by
  have hk := t1_lt k
  have hy : y = ix3 0 (y 1) (y 2) := by
    funext a; fin_cases a
    · exact Fin.ext (by have : (y 0).val < 1 := (y 0).isLt; show (y 0).val = 0; omega)
    · rfl
    · rfl
  have hc : ∀ a, ((Rect.unit (s := S60x64x128) (k0_off3 k) S1x64x128.size (k0_off3_inb i k h1)).emb y a).val = (![k.val, 0, 0] : Fin 3 → ℕ) a + 1 * (y a).val := fun a => by
    exact congrArg (· + 1 * (y a).val) (congrFun (k0_off3_eq k) a)
  have hy0 : (y 0).val < 1 := (y 0).isLt
  have e0 := hc 0
  have e1 := hc 1
  have e2 := hc 2
  change _ = k.val + 1 * (y 0).val at e0
  change _ = 0 + 1 * (y 1).val at e1
  change _ = 0 + 1 * (y 2).val at e2
  have hA : ∀ n : Fin 31, wordA (F := Ideal) i h1 k arg2 (harg2.unread (Val := Elt Ideal) x0) n = x0 (ix1 ⟨465 * (2 * (k.val / 15)) + 31 * (k.val % 15) + n.val, by omega⟩) :=
    fun n => load_w arg2 harg2 x0 _ _ _ (off1_eq k n) _
  have hB : ∀ n : Fin 31, wordB (F := Ideal) i h1 k arg2 (harg2.unread (Val := Elt Ideal) x0) n = x0 (ix1 ⟨465 * (2 * (k.val / 15) + 1) + 31 * (k.val % 15) + n.val, by omega⟩) :=
    fun n => load_w arg2 harg2 x0 _ _ _ (off2_eq k n) _
  refine (congrArg _ hy).trans ((tileOf_apply _ _ (y 1) (y 2)).trans ?_)
  rw [hA, hB]
  exact (tiles_at x0 _ ⟨k.val, hk⟩ (y 1) (y 2) (e0.trans (by show _ = k.val; omega)) (e1.trans (by omega)) (e2.trans (by omega))).symm

/-- Every piece of the tile loop is `tiles` there. -/
theorem tile_pieces (h1 : k0_cond1 i = 1#1) : ∀ n ≤ k0_t1_loop.trips, ∀ p ∈ pb_k0_t1 (F := Ideal) Variants.none c none i arg2 harg2 arg3 harg3 arg4 harg4 arg5 harg5 arg6 harg6 arg7 harg7 h1 (harg2.unread (Val := Elt Ideal) x0) n,
    ∀ y, p.2 y = tiles x0 (p.1.emb y)
  | 0, _ => fun p hp => absurd hp List.not_mem_nil
  | n + 1, h => fun p hp => by
    rw [pb_k0_t1_succ Variants.none c none i arg2 harg2 arg3 harg3 arg4 harg4 arg5 harg5 arg6 harg6 arg7 harg7 h1 _ ⟨n, h⟩, trip_tile] at hp
    rcases List.mem_append.mp hp with hp | hp
    · rw [List.mem_singleton.mp hp]
      exact tile_piece i arg2 harg2 x0 h1 ⟨n, h⟩
    · exact tile_pieces h1 n (Nat.le_of_succ_le h) p hp

/-- Every piece of the row loop is the block's values there. -/
theorem row_pieces (w1 w2 : BitVec 32) : ∀ n ≤ k0_t2_loop.trips, ∀ p ∈ pb_k0_t2 (F := Ideal) Variants.none c none i arg2 harg2 arg3 harg3 arg4 harg4 arg5 harg5 arg6 harg6 arg7 harg7 w1 w2
      (harg3.unread (Val := Elt Ideal) x1) (harg4.unread (Val := Elt Ideal) x2) (harg5.unread (Val := Elt Ideal) x3) (harg7.unread (Val := Elt Ideal) xs0) n,
    ∀ y, p.2 y = blk i x1 x2 x3 xs0 (p.1.emb y)
  | 0, _ => fun p hp => absurd hp List.not_mem_nil
  | n + 1, h => fun p hp => by
    rw [pb_k0_t2_succ Variants.none c none i arg2 harg2 arg3 harg3 arg4 harg4 arg5 harg5 arg6 harg6 arg7 harg7 w1 w2 _ _ _ _ ⟨n, h⟩, trip_rows] at hp
    rcases List.mem_append.mp hp with hp | hp
    · simp only [List.mem_cons, List.not_mem_nil, or_false] at hp
      rcases hp with rfl | rfl | rfl | rfl | rfl | rfl | rfl | rfl
      · exact pieceB_eq i ⟨n, h⟩ arg3 harg3 arg4 arg5 harg4 harg5 arg7 harg7 x1 x2 x3 xs0 6
      · exact pieceB_eq i ⟨n, h⟩ arg3 harg3 arg4 arg5 harg4 harg5 arg7 harg7 x1 x2 x3 xs0 5
      · exact pieceB_eq i ⟨n, h⟩ arg3 harg3 arg4 arg5 harg4 harg5 arg7 harg7 x1 x2 x3 xs0 4
      · exact pieceB_eq i ⟨n, h⟩ arg3 harg3 arg4 arg5 harg4 harg5 arg7 harg7 x1 x2 x3 xs0 3
      · exact pieceB_eq i ⟨n, h⟩ arg3 harg3 arg4 arg5 harg4 harg5 arg7 harg7 x1 x2 x3 xs0 2
      · exact pieceB_eq i ⟨n, h⟩ arg3 harg3 arg4 arg5 harg4 harg5 arg7 harg7 x1 x2 x3 xs0 1
      · exact pieceB_eq i ⟨n, h⟩ arg3 harg3 arg4 arg5 harg4 harg5 arg7 harg7 x1 x2 x3 xs0 0
      · exact pieceA_eq i ⟨n, h⟩ arg3 harg3 arg4 arg5 harg4 harg5 arg7 harg7 x1 x2 x3 xs0
    · exact row_pieces w1 w2 n (Nat.le_of_succ_le h) p hp

/-- The bias tiles the first point leaves. -/
theorem sout0_A_0_eq (hc0 : cond0_0 i) : sout0_A_0 (F := Ideal) c i arg2 harg2 arg3 harg3 arg4 harg4 arg5 harg5 arg6 harg6 arg7 harg7 hc0 x0 x1 x2 x3 = tiles x0 := by
  funext y
  exact View.read_writes_apply_of_pieces VS0_0 _ (tiles x0) _ (tile_pieces c i arg2 harg2 arg3 harg3 arg4 harg4 arg5 harg5 arg6 harg6 arg7 harg7 x0 hc0 _ le_rfl) y
    (scover0_A_0 (F := Ideal) c i arg2 harg2 arg3 harg3 arg4 harg4 arg5 harg5 arg6 harg6 arg7 harg7 hc0 x0 x1 x2 x3 y)

/-- The block a later point leaves. -/
theorem out0_B_4_eq (hc0 : ¬cond0_0 i) : out0_B_4 (F := Ideal) c i arg2 harg2 arg3 harg3 arg4 harg4 arg5 harg5 arg6 harg6 arg7 harg7 hc0 x0 x1 x2 x3 xs0 = blk i x1 x2 x3 xs0 := by
  have hL : ∃ w1 w2, (runB (F := Ideal) c i arg2 harg2 arg3 harg3 arg4 harg4 arg5 harg5 arg6 harg6 arg7 harg7 hc0 x0 x1 x2 x3 xs0).1
      = pb_k0_t2 (F := Ideal) Variants.none c none i arg2 harg2 arg3 harg3 arg4 harg4 arg5 harg5 arg6 harg6 arg7 harg7 w1 w2
      (harg3.unread (Val := Elt Ideal) x1) (harg4.unread (Val := Elt Ideal) x2) (harg5.unread (Val := Elt Ideal) x3) (harg7.unread (Val := Elt Ideal) xs0) k0_t2_loop.trips := ⟨_, _, rfl⟩
  obtain ⟨w1, w2, hL⟩ := hL
  funext y
  refine View.read_writes_apply_of_pieces VO0_4 _ (blk i x1 x2 x3 xs0) _ ?_ y
    (cover0_B_4 (F := Ideal) c i arg2 harg2 arg3 harg3 arg4 harg4 arg5 harg5 arg6 harg6 arg7 harg7 hc0 x0 x1 x2 x3 xs0 y)
  rw [hL]
  exact row_pieces c i arg2 harg2 arg3 harg3 arg4 harg4 arg5 harg5 arg6 harg6 arg7 harg7 x1 x2 x3 xs0 w1 w2 _ le_rfl

/-- The block the first point leaves. -/
theorem out0_A_4_eq (hc0 : cond0_0 i) : out0_A_4 (F := Ideal) c i arg2 harg2 arg3 harg3 arg4 harg4 arg5 harg5 arg6 harg6 arg7 harg7 hc0 x0 x1 x2 x3 = blk i x1 x2 x3 (tiles x0) := by
  have hL : ∃ w1 w2, (runA (F := Ideal) c i arg2 harg2 arg3 harg3 arg4 harg4 arg5 harg5 arg6 harg6 arg7 harg7 hc0 x0 x1 x2 x3).1
      = pb_k0_t2 (F := Ideal) Variants.none c none i arg2 harg2 arg3 harg3 arg4 harg4 arg5 harg5 arg6 harg6 arg7 harg7 w1 w2
      (harg3.unread (Val := Elt Ideal) x1) (harg4.unread (Val := Elt Ideal) x2) (harg5.unread (Val := Elt Ideal) x3)
      (harg7.unread (Val := Elt Ideal) (sout0_A_0 (F := Ideal) c i arg2 harg2 arg3 harg3 arg4 harg4 arg5 harg5 arg6 harg6 arg7 harg7 hc0 x0 x1 x2 x3)) k0_t2_loop.trips := ⟨_, _, rfl⟩
  obtain ⟨w1, w2, hL⟩ := hL
  rw [sout0_A_0_eq] at hL
  funext y
  refine View.read_writes_apply_of_pieces VO0_4 _ (blk i x1 x2 x3 (tiles x0)) _ ?_ y
    (cover0_A_4 (F := Ideal) c i arg2 harg2 arg3 harg3 arg4 harg4 arg5 harg5 arg6 harg6 arg7 harg7 hc0 x0 x1 x2 x3 y)
  rw [hL]
  exact row_pieces c i arg2 harg2 arg3 harg3 arg4 harg4 arg5 harg5 arg6 harg6 arg7 harg7 x1 x2 x3 (tiles x0) w1 w2 _ le_rfl

end

variable (m : (ℓ : Loc nD τ sig) → Buf (Elt Ideal) ℓ)

/-- The scratch holds the same tiles after every point. -/
theorem scratch_eq (c : Dev nD) : ∀ (n : ℕ) (hn : n < cfg0.N), (outsAt0 (F := Ideal) m c n hn).2 = tiles (iblk m c 0 ⟨0, Nat.lt_of_le_of_lt (Nat.zero_le _) hn⟩)
  | 0, hn => by
    rw [show outsAt0 (F := Ideal) m c 0 hn = _ from outsAt0_A m c ⟨0, hn⟩ (Nat.zero_mod _)]
    exact sout0_A_0_eq ..
  | n + 1, hn => by
    have h16 : cfg0.N = 16 := rfl
    rw [show outsAt0 (F := Ideal) m c (n + 1) hn = _ from outsAt0_B m c ⟨n + 1, hn⟩ (by show ¬ (n + 1) % 16 = 0; omega)]
    exact scratch_eq c n (Nat.lt_of_succ_lt hn)

/-- What a point leaves in its block. -/
theorem point_eq (c : Dev nD) (t : Fin cfg0.N) : (outsAt0 (F := Ideal) m c t.val t.isLt).1
    = blk (grid0.coords t) (iblk m c 1 t) (iblk m c 2 t) (iblk m c 3 t) (tiles (iblk m c 0 ⟨0, Nat.lt_of_le_of_lt (Nat.zero_le _) t.isLt⟩)) := by
  have h16 : cfg0.N = 16 := rfl
  have ht := t.isLt
  by_cases h : t.val % 16 = 0
  · have ht0 : (⟨0, Nat.lt_of_le_of_lt (Nat.zero_le _) t.isLt⟩ : Fin cfg0.N) = t := Fin.ext (by show 0 = t.val; omega)
    rw [outsAt0_A m c _ h, ht0]
    exact out0_A_4_eq ..
  · rw [outsAt0_B m c t h]
    refine (out0_B_4_eq ..).trans ?_
    rw [scratch_eq]

end Cert.KernelIdeal.Attn

end
-- ==== Proof.Attn.Array.lean ====
/- The array the attention kernel leaves, element by element, from the launched arrays. -/
module

public import proofs.«01_k».proof.Proof.Attn.Points
public import proofs.«01_k».proof.Proof.Attn.Frame
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe Idealize.ShloMosaic.Tactic Idealize.SL.Sem
open Idealize.ShloMosaic.Pipeline (Dat)

/-! ## The formula -/

theorem winRow_le (r : ℕ) : winRow r ≤ 56 := by show min (r - 4) 56 ≤ 56; omega

theorem winDist_le (r : ℕ) (h : r < 64) : winRow r + 7 - r ≤ 7 := by show min (r - 4) 56 + 7 - r ≤ 7; omega

/-- The scaled, biased score the kernel gives key `j` of the window of the query at row `r` and column `qc`. -/
def kScore (Z : S4x4096x1536.Idx → EReal) (T : S3720.Idx → EReal) (b : Fin 4) (r qc : Fin 64) (h : Fin 8) (j : Fin 512) : EReal :=
  (∑ d : Fin 64, Z (ix3 b ⟨64 * winRow r.val + j.val, by have := winRow_le r.val; omega⟩ ⟨512 + (64 * h.val + d.val), by omega⟩)
      * (Z (ix3 b ⟨64 * r.val + qc.val, by omega⟩ ⟨64 * h.val + d.val, by omega⟩) * qs))
    + (if min (qc.val - 8) 48 ≤ j.val % 64 ∧ j.val % 64 < min (qc.val - 8) 48 + 16 then
        T (ix1 ⟨465 * h.val + 31 * (winRow r.val + 7 - r.val + j.val / 64) + min (j.val % 64 + 15 - qc.val) 30, by have := winDist_le r.val r.isLt; omega⟩) * l2e
      else neg)

/-- An element of the attention, as the kernel computes it. -/
def kOut (Z : S4x4096x1536.Idx → EReal) (T : S3720.Idx → EReal) (b : Fin 4) (r qc : Fin 64) (h : Fin 8) (d : Fin 64) : EReal :=
  soft2 (kScore Z T b r qc h) (fun j => Z (ix3 b ⟨64 * winRow r.val + j.val, by have := winRow_le r.val; omega⟩ ⟨1024 + (64 * h.val + d.val), by omega⟩))

/-- The array the kernel leaves. -/
def kArr (Z : S4x4096x1536.Idx → EReal) (T : S3720.Idx → EReal) : S4x4096x512.Idx → EReal := fun y =>
  kOut Z T ⟨(y 0).val, (y 0).isLt⟩ ⟨(y 1).val / 64, by have : (y 1).val < 4096 := (y 1).isLt; omega⟩ ⟨(y 1).val % 64, by omega⟩
    ⟨(y 2).val / 64, by have : (y 2).val < 512 := (y 2).isLt; omega⟩ ⟨(y 2).val % 64, by omega⟩

/-! ## A block of it -/

theorem win_blk (i : grid0.Coords) (x : Fin 16) : 64 * blkRow i + 64 * (winRow (imgRow i x.val) - blkRow i) = 64 * winRow (imgRow i x.val) := by
  have := col_lt i
  show 64 * min (16 * (i 1).val - 4) 40 + 64 * (min (16 * (i 1).val + x.val - 4) 56 - min (16 * (i 1).val - 4) 40) = 64 * min (16 * (i 1).val + x.val - 4) 56
  omega

theorem blkRow_le (i : grid0.Coords) : blkRow i ≤ 40 := by show min (16 * (i 1).val - 4) 40 ≤ 40; omega

/-- The tiles at a lane of a pair. -/
theorem tiles_pair (T : FVec Ideal S3720 .f32) (h : Fin 8) (e : ℕ) (he : e < 15) (kc qc : Fin 64) (p0 : 15 * (h.val / 2) + e < 60) (p2 : 64 * (h.val % 2) + qc.val < 128) :
    tiles T (ix3 ⟨15 * (h.val / 2) + e, p0⟩ kc ⟨64 * (h.val % 2) + qc.val, p2⟩)
      = if min (qc.val - 8) 48 ≤ kc.val ∧ kc.val < min (qc.val - 8) 48 + 16 then
        T (ix1 ⟨465 * h.val + 31 * e + min (kc.val + 15 - qc.val) 30, by omega⟩) * l2e else neg := by
  have e1 : (15 * (h.val / 2) + e) / 15 = h.val / 2 := by omega
  have e2 : (15 * (h.val / 2) + e) % 15 = e := by omega
  have e3 : (64 * (h.val % 2) + qc.val) % 64 = qc.val := by omega
  have e4 : (64 * (h.val % 2) + qc.val) / 64 = h.val % 2 := by omega
  unfold tiles
  have ec : (min ((64 * (h.val % 2) + qc.val) % 64 - 8) 48 ≤ kc.val ∧ kc.val < min ((64 * (h.val % 2) + qc.val) % 64 - 8) 48 + 16)
      ↔ (min (qc.val - 8) 48 ≤ kc.val ∧ kc.val < min (qc.val - 8) 48 + 16) := by rw [e3]
  refine if_congr ec (congrArg (fun n => T (ix1 n) * l2e) (Fin.ext ?_)) rfl
  show 465 * (2 * ((15 * (h.val / 2) + e) / 15) + (64 * (h.val % 2) + qc.val) / 64) + 31 * ((15 * (h.val / 2) + e) % 15) + min (kc.val + 15 - (64 * (h.val % 2) + qc.val) % 64) 30 = 465 * h.val + 31 * e + min (kc.val + 15 - qc.val) 30
  rw [e1, e2, e3, e4]
  have : 2 * (h.val / 2) + h.val % 2 = h.val := by omega
  rw [this]

/-- The block a grid point leaves is its block of `kArr`. -/
theorem blk_eq (i : grid0.Coords) (x1 : FVec Ideal S1x1024x512 .bf16) (x2 x3 : FVec Ideal S1x1536x512 .bf16) (Z : S4x4096x1536.Idx → EReal) (T : FVec Ideal S3720 .f32) (b : Fin 4)
    (h1 : ∀ (x : Fin 1024) (l : Fin 512), x1 (ix3 0 x l) = Z (ix3 b ⟨1024 * (i 1).val + x.val, by have := col_lt i; omega⟩ ⟨l.val, by omega⟩))
    (h2 : ∀ (x : Fin 1536) (l : Fin 512), x2 (ix3 0 x l) = Z (ix3 b ⟨64 * blkRow i + x.val, by have := blkRow_le i; omega⟩ ⟨512 + l.val, by omega⟩))
    (h3 : ∀ (x : Fin 1536) (l : Fin 512), x3 (ix3 0 x l) = Z (ix3 b ⟨64 * blkRow i + x.val, by have := blkRow_le i; omega⟩ ⟨1024 + l.val, by omega⟩))
    (y : S1x1024x512.Idx) (z : S4x4096x512.Idx) (hz0 : (z 0).val = b.val) (hz1 : (z 1).val = 1024 * (i 1).val + (y 1).val) (hz2 : (z 2).val = (y 2).val) :
    blk i x1 x2 x3 (tiles T) y = kArr Z T z := by
  have hc := col_lt i
  have hy1 : (y 1).val < 1024 := (y 1).isLt
  have hy2 : (y 2).val < 512 := (y 2).isLt
  unfold blk kArr
  generalize hx : (⟨(y 1).val / 64, by omega⟩ : Fin 16) = x
  generalize hq : (⟨(y 1).val % 64, by omega⟩ : Fin 64) = qc
  generalize hh : (⟨(y 2).val / 64, by omega⟩ : Fin 8) = h
  generalize hd : (⟨(y 2).val % 64, by omega⟩ : Fin 64) = d
  have hxv : x.val = (y 1).val / 64 := by rw [← hx]
  have e0 : (⟨(z 0).val, (z 0).isLt⟩ : Fin 4) = b := Fin.ext hz0
  have e1 : (⟨(z 1).val / 64, by have : (z 1).val < 4096 := (z 1).isLt; omega⟩ : Fin 64) = ⟨imgRow i x.val, by show 16 * (i 1).val + x.val < 64; omega⟩ :=
    Fin.ext (by show (z 1).val / 64 = 16 * (i 1).val + x.val; omega)
  have e2 : (⟨(z 1).val % 64, by omega⟩ : Fin 64) = qc := by rw [← hq]; exact Fin.ext (by show (z 1).val % 64 = (y 1).val % 64; omega)
  have e3 : (⟨(z 2).val / 64, by have : (z 2).val < 512 := (z 2).isLt; omega⟩ : Fin 8) = h := by rw [← hh]; exact Fin.ext (by show (z 2).val / 64 = (y 2).val / 64; omega)
  have e4 : (⟨(z 2).val % 64, by omega⟩ : Fin 64) = d := by rw [← hd]; exact Fin.ext (by show (z 2).val % 64 = (y 2).val % 64; omega)
  rw [e0, e1, e2, e3, e4]
  have hw := win_blk i x
  have hdl := dist_le i x
  unfold blkOut kOut
  refine congrArg₂ soft2 (funext fun j => ?_) (funext fun j => ?_)
  · unfold blkScore kScore
    refine congrArg₂ (· + ·) (Finset.sum_congr rfl fun d _ => ?_) ?_
    · rw [h2, h1]
      refine congrArg₂ (· * ·) (congrArg Z (congrArg (fun n => ix3 b n _) (Fin.ext ?_))) (congrArg (· * qs) (congrArg Z (congrArg (fun n => ix3 b n _) (Fin.ext ?_))))
      · show 64 * blkRow i + (64 * (winRow (imgRow i x.val) - blkRow i) + j.val) = 64 * winRow (imgRow i x.val) + j.val
        omega
      · show 1024 * (i 1).val + (64 * x.val + qc.val) = 64 * (16 * (i 1).val + x.val) + qc.val
        omega
    · have hjj : j.val / 64 < 8 := by omega
      have e : (⟨15 * (h.val / 2) + (winRow (imgRow i x.val) + 7 - imgRow i x.val) + j.val / 64, by omega⟩ : Fin 60)
          = ⟨15 * (h.val / 2) + ((winRow (imgRow i x.val) + 7 - imgRow i x.val) + j.val / 64), by omega⟩ := Fin.ext (by show _ + _ + _ = _ + (_ + _); omega)
      rw [e, tiles_pair T h _ (by omega) ⟨j.val % 64, by omega⟩ qc]
  · rw [h3]
    refine congrArg Z (congrArg (fun n => ix3 b n _) (Fin.ext ?_))
    show 64 * blkRow i + (64 * (winRow (imgRow i x.val) - blkRow i) + j.val) = 64 * winRow (imgRow i x.val) + j.val
    omega

/-! ## The windows' blocks, read -/

variable (m : (ℓ : Loc nD τ sig) → Buf (Elt Ideal) ℓ) (ρ : Dev nD → PrngReg)

/-- The rows of queries, keys and values the call reads. -/
abbrev zv (c : Dev nD) : S4x4096x1536.Idx → EReal := V m c main_v0
/-- The table's words the call reads. -/
abbrev tb (c : Dev nD) : S3720.Idx → EReal := V m c main_v2

theorem idx1 : ∀ t : Fin cfg0.N, win0_1.index t (0 : Fin 3) = (grid0.coords t 0).val ∧ win0_1.index t (1 : Fin 3) = (grid0.coords t 1).val ∧ win0_1.index t (2 : Fin 3) = 0 :=
  (by decide +kernel : ∀ t : Fin grid0.N, _)
theorem off2 : ∀ t : Fin cfg0.N, cc0_transform_2 (grid0.coords t) (0 : Fin 3) = (grid0.coords t 0).val ∧ cc0_transform_2 (grid0.coords t) (1 : Fin 3) = 64 * min (16 * (grid0.coords t 1).val - 4) 40 ∧ cc0_transform_2 (grid0.coords t) (2 : Fin 3) = 512 :=
  (by decide +kernel : ∀ t : Fin grid0.N, _)
theorem off3 : ∀ t : Fin cfg0.N, cc0_transform_3 (grid0.coords t) (0 : Fin 3) = (grid0.coords t 0).val ∧ cc0_transform_3 (grid0.coords t) (1 : Fin 3) = 64 * min (16 * (grid0.coords t 1).val - 4) 40 ∧ cc0_transform_3 (grid0.coords t) (2 : Fin 3) = 1024 :=
  (by decide +kernel : ∀ t : Fin grid0.N, _)
theorem idx4 : ∀ t : Fin cfg0.N, win0_4.index t (0 : Fin 3) = (grid0.coords t 0).val ∧ win0_4.index t (1 : Fin 3) = (grid0.coords t 1).val ∧ win0_4.index t (2 : Fin 3) = 0 :=
  (by decide +kernel : ∀ t : Fin grid0.N, _)

theorem coord0_lt (t : Fin cfg0.N) : (grid0.coords t 0).val < 4 := (grid0.coords t 0).isLt

theorem iblk0_eq (c : Dev nD) (t : Fin cfg0.N) : iblk m c 0 t = tb m c := by
  funext y
  show V m c main_v2 (((cfg0.win 0).blk t).view.emb y) = V m c main_v2 y
  refine congrArg (V m c main_v2) (funext fun a => Fin.ext ?_)
  fin_cases a
  show 0 * 3720 + 1 * (y 0).val = (y 0).val
  omega

theorem iblk1_apply (c : Dev nD) (t : Fin cfg0.N) (x : Fin 1024) (l : Fin 512) :
    (iblk m c 1 t : FVec Ideal S1x1024x512 .bf16) (ix3 0 x l) = zv m c (ix3 ⟨(grid0.coords t 0).val, coord0_lt t⟩ ⟨1024 * (grid0.coords t 1).val + x.val, by have := col_lt (grid0.coords t); omega⟩ ⟨l.val, by omega⟩) := by
  obtain ⟨e0, e1, e2⟩ := idx1 t
  show V m c main_v0 (((cfg0.win 1).blk t).view.emb (ix3 0 x l)) = _
  refine congrArg (V m c main_v0) (funext fun a => Fin.ext ?_)
  match a with
  | ⟨0, _⟩ => show win0_1.index t (0 : Fin 3) * 1 + 1 * 0 = (grid0.coords t 0).val; omega
  | ⟨1, _⟩ => show win0_1.index t (1 : Fin 3) * 1024 + 1 * x.val = 1024 * (grid0.coords t 1).val + x.val; omega
  | ⟨2, _⟩ => show win0_1.index t (2 : Fin 3) * 512 + 1 * l.val = l.val; omega

theorem iblk2_apply (c : Dev nD) (t : Fin cfg0.N) (x : Fin 1536) (l : Fin 512) :
    (iblk m c 2 t : FVec Ideal S1x1536x512 .bf16) (ix3 0 x l) = zv m c (ix3 ⟨(grid0.coords t 0).val, coord0_lt t⟩ ⟨64 * blkRow (grid0.coords t) + x.val, by have := blkRow_le (grid0.coords t); omega⟩ ⟨512 + l.val, by omega⟩) := by
  obtain ⟨e0, e1, e2⟩ := off2 t
  show V m c main_v0 (((cfg0.win 2).blk t).view.emb (ix3 0 x l)) = _
  refine congrArg (V m c main_v0) (funext fun a => Fin.ext ?_)
  match a with
  | ⟨0, _⟩ => show cc0_transform_2 (grid0.coords t) (0 : Fin 3) + 1 * 0 = (grid0.coords t 0).val; omega
  | ⟨1, _⟩ => show cc0_transform_2 (grid0.coords t) (1 : Fin 3) + 1 * x.val = 64 * min (16 * (grid0.coords t 1).val - 4) 40 + x.val; omega
  | ⟨2, _⟩ => show cc0_transform_2 (grid0.coords t) (2 : Fin 3) + 1 * l.val = 512 + l.val; omega

theorem iblk3_apply (c : Dev nD) (t : Fin cfg0.N) (x : Fin 1536) (l : Fin 512) :
    (iblk m c 3 t : FVec Ideal S1x1536x512 .bf16) (ix3 0 x l) = zv m c (ix3 ⟨(grid0.coords t 0).val, coord0_lt t⟩ ⟨64 * blkRow (grid0.coords t) + x.val, by have := blkRow_le (grid0.coords t); omega⟩ ⟨1024 + l.val, by omega⟩) := by
  obtain ⟨e0, e1, e2⟩ := off3 t
  show V m c main_v0 (((cfg0.win 3).blk t).view.emb (ix3 0 x l)) = _
  refine congrArg (V m c main_v0) (funext fun a => Fin.ext ?_)
  match a with
  | ⟨0, _⟩ => show cc0_transform_3 (grid0.coords t) (0 : Fin 3) + 1 * 0 = (grid0.coords t 0).val; omega
  | ⟨1, _⟩ => show cc0_transform_3 (grid0.coords t) (1 : Fin 3) + 1 * x.val = 64 * min (16 * (grid0.coords t 1).val - 4) 40 + x.val; omega
  | ⟨2, _⟩ => show cc0_transform_3 (grid0.coords t) (2 : Fin 3) + 1 * l.val = 1024 + l.val; omega

/-! ## The array -/

/-- What a point writes back is its block of `kArr`. -/
theorem flushed4_eq (c : Dev nD) (t : Fin cfg0.N) (hf : (cfg0.win 4).flush t = true) :
    (dats m 0 c).flushed 4 t = ((cfg0.win 4).blk t).view.read (Elt Ideal) (kArr (zv m c) (tb m c)) := by
  show (cfg0.win 4).cut (grid0.coords t) ((dats m 0 c).after 4 t) = _
  rw [after0_4]
  obtain ⟨e0, e1, e2⟩ := idx4 t
  funext y
  show (outsAt0 m c t.val t.isLt).1 ((cfg0.win 4).xinj (grid0.coords t) y) = kArr (zv m c) (tb m c) (((cfg0.win 4).blk t).view.emb y)
  rw [point_eq, iblk0_eq]
  refine blk_eq _ _ _ _ _ _ ⟨(grid0.coords t 0).val, coord0_lt t⟩ (iblk1_apply m c t) (iblk2_apply m c t) (iblk3_apply m c t) _ _ ?_ ?_ ?_
  · have : (y 0).val < 1 := (y 0).isLt
    show win0_4.index t (0 : Fin 3) * 1 + 1 * (y 0).val = (grid0.coords t 0).val
    omega
  · show win0_4.index t (1 : Fin 3) * 1024 + 1 * (y 1).val = 1024 * (grid0.coords t 1).val + (y 1).val
    omega
  · show win0_4.index t (2 : Fin 3) * 512 + 1 * (y 2).val = (y 2).val
    omega

theorem mem_blk4 (t : Fin cfg0.N) (i : S4x4096x512.Idx) :
    i ∈ ((cfg0.win 4).blk t).view.set ↔ ∀ a : Fin 3, win0_4.index t a * S1x1024x512.size a ≤ (i a).val ∧ (i a).val < win0_4.index t a * S1x1024x512.size a + S1x1024x512.size a := by
  show i ∈ ((View.whole main_v3).slice (win0_4.rect t)).set ↔ _
  rw [View.set_slice_whole, Rect.mem_set_unit]
  exact Iff.rfl

/-- The point that writes block `(q0, q1)`. -/
abbrev ptOf (q0 q1 : Fin 4) : Fin grid0.N := ⟨4 * q0.val + q1.val, lt_of_lt_of_eq (by omega) N_0.symm⟩
theorem onto4 : ∀ q0 q1 : Fin 4, win0_4.flush (ptOf q0 q1) = true ∧ win0_4.index (ptOf q0 q1) = ![q0.val, q1.val, 0] :=
  (by decide +kernel : ∀ q0 q1 : Fin 4, win0_4.flush (ptOf q0 q1) = true ∧ win0_4.index (ptOf q0 q1) = ![q0.val, q1.val, 0])

/-- Every index lies in a block some point writes back. -/
theorem cover4 (i : S4x4096x512.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 512 := (i 2).isLt
  obtain ⟨hf, ht⟩ := onto4 ⟨(i 0).val, hi0⟩ ⟨(i 1).val / 1024, by omega⟩
  have q0 : win0_4.index (ptOf ⟨(i 0).val, hi0⟩ ⟨(i 1).val / 1024, by omega⟩) (0 : Fin 3) = (i 0).val := congrFun ht 0
  have q1 : win0_4.index (ptOf ⟨(i 0).val, hi0⟩ ⟨(i 1).val / 1024, by omega⟩) (1 : Fin 3) = (i 1).val / 1024 := congrFun ht 1
  have q2 : win0_4.index (ptOf ⟨(i 0).val, hi0⟩ ⟨(i 1).val / 1024, by omega⟩) (2 : Fin 3) = 0 := congrFun ht 2
  refine ⟨ptOf ⟨(i 0).val, hi0⟩ ⟨(i 1).val / 1024, by omega⟩, hf, ?_⟩
  rw [mem_blk4]
  generalize ptOf ⟨(i 0).val, hi0⟩ ⟨(i 1).val / 1024, by omega⟩ = t at *
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 512 ≤ (i 2).val ∧ (i 2).val < win0_4.index t (2 : Fin 3) * 512 + 512; omega

/-- The array after the run. -/
theorem final4 (c : Dev nD) : (dats m 0 c).arrAt 4 cfg0.N = kArr (zv m c) (tb m c) :=
  (dats m 0 c).arrAt_eq_of_cover 4 _ (fun t hf => flushed4_eq m c t hf) cover4

/-- The launched rows. -/
theorem zv_eq (c : Dev nD) : zv m c = m ((c : Thread nD τ).loc main_arg0) := by
  funext y
  show V m c main_v0 y = _
  entry_read
  rfl

/-- The launched table, read flat. -/
theorem tb_apply (c : Dev nD) (h : Fin 8) (e : Fin 15) (f : Fin 31) :
    tb m c (ix1 ⟨465 * h.val + 31 * e.val + f.val, by omega⟩) = m ((c : Thread nD τ).loc main_arg1) (ix4 0 h e f) := by
  show V m c main_v2 _ = _
  entry_read
  pointwise

/-- The run, its result named. -/
theorem run : θ_run defs (onTc (τ := τ) (main (F := Ideal))) ⟨m, fun _ => 0, ρ⟩ fun r => ∀ c : Dev nD,
      r.2.mem ((c : Thread nD τ).loc main_v3) = kArr (zv m c) (tb m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 4).trans (final4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Attn

end
-- ==== Proof.Attn.RefIndex.lean ====
/- The reference's index arithmetic: which rows of keys and values, and which words of the table, its gathers read. -/
module

public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.ShloMosaic.Tactic

/-- The gather of key rows, at an index. -/
theorem rows_apply {α : Type} (x : S4x64x64x8x64.Idx → α) (idx : IVec S64x8x1 32) (b : Fin 4) (r : Fin 64) (i : Fin 8) (kc : Fin 64) (h : Fin 8) (d : Fin 64) (n : Fin 64)
    (hn : min (idx (ix3 r i 0)).toInt.toNat 63 = n.val) :
    Host.gather gather_S4x64x64x8x64_S64x8x1_S4x64x8x64x8x64_0345_1_n_n_1_2_4164864 x idx (ix6 b r i kc h d) = x (ix5 b n kc h d) := by
  unfold Host.gather
  congr 1
  funext a
  refine Fin.ext ?_
  generalize hg : gather_S4x64x64x8x64_S64x8x1_S4x64x8x64x8x64_0345_1_n_n_1_2_4164864 = g
  show g.start (ix6 b r i kc h d) idx a + g.batchCoord (ix6 b r i kc h d) a + g.offCoord (ix6 b r i kc h d) a = _
  subst hg
  match a with
  | ⟨0, _⟩ => exact (Nat.zero_add _)
  | ⟨1, _⟩ =>
    show _ = n.val
    have hsi : ∀ q, q.val = 0 → gather_S4x64x64x8x64_S64x8x1_S4x64x8x64x8x64_0345_1_n_n_1_2_4164864.siIdx (ix6 b r i kc h d) q = ix3 r i 0 := fun q hq => by
      funext b; refine Fin.ext ?_
      match b with
      | ⟨0, _⟩ => rfl
      | ⟨1, _⟩ => rfl
      | ⟨2, _⟩ => exact hq
    rw [← hn, ← hsi ⟨0, by decide⟩ rfl]
    rfl
  | ⟨2, _⟩ => exact (Nat.zero_add _)
  | ⟨3, _⟩ => exact (Nat.zero_add _)
  | ⟨4, _⟩ => exact (Nat.zero_add _)

/-- The gather of the table's words, at an index. -/
theorem words_apply {α : Type} (x : S8x15x31.Idx → α) (idx : IVec S64x64x8x64x2 32) (h : Fin 8) (r qc : Fin 64) (i : Fin 8) (kc : Fin 64) (e : Fin 15) (f : Fin 31)
    (he : min (idx (ix5 r qc i kc 0)).toInt.toNat 14 = e.val) (hf : min (idx (ix5 r qc i kc 1)).toInt.toNat 30 = f.val) :
    Host.gather gather_S8x15x31_S64x64x8x64x2_S8x64x64x8x64_0_12_n_n_12_4_811 x idx (ix5 h r qc i kc) = x (ix3 h e f) := by
  unfold Host.gather
  congr 1
  funext a
  refine Fin.ext ?_
  generalize hg : gather_S8x15x31_S64x64x8x64x2_S8x64x64x8x64_0_12_n_n_12_4_811 = g
  show g.start (ix5 h r qc i kc) idx a + g.batchCoord (ix5 h r qc i kc) a + g.offCoord (ix5 h r qc i kc) a = _
  subst hg
  match a with
  | ⟨0, _⟩ => exact (Nat.zero_add _)
  | ⟨1, _⟩ =>
    show _ = e.val
    have hsi : ∀ q, q.val = 0 → gather_S8x15x31_S64x64x8x64x2_S8x64x64x8x64_0_12_n_n_12_4_811.siIdx (ix5 h r qc i kc) q = ix5 r qc i kc 0 := fun q hq => by
      funext b; refine Fin.ext ?_
      match b with
      | ⟨0, _⟩ => rfl
      | ⟨1, _⟩ => rfl
      | ⟨2, _⟩ => rfl
      | ⟨3, _⟩ => rfl
      | ⟨4, _⟩ => exact hq
    rw [← he, ← hsi ⟨0, by decide⟩ rfl]
    rfl
  | ⟨2, _⟩ =>
    show _ = f.val
    have hsi : ∀ q, q.val = 1 → gather_S8x15x31_S64x64x8x64x2_S8x64x64x8x64_0_12_n_n_12_4_811.siIdx (ix5 h r qc i kc) q = ix5 r qc i kc 1 := fun q hq => by
      funext b; refine Fin.ext ?_
      match b with
      | ⟨0, _⟩ => rfl
      | ⟨1, _⟩ => rfl
      | ⟨2, _⟩ => rfl
      | ⟨3, _⟩ => rfl
      | ⟨4, _⟩ => exact hq
    rw [← hf, ← hsi ⟨1, by decide⟩ rfl]
    rfl

theorem key_row (r : Fin 64) (i : Fin 8) : min ((val_main_v22 (F := Ideal)) (ix3 r i 0)).toInt.toNat 63 = min (r.val - 4) 56 + i.val := by
  revert r i; decide +kernel

theorem val_row (r : Fin 64) (i : Fin 8) : min ((val_main_v29 (F := Ideal)) (ix3 r i 0)).toInt.toNat 63 = min (r.val - 4) 56 + i.val := by
  revert r i; decide +kernel

theorem row_dist (r : Fin 64) (i : Fin 8) : min ((val_main_v67 (F := Ideal)) (ix4 r 0 i 0)).toInt.toNat 14 = min (r.val - 4) 56 + 7 - r.val + i.val := by
  revert r i; decide +kernel

theorem col_dist (qc kc : Fin 64) : min ((val_main_v72 (F := Ideal)) (ix4 0 qc 0 kc)).toInt.toNat 30 = min (kc.val + 15 - qc.val) 30 := by
  revert qc kc; decide +kernel

theorem col_mask (qc kc : Fin 64) : (val_main_v47 (F := Ideal)) (ix2 qc kc) = if min (qc.val - 8) 48 ≤ kc.val ∧ kc.val < min (qc.val - 8) 48 + 16 then 1#1 else 0#1 := by
  revert qc kc; decide +kernel

end Cert.ReferenceIdeal.Attn

end
-- ==== Proof.Attn.RefValue.lean ====
/- The reference's attention, element by element. -/
module

public import proofs.«01_k».proof.Proof.Attn.RefIndex
public import Idealize.ShloMosaic.Lib.ValueIdxRank6
public import Idealize.ShloMosaic.Lib.TwoAxisContraction

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.ShloMosaic.Tactic

/-- The scaled, biased, masked score the reference gives key `j` of the window of the query at row `r` and column `qc`. -/
def rScore (Z : S4x4096x1536.Idx → EReal) (B : S1x8x15x31.Idx → EReal) (b : Fin 4) (r qc : Fin 64) (h : Fin 8) (j : Fin 512) : EReal :=
  if min (qc.val - 8) 48 ≤ j.val % 64 ∧ j.val % 64 < min (qc.val - 8) 48 + 16 then
    (∑ d : Fin 64, Z (ix3 b ⟨64 * r.val + qc.val, by omega⟩ ⟨64 * h.val + d.val, by omega⟩)
      * Z (ix3 b ⟨64 * min (r.val - 4) 56 + j.val, by omega⟩ ⟨512 + (64 * h.val + d.val), by omega⟩)) * ((8⁻¹ : ℝ) : EReal)
    + B (ix4 0 h ⟨min (r.val - 4) 56 + 7 - r.val + j.val / 64, by omega⟩ ⟨min (j.val % 64 + 15 - qc.val) 30, by omega⟩)
  else ⊥

/-- An element of the attention, as the reference computes it: each probability its own quotient. -/
def rOut (Z : S4x4096x1536.Idx → EReal) (B : S1x8x15x31.Idx → EReal) (b : Fin 4) (r qc : Fin 64) (h : Fin 8) (d : Fin 64) : EReal :=
  ∑ j : Fin 512, Z (ix3 b ⟨64 * min (r.val - 4) 56 + j.val, by omega⟩ ⟨1024 + (64 * h.val + d.val), by omega⟩)
    * Ideal.div (Ideal.exp (rScore Z B b r qc h j - Finset.univ.sup (rScore Z B b r qc h))) (∑ k, Ideal.exp (rScore Z B b r qc h k - Finset.univ.sup (rScore Z B b r qc h)))

variable (x0 : (⟨S4x4096x1536, .f32⟩ : BufTy).Contents (Elt Ideal)) (x1 : (⟨S1x8x15x31, .f32⟩ : BufTy).Contents (Elt Ideal))

theorem neg_inf : (FloatOps.ofBits .f32 0xFF800000#32 : Ideal .f32) = (⊥ : EReal) := by
  show Ideal.ofBits .f32 0xFF800000#32 = (⊥ : EReal)
  simp [Ideal.ofBits, Ideal.ieee]

theorem eighth : (FloatOps.ofBits .f32 0x3E000000#32 : Ideal .f32) = ((8⁻¹ : ℝ) : EReal) := by
  show Ideal.ofBits .f32 0x3E000000#32 = _
  simp [Ideal.ofBits, Ideal.ieee]
  rw [← EReal.coe_mul]
  norm_num

theorem zero_bits : (FloatOps.ofBits .f32 0x00000000#32 : Ideal .f32) = (0 : EReal) := by
  show Ideal.ofBits .f32 0x00000000#32 = _
  simp [Ideal.ofBits, Ideal.ieee]

theorem query_apply (b : Fin 4) (r qc : Fin 64) (h : Fin 8) (d : Fin 64) :
    val_main_v4 (F := Ideal) x0 (ix5 b r qc h d) = x0 (ix3 b ⟨64 * r.val + qc.val, by omega⟩ ⟨64 * h.val + d.val, by omega⟩) := by
  rw [val_main_v4_apply, val_main_v1_apply]
  refine congrArg x0 (funext fun a => Fin.ext ?_)
  match a with
  | ⟨0, _⟩ => show ((((b.val * 64 + r.val) * 64 + qc.val) * 8 + h.val) * 64 + d.val) / 2097152 = b.val; omega
  | ⟨1, _⟩ => show ((((b.val * 64 + r.val) * 64 + qc.val) * 8 + h.val) * 64 + d.val) / 512 % 4096 = 64 * r.val + qc.val; omega
  | ⟨2, _⟩ => show ((((b.val * 64 + r.val) * 64 + qc.val) * 8 + h.val) * 64 + d.val) % 512 = 64 * h.val + d.val; omega

theorem key_apply (b : Fin 4) (r : Fin 64) (i : Fin 8) (kc : Fin 64) (h : Fin 8) (d : Fin 64) :
    val_main_v23 (F := Ideal) x0 (ix6 b r i kc h d) = x0 (ix3 b ⟨64 * min (r.val - 4) 56 + (64 * i.val + kc.val), by omega⟩ ⟨512 + (64 * h.val + d.val), by omega⟩) := by
  unfold val_main_v23
  rw [rows_apply _ _ b r i kc h d ⟨min (r.val - 4) 56 + i.val, by omega⟩ (key_row r i), val_main_v5_apply, val_main_v2_apply]
  refine congrArg x0 (funext fun a => Fin.ext ?_)
  match a with
  | ⟨0, _⟩ => show ((((b.val * 64 + (min (r.val - 4) 56 + i.val)) * 64 + kc.val) * 8 + h.val) * 64 + d.val) / 2097152 = b.val; omega
  | ⟨1, _⟩ => show ((((b.val * 64 + (min (r.val - 4) 56 + i.val)) * 64 + kc.val) * 8 + h.val) * 64 + d.val) / 512 % 4096 = 64 * min (r.val - 4) 56 + (64 * i.val + kc.val); omega
  | ⟨2, _⟩ => show 512 + ((((b.val * 64 + (min (r.val - 4) 56 + i.val)) * 64 + kc.val) * 8 + h.val) * 64 + d.val) % 512 = 512 + (64 * h.val + d.val); omega

theorem value_apply (b : Fin 4) (r : Fin 64) (i : Fin 8) (kc : Fin 64) (h : Fin 8) (d : Fin 64) :
    val_main_v30 (F := Ideal) x0 (ix6 b r i kc h d) = x0 (ix3 b ⟨64 * min (r.val - 4) 56 + (64 * i.val + kc.val), by omega⟩ ⟨1024 + (64 * h.val + d.val), by omega⟩) := by
  unfold val_main_v30
  rw [rows_apply _ _ b r i kc h d ⟨min (r.val - 4) 56 + i.val, by omega⟩ (val_row r i), val_main_v6_apply, val_main_v3_apply]
  refine congrArg x0 (funext fun a => Fin.ext ?_)
  match a with
  | ⟨0, _⟩ => show ((((b.val * 64 + (min (r.val - 4) 56 + i.val)) * 64 + kc.val) * 8 + h.val) * 64 + d.val) / 2097152 = b.val; omega
  | ⟨1, _⟩ => show ((((b.val * 64 + (min (r.val - 4) 56 + i.val)) * 64 + kc.val) * 8 + h.val) * 64 + d.val) / 512 % 4096 = 64 * min (r.val - 4) 56 + (64 * i.val + kc.val); omega
  | ⟨2, _⟩ => show 1024 + ((((b.val * 64 + (min (r.val - 4) 56 + i.val)) * 64 + kc.val) * 8 + h.val) * 64 + d.val) % 512 = 1024 + (64 * h.val + d.val); omega

theorem table_apply (h : Fin 8) (e : Fin 15) (f : Fin 31) : val_main_v0 (F := Ideal) x1 (ix3 h e f) = x1 (ix4 0 h e f) := by
  rw [val_main_v0_apply]
  refine congrArg x1 (funext fun a => Fin.ext ?_)
  match a with
  | ⟨0, _⟩ => rfl
  | ⟨1, _⟩ => show ((h.val * 15 + e.val) * 31 + f.val) / 465 % 8 = h.val; omega
  | ⟨2, _⟩ => show ((h.val * 15 + e.val) * 31 + f.val) / 31 % 15 = e.val; omega
  | ⟨3, _⟩ => show ((h.val * 15 + e.val) * 31 + f.val) % 31 = f.val; omega

theorem word0 (r qc : Fin 64) (i : Fin 8) (kc : Fin 64) : val_main_v77 (F := Ideal) (ix5 r qc i kc 0) = val_main_v67 (F := Ideal) (ix4 r 0 i 0) := by
  unfold val_main_v77
  rw [concatenate_pair_apply_left 4 (val_main_v75 (F := Ideal)) (val_main_v76 (F := Ideal)) concatenates_S64x64x8x64x1_S64x64x8x64x1_S64x64x8x64x2_d4 (ix5 r qc i kc 0) rfl (ix5 r qc i kc 0) (fun b => by fin_cases b <;> rfl),
    val_main_v75_apply, val_main_v73_apply]
  refine congrArg (val_main_v67 (F := Ideal)) (funext fun a => Fin.ext ?_)
  match a with
  | ⟨0, _⟩ => rfl
  | ⟨1, _⟩ => rfl
  | ⟨2, _⟩ => rfl
  | ⟨3, _⟩ => rfl

theorem word1 (r qc : Fin 64) (i : Fin 8) (kc : Fin 64) : val_main_v77 (F := Ideal) (ix5 r qc i kc 1) = val_main_v72 (F := Ideal) (ix4 0 qc 0 kc) := by
  unfold val_main_v77
  rw [concatenate_pair_apply_right 4 (val_main_v75 (F := Ideal)) (val_main_v76 (F := Ideal)) concatenates_S64x64x8x64x1_S64x64x8x64x1_S64x64x8x64x2_d4 (ix5 r qc i kc 1) rfl rfl (ix5 r qc i kc 0) (fun b hb => by fin_cases b <;> first | rfl | exact absurd rfl hb) rfl,
    val_main_v76_apply, val_main_v74_apply]
  refine congrArg (val_main_v72 (F := Ideal)) (funext fun a => Fin.ext ?_)
  match a with
  | ⟨0, _⟩ => rfl
  | ⟨1, _⟩ => rfl
  | ⟨2, _⟩ => rfl
  | ⟨3, _⟩ => rfl

theorem bias_apply (h : Fin 8) (r qc : Fin 64) (i : Fin 8) (kc : Fin 64) :
    val_main_v78 (F := Ideal) x1 (ix5 h r qc i kc) = x1 (ix4 0 h ⟨min (r.val - 4) 56 + 7 - r.val + i.val, by omega⟩ ⟨min (kc.val + 15 - qc.val) 30, by omega⟩) := by
  unfold val_main_v78
  rw [words_apply _ _ h r qc i kc ⟨min (r.val - 4) 56 + 7 - r.val + i.val, by omega⟩ ⟨min (kc.val + 15 - qc.val) 30, by omega⟩
    (by rw [word0]; exact row_dist r i) (by rw [word1]; exact col_dist qc kc), table_apply]

theorem score_apply (b : Fin 4) (r : Fin 64) (h : Fin 8) (qc : Fin 64) (i : Fin 8) (kc : Fin 64) (j : Fin 512) (hj : j.val = 64 * i.val + kc.val) :
    val_main_v87 (F := Ideal) x0 x1 (ix6 b r h qc i kc) = rScore x0 x1 b r qc h j := by
  have hb : 64 * i.val + kc.val < 512 := by have := i.isLt; have := kc.isLt; clear hj; omega
  obtain rfl : j = ⟨64 * i.val + kc.val, hb⟩ := Fin.ext hj
  have em : val_main_call3_v1 (F := Ideal) (ix6 b r h qc i kc) = (if min (qc.val - 8) 48 ≤ kc.val ∧ kc.val < min (qc.val - 8) 48 + 16 then 1#1 else 0#1 : BitVec 1) := by
    rw [val_main_call3_v1_apply, val_main_v86_apply, ← col_mask qc kc]
    refine congrArg (val_main_v47 (F := Ideal)) (funext fun a => Fin.ext ?_)
    match a with
    | ⟨0, _⟩ => rfl
    | ⟨1, _⟩ => rfl
  have eb : val_main_v84 (F := Ideal) x1 (ix6 b r h qc i kc) = x1 (ix4 0 h ⟨min (r.val - 4) 56 + 7 - r.val + i.val, by omega⟩ ⟨min (kc.val + 15 - qc.val) 30, by omega⟩) := by
    rw [val_main_v84_apply, val_main_v83_apply, val_main_v79_apply, ← bias_apply x1 h r qc i kc]
    refine congrArg (val_main_v78 (F := Ideal) x1) (funext fun a => Fin.ext ?_)
    match a with
    | ⟨0, _⟩ => rfl
    | ⟨1, _⟩ => rfl
    | ⟨2, _⟩ => rfl
    | ⟨3, _⟩ => rfl
    | ⟨4, _⟩ => rfl
  have ed : val_main_v80 (F := Ideal) x0 (ix6 b r h qc i kc) = ∑ d : Fin 64, x0 (ix3 b ⟨64 * r.val + qc.val, by omega⟩ ⟨64 * h.val + d.val, by omega⟩)
      * x0 (ix3 b ⟨64 * min (r.val - 4) 56 + (64 * i.val + kc.val), by omega⟩ ⟨512 + (64 * h.val + d.val), by omega⟩) := by
    rw [val_main_v80_apply]
    refine Finset.sum_congr rfl fun d _ => ?_
    rw [← query_apply x0 b r qc h d, ← key_apply x0 b r i kc h d]
    refine congrArg₂ (· * ·) (congrArg (val_main_v4 (F := Ideal) x0) (funext fun a => Fin.ext ?_)) (congrArg (val_main_v23 (F := Ideal) x0) (funext fun a => Fin.ext ?_))
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
      | ⟨2, _⟩ => rfl
      | ⟨3, _⟩ => rfl
      | ⟨4, _⟩ => rfl
      | ⟨5, _⟩ => rfl
  have e8 : val_main_v81 (F := Ideal) (ix6 b r h qc i kc) = ((8⁻¹ : ℝ) : EReal) := by
    rw [val_main_v81_apply, val_main_cst_apply, eighth]
  have en : val_main_call3_v2 (F := Ideal) (ix6 b r h qc i kc) = (⊥ : EReal) := by
    rw [val_main_call3_v2_apply, val_main_call3_v0_apply, val_main_cst_18_apply, neg_inf]
  rw [val_main_v87_apply, em, en, val_main_v85_apply, val_main_v82_apply, ed, e8, eb]
  unfold rScore
  have h1 : (64 * i.val + kc.val) % 64 = kc.val := by omega
  have h2 : (64 * i.val + kc.val) / 64 = i.val := by omega
  simp only [h1, h2]
  split <;> rfl

theorem flat_apply (b : Fin 4) (r : Fin 64) (h : Fin 8) (qc : Fin 64) (j : Fin 512) :
    val_main_v88 (F := Ideal) x0 x1 (ix5 b r h qc j) = rScore x0 x1 b r qc h j := by
  unfold val_main_v88
  rw [← score_apply x0 x1 b r h qc ⟨j.val / 64, by omega⟩ ⟨j.val % 64, by omega⟩ j (by show j.val = 64 * (j.val / 64) + j.val % 64; omega)]
  refine shapeCast_apply _ shapeCasts_S4x64x8x64x8x64_S4x64x8x64x512 _ _ ?_
  rw [Shape.rowMajor_val_six, Shape.rowMajor_val_five]
  show ((((b.val * 64 + r.val) * 8 + h.val) * 64 + qc.val) * 8 + j.val / 64) * 64 + j.val % 64 = (((b.val * 64 + r.val) * 8 + h.val) * 64 + qc.val) * 512 + j.val
  omega

theorem max_apply (b : Fin 4) (r : Fin 64) (h : Fin 8) (qc : Fin 64) :
    val_main_v91 (F := Ideal) x0 x1 (ix4 b r h qc) = Finset.univ.sup (rScore x0 x1 b r qc h) := by
  have e : val_main_v89 (F := Ideal) x0 x1 (ix4 b r h qc) = Finset.univ.sup (rScore x0 x1 b r qc h) := by
    unfold val_main_v89
    pointwise
    rw [val_main_cst_19_apply, neg_inf]
    refine Finset.sup_congr rfl fun j _ => ?_
    exact flat_apply x0 x1 b r h qc j
  rw [val_main_v91_apply, e, val_main_v90_apply, val_main_cst_20_apply, neg_inf]
  exact max_eq_right bot_le

theorem exp_apply (b : Fin 4) (r : Fin 64) (h : Fin 8) (qc : Fin 64) (j : Fin 512) :
    val_main_v95 (F := Ideal) x0 x1 (ix5 b r h qc j) = Ideal.exp (rScore x0 x1 b r qc h j - Finset.univ.sup (rScore x0 x1 b r qc h)) := by
  have e : val_main_v93 (F := Ideal) x0 x1 (ix5 b r h qc j) = Finset.univ.sup (rScore x0 x1 b r qc h) := by
    rw [val_main_v93_apply, val_main_v92_apply, ← max_apply x0 x1 b r h qc]
    refine congrArg (val_main_v91 (F := Ideal) x0 x1) (funext fun a => Fin.ext ?_)
    match a with
    | ⟨0, _⟩ => rfl
    | ⟨1, _⟩ => rfl
    | ⟨2, _⟩ => rfl
    | ⟨3, _⟩ => rfl
  rw [val_main_v95_apply, val_main_v94_apply, e, flat_apply]
  rfl

theorem total_apply (b : Fin 4) (r : Fin 64) (h : Fin 8) (qc : Fin 64) (j : Fin 512) :
    val_main_v98 (F := Ideal) x0 x1 (ix5 b r h qc j) = ∑ k, Ideal.exp (rScore x0 x1 b r qc h k - Finset.univ.sup (rScore x0 x1 b r qc h)) := by
  rw [val_main_v98_apply, val_main_v97_apply, val_main_v96_apply, val_main_cst_21_apply, zero_bits, zero_add]
  refine Finset.sum_congr rfl fun k _ => ?_
  rw [← exp_apply x0 x1 b r h qc k]
  refine congrArg (val_main_v95 (F := Ideal) x0 x1) (funext fun a => Fin.ext ?_)
  match a with
  | ⟨0, _⟩ => rfl
  | ⟨1, _⟩ => rfl
  | ⟨2, _⟩ => rfl
  | ⟨3, _⟩ => rfl
  | ⟨4, _⟩ => rfl

theorem prob_apply (b : Fin 4) (r : Fin 64) (h : Fin 8) (qc : Fin 64) (i : Fin 8) (kc : Fin 64) (j : Fin 512) (hj : j.val = 64 * i.val + kc.val) :
    val_main_v100 (F := Ideal) x0 x1 (ix6 b r h qc i kc)
      = Ideal.div (Ideal.exp (rScore x0 x1 b r qc h j - Finset.univ.sup (rScore x0 x1 b r qc h))) (∑ k, Ideal.exp (rScore x0 x1 b r qc h k - Finset.univ.sup (rScore x0 x1 b r qc h))) := by
  have e : val_main_v100 (F := Ideal) x0 x1 (ix6 b r h qc i kc) = val_main_v99 (F := Ideal) x0 x1 (ix5 b r h qc j) := by
    unfold val_main_v100
    refine shapeCast_apply _ shapeCasts_S4x64x8x64x512_S4x64x8x64x8x64 _ _ ?_
    rw [Shape.rowMajor_val_six, Shape.rowMajor_val_five]
    show (((b.val * 64 + r.val) * 8 + h.val) * 64 + qc.val) * 512 + j.val = ((((b.val * 64 + r.val) * 8 + h.val) * 64 + qc.val) * 8 + i.val) * 64 + kc.val
    omega
  rw [e, val_main_v99_apply, exp_apply, total_apply]
  rfl

/-- The second contraction, over the window's rows and columns. -/
theorem mix_apply (b : Fin 4) (r : Fin 64) (h : Fin 8) (d qc : Fin 64) :
    val_main_v101 (F := Ideal) x0 x1 (ix5 b r h d qc) = ∑ i : Fin 8, ∑ kc : Fin 64, val_main_v30 (F := Ideal) x0 (ix6 b r i kc h d) * val_main_v100 (F := Ideal) x0 x1 (ix6 b r h qc i kc) := by
  unfold val_main_v101
  generalize val_main_v30 (F := Ideal) x0 = L
  generalize val_main_v100 (F := Ideal) x0 x1 = R
  simp only [Host.dotGeneral]
  rw [Ideal.dotGeneral_apply, ValueIdx.sum_contr2 dot_S4x64x8x64x8x64_S4x64x8x64x8x64_S4x64x8x64x64_23_45_5_3_014_012 8 64 rfl rfl rfl]
  refine Finset.sum_congr rfl fun i _ => Finset.sum_congr rfl fun kc _ => ?_
  have h0 := ValueIdx.contrEquiv2_symm_val0 dot_S4x64x8x64x8x64_S4x64x8x64x8x64_S4x64x8x64x64_23_45_5_3_014_012 8 64 rfl rfl rfl (i, kc)
  have h1 := ValueIdx.contrEquiv2_symm_val1 dot_S4x64x8x64x8x64_S4x64x8x64x8x64_S4x64x8x64x64_23_45_5_3_014_012 8 64 rfl rfl rfl (i, kc)
  generalize (ValueIdx.contrEquiv2 dot_S4x64x8x64x8x64_S4x64x8x64x8x64_S4x64x8x64x64_23_45_5_3_014_012 8 64 rfl rfl rfl).symm (i, kc) = q at h0 h1
  refine congrArg₂ (· * ·) (congrArg L (funext fun a => Fin.ext ?_)) (congrArg R (funext fun a => Fin.ext ?_))
  · match a with
    | ⟨0, _⟩ => rfl
    | ⟨1, _⟩ => rfl
    | ⟨2, _⟩ => exact h0
    | ⟨3, _⟩ => exact h1
    | ⟨4, _⟩ => rfl
    | ⟨5, _⟩ => rfl
  · match a with
    | ⟨0, _⟩ => rfl
    | ⟨1, _⟩ => rfl
    | ⟨2, _⟩ => rfl
    | ⟨3, _⟩ => rfl
    | ⟨4, _⟩ => exact h0
    | ⟨5, _⟩ => exact h1

/-- A sum over the window's rows and columns is the sum over its keys. -/
theorem sum_keys (f : Fin 512 → EReal) : (∑ i : Fin 8, ∑ kc : Fin 64, f ⟨64 * i.val + kc.val, by omega⟩) = ∑ j, f j := by
  rw [← Fintype.sum_prod_type' (fun (i : Fin 8) (kc : Fin 64) => f ⟨64 * i.val + kc.val, by omega⟩)]
  refine Fintype.sum_equiv (finProdFinEquiv (m := 8) (n := 64)) _ _ fun p => congrArg f (Fin.ext ?_)
  show 64 * p.1.val + p.2.val = p.2.val + 64 * p.1.val
  omega

/-- The array the reference leaves. -/
theorem result_apply (b : Fin 4) (r qc : Fin 64) (h : Fin 8) (d : Fin 64) (y : S4x4096x512.Idx) (h0 : (y 0).val = b.val) (h1 : (y 1).val = 64 * r.val + qc.val) (h2 : (y 2).val = 64 * h.val + d.val) :
    val_main_v104 (F := Ideal) x0 x1 y = rOut x0 x1 b r qc h d := by
  have e : val_main_v103 (F := Ideal) x0 x1 y = val_main_v101 (F := Ideal) x0 x1 (ix5 b r h d qc) := by
    rw [val_main_v103_apply, val_main_v102_apply]
    refine congrArg (val_main_v101 (F := Ideal) x0 x1) (funext fun a => Fin.ext ?_)
    match a with
    | ⟨0, _⟩ => show (((y 0).val * 4096 + (y 1).val) * 512 + (y 2).val) / 2097152 = b.val; omega
    | ⟨1, _⟩ => show (((y 0).val * 4096 + (y 1).val) * 512 + (y 2).val) / 32768 % 64 = r.val; omega
    | ⟨2, _⟩ => show (((y 0).val * 4096 + (y 1).val) * 512 + (y 2).val) / 64 % 8 = h.val; omega
    | ⟨3, _⟩ => show (((y 0).val * 4096 + (y 1).val) * 512 + (y 2).val) % 64 = d.val; omega
    | ⟨4, _⟩ => show (((y 0).val * 4096 + (y 1).val) * 512 + (y 2).val) / 512 % 64 = qc.val; omega
  show val_main_v103 (F := Ideal) x0 x1 y = _
  rw [e, mix_apply]
  unfold rOut
  rw [← sum_keys]
  refine Finset.sum_congr rfl fun i _ => Finset.sum_congr rfl fun kc _ => ?_
  rw [value_apply, prob_apply x0 x1 b r h qc i kc ⟨64 * i.val + kc.val, by omega⟩ rfl]

end Cert.ReferenceIdeal.Attn

end
-- ==== Proof.Attn.Soft.lean ====
/- The softmax law the attention needs: one quotient of two base-two sums is the sum of the quotients of exponentials. -/
module

public import proofs.«01_k».proof.Proof.Attn.Array
public import proofs.«01_k».proof.Proof.Attn.RefValue

@[expose] public section

set_option maxRecDepth 16384

noncomputable section

namespace Cert.Attn

open Idealize.ShloMosaic Cert.KernelIdeal.Attn

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A power of two at a scaled exponent is an exponential. -/
theorem rpow_two (x : ℝ) : Real.rpow 2 (x * (Real.log 2)⁻¹) = Real.exp x := by
  have h2 : Real.log 2 ≠ 0 := (Real.log_pos (by norm_num)).ne'
  show (2 : ℝ) ^ (x * (Real.log 2)⁻¹) = _
  rw [Real.rpow_def_of_pos (by norm_num)]
  congr 1
  field_simp

theorem log2_inv_pos : (0 : ℝ) < (Real.log 2)⁻¹ := inv_pos.mpr (Real.log_pos (by norm_num))

/-- The law, for scores that are real or masked out, one of them real, and real values. -/
theorem soft2_eq (K S : Fin 512 → EReal) (v : Fin 512 → ℝ) (hS : ∀ j, S j = ⊥ ∨ ∃ x : ℝ, S j = x) (hne : ∃ j, ∃ x : ℝ, S j = x)
    (hK : ∀ j, K j = S j * (((Real.log 2)⁻¹ : ℝ) : EReal)) :
    soft2 K (fun j => (v j : EReal))
      = ∑ j, (v j : EReal) * Ideal.div (Ideal.exp (S j - Finset.univ.sup S)) (∑ k, Ideal.exp (S k - Finset.univ.sup S)) := by
  obtain ⟨j0, -, h0⟩ := Finset.exists_mem_eq_sup (Finset.univ : Finset (Fin 512)) ⟨0, Finset.mem_univ 0⟩ S
  obtain ⟨j1, x1, h1⟩ := hne
  have le : ∀ j, S j ≤ S j0 := fun j => h0 ▸ Finset.le_sup (f := S) (Finset.mem_univ j)
  obtain ⟨m, hm⟩ : ∃ m : ℝ, S j0 = m := by
    rcases hS j0 with h | h
    · have := le j1
      rw [h, h1, le_bot_iff] at this
      exact absurd this (EReal.coe_ne_bot _)
    · exact h
  have hbot : (⊥ : EReal) * (((Real.log 2)⁻¹ : ℝ) : EReal) = ⊥ := EReal.bot_mul_coe_of_pos log2_inv_pos
  have supK : Finset.univ.sup K = ((m * (Real.log 2)⁻¹ : ℝ) : EReal) := by
    apply le_antisymm
    · refine Finset.sup_le fun j _ => ?_
      rw [hK]
      rcases hS j with h | ⟨x, h⟩
      · rw [h, hbot]; exact bot_le
      · have := le j
        rw [h, hm, EReal.coe_le_coe_iff] at this
        rw [h, ← EReal.coe_mul, EReal.coe_le_coe_iff]
        exact mul_le_mul_of_nonneg_right this log2_inv_pos.le
    · have := Finset.le_sup (f := K) (Finset.mem_univ j0)
      rwa [hK, hm, ← EReal.coe_mul] at this
  have hp : ∀ j, ∃ p : ℝ, 0 ≤ p ∧ Ideal.exp (S j - Finset.univ.sup S) = (p : EReal) ∧ Ideal.exp2 (K j - Finset.univ.sup K) = (p : EReal) := by
    intro j
    rw [supK, h0, hm, hK]
    rcases hS j with h | ⟨x, h⟩
    · refine ⟨0, le_rfl, ?_, ?_⟩
      · rw [h, EReal.bot_sub]; rfl
      · rw [h, hbot, EReal.bot_sub]; rfl
    · refine ⟨Real.exp (x - m), (Real.exp_pos _).le, ?_, ?_⟩
      · rw [h, ← EReal.coe_sub, Ideal.exp_coe]
      · rw [h, ← EReal.coe_mul, ← EReal.coe_sub, ← sub_mul, Ideal.exp2_coe, rpow_two]
  choose p p0 pe p2 using hp
  have pone : p j0 = 1 := by
    have := pe j0
    rw [h0, hm, ← EReal.coe_sub, sub_self, Ideal.exp_coe, Real.exp_zero] at this
    exact_mod_cast this.symm
  have lpos : 0 < ∑ j, p j := Finset.sum_pos' (fun j _ => p0 j) ⟨j0, Finset.mem_univ _, by rw [pone]; norm_num⟩
  unfold soft2
  simp only [pe, p2]
  rw [← coe_sum, Ideal.div_coe lpos.ne']
  have e1 : (∑ j, (p j : EReal) * (v j : EReal)) = ((∑ j, p j * v j : ℝ) : EReal) := by
    rw [coe_sum]; exact Finset.sum_congr rfl fun j _ => (EReal.coe_mul _ _).symm
  rw [e1, ← EReal.coe_mul, Finset.sum_mul, coe_sum]
  refine Finset.sum_congr rfl fun j _ => ?_
  rw [Ideal.div_coe lpos.ne', ← EReal.coe_mul, ← EReal.coe_mul]
  congr 1
  ring

end Cert.Attn

end
-- ==== Proof.Attn.Equal.lean ====
/- The attention kernel and the plain attention leave equal arrays, from finite arguments. -/
module

public import proofs.«01_k».proof.Defs
public import proofs.«01_k».proof.Proof.Attn.Soft
public import proofs.«01_k».proof.Proof.Gen.ReferenceIdeal.Run
public import proofs.«01_k».proof.Proof.Gen.Pre_finite
public import Idealize.ShloMosaic.Lib.ReduceAll
public import Idealize.ShloMosaic.Lib.KernelVsHost

@[expose] public section

set_option maxRecDepth 16384

noncomputable section

namespace Cert.Attn

open Idealize.ShloMosaic Idealize.ShloMosaic.TcCoe Idealize.SL.Sem Cert.KernelIdeal.Attn Cert.ReferenceIdeal.Attn

theorem named_l2e : l2e = (((Real.log 2)⁻¹ : ℝ) : EReal) := IdealRules.named_const.ideal_named_scalar _ _ _ _ rfl

theorem named_neg : neg = (⊥ : EReal) := IdealRules.named_const.ideal_named_scalar _ _ _ _ rfl

theorem named_qs : qs = ((8⁻¹ * (Real.log 2)⁻¹ : ℝ) : EReal) := IdealRules.named_const.ideal_named_scalar _ _ _ _ rfl

/-- A value whose magnitude is below the infinity is real. -/
theorem real_of (x : Ideal .f32) (h : FloatOps.cmpf .olt (FloatOps.hostAbsf x) (FloatOps.ofBits (F := Ideal) .f32 0x7F800000#32) = 1#1) : ∃ a : ℝ, (x : EReal) = a := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have key : ∀ y : EReal, BitVec.ofBool (decide (max y (-y) < ⊤)) = 1#1 → ∃ a : ℝ, y = a := by
    intro y hy
    induction y using EReal.rec with
    | bot => simp at hy
    | coe a => exact ⟨a, rfl⟩
    | top => simp at hy
  exact key x h

instance : Subsingleton Cert.Pre_finite.S_.Idx := ⟨fun a b => funext fun i => i.elim0⟩

/-- What the precondition says: both arrays are of real numbers. -/
theorem finite_spec [Cert.Pre_finite.Facts] (Z : FVec Ideal Cert.Pre_finite.S4x4096x1536 .f32) (B : FVec Ideal Cert.Pre_finite.S1x8x15x31 .f32)
    (h : Cert.Pre_finite.fn (F := Ideal) Z B = fun _ => 1#1) : (∀ i, ∃ a : ℝ, (Z i : EReal) = a) ∧ (∀ i, ∃ a : ℝ, (B i : EReal) = a) := by
  have h0 := congrFun h (fun i => i.elim0)
  have hand : ∀ a b : BitVec 1, IntOp.andi a b = 1#1 → a = 1#1 ∧ b = 1#1 := by decide
  obtain ⟨ha, hb⟩ := hand _ _ h0
  exact ⟨fun i => real_of _ (Host.reduce_andi_all _ _ _ _ _ ha i), fun i => real_of _ (Host.reduce_andi_all _ _ _ _ _ hb i)⟩

/-- A sum of products of reals scaled on one factor. -/
theorem dot_scaled (f g : Fin 64 → ℝ) (s : ℝ) :
    (∑ d, (f d : EReal) * ((g d : EReal) * (s : EReal))) = (((∑ d, g d * f d) * s : ℝ) : EReal) := by
  rw [Finset.sum_mul, coe_sum]
  refine Finset.sum_congr rfl fun d _ => ?_
  rw [← EReal.coe_mul, ← EReal.coe_mul]
  congr 1
  ring

theorem dot_real (f g : Fin 64 → ℝ) : (∑ d, (g d : EReal) * (f d : EReal)) = ((∑ d, g d * f d : ℝ) : EReal) := by
  rw [coe_sum]
  exact Finset.sum_congr rfl fun d _ => (EReal.coe_mul _ _).symm

variable (z : Cert.KernelIdeal.S4x4096x1536.Idx → ℝ) (w : Cert.ReferenceIdeal.S1x8x15x31.Idx → ℝ)

/-- The kernel's scores are the reference's, scaled. -/
theorem score_scaled (Z : Cert.KernelIdeal.S4x4096x1536.Idx → EReal) (T : Cert.KernelIdeal.S3720.Idx → EReal) (B : Cert.ReferenceIdeal.S1x8x15x31.Idx → EReal)
    (hZ : ∀ i, Z i = z i) (hB : ∀ i, B i = w i)
    (hT : ∀ (h : Fin 8) (e : Fin 15) (f : Fin 31), T (ix1 ⟨465 * h.val + 31 * e.val + f.val, by omega⟩) = B (ix4 0 h e f))
    (b : Fin 4) (r qc : Fin 64) (h : Fin 8) (j : Fin 512) :
    kScore Z T b r qc h j = rScore Z B b r qc h j * (((Real.log 2)⁻¹ : ℝ) : EReal) := by
  unfold kScore rScore
  have hb : min (r.val - 4) 56 + 7 - r.val + j.val / 64 < 15 := by omega
  have hc : min (j.val % 64 + 15 - qc.val) 30 < 31 := by omega
  have eT := hT h ⟨min (r.val - 4) 56 + 7 - r.val + j.val / 64, hb⟩ ⟨min (j.val % 64 + 15 - qc.val) 30, hc⟩
  rw [named_l2e, named_neg, named_qs]
  simp only [hZ]
  rw [dot_scaled, dot_real]
  by_cases hv : min (qc.val - 8) 48 ≤ j.val % 64 ∧ j.val % 64 < min (qc.val - 8) 48 + 16
  · rw [if_pos hv, if_pos hv]
    have eT' : T (ix1 ⟨465 * h.val + 31 * (winRow r.val + 7 - r.val + j.val / 64) + min (j.val % 64 + 15 - qc.val) 30, by have := winDist_le r.val r.isLt; omega⟩) = (w (ix4 0 h ⟨min (r.val - 4) 56 + 7 - r.val + j.val / 64, hb⟩ ⟨min (j.val % 64 + 15 - qc.val) 30, hc⟩) : EReal) := eT.trans (hB _)
    rw [eT', hB]
    simp only [← EReal.coe_mul, ← EReal.coe_add]
    congr 1
    ring
  · rw [if_neg hv, if_neg hv, EReal.add_bot, EReal.bot_mul_coe_of_pos log2_inv_pos]

/-- The two arrays at an element. -/
theorem out_eq (Z : Cert.KernelIdeal.S4x4096x1536.Idx → EReal) (T : Cert.KernelIdeal.S3720.Idx → EReal) (B : Cert.ReferenceIdeal.S1x8x15x31.Idx → EReal)
    (hZ : ∀ i, Z i = z i) (hB : ∀ i, B i = w i)
    (hT : ∀ (h : Fin 8) (e : Fin 15) (f : Fin 31), T (ix1 ⟨465 * h.val + 31 * e.val + f.val, by omega⟩) = B (ix4 0 h e f))
    (b : Fin 4) (r qc : Fin 64) (h : Fin 8) (d : Fin 64) : kOut Z T b r qc h d = rOut Z B b r qc h d := by
  have real : ∀ j : Fin 512, (min (qc.val - 8) 48 ≤ j.val % 64 ∧ j.val % 64 < min (qc.val - 8) 48 + 16) → ∃ x : ℝ, rScore Z B b r qc h j = x := by
    intro j hv
    unfold rScore
    rw [if_pos hv]
    simp only [hZ]
    rw [dot_real, hB, ← EReal.coe_mul, ← EReal.coe_add]
    exact ⟨_, rfl⟩
  unfold kOut rOut
  have ev : (fun j : Fin 512 => Z (ix3 b ⟨64 * winRow r.val + j.val, by have := winRow_le r.val; omega⟩ ⟨1024 + (64 * h.val + d.val), by omega⟩))
      = fun j => ((z (ix3 b ⟨64 * winRow r.val + j.val, by have := winRow_le r.val; omega⟩ ⟨1024 + (64 * h.val + d.val), by omega⟩) : ℝ) : EReal) := funext fun j => hZ _
  rw [ev]
  refine (soft2_eq _ (rScore Z B b r qc h) _ (fun j => ?_) ?_ (score_scaled z w Z T B hZ hB hT b r qc h)).trans ?_
  · by_cases hv : min (qc.val - 8) 48 ≤ j.val % 64 ∧ j.val % 64 < min (qc.val - 8) 48 + 16
    · exact Or.inr (real j hv)
    · refine Or.inl ?_
      unfold rScore
      rw [if_neg hv]
  · refine ⟨⟨min (qc.val - 8) 48, by omega⟩, real _ ?_⟩
    show min (qc.val - 8) 48 ≤ min (qc.val - 8) 48 % 64 ∧ min (qc.val - 8) 48 % 64 < min (qc.val - 8) 48 + 16
    omega
  · exact Finset.sum_congr rfl fun j _ => congrArg₂ (· * ·) (hZ _).symm rfl

theorem algebraic [hP : Cert.Pre_finite.Facts] : algebraic_KernelIdeal_ReferenceIdeal_pre_finite := by
  intro m g m' g' hpre hm
  refine ⟨fun c => kArr (zv m c) (tb m c), Cert.KernelIdeal.Attn.run m g, ?_⟩
  refine (θ_run Cert.ReferenceIdeal.defs _ _).mono (fun r h c => ⟨(h c).1.trans ?_, (h c).2⟩) (Cert.ReferenceIdeal.Value.run m' g')
  rw [Cert.ReferenceIdeal.Read.val_main_v104_eq, (hm c).1, (hm c).2]
  obtain ⟨hZ, hB⟩ := finite_spec _ _ (hpre c)
  choose z hz using hZ
  choose w hw using hB
  funext y
  have y1 : (y 1).val < 4096 := (y 1).isLt
  have y2 : (y 2).val < 512 := (y 2).isLt
  rw [result_apply _ _ ⟨(y 0).val, (y 0).isLt⟩ ⟨(y 1).val / 64, by omega⟩ ⟨(y 1).val % 64, by omega⟩ ⟨(y 2).val / 64, by omega⟩ ⟨(y 2).val % 64, by omega⟩ y rfl
    (by show (y 1).val = 64 * ((y 1).val / 64) + (y 1).val % 64; omega) (by show (y 2).val = 64 * ((y 2).val / 64) + (y 2).val % 64; omega)]
  refine ((out_eq z w _ _ _ ?_ ?_ ?_ _ _ _ _ _).symm)
  · intro i; exact hz i
  · intro i; exact hw i
  · intro h e f; exact tb_apply m c h e f

end Cert.Attn

end
-- ==== Proof.Ffn.Token.lean ====
/- One token of the merge and the feed-forward, at the extended reals: the formulas that the kernel's blocks and the
   reference's arrays are both read as. -/
module

public import Idealize.ShloMosaic.Lib.Pointwise

@[expose] public section

noncomputable section

namespace Cert.Token

open Idealize.ShloMosaic

/-- The two branches, each mapped to the model's width and gated. -/
def merged (ya x0 yc u dk : Fin 512 → EReal) (ga gh : Fin 1024 → EReal) (wa wh : Fin 512 → Fin 1024 → EReal) (j : Fin 1024) : EReal :=
  Ideal.logistic (ga j) * ∑ k, ya k * wa k j + Ideal.logistic (gh j) * ∑ k, x0 k * (yc k + u k * dk k) * wh k j

/-- A row times a matrix, onto another row. -/
def onto {n k : ℕ} (x : Fin n → EReal) (a : Fin k → EReal) (w : Fin k → Fin n → EReal) (j : Fin n) : EReal :=
  x j + ∑ e, a e * w e j

/-- The row over the root of its mean square, scaled by the gains. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- A hidden column's activation. -/
def act {n : ℕ} (h : Fin 1024 → EReal) (wg wu : Fin 1024 → Fin n → EReal) (f : Fin n) : EReal :=
  (∑ k, h k * wg k f) * Ideal.logistic (∑ k, h k * wg k f) * ∑ k, h k * wu k f

/-- The feed-forward, onto its row. -/
def ffn (x g : Fin 1024 → EReal) (wg wu : Fin 1024 → Fin 2816 → EReal) (wd : Fin 2816 → Fin 1024 → EReal) : Fin 1024 → EReal :=
  onto x (act (rms x g) wg wu) wd

/-- A token's row of an array of tokens. -/
abbrev tokRow {B L n : ℕ} (A : (⟨3, ![B, L, n]⟩ : Shape).Idx → EReal) (b : Fin B) (l : Fin L) : Fin n → EReal := fun k => A (ix3 b l k)
/-- A matrix held with a leading axis of one. -/
abbrev mat1 {k n : ℕ} (A : (⟨3, ![1, k, n]⟩ : Shape).Idx → EReal) : Fin k → Fin n → EReal := fun e j => A (ix3 0 e j)
/-- A row held with a leading axis of one. -/
abbrev row1 {n : ℕ} (A : (⟨2, ![1, n]⟩ : Shape).Idx → EReal) : Fin n → EReal := fun k => A (ix2 0 k)

/-- A token's final row, from the call's arguments. -/
def tok {B L : ℕ} (a0 a1 a2 a3 : (⟨3, ![B, L, 512]⟩ : Shape).Idx → EReal) (a4 : (⟨3, ![B, L, 2048]⟩ : Shape).Idx → EReal) (a5 : (⟨3, ![B, L, 1024]⟩ : Shape).Idx → EReal) (a6 : (⟨2, ![1, 512]⟩ : Shape).Idx → EReal)
    (a7 a8 : (⟨3, ![1, 512, 1024]⟩ : Shape).Idx → EReal) (a9 : (⟨3, ![1, 1024, 1024]⟩ : Shape).Idx → EReal) (a10 : (⟨2, ![1, 1024]⟩ : Shape).Idx → EReal) (a11 a12 : (⟨3, ![1, 1024, 2816]⟩ : Shape).Idx → EReal)
    (a13 : (⟨3, ![1, 2816, 1024]⟩ : Shape).Idx → EReal) (a14 : (⟨1, ![1024]⟩ : Shape).Idx → EReal) (b : Fin B) (l : Fin L) : Fin 1024 → EReal :=
  rms (ffn (onto (tokRow a5 b l) (merged (tokRow a0 b l) (tokRow a3 b l) (tokRow a1 b l) (tokRow a2 b l) (row1 a6)
      (fun k => a4 (ix3 b l ⟨k.val, by omega⟩)) (fun k => a4 (ix3 b l ⟨1024 + k.val, by omega⟩)) (mat1 a7) (mat1 a8)) (mat1 a9))
    (row1 a10) (mat1 a11) (mat1 a12) (mat1 a13)) (fun k => a14 (ix1 k))

/-- A sum over the hidden columns, by slices of 256. -/
theorem sum_slices (f : Fin 2816 → EReal) : ∑ k, f k = ∑ c : Fin 11, ∑ k : Fin 256, f ⟨256 * c.val + k.val, by omega⟩ := by
  have h : (11 * 256 : ℕ) = 2816 := by norm_num
  rw [← Fintype.sum_prod_type' (fun (c : Fin 11) (k : Fin 256) => f ⟨256 * c.val + k.val, by omega⟩)]
  refine (Fintype.sum_equiv (finProdFinEquiv.trans (finCongr h)) _ _ fun p => ?_).symm
  refine congrArg f (Fin.ext ?_)
  show 256 * p.1.val + p.2.val = p.2.val + 256 * p.1.val
  omega

/-- The slices added one by one onto the row are the whole sum added to it. -/
theorem onto_slices (x : Fin 1024 → EReal) (a : Fin 2816 → EReal) (w : Fin 2816 → Fin 1024 → EReal) (j : Fin 1024) (s : Fin 11 → EReal)
    (hs : ∀ c : Fin 11, s c = ∑ k : Fin 256, a ⟨256 * c.val + k.val, by omega⟩ * w ⟨256 * c.val + k.val, by omega⟩ j) :
    x j + s 0 + s 1 + s 2 + s 3 + s 4 + s 5 + s 6 + s 7 + s 8 + s 9 + s 10 = onto x a w j := by
  unfold onto
  rw [sum_slices, ← Finset.sum_congr rfl fun c _ => hs c]
  simp only [Fin.sum_univ_succ, Fin.sum_univ_zero, add_assoc, add_zero]
  rfl

end Cert.Token

end
-- ==== Proof.Ffn.Block.lean ====
/- The block of tokens a grid point of the merge and feed-forward kernel leaves, element by element. -/
module

public import proofs.«01_k».proof.Proof.Gen.FfnIdeal.Frame
public import proofs.«01_k».proof.Proof.Ffn.Token
public import Idealize.ShloMosaic.Lib.Pipeline.ValueKit.Tiles

@[expose] public section

set_option maxRecDepth 16384

noncomputable section

namespace Cert.FfnIdeal.Val

open Cert.FfnIdeal Cert.FfnIdeal.Gen Idealize.ShloMosaic Idealize.ShloMosaic.TcCoe Idealize.ShloMosaic.Tactic Cert.Token

/-- A row of a block. -/
abbrev rowOf {m n : ℕ} {e : FTy} (v : FVec Ideal ⟨2, ![m, n]⟩ e) (p : Fin m) : Fin n → EReal := fun k => v (ix2 p k)
/-- A matrix by its two coordinates. -/
abbrev matOf {m n : ℕ} {e : FTy} (v : FVec Ideal ⟨2, ![m, n]⟩ e) : Fin m → Fin n → EReal := fun k j => v (ix2 k j)

theorem pay1_apply (x0v ycv uv : FVec Ideal S512x512 .bf16) (dk : FVec Ideal S1x512 .f32) (ya : FVec Ideal S512x512 .bf16) (wa wh ga gh : FVec Ideal S512x1024 .bf16) (p : Fin 512) (j : Fin 1024) :
    k0_pay1 (F := Ideal) x0v ycv uv dk ya wa wh ga gh (ix2 p j)
      = merged (rowOf ya p) (rowOf x0v p) (rowOf ycv p) (rowOf uv p) (rowOf dk 0) (rowOf ga p) (rowOf gh p) (matOf wa) (matOf wh) j := by
  pointwise [k0_pay1]
  rfl

theorem pay3_apply (v34 v36 : FVec Ideal S512x1024 .f32) (wo : FVec Ideal S1024x1024 .bf16) (p : Fin 512) (j : Fin 1024) :
    k0_pay3 (F := Ideal) v34 v36 wo (ix2 p j) = onto (rowOf v36 p) (rowOf v34 p) (matOf wo) j := by
  pointwise [k0_pay3]
  rfl

theorem pay4_apply (v34 v36 : FVec Ideal S512x1024 .f32) (wo : FVec Ideal S1024x1024 .bf16) (g : FVec Ideal S1x1024 .f32) (p : Fin 512) (j : Fin 1024) :
    k0_pay4 (F := Ideal) v34 v36 wo g (ix2 p j) = rms (rowOf (k0_pay3 (F := Ideal) v34 v36 wo) p) (rowOf g 0) j := by
  unfold k0_pay4
  generalize k0_pay3 (F := Ideal) v34 v36 wo = y
  pointwise
  rfl

/-- One slice of the feed-forward's hidden columns, multiplied back. -/
def part (h : FVec Ideal S512x1024 .bf16) (wg wu : FVec Ideal S1024x256 .bf16) (wd : FVec Ideal S256x1024 .bf16) : FVec Ideal S512x1024 .f32 :=
  have z : FVec Ideal S512x256 .f32 := constant S512x256 .f32 0x00000000#32
  have gate : FVec Ideal S512x256 .f32 := matmul dot_S512x1024_S1024x256_S512x256_1_0_0_1_n_n none h (shapeCast S1024x256 wg shapeCasts_S1024x256_S1024x256) z
  have up : FVec Ideal S512x256 .f32 := matmul dot_S512x1024_S1024x256_S512x256_1_0_0_1_n_n none h (shapeCast S1024x256 wu shapeCasts_S1024x256_S1024x256) z
  matmul dot_S512x256_S256x1024_S512x1024_1_0_0_1_n_n none (truncf .bf16 (mulf (mulf gate (logistic gate)) up) bitsLt_bf16_f32)
    (shapeCast S256x1024 wd shapeCasts_S256x1024_S256x1024) (constant S512x1024 .f32 0x00000000#32)

theorem part_apply (h : FVec Ideal S512x1024 .bf16) (wg wu : FVec Ideal S1024x256 .bf16) (wd : FVec Ideal S256x1024 .bf16) (p : Fin 512) (j : Fin 1024) :
    part h wg wu wd (ix2 p j) = ∑ k : Fin 256, act (rowOf h p) (matOf wg) (matOf wu) k * wd (ix2 k j) := by
  pointwise [part]
  rfl

/-- The normalised rows that the kernel ends with. -/
def last (x : FVec Ideal S512x1024 .f32) (g : FVec Ideal S1x1024 .f32) : FVec Ideal S512x1024 .f32 :=
  have s : FVec Ideal S512 .f32 := multiReduction .add [1] S512 (mulf x x) 0x00000000#32 reduces_S512x1024_S512 (.inl rfl) rfl
  have m : FVec Ideal S512x1 .f32 := divf (shapeCast S512x1 s shapeCasts_S512_S512x1) (broadcast S512x1 (Scalar.ofBits (F := Ideal) .f32 0x44800000#32))
  have r : FVec Ideal S512x1 .f32 := rsqrt (addf m (broadcast S512x1 (Scalar.ofBits (F := Ideal) .f32 0x358637BD#32)))
  mulf (mulf x (broadcastTo S512x1024 r broadcasts_S512x1_S512x1024))
    (broadcastTo S512x1024 (shapeCast S1x1024 g shapeCasts_S1x1024_S1x1024) broadcasts_S1x1024_S512x1024)

theorem last_apply (x : FVec Ideal S512x1024 .f32) (g : FVec Ideal S1x1024 .f32) (p : Fin 512) (j : Fin 1024) :
    last x g (ix2 p j) = rms (rowOf x p) (rowOf g 0) j := by
  pointwise [last]
  rfl

variable (x0 x1 x2 x3 : FVec Ideal S512x512 .bf16) (x4 : FVec Ideal S1x512 .f32) (x5 x6 : FVec Ideal S512x1024 .bf16) (x7 : FVec Ideal S512x1024 .f32)
  (x8 x9 : FVec Ideal S512x1024 .bf16) (x10 : FVec Ideal S1024x1024 .bf16) (x11 : FVec Ideal S1x1024 .f32) (x12 x13 : FVec Ideal S1024x2816 .bf16)
  (x14 : FVec Ideal S2816x1024 .bf16) (x15 : FVec Ideal S1x1024 .f32)

/-- The eleven slices, added one by one. -/
def slices (x12 x13 : FVec Ideal S1024x2816 .bf16) (x14 : FVec Ideal S2816x1024 .bf16) (y : FVec Ideal S512x1024 .f32) (h : FVec Ideal S512x1024 .bf16) : FVec Ideal S512x1024 .f32 :=
  addf (addf (addf (addf (addf (addf (addf (addf (addf (addf (addf y (part h (View.ld (Val := Elt Ideal) (e' := .bf16) x12 r0_5) (View.ld (Val := Elt Ideal) (e' := .bf16) x13 r0_5) (View.ld (Val := Elt Ideal) (e' := .bf16) x14 r0_6))) (part h (View.ld (Val := Elt Ideal) (e' := .bf16) x12 r0_7) (View.ld (Val := Elt Ideal) (e' := .bf16) x13 r0_7) (View.ld (Val := Elt Ideal) (e' := .bf16) x14 r0_8))) (part h (View.ld (Val := Elt Ideal) (e' := .bf16) x12 r0_9) (View.ld (Val := Elt Ideal) (e' := .bf16) x13 r0_9) (View.ld (Val := Elt Ideal) (e' := .bf16) x14 r0_10))) (part h (View.ld (Val := Elt Ideal) (e' := .bf16) x12 r0_11) (View.ld (Val := Elt Ideal) (e' := .bf16) x13 r0_11) (View.ld (Val := Elt Ideal) (e' := .bf16) x14 r0_12))) (part h (View.ld (Val := Elt Ideal) (e' := .bf16) x12 r0_13) (View.ld (Val := Elt Ideal) (e' := .bf16) x13 r0_13) (View.ld (Val := Elt Ideal) (e' := .bf16) x14 r0_14))) (part h (View.ld (Val := Elt Ideal) (e' := .bf16) x12 r0_15) (View.ld (Val := Elt Ideal) (e' := .bf16) x13 r0_15) (View.ld (Val := Elt Ideal) (e' := .bf16) x14 r0_16))) (part h (View.ld (Val := Elt Ideal) (e' := .bf16) x12 r0_17) (View.ld (Val := Elt Ideal) (e' := .bf16) x13 r0_17) (View.ld (Val := Elt Ideal) (e' := .bf16) x14 r0_18))) (part h (View.ld (Val := Elt Ideal) (e' := .bf16) x12 r0_19) (View.ld (Val := Elt Ideal) (e' := .bf16) x13 r0_19) (View.ld (Val := Elt Ideal) (e' := .bf16) x14 r0_20))) (part h (View.ld (Val := Elt Ideal) (e' := .bf16) x12 r0_21) (View.ld (Val := Elt Ideal) (e' := .bf16) x13 r0_21) (View.ld (Val := Elt Ideal) (e' := .bf16) x14 r0_22))) (part h (View.ld (Val := Elt Ideal) (e' := .bf16) x12 r0_23) (View.ld (Val := Elt Ideal) (e' := .bf16) x13 r0_23) (View.ld (Val := Elt Ideal) (e' := .bf16) x14 r0_24))) (part h (View.ld (Val := Elt Ideal) (e' := .bf16) x12 r0_25) (View.ld (Val := Elt Ideal) (e' := .bf16) x13 r0_25) (View.ld (Val := Elt Ideal) (e' := .bf16) x14 r0_26))

/-- A slice of a matrix' columns. -/
theorem cols_apply (w : FVec Ideal S1024x2816 .bf16) (o : ℕ) (inb) (k : Fin 1024) (f : Fin 256) (ho : o + 256 ≤ 2816) :
    View.ld (Val := Elt Ideal) (e' := .bf16) (S := S1024x2816) w (Rect.unit (s := S1024x2816) ![0, o] S1024x256.size inb) (ix2 k f) = w (ix2 k ⟨o + f.val, by omega⟩) :=
  View.ld_unit_apply_of (Val := Elt Ideal) (e := .bf16) (S := S1024x2816) w _ _ _ _ _ fun a => match a with
    | ⟨0, _⟩ => by show k.val = 0 + k.val; omega
    | ⟨1, _⟩ => rfl

/-- A slice of a matrix' rows. -/
theorem rows_apply (w : FVec Ideal S2816x1024 .bf16) (o : ℕ) (inb) (f : Fin 256) (j : Fin 1024) (ho : o + 256 ≤ 2816) :
    View.ld (Val := Elt Ideal) (e' := .bf16) (S := S2816x1024) w (Rect.unit (s := S2816x1024) ![o, 0] S256x1024.size inb) (ix2 f j) = w (ix2 ⟨o + f.val, by omega⟩ j) :=
  View.ld_unit_apply_of (Val := Elt Ideal) (e := .bf16) (S := S2816x1024) w _ _ _ _ _ fun a => match a with
    | ⟨0, _⟩ => rfl
    | ⟨1, _⟩ => by show j.val = 0 + j.val; omega

theorem slice_apply (h : FVec Ideal S512x1024 .bf16) (o : ℕ) (inb inb') (p : Fin 512) (j : Fin 1024) (ho : o + 256 ≤ 2816) :
    part h (View.ld (Val := Elt Ideal) (e' := .bf16) (S := S1024x2816) x12 (Rect.unit (s := S1024x2816) ![0, o] S1024x256.size inb))
        (View.ld (Val := Elt Ideal) (e' := .bf16) (S := S1024x2816) x13 (Rect.unit (s := S1024x2816) ![0, o] S1024x256.size inb))
        (View.ld (Val := Elt Ideal) (e' := .bf16) (S := S2816x1024) x14 (Rect.unit (s := S2816x1024) ![o, 0] S256x1024.size inb')) (ix2 p j)
      = ∑ k : Fin 256, act (rowOf h p) (matOf x12) (matOf x13) ⟨o + k.val, by omega⟩ * x14 (ix2 ⟨o + k.val, by omega⟩ j) := by
  rw [part_apply]
  refine Finset.sum_congr rfl fun k _ => ?_
  rw [rows_apply x14 o inb' k j ho]
  refine congrArg (· * _) ?_
  unfold act
  simp only [cols_apply x12 o inb _ k ho, cols_apply x13 o inb _ k ho]

theorem slices_apply (y : FVec Ideal S512x1024 .f32) (h : FVec Ideal S512x1024 .bf16) (p : Fin 512) (j : Fin 1024) :
    slices x12 x13 x14 y h (ix2 p j) = onto (rowOf y p) (act (rowOf h p) (matOf x12) (matOf x13)) (matOf x14) j := by
  rw [← onto_slices (rowOf y p) _ (matOf x14) j (fun c => ∑ k : Fin 256, act (rowOf h p) (matOf x12) (matOf x13) ⟨256 * c.val + k.val, by omega⟩ * x14 (ix2 ⟨256 * c.val + k.val, by omega⟩ j)) fun c => rfl]
  unfold slices
  simp only [addf_apply]
  rw [slice_apply x12 x13 x14 h 0 _ _ p j (by omega), slice_apply x12 x13 x14 h 256 _ _ p j (by omega), slice_apply x12 x13 x14 h 512 _ _ p j (by omega), slice_apply x12 x13 x14 h 768 _ _ p j (by omega), slice_apply x12 x13 x14 h 1024 _ _ p j (by omega), slice_apply x12 x13 x14 h 1280 _ _ p j (by omega), slice_apply x12 x13 x14 h 1536 _ _ p j (by omega), slice_apply x12 x13 x14 h 1792 _ _ p j (by omega), slice_apply x12 x13 x14 h 2048 _ _ p j (by omega), slice_apply x12 x13 x14 h 2304 _ _ p j (by omega), slice_apply x12 x13 x14 h 2560 _ _ p j (by omega)]
  rfl

/-! ## The whole operands, read -/

theorem whole512 (X : FVec Ideal S512x512 .bf16) : View.ld (Val := Elt Ideal) (e' := .bf16) X r0_0 = X := View.ld_unit_lit (Val := Elt Ideal) (e := .bf16) (S := S512x512) _ X (by decide)
theorem wholeD (X : FVec Ideal S1x512 .f32) : View.ld (Val := Elt Ideal) (e' := .f32) X r0_1 = X := View.ld_unit_lit (Val := Elt Ideal) (e := .f32) (S := S1x512) _ X (by decide)
theorem wholeB (X : FVec Ideal S512x1024 .bf16) : View.ld (Val := Elt Ideal) (e' := .bf16) X r0_2 = X := View.ld_unit_lit (Val := Elt Ideal) (e := .bf16) (S := S512x1024) _ X (by decide)
theorem wholeF (X : FVec Ideal S512x1024 .f32) : View.ld (Val := Elt Ideal) (e' := .f32) X r0_2 = X := View.ld_unit_lit (Val := Elt Ideal) (e := .f32) (S := S512x1024) _ X (by decide)
theorem wholeO (X : FVec Ideal S1024x1024 .bf16) : View.ld (Val := Elt Ideal) (e' := .bf16) X r0_3 = X := View.ld_unit_lit (Val := Elt Ideal) (e := .bf16) (S := S1024x1024) _ X (by decide)
theorem wholeG (X : FVec Ideal S1x1024 .f32) : View.ld (Val := Elt Ideal) (e' := .f32) X r0_4 = X := View.ld_unit_lit (Val := Elt Ideal) (e := .f32) (S := S1x1024) _ X (by decide)

/-- The gated branches of the block. -/
theorem pay14_eq : k0_pay14 (F := Ideal) x0 x1 x2 x3 x4 x5 x6 x7 x8 x9 x10 x11 x12 x13 x14 x15 = k0_pay1 (F := Ideal) x3 x1 x2 x4 x0 x8 x9 x5 x6 := by
  unfold k0_pay14
  rw [whole512 x0, whole512 x1, whole512 x2,
    whole512 x3, wholeD x4, wholeB x5,
    wholeB x6, wholeB x8, wholeB x9]

theorem pay15_eq : k0_pay15 (F := Ideal) x0 x1 x2 x3 x4 x5 x6 x7 x8 x9 x10 x11 x12 x13 x14 x15 = x7 := by
  unfold k0_pay15 k0_pay2
  rw [wholeF x7]
  exact shapeCast_self _ _

/-- The rows after the merge. -/
abbrev mid : FVec Ideal S512x1024 .f32 := k0_pay3 (F := Ideal) (k0_pay1 (F := Ideal) x3 x1 x2 x4 x0 x8 x9 x5 x6) x7 x10

/-- The rows after the merge, normalised. -/
abbrev normed : FVec Ideal S512x1024 .bf16 := k0_pay4 (F := Ideal) (k0_pay1 (F := Ideal) x3 x1 x2 x4 x0 x8 x9 x5 x6) x7 x10 x11

theorem pay16_eq : k0_pay16 (F := Ideal) x0 x1 x2 x3 x4 x5 x6 x7 x8 x9 x10 x11 x12 x13 x14 x15 = normed x0 x1 x2 x3 x4 x5 x6 x7 x8 x9 x10 x11 := by
  unfold k0_pay16
  rw [pay14_eq, pay15_eq, wholeO x10, wholeG x11]

theorem out_eq : out0_16 (F := Ideal) x0 x1 x2 x3 x4 x5 x6 x7 x8 x9 x10 x11 x12 x13 x14 x15
    = last (slices x12 x13 x14 (mid x0 x1 x2 x3 x4 x5 x6 x7 x8 x9 x10) (normed x0 x1 x2 x3 x4 x5 x6 x7 x8 x9 x10 x11)) x15 := by
  unfold out0_16
  rw [View.canon_cons_unit_lit (S := S512x1024) _ _ _ (by decide), pay16_eq, pay14_eq, pay15_eq, wholeO x10,
    wholeG x11, wholeG x15]
  unfold k0_pay13 k0_pay11 k0_pay8 k0_pay7 k0_pay5 k0_pay6 k0_pay9 k0_pay10 k0_pay12 last slices part
  rfl

/-- A token of the block, from its rows of the operands. -/
theorem out_apply (p : Fin 512) (j : Fin 1024) :
    out0_16 (F := Ideal) x0 x1 x2 x3 x4 x5 x6 x7 x8 x9 x10 x11 x12 x13 x14 x15 (ix2 p j)
      = rms (ffn (onto (rowOf x7 p) (merged (rowOf x0 p) (rowOf x3 p) (rowOf x1 p) (rowOf x2 p) (rowOf x4 0) (rowOf x5 p) (rowOf x6 p) (matOf x8) (matOf x9)) (matOf x10))
          (rowOf x11 0) (matOf x12) (matOf x13) (matOf x14)) (rowOf x15 0) j := by
  rw [out_eq, last_apply]
  have hm : rowOf (mid x0 x1 x2 x3 x4 x5 x6 x7 x8 x9 x10) p
      = onto (rowOf x7 p) (merged (rowOf x0 p) (rowOf x3 p) (rowOf x1 p) (rowOf x2 p) (rowOf x4 0) (rowOf x5 p) (rowOf x6 p) (matOf x8) (matOf x9)) (matOf x10) :=
    funext fun c => (pay3_apply _ _ _ p c).trans (congrArg (fun a => onto (rowOf x7 p) a (matOf x10) c) (funext fun e => pay1_apply _ _ _ _ _ _ _ _ _ p e))
  have hn : rowOf (normed x0 x1 x2 x3 x4 x5 x6 x7 x8 x9 x10 x11) p = rms (rowOf (mid x0 x1 x2 x3 x4 x5 x6 x7 x8 x9 x10) p) (rowOf x11 0) :=
    funext fun c => pay4_apply _ _ _ _ p c
  rw [← hm]
  refine congrArg (fun x => rms x (rowOf x15 0) j) (funext fun c => ?_)
  unfold ffn
  rw [← hn]
  exact slices_apply x12 x13 x14 _ _ p c

end Cert.FfnIdeal.Val

end
-- ==== Proof.Ffn.RefValue.lean ====
/- The reference's merge and feed-forward, element by element. -/
module

public import proofs.«01_k».proof.Proof.Gen.FfnReferenceIdeal.Read
public import proofs.«01_k».proof.Proof.Ffn.Token

@[expose] public section

set_option maxRecDepth 16384

noncomputable section

namespace Cert.FfnReferenceIdeal.Val

open Cert.FfnReferenceIdeal Cert.FfnReferenceIdeal.Gen Cert.FfnReferenceIdeal.Read Idealize.ShloMosaic Idealize.ShloMosaic.TcCoe Idealize.ShloMosaic.Tactic Cert.Token

variable (x0 x1 x2 x3 : (⟨S4x4096x512, .f32⟩ : BufTy).Contents (Elt Ideal)) (x4 : (⟨S4x4096x2048, .f32⟩ : BufTy).Contents (Elt Ideal))
  (x5 : (⟨S4x4096x1024, .f32⟩ : BufTy).Contents (Elt Ideal)) (x6 : (⟨S1x512, .f32⟩ : BufTy).Contents (Elt Ideal))
  (x7 x8 : (⟨S1x512x1024, .f32⟩ : BufTy).Contents (Elt Ideal)) (x9 : (⟨S1x1024x1024, .f32⟩ : BufTy).Contents (Elt Ideal))
  (x10 : (⟨S1x1024, .f32⟩ : BufTy).Contents (Elt Ideal)) (x11 x12 : (⟨S1x1024x2816, .f32⟩ : BufTy).Contents (Elt Ideal))
  (x13 : (⟨S1x2816x1024, .f32⟩ : BufTy).Contents (Elt Ideal)) (x14 : (⟨S1024, .f32⟩ : BufTy).Contents (Elt Ideal))

theorem merged_apply (b : Fin 4) (l : Fin 4096) (j : Fin 1024) :
    val_main_v26 (F := Ideal) x0 x1 x2 x3 x4 x6 x7 x8 (ix3 b l j)
      = merged (tokRow x0 b l) (tokRow x3 b l) (tokRow x1 b l) (tokRow x2 b l) (row1 x6)
          (fun k => x4 (ix3 b l ⟨k.val, by omega⟩)) (fun k => x4 (ix3 b l ⟨1024 + k.val, by omega⟩)) (mat1 x7) (mat1 x8) j := by
  pointwise [val_main_v26, val_main_v25, val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4, val_main_v3, val_main_v2, val_main_v1, val_main_v0,
    val_main_cst, val_main_cst_0, val_main_cst_1, val_main_cst_2]
  rfl

/-- The rows after the merge. -/
theorem mid_apply (b : Fin 4) (l : Fin 4096) (j : Fin 1024) :
    val_main_v29 (F := Ideal) x0 x1 x2 x3 x4 x5 x6 x7 x8 x9 (ix3 b l j)
      = onto (tokRow x5 b l) (tokRow (val_main_v26 (F := Ideal) x0 x1 x2 x3 x4 x6 x7 x8) b l) (mat1 x9) j := by
  unfold val_main_v29 val_main_v28
  generalize val_main_v26 (F := Ideal) x0 x1 x2 x3 x4 x6 x7 x8 = y
  pointwise [val_main_v27]
  rfl

theorem normed_apply (b : Fin 4) (l : Fin 4096) (j : Fin 1024) :
    val_main_v43 (F := Ideal) x0 x1 x2 x3 x4 x5 x6 x7 x8 x9 x10 (ix3 b l j)
      = rms (tokRow (val_main_v29 (F := Ideal) x0 x1 x2 x3 x4 x5 x6 x7 x8 x9) b l) (row1 x10) j := by
  unfold val_main_v43 val_main_v40 val_main_v39 val_main_v38 val_main_v37 val_main_v35 val_main_v33 val_main_v32 val_main_v31
  generalize val_main_v29 (F := Ideal) x0 x1 x2 x3 x4 x5 x6 x7 x8 x9 = y
  pointwise [val_main_v42, val_main_v41, val_main_v30, val_main_v36, val_main_v34, val_main_cst_3, val_main_cst_4, val_main_cst_5]
  rfl

theorem act_apply (b : Fin 4) (l : Fin 4096) (f : Fin 2816) :
    val_main_v49 (F := Ideal) x0 x1 x2 x3 x4 x5 x6 x7 x8 x9 x10 x11 x12 (ix3 b l f)
      = act (tokRow (val_main_v43 (F := Ideal) x0 x1 x2 x3 x4 x5 x6 x7 x8 x9 x10) b l) (mat1 x11) (mat1 x12) f := by
  unfold val_main_v49 val_main_v48 val_main_v46 val_main_call0_v5 val_main_call0_v3 val_main_call0_v1 val_main_call0_v0 val_main_v45
  generalize val_main_v43 (F := Ideal) x0 x1 x2 x3 x4 x5 x6 x7 x8 x9 x10 = y
  pointwise [val_main_call0_v4, val_main_call0_cst_0, val_main_call0_v2, val_main_call0_cst, val_main_v44, val_main_v47]
  rfl

theorem ffn_apply (b : Fin 4) (l : Fin 4096) (j : Fin 1024) :
    val_main_v52 (F := Ideal) x0 x1 x2 x3 x4 x5 x6 x7 x8 x9 x10 x11 x12 x13 (ix3 b l j)
      = onto (tokRow (val_main_v29 (F := Ideal) x0 x1 x2 x3 x4 x5 x6 x7 x8 x9) b l)
          (tokRow (val_main_v49 (F := Ideal) x0 x1 x2 x3 x4 x5 x6 x7 x8 x9 x10 x11 x12) b l) (mat1 x13) j := by
  unfold val_main_v52 val_main_v51
  generalize val_main_v49 (F := Ideal) x0 x1 x2 x3 x4 x5 x6 x7 x8 x9 x10 x11 x12 = y
  generalize val_main_v29 (F := Ideal) x0 x1 x2 x3 x4 x5 x6 x7 x8 x9 = z
  pointwise [val_main_v50]
  rfl

theorem last_apply (b : Fin 4) (l : Fin 4096) (j : Fin 1024) :
    val_main_v65 (F := Ideal) x0 x1 x2 x3 x4 x5 x6 x7 x8 x9 x10 x11 x12 x13 x14 (ix3 b l j)
      = rms (tokRow (val_main_v52 (F := Ideal) x0 x1 x2 x3 x4 x5 x6 x7 x8 x9 x10 x11 x12 x13) b l) (fun k => x14 (ix1 k)) j := by
  unfold val_main_v65 val_main_v62 val_main_v61 val_main_v60 val_main_v59 val_main_v57 val_main_v55 val_main_v54 val_main_v53
  generalize val_main_v52 (F := Ideal) x0 x1 x2 x3 x4 x5 x6 x7 x8 x9 x10 x11 x12 x13 = y
  pointwise [val_main_v64, val_main_v63, val_main_v58, val_main_v56, val_main_cst_6, val_main_cst_7, val_main_cst_8]
  rfl

/-- The reference's result at a token. -/
theorem result_apply (y : S16384x1024.Idx) (b : Fin 4) (l : Fin 4096) (j : Fin 1024) (h0 : (y 0).val = 4096 * b.val + l.val) (h1 : (y 1).val = j.val) :
    val_main_v66 (F := Ideal) x0 x1 x2 x3 x4 x5 x6 x7 x8 x9 x10 x11 x12 x13 x14 y
      = tok x0 x1 x2 x3 x4 x5 x6 x7 x8 x9 x10 x11 x12 x13 x14 b l j := by
  have hv : val_main_v66 (F := Ideal) x0 x1 x2 x3 x4 x5 x6 x7 x8 x9 x10 x11 x12 x13 x14 y
      = val_main_v65 (F := Ideal) x0 x1 x2 x3 x4 x5 x6 x7 x8 x9 x10 x11 x12 x13 x14 (ix3 b l j) := by
    unfold val_main_v66
    refine shapeCast_apply _ _ _ _ ?_
    rw [Shape.rowMajor_val_two, Shape.rowMajor_val_three]
    show (b.val * 4096 + l.val) * 1024 + j.val = (y 0).val * 1024 + (y 1).val
    omega
  rw [hv, last_apply]
  have e26 : tokRow (val_main_v26 (F := Ideal) x0 x1 x2 x3 x4 x6 x7 x8) b l = _ := funext fun k => merged_apply x0 x1 x2 x3 x4 x6 x7 x8 b l k
  have e29 : tokRow (val_main_v29 (F := Ideal) x0 x1 x2 x3 x4 x5 x6 x7 x8 x9) b l = _ := funext fun k => mid_apply x0 x1 x2 x3 x4 x5 x6 x7 x8 x9 b l k
  have e43 : tokRow (val_main_v43 (F := Ideal) x0 x1 x2 x3 x4 x5 x6 x7 x8 x9 x10) b l = _ := funext fun k => normed_apply x0 x1 x2 x3 x4 x5 x6 x7 x8 x9 x10 b l k
  have e49 : tokRow (val_main_v49 (F := Ideal) x0 x1 x2 x3 x4 x5 x6 x7 x8 x9 x10 x11 x12) b l = _ := funext fun k => act_apply x0 x1 x2 x3 x4 x5 x6 x7 x8 x9 x10 x11 x12 b l k
  have e52 : tokRow (val_main_v52 (F := Ideal) x0 x1 x2 x3 x4 x5 x6 x7 x8 x9 x10 x11 x12 x13) b l = _ := funext fun k => ffn_apply x0 x1 x2 x3 x4 x5 x6 x7 x8 x9 x10 x11 x12 x13 b l k
  rw [e52, e49, e43, e29, e26]
  rfl

end Cert.FfnReferenceIdeal.Val

end
-- ==== Proof.Ffn.Equal.lean ====
/- The merge and feed-forward kernel and the plain formulas leave equal arrays, whatever the arguments. -/
module

public import proofs.«01_k».proof.Defs
public import proofs.«01_k».proof.Proof.Ffn.Array
public import proofs.«01_k».proof.Proof.Ffn.RefValue
public import proofs.«01_k».proof.Proof.Gen.FfnReferenceIdeal.Run

@[expose] public section

set_option maxRecDepth 16384

noncomputable section

namespace Cert.FfnEqual

open Idealize.ShloMosaic Idealize.ShloMosaic.TcCoe Idealize.SL.Sem Cert.FfnIdeal.Val

theorem algebraic : Cert.algebraic_FfnIdeal_FfnReferenceIdeal := by
  intro m g m' g' _ hm
  refine ⟨fun c => kArr m c, (θ_run Cert.FfnIdeal.defs _ _).mono (fun r h c => ⟨(h c).1.trans (final16 m c), (h c).2⟩) (Cert.FfnIdeal.Value.run_blocks m g), ?_⟩
  refine (θ_run Cert.FfnReferenceIdeal.defs _ _).mono (fun r h c => ⟨(h c).1.trans ?_, (h c).2⟩) (Cert.FfnReferenceIdeal.Value.run m' g')
  obtain ⟨h0, h1, h2, h3, h4, h5, h6, h7, h8, h9, h10, h11, h12, h13, h14⟩ := hm c
  rw [Cert.FfnReferenceIdeal.Read.val_main_v66_eq, h0, h1, h2, h3, h4, h5, h6, h7, h8, h9, h10, h11, h12, h13, h14]
  funext y
  have y0 : (y 0).val < 16384 := (y 0).isLt
  exact Cert.FfnReferenceIdeal.Val.result_apply _ _ _ _ _ _ _ _ _ _ _ _ _ _ _ y ⟨(y 0).val / 4096, by omega⟩ ⟨(y 0).val % 4096, by omega⟩ ⟨(y 1).val, (y 1).isLt⟩
    (by show (y 0).val = 4096 * ((y 0).val / 4096) + (y 0).val % 4096; omega) rfl

end Cert.FfnEqual

end
-- ==== Proof.Inproj.Rows.lean ====
/- One row of the input projection and of its short convolution, at the extended reals: the formulas that the kernel's
   blocks and the reference's arrays are both read as. -/
module

public import proofs.«01_k».proof.Proof.Ffn.Token

@[expose] public section

noncomputable section

namespace Cert.InRows

open Idealize.ShloMosaic Cert.Token

/-- A row times a matrix' column. -/
def proj {n : ℕ} (h : Fin 1024 → EReal) (w : Fin 1024 → Fin n → EReal) (j : Fin n) : EReal := ∑ k, h k * w k j

/-- The three taps of the convolution, and its bias. -/
def taps (a b c w0 w1 w2 bias : EReal) : EReal := a * w0 + b * w1 + c * w2 + bias

theorem taps_congr {a b c a' b' c' : EReal} (w0 w1 w2 bias : EReal) (ha : a = a') (hb : b = b') (hc : c = c') :
    taps a b c w0 w1 w2 bias = taps a' b' c' w0 w1 w2 bias := by
  rw [ha, hb, hc]

section
variable {B L : ℕ} (a0 : (⟨3, ![B, L, 1024]⟩ : Shape).Idx → EReal) (a1 : (⟨2, ![1, 1024]⟩ : Shape).Idx → EReal) (a2 : (⟨3, ![1, 1024, 5120]⟩ : Shape).Idx → EReal)
  (a3 : (⟨3, ![1, 3, 1536]⟩ : Shape).Idx → EReal) (a4 : (⟨2, ![1, 1536]⟩ : Shape).Idx → EReal)

/-- The projection of a token. -/
def z (b : Fin B) (l : Fin L) (j : Fin 5120) : EReal := proj (rms (tokRow a0 b l) (row1 a1)) (mat1 a2) j

/-- A convolved channel of a token; beyond the sequence's ends the taps read zero. -/
def hy (b : Fin B) (l : Fin L) (j : Fin 1536) : EReal :=
  taps (if h : l.val = 0 then 0 else z a0 a1 a2 b ⟨l.val - 1, by omega⟩ ⟨1536 + j.val, by omega⟩)
    (z a0 a1 a2 b l ⟨1536 + j.val, by omega⟩)
    (if h : l.val + 1 = L then 0 else z a0 a1 a2 b ⟨l.val + 1, by omega⟩ ⟨1536 + j.val, by omega⟩)
    (a3 (ix3 0 0 j)) (a3 (ix3 0 1 j)) (a3 (ix3 0 2 j)) (a4 (ix2 0 j))

end

end Cert.InRows

end
-- ==== Proof.Inproj.Block.lean ====
/- The blocks a grid point of the input projection leaves, element by element. -/
module

public import proofs.«01_k».proof.Proof.Gen.InprojIdeal.Frame
public import proofs.«01_k».proof.Proof.Inproj.Rows
public import Idealize.ShloMosaic.Lib.Pipeline.ValueKit.Tiles

@[expose] public section

set_option maxRecDepth 16384

noncomputable section

namespace Cert.InprojIdeal.Val

open Cert.InprojIdeal Cert.InprojIdeal.Gen Idealize.ShloMosaic Idealize.ShloMosaic.TcCoe Idealize.ShloMosaic.Tactic Cert.Token Cert.InRows

/-- A row of a block. -/
abbrev rowOf {m n : ℕ} {e : FTy} (v : FVec Ideal ⟨2, ![m, n]⟩ e) (p : Fin m) : Fin n → EReal := fun k => v (ix2 p k)
/-- A matrix by its two coordinates. -/
abbrev matOf {m n : ℕ} {e : FTy} (v : FVec Ideal ⟨2, ![m, n]⟩ e) : Fin m → Fin n → EReal := fun k j => v (ix2 k j)

/-! ## The normalised rows -/

theorem pay4_apply (g : FVec Ideal S1x1024 .f32) (x : FVec Ideal S1024x1024 .f32) (p k : Fin 1024) :
    k0_pay4 (F := Ideal) g x (ix2 p k) = rms (rowOf x p) (rowOf g 0) k := by
  pointwise [k0_pay4, k0_pay3]
  rfl

theorem pay5_seven (g : FVec Ideal S1x1024 .f32) (xp xn : FVec Ideal S8x1024 .f32) (k : Fin 1024) :
    k0_pay5 (F := Ideal) g xp xn (ix2 7 k) = rms (rowOf xp 7) (rowOf g 0) k := by
  pointwise [k0_pay5, k0_pay3]
  rfl

theorem pay5_eight (g : FVec Ideal S1x1024 .f32) (xp xn : FVec Ideal S8x1024 .f32) (k : Fin 1024) :
    k0_pay5 (F := Ideal) g xp xn (ix2 8 k) = rms (rowOf xn 0) (rowOf g 0) k := by
  pointwise [k0_pay5, k0_pay3]
  rfl

theorem pay15_apply (h : FVec Ideal S1024x1024 .bf16) (w : FVec Ideal S1024x512 .bf16) (p : Fin 1024) (j : Fin 512) :
    k0_pay15 (F := Ideal) h w (ix2 p j) = proj (rowOf h p) (matOf w) j := by
  pointwise [k0_pay15, k0_pay14]
  rfl

theorem pay16_apply (h : FVec Ideal S16x1024 .bf16) (w : FVec Ideal S1024x512 .bf16) (p : Fin 16) (j : Fin 512) :
    k0_pay16 (F := Ideal) h w (ix2 p j) = proj (rowOf h p) (matOf w) j := by
  pointwise [k0_pay16, k0_pay14]
  rfl

/-- Two small numbers' words compared. -/
theorem eqWord (a b : ℕ) (ha : a < 4096) (hb : b < 4096) : IntOp.cmpi .eq (BitVec.ofNat 32 a) (BitVec.ofNat 32 b) = if a = b then 1#1 else 0#1 := by
  rw [WordCmp.cmpi_eq_ofNat (by omega) (by omega)]
  by_cases h : a = b
  · rw [if_pos h, decide_eq_true h]; rfl
  · rw [if_neg h, decide_eq_false h]; rfl

/-- The row numbers. -/
abbrev rows : IVec S1024x512 32 := iota .tc S1024x512 32 [0] iota_S1024x512_d0_w32

theorem pay19_apply (y : FVec Ideal S1024x512 .f32) (a c : FVec Ideal S1x512 .f32) (cw : FVec Ideal S3x512 .f32) (cb : FVec Ideal S1x512 .f32) (p : Fin 1024) (j : Fin 512) :
    k0_pay19 (F := Ideal) rows y a c cw cb (ix2 p j)
      = taps (if h : p.val = 0 then a (ix2 0 j) else y (ix2 ⟨p.val - 1, by omega⟩ j)) (y (ix2 p j))
          (if h : p.val = 1023 then c (ix2 0 j) else y (ix2 ⟨p.val + 1, by omega⟩ j))
          (cw (ix2 0 j)) (cw (ix2 1 j)) (cw (ix2 2 j)) (cb (ix2 0 j)) := by
  have hp : p.val < 1024 := p.isLt
  have e0 : IntOp.cmpi .eq (BitVec.ofNat 32 p.val) 0#32 = if p.val = 0 then 1#1 else 0#1 := eqWord p.val 0 (by omega) (by omega)
  have e1 : IntOp.cmpi .eq (BitVec.ofNat 32 p.val) 1023#32 = if p.val = 1023 then 1#1 else 0#1 := eqWord p.val 1023 (by omega) (by omega)
  pointwise [k0_pay19]
  rw [e0, e1]
  unfold taps
  refine congrArg (· + _) (congrArg₂ (· + ·) (congrArg (· + _) (congrArg (· * _) ?_)) (congrArg (· * _) ?_))
  · by_cases h : p.val = 0
    · rw [if_pos h, dif_pos h]; rfl
    · rw [if_neg h, dif_neg h]
      refine congrArg (fun r => y (ix2 r j)) (Fin.ext ?_)
      show (p.val + 1024 - 1) % 1024 = p.val - 1
      omega
  · by_cases h : p.val = 1023
    · rw [if_pos h, dif_pos h]; rfl
    · rw [if_neg h, dif_neg h]
      refine congrArg (fun r => y (ix2 r j)) (Fin.ext ?_)
      show (p.val + 1024 - 1023) % 1024 = p.val + 1
      omega

/-! ## The rows beside the block -/

/-- The tile's place in its sequence, as the kernel computes it. -/
def place (a : BitVec 32) : BitVec 32 :=
  Scalar.select (Scalar.andi (Scalar.xori (Scalar.cmpi .slt (Scalar.remsi a (Scalar.select (Scalar.cmpi .eq 4#32 0#32) 1#32 4#32)) 0#32) (Scalar.cmpi .slt (Scalar.select (Scalar.cmpi .eq 4#32 0#32) 1#32 4#32) 0#32))
      (Scalar.cmpi .ne (Scalar.remsi a (Scalar.select (Scalar.cmpi .eq 4#32 0#32) 1#32 4#32)) 0#32))
    (Scalar.addi (Scalar.remsi a (Scalar.select (Scalar.cmpi .eq 4#32 0#32) 1#32 4#32)) (Scalar.select (Scalar.cmpi .eq 4#32 0#32) 1#32 4#32))
    (Scalar.remsi a (Scalar.select (Scalar.cmpi .eq 4#32 0#32) 1#32 4#32))
def firstBit (a : BitVec 32) : BitVec 1 := Scalar.cmpi .eq (place a) 0#32
def lastBit (a : BitVec 32) : BitVec 1 := Scalar.cmpi .eq (place a) 3#32

/-- The row before the block, or zeros. -/
def prevOf (f : BitVec 1) (h : FVec Ideal S16x512 .f32) : FVec Ideal S1x512 .f32 :=
  Scalar.select f (broadcast S1x512 (Scalar.ofBits (F := Ideal) .f32 0x00000000#32)) (extractStridedSlice S1x512 ![7, 0] h slices_S16x512_o7_0_S1x512)
/-- The row after the block, or zeros. -/
def nextOf (f : BitVec 1) (h : FVec Ideal S16x512 .f32) : FVec Ideal S1x512 .f32 :=
  Scalar.select f (broadcast S1x512 (Scalar.ofBits (F := Ideal) .f32 0x00000000#32)) (extractStridedSlice S1x512 ![8, 0] h slices_S16x512_o8_0_S1x512)

theorem prevOf_apply (f : BitVec 1) (h : FVec Ideal S16x512 .f32) (j : Fin 512) : prevOf f h (ix2 0 j) = if f = 1#1 then 0 else h (ix2 7 j) := by
  unfold prevOf Scalar.select
  by_cases e : f = 1#1
  · rw [if_pos e]
    refine (congrFun (if_pos e) _).trans ?_
    pointwise
  · rw [if_neg e]
    refine (congrFun (if_neg e) _).trans ?_
    pointwise
theorem nextOf_apply (f : BitVec 1) (h : FVec Ideal S16x512 .f32) (j : Fin 512) : nextOf f h (ix2 0 j) = if f = 1#1 then 0 else h (ix2 8 j) := by
  unfold nextOf Scalar.select
  by_cases e : f = 1#1
  · rw [if_pos e]
    refine (congrFun (if_pos e) _).trans ?_
    pointwise
  · rw [if_neg e]
    refine (congrFun (if_neg e) _).trans ?_
    pointwise

/-- One group of convolved channels over a block. -/
def chan (f g : BitVec 1) (hn : FVec Ideal S1024x1024 .bf16) (hh : FVec Ideal S16x1024 .bf16) (w : FVec Ideal S1024x512 .bf16) (cw : FVec Ideal S3x512 .f32) (cb : FVec Ideal S1x512 .f32) : FVec Ideal S1024x512 .f32 :=
  k0_pay19 (F := Ideal) rows (k0_pay15 (F := Ideal) hn w) (prevOf f (k0_pay16 (F := Ideal) hh w))
    (nextOf g (k0_pay16 (F := Ideal) hh w)) cw cb

variable (i : grid0.Coords) (f g : BitVec 1) (x0 : FVec Ideal S1024x1024 .f32) (x1 x2 : FVec Ideal S8x1024 .f32) (x3 : FVec Ideal S1x1024 .f32) (x4 x5 : FVec Ideal S1024x1536 .bf16)
  (x6 : FVec Ideal S1024x2048 .bf16) (x7 : FVec Ideal S3x1536 .f32) (x8 : FVec Ideal S1x1536 .f32)

/-- A convolved channel of a row of the block, from the block's rows and the rows beside it. -/
def chanRow (f g : BitVec 1) (x0 : FVec Ideal S1024x1024 .f32) (x1 x2 : FVec Ideal S8x1024 .f32) (x3 : FVec Ideal S1x1024 .f32) (x5 : FVec Ideal S1024x1536 .bf16)
    (x7 : FVec Ideal S3x1536 .f32) (x8 : FVec Ideal S1x1536 .f32) (p : Fin 1024) (j : Fin 1536) : EReal :=
  taps (if h : p.val = 0 then (if f = 1#1 then 0 else proj (rms (rowOf x1 7) (rowOf x3 0)) (matOf x5) j)
      else proj (rms (rowOf x0 ⟨p.val - 1, by omega⟩) (rowOf x3 0)) (matOf x5) j)
    (proj (rms (rowOf x0 p) (rowOf x3 0)) (matOf x5) j)
    (if h : p.val = 1023 then (if g = 1#1 then 0 else proj (rms (rowOf x2 0) (rowOf x3 0)) (matOf x5) j)
      else proj (rms (rowOf x0 ⟨p.val + 1, by omega⟩) (rowOf x3 0)) (matOf x5) j)
    (x7 (ix2 0 j)) (x7 (ix2 1 j)) (x7 (ix2 2 j)) (x8 (ix2 0 j))

/-! ## The operands, read -/

theorem wholeX (X : FVec Ideal S1024x1024 .f32) : View.ld (Val := Elt Ideal) (e' := .f32) X r0_1 = X := View.ld_unit_lit (Val := Elt Ideal) (e := .f32) (S := S1024x1024) _ X (by decide)
theorem wholeH (X : FVec Ideal S8x1024 .f32) : View.ld (Val := Elt Ideal) (e' := .f32) X r0_2 = X := View.ld_unit_lit (Val := Elt Ideal) (e := .f32) (S := S8x1024) _ X (by decide)
theorem wholeG (X : FVec Ideal S1x1024 .f32) : View.ld (Val := Elt Ideal) (e' := .f32) X r0_0 = X := View.ld_unit_lit (Val := Elt Ideal) (e := .f32) (S := S1x1024) _ X (by decide)

/-- A slice of a matrix' columns. -/
theorem cols_apply {K N : ℕ} {e : EltTy} (w : (⟨2, ![K, N]⟩ : Shape).Idx → Elt Ideal e) (o : ℕ) (inb) (k : Fin K) (f : Fin 512) (ho : o + 512 ≤ N) :
    View.ld (Val := Elt Ideal) (e' := e) (S := ⟨2, ![K, N]⟩) w (Rect.unit (s := ⟨2, ![K, N]⟩) ![0, o] ![K, 512] inb) (ix2 k f) = w (ix2 k ⟨o + f.val, by omega⟩) :=
  View.ld_unit_apply_of (Val := Elt Ideal) (e := e) (S := ⟨2, ![K, N]⟩) w _ _ _ _ _ fun a => match a with
    | ⟨0, _⟩ => by show k.val = 0 + k.val; omega
    | ⟨1, _⟩ => rfl

theorem colW (w : FVec Ideal S1024x1536 .bf16) (o : ℕ) (inb) (ho : o + 512 ≤ 1536) :
    matOf (e := .bf16) (View.ld (Val := Elt Ideal) (e' := .bf16) (S := S1024x1536) w (Rect.unit (s := S1024x1536) ![0, o] ![1024, 512] inb)) = fun k f => w (ix2 k ⟨o + f.val, by omega⟩) :=
  funext fun k => funext fun f => cols_apply (e := .bf16) w o inb k f ho

/-- A group of channels is the formula at its columns. -/
theorem chan_apply (o : ℕ) (ho : o + 512 ≤ 1536) (inb inb' inb'') (p : Fin 1024) (j : Fin 512) :
    chan f g (k0_pay4 (F := Ideal) x3 x0) (k0_pay5 (F := Ideal) x3 x1 x2)
        (View.ld (Val := Elt Ideal) (e' := .bf16) (S := S1024x1536) x5 (Rect.unit (s := S1024x1536) ![0, o] ![1024, 512] inb))
        (View.ld (Val := Elt Ideal) (e' := .f32) (S := S3x1536) x7 (Rect.unit (s := S3x1536) ![0, o] ![3, 512] inb'))
        (View.ld (Val := Elt Ideal) (e' := .f32) (S := S1x1536) x8 (Rect.unit (s := S1x1536) ![0, o] ![1, 512] inb'')) (ix2 p j)
      = chanRow f g x0 x1 x2 x3 x5 x7 x8 p ⟨o + j.val, by omega⟩ := by
  have h4 : ∀ p, rowOf (e := .bf16) (k0_pay4 (F := Ideal) x3 x0) p = rms (rowOf x0 p) (rowOf x3 0) := fun p => funext fun k => pay4_apply x3 x0 p k
  have h7 : rowOf (e := .bf16) (k0_pay5 (F := Ideal) x3 x1 x2) 7 = rms (rowOf x1 7) (rowOf x3 0) := funext fun k => pay5_seven x3 x1 x2 k
  have h8 : rowOf (e := .bf16) (k0_pay5 (F := Ideal) x3 x1 x2) 8 = rms (rowOf x2 0) (rowOf x3 0) := funext fun k => pay5_eight x3 x1 x2 k
  unfold chan chanRow
  rw [pay19_apply, prevOf_apply, nextOf_apply, pay16_apply, pay16_apply, h7, h8,
    cols_apply (e := .f32) x7 o inb' 0 j ho, cols_apply (e := .f32) x7 o inb' 1 j ho, cols_apply (e := .f32) x7 o inb' 2 j ho, cols_apply (e := .f32) x8 o inb'' 0 j ho]
  simp only [pay15_apply, h4]
  rw [colW x5 o inb ho]
  rfl

/-! ## The blocks -/

/-- The first gate's block. -/
theorem out11_apply (p : Fin 1024) (j : Fin 512) :
    out0_11 (F := Ideal) i x0 x1 x2 x3 x4 x5 x6 x7 x8 (ix2 p j) = chanRow (firstBit (BitVec.ofNat 32 (i 0).val)) (lastBit (BitVec.ofNat 32 (i 0).val)) x0 x1 x2 x3 x5 x7 x8 p ⟨j.val, by omega⟩ := by
  unfold_out out0_11
  rw [View.canon_cons_unit_lit (S := S1024x512) _ _ _ (by decide), wholeX x0, wholeH x1, wholeH x2, wholeG x3]
  refine (chan_apply _ _ x0 x1 x2 x3 x5 x7 x8 0 (by omega) _ _ _ p j).trans ?_
  exact congrArg (chanRow (firstBit (BitVec.ofNat 32 (i 0).val)) (lastBit (BitVec.ofNat 32 (i 0).val)) x0 x1 x2 x3 x5 x7 x8 p) (Fin.ext (Nat.zero_add _))

/-- The gated values' block. -/
theorem out10_apply (p : Fin 1024) (j : Fin 512) :
    out0_10 (F := Ideal) i x0 x1 x2 x3 x4 x5 x6 x7 x8 (ix2 p j)
      = chanRow (firstBit (BitVec.ofNat 32 (i 0).val)) (lastBit (BitVec.ofNat 32 (i 0).val)) x0 x1 x2 x3 x5 x7 x8 p ⟨512 + j.val, by omega⟩ * chanRow (firstBit (BitVec.ofNat 32 (i 0).val)) (lastBit (BitVec.ofNat 32 (i 0).val)) x0 x1 x2 x3 x5 x7 x8 p ⟨1024 + j.val, by omega⟩ := by
  unfold_out out0_10
  rw [View.canon_cons_unit_lit (S := S1024x512) _ _ _ (by decide), wholeX x0, wholeH x1, wholeH x2, wholeG x3]
  exact congrArg₂ (· * ·) (chan_apply _ _ x0 x1 x2 x3 x5 x7 x8 512 (by omega) _ _ _ p j) (chan_apply _ _ x0 x1 x2 x3 x5 x7 x8 1024 (by omega) _ _ _ p j)

/-- A slice of projected columns. -/
theorem pay7_apply (h : FVec Ideal S1024x1024 .bf16) (w : FVec Ideal S1024x512 .bf16) (p : Fin 1024) (j : Fin 512) :
    k0_pay7 (F := Ideal) h w (ix2 p j) = proj (rowOf h p) (matOf w) j := by
  pointwise [k0_pay7]
  rfl

/-- Projected columns from column `o` on. -/
theorem slice_apply {N : ℕ} (w : FVec Ideal ⟨2, ![1024, N]⟩ .bf16) (o : ℕ) (ho : o + 512 ≤ N) (inb) (p : Fin 1024) (j : Fin 512) :
    k0_pay7 (F := Ideal) (k0_pay4 (F := Ideal) x3 x0) (View.ld (Val := Elt Ideal) (e' := .bf16) (S := ⟨2, ![1024, N]⟩) w (Rect.unit (s := ⟨2, ![1024, N]⟩) ![0, o] ![1024, 512] inb)) (ix2 p j)
      = proj (rms (rowOf x0 p) (rowOf x3 0)) (matOf w) ⟨o + j.val, by omega⟩ := by
  have h4 : rowOf (e := .bf16) (k0_pay4 (F := Ideal) x3 x0) p = rms (rowOf x0 p) (rowOf x3 0) := funext fun k => pay4_apply x3 x0 p k
  rw [pay7_apply, h4]
  exact Finset.sum_congr rfl fun k _ => congrArg (_ * ·) (cols_apply (e := .bf16) w o inb k j ho)

/-- A piece's element, at the place it is stored. -/
theorem piece_apply {N : ℕ} (w : FVec Ideal ⟨2, ![1024, N]⟩ .bf16) (o : ℕ) (ho : o + 512 ≤ N) (inb) (x : S1024x512.Idx) :
    k0_pay7 (F := Ideal) (k0_pay4 (F := Ideal) x3 x0) (View.ld (Val := Elt Ideal) (e' := .bf16) (S := ⟨2, ![1024, N]⟩) w (Rect.unit (s := ⟨2, ![1024, N]⟩) ![0, o] ![1024, 512] inb)) x
      = (fun y : (⟨2, ![1024, N]⟩ : Shape).Idx => proj (rms (rowOf x0 ⟨(y 0).val, (y 0).isLt⟩) (rowOf x3 0)) (matOf w) ⟨(y 1).val, (y 1).isLt⟩)
          ((Rect.unit (s := ⟨2, ![1024, N]⟩) ![0, o] ![1024, 512] inb).emb x) := by
  have e : x = ix2 ⟨(x 0).val, (x 0).isLt⟩ ⟨(x 1).val, (x 1).isLt⟩ := funext fun a => Fin.ext (match a with | ⟨0, _⟩ => rfl | ⟨1, _⟩ => rfl)
  refine (congrArg _ e).trans ((slice_apply x0 x3 w o ho inb _ _).trans ?_)
  have e0 : (⟨(x 0).val, (x 0).isLt⟩ : Fin 1024) = ⟨((Rect.unit (s := ⟨2, ![1024, N]⟩) ![0, o] ![1024, 512] inb).emb x 0).val, Fin.isLt _⟩ := Fin.ext (by show (x 0).val = 0 + 1 * (x 0).val; omega)
  have e1 : (⟨o + (x 1).val, by have : (x 1).val < 512 := (x 1).isLt; omega⟩ : Fin N) = ⟨((Rect.unit (s := ⟨2, ![1024, N]⟩) ![0, o] ![1024, 512] inb).emb x 1).val, Fin.isLt _⟩ := Fin.ext (by show o + (x 1).val = o + 1 * (x 1).val; omega)
  exact congrArg₂ (fun r q => proj (rms (rowOf x0 r) (rowOf x3 0)) (matOf w) q) e0 e1

/-- The attention columns' block. -/
theorem out9_apply (p : Fin 1024) (j : Fin 1536) :
    out0_9 (F := Ideal) i x0 x1 x2 x3 x4 x5 x6 x7 x8 (ix2 p j) = proj (rms (rowOf x0 p) (rowOf x3 0)) (matOf x4) j := by
  unfold_out out0_9
  rw [wholeX x0, wholeG x3]
  refine View.canon_apply_of_pieces (Val := Elt Ideal) (e := .bf16) (S := S1024x1536) (fun y : S1024x1536.Idx => proj (rms (rowOf x0 ⟨(y 0).val, (y 0).isLt⟩) (rowOf x3 0)) (matOf x4) ⟨(y 1).val, (y 1).isLt⟩) _ ?_ (ix2 p j) (cover0_9 _ _ _ _)
  intro pc hpc x
  rcases List.mem_cons.mp hpc with rfl | hpc
  · exact piece_apply x0 x3 x4 1024 (by omega) _ x
  rcases List.mem_cons.mp hpc with rfl | hpc
  · exact piece_apply x0 x3 x4 512 (by omega) _ x
  rcases List.mem_cons.mp hpc with rfl | hpc
  · exact piece_apply x0 x3 x4 0 (by omega) _ x
  · exact absurd hpc (by simp)

/-- The gate columns' block. -/
theorem out12_apply (p : Fin 1024) (j : Fin 2048) :
    out0_12 (F := Ideal) i x0 x1 x2 x3 x4 x5 x6 x7 x8 (ix2 p j) = proj (rms (rowOf x0 p) (rowOf x3 0)) (matOf x6) j := by
  unfold_out out0_12
  rw [wholeX x0, wholeG x3]
  refine View.canon_apply_of_pieces (Val := Elt Ideal) (e := .bf16) (S := S1024x2048) (fun y : S1024x2048.Idx => proj (rms (rowOf x0 ⟨(y 0).val, (y 0).isLt⟩) (rowOf x3 0)) (matOf x6) ⟨(y 1).val, (y 1).isLt⟩) _ ?_ (ix2 p j) (cover0_12 _ _ _ _ _)
  intro pc hpc x
  rcases List.mem_cons.mp hpc with rfl | hpc
  · exact piece_apply x0 x3 x6 1536 (by omega) _ x
  rcases List.mem_cons.mp hpc with rfl | hpc
  · exact piece_apply x0 x3 x6 1024 (by omega) _ x
  rcases List.mem_cons.mp hpc with rfl | hpc
  · exact piece_apply x0 x3 x6 512 (by omega) _ x
  rcases List.mem_cons.mp hpc with rfl | hpc
  · exact piece_apply x0 x3 x6 0 (by omega) _ x
  · exact absurd hpc (by simp)

end Cert.InprojIdeal.Val

end
-- ==== Proof.Inproj.Array.lean ====
/- The four arrays the input projection's kernel leaves, element by element, from the launched arrays. -/
module

public import proofs.«01_k».proof.Proof.Inproj.Block
public import proofs.«01_k».proof.Proof.Gen.InprojIdeal.Value
public import Idealize.ShloMosaic.Lib.Claim

@[expose] public section

set_option maxRecDepth 16384

noncomputable section

namespace Cert.InprojIdeal.Val

open Cert.InprojIdeal Cert.InprojIdeal.Gen Idealize.ShloMosaic Idealize.ShloMosaic.TcCoe Idealize.ShloMosaic.Tactic Idealize.SL.Sem Cert.Token Cert.InRows
open Idealize.ShloMosaic.Pipeline (Dat)

variable (m : (ℓ : Loc nD τ sig) → Buf (Elt Ideal) ℓ) (ρ : Dev nD → PrngReg)

/-! ## The formulas -/

/-- The projection of flat row `r`, at the launched arrays. -/
def zM (c : Dev nD) (b : Fin 4) (l : Fin 4096) (j : Fin 5120) : EReal :=
  z (m ((c : Thread nD τ).loc main_arg0)) (m ((c : Thread nD τ).loc main_arg1)) (m ((c : Thread nD τ).loc main_arg2)) b l j
/-- The convolved channel of a token, at the launched arrays. -/
def hyM (c : Dev nD) (b : Fin 4) (l : Fin 4096) (j : Fin 1536) : EReal :=
  hy (m ((c : Thread nD τ).loc main_arg0)) (m ((c : Thread nD τ).loc main_arg1)) (m ((c : Thread nD τ).loc main_arg2)) (m ((c : Thread nD τ).loc main_arg3)) (m ((c : Thread nD τ).loc main_arg4)) b l j

/-- The batch of a flat row. -/
abbrev bOf (r : Fin 16384) : Fin 4 := ⟨r.val / 4096, by omega⟩
/-- The place of a flat row in its sequence. -/
abbrev lOf (r : Fin 16384) : Fin 4096 := ⟨r.val % 4096, by omega⟩

/-- The attention columns. -/
def arrQ (c : Dev nD) : S16384x1536.Idx → EReal := fun y =>
  zM m c (bOf ⟨(y 0).val, (y 0).isLt⟩) (lOf ⟨(y 0).val, (y 0).isLt⟩) ⟨(y 1).val, by have : (y 1).val < 1536 := (y 1).isLt; omega⟩
/-- The gated values. -/
def arrU (c : Dev nD) : S16384x512.Idx → EReal := fun y =>
  hyM m c (bOf ⟨(y 0).val, (y 0).isLt⟩) (lOf ⟨(y 0).val, (y 0).isLt⟩) ⟨512 + (y 1).val, by have : (y 1).val < 512 := (y 1).isLt; omega⟩
    * hyM m c (bOf ⟨(y 0).val, (y 0).isLt⟩) (lOf ⟨(y 0).val, (y 0).isLt⟩) ⟨1024 + (y 1).val, by have : (y 1).val < 512 := (y 1).isLt; omega⟩
/-- The first gate. -/
def arrX (c : Dev nD) : S16384x512.Idx → EReal := fun y =>
  hyM m c (bOf ⟨(y 0).val, (y 0).isLt⟩) (lOf ⟨(y 0).val, (y 0).isLt⟩) ⟨(y 1).val, by have : (y 1).val < 512 := (y 1).isLt; omega⟩
/-- The gate columns. -/
def arrG (c : Dev nD) : S16384x2048.Idx → EReal := fun y =>
  zM m c (bOf ⟨(y 0).val, (y 0).isLt⟩) (lOf ⟨(y 0).val, (y 0).isLt⟩) ⟨3072 + (y 1).val, by have : (y 1).val < 2048 := (y 1).isLt; omega⟩

/-! ## The operands at the call, from the arguments -/

/-- Rows flattened over the batch. -/
theorem flat_apply {n : ℕ} (A : (⟨3, ![4, 4096, n]⟩ : Shape).Idx → EReal) (h : (⟨3, ![4, 4096, n]⟩ : Shape).ShapeCasts ⟨2, ![16384, n]⟩) (r : Fin 16384) (k : Fin n) :
    shapeCast (α := EReal) ⟨2, ![16384, n]⟩ A h (ix2 r k) = A (ix3 (bOf r) (lOf r) k) := by
  refine shapeCast_apply _ h _ _ ?_
  rw [Shape.rowMajor_val_two, Shape.rowMajor_val_three]
  show (r.val / 4096 * 4096 + r.val % 4096) * n + k.val = r.val * n + k.val
  have : r.val / 4096 * 4096 + r.val % 4096 = r.val := by omega
  rw [this]

theorem v0_apply (c : Dev nD) (r : Fin 16384) (k : Fin 1024) :
    (V m c main_v0 : S16384x1024.Idx → EReal) (ix2 r k) = m ((c : Thread nD τ).loc main_arg0) (ix3 (bOf r) (lOf r) k) := by
  show V m c main_v0 (ix2 r k) = _
  entry_read
  exact flat_apply _ _ r k

theorem v9_apply (c : Dev nD) (k : Fin 1024) : (V m c main_v9 : S1x1024.Idx → EReal) (ix2 0 k) = m ((c : Thread nD τ).loc main_arg1) (ix2 0 k) := by
  show V m c main_v9 (ix2 0 k) = _
  entry_read
  pointwise

theorem v10_apply (c : Dev nD) (k : Fin 1536) : (V m c main_v10 : S1x1536.Idx → EReal) (ix2 0 k) = m ((c : Thread nD τ).loc main_arg4) (ix2 0 k) := by
  show V m c main_v10 (ix2 0 k) = _
  entry_read
  pointwise

theorem v4_apply (c : Dev nD) (s : Fin 3) (k : Fin 1536) : (V m c main_v4 : S3x1536.Idx → EReal) (ix2 s k) = m ((c : Thread nD τ).loc main_arg3) (ix3 0 s k) := by
  show V m c main_v4 (ix2 s k) = _
  entry_read
  pointwise

theorem v6_apply (c : Dev nD) (e : Fin 1024) (k : Fin 1536) :
    (V m c main_v6 : S1024x1536.Idx → EReal) (ix2 e k) = m ((c : Thread nD τ).loc main_arg2) (ix3 0 e ⟨k.val, by omega⟩) := by
  show V m c main_v6 (ix2 e k) = _
  entry_read
  pointwise

theorem v7_apply (c : Dev nD) (e : Fin 1024) (k : Fin 1536) :
    (V m c main_v7 : S1024x1536.Idx → EReal) (ix2 e k) = m ((c : Thread nD τ).loc main_arg2) (ix3 0 e ⟨1536 + k.val, by omega⟩) := by
  show V m c main_v7 (ix2 e k) = _
  entry_read
  pointwise

theorem v8_apply (c : Dev nD) (e : Fin 1024) (k : Fin 2048) :
    (V m c main_v8 : S1024x2048.Idx → EReal) (ix2 e k) = m ((c : Thread nD τ).loc main_arg2) (ix3 0 e ⟨3072 + k.val, by omega⟩) := by
  show V m c main_v8 (ix2 e k) = _
  entry_read
  pointwise

/-! ## The windows' blocks, read -/

theorem N_eq : cfg0.N = 16 := N_0

/-- Row `p` of block `t`. -/
abbrev rowAt (t : Fin cfg0.N) (p : Fin 1024) : Fin 16384 := ⟨1024 * t.val + p.val, by have := t.isLt; have := N_eq; omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 128 * t.val - 1 ∧ win0_1.index t (1 : Fin 2) = 0 :=
  (by decide +kernel : ∀ t : Fin grid0.N, _)
theorem idx2 : ∀ t : Fin cfg0.N, win0_2.index t (0 : Fin 2) = min (128 * (t.val + 1)) 2047 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)

/-- A tile is its sequence's first where its number is a multiple of four. -/
theorem first_iff : ∀ t : Fin cfg0.N, firstBit (BitVec.ofNat 32 (grid0.coords t 0).val) = 1#1 ↔ t.val % 4 = 0 :=
  (by decide +kernel : ∀ t : Fin grid0.N, _)
/-- A tile is its sequence's last where its number is three more than a multiple of four. -/
theorem last_iff : ∀ t : Fin cfg0.N, lastBit (BitVec.ofNat 32 (grid0.coords t 0).val) = 1#1 ↔ t.val % 4 = 3 :=
  (by decide +kernel : ∀ t : Fin grid0.N, _)

theorem iblk0_row (c : Dev nD) (t : Fin cfg0.N) (p : Fin 1024) (b : Fin 4) (l : Fin 4096) (h : 1024 * t.val + p.val = 4096 * b.val + l.val) :
    rowOf (e := .f32) (iblk m c 0 t : FVec Ideal S1024x1024 .f32) p = tokRow (m ((c : Thread nD τ).loc main_arg0)) b l := by
  obtain ⟨e0, e1⟩ := idx0 t
  funext k
  have eb : bOf (rowAt t p) = b := Fin.ext (by show (1024 * t.val + p.val) / 4096 = b.val; omega)
  have el : lOf (rowAt t p) = l := Fin.ext (by show (1024 * t.val + p.val) % 4096 = l.val; omega)
  refine Eq.trans ?_ ((v0_apply m c (rowAt t p) k).trans (by rw [eb, el]))
  show V m c main_v0 (((cfg0.win 0).blk t).view.emb (ix2 p k)) = _
  refine congrArg (V m c main_v0) (funext fun a => Fin.ext ?_)
  match a with
  | ⟨0, _⟩ => show win0_0.index t (0 : Fin 2) * 1024 + 1 * p.val = 1024 * t.val + p.val; omega
  | ⟨1, _⟩ => show win0_0.index t (1 : Fin 2) * 1024 + 1 * k.val = k.val; omega

theorem iblk1_row (c : Dev nD) (t : Fin cfg0.N) (b : Fin 4) (l : Fin 4096) (h : 1024 * t.val = 4096 * b.val + l.val + 1) :
    rowOf (e := .f32) (iblk m c 1 t : FVec Ideal S8x1024 .f32) 7 = tokRow (m ((c : Thread nD τ).loc main_arg0)) b l := by
  obtain ⟨e0, e1⟩ := idx1 t
  funext k
  have hr : 4096 * b.val + l.val < 16384 := by omega
  have eb : bOf ⟨4096 * b.val + l.val, hr⟩ = b := Fin.ext (by show (4096 * b.val + l.val) / 4096 = b.val; omega)
  have el : lOf ⟨4096 * b.val + l.val, hr⟩ = l := Fin.ext (by show (4096 * b.val + l.val) % 4096 = l.val; omega)
  refine Eq.trans ?_ ((v0_apply m c ⟨4096 * b.val + l.val, hr⟩ k).trans (by rw [eb, el]))
  show V m c main_v0 (((cfg0.win 1).blk t).view.emb (ix2 7 k)) = _
  refine congrArg (V m c main_v0) (funext fun a => Fin.ext ?_)
  match a with
  | ⟨0, _⟩ => show win0_1.index t (0 : Fin 2) * 8 + 1 * 7 = 4096 * b.val + l.val; omega
  | ⟨1, _⟩ => show win0_1.index t (1 : Fin 2) * 1024 + 1 * k.val = k.val; omega

theorem iblk2_row (c : Dev nD) (t : Fin cfg0.N) (b : Fin 4) (l : Fin 4096) (h : 1024 * t.val + 1024 = 4096 * b.val + l.val) :
    rowOf (e := .f32) (iblk m c 2 t : FVec Ideal S8x1024 .f32) 0 = tokRow (m ((c : Thread nD τ).loc main_arg0)) b l := by
  obtain ⟨e0, e1⟩ := idx2 t
  funext k
  have hr : 4096 * b.val + l.val < 16384 := by omega
  have eb : bOf ⟨4096 * b.val + l.val, hr⟩ = b := Fin.ext (by show (4096 * b.val + l.val) / 4096 = b.val; omega)
  have el : lOf ⟨4096 * b.val + l.val, hr⟩ = l := Fin.ext (by show (4096 * b.val + l.val) % 4096 = l.val; omega)
  refine Eq.trans ?_ ((v0_apply m c ⟨4096 * b.val + l.val, hr⟩ k).trans (by rw [eb, el]))
  show V m c main_v0 (((cfg0.win 2).blk t).view.emb (ix2 0 k)) = _
  refine congrArg (V m c main_v0) (funext fun a => Fin.ext ?_)
  match a with
  | ⟨0, _⟩ => show win0_2.index t (0 : Fin 2) * 8 + 1 * 0 = 4096 * b.val + l.val; omega
  | ⟨1, _⟩ => show win0_2.index t (1 : Fin 2) * 1024 + 1 * k.val = k.val; omega

theorem iblk3_eq (c : Dev nD) (t : Fin cfg0.N) : (iblk m c 3 t : FVec Ideal S1x1024 .f32) = V m c main_v9 := by
  obtain ⟨e0, e1⟩ := idx3 t
  funext y
  show V m c main_v9 (((cfg0.win 3).blk t).view.emb y) = V m c main_v9 y
  refine congrArg (V m c main_v9) (funext fun a => Fin.ext ?_)
  match a with
  | ⟨0, _⟩ => show win0_3.index t (0 : Fin 2) * 1 + 1 * (y 0).val = (y 0).val; omega
  | ⟨1, _⟩ => show win0_3.index t (1 : Fin 2) * 1024 + 1 * (y 1).val = (y 1).val; omega

theorem iblk4_eq (c : Dev nD) (t : Fin cfg0.N) : (iblk m c 4 t : FVec Ideal S1024x1536 .bf16) = V m c main_v6 := by
  obtain ⟨e0, e1⟩ := idx4 t
  funext y
  show V m c main_v6 (((cfg0.win 4).blk t).view.emb y) = V m c main_v6 y
  refine congrArg (V m c main_v6) (funext fun a => Fin.ext ?_)
  match a with
  | ⟨0, _⟩ => show win0_4.index t (0 : Fin 2) * 1024 + 1 * (y 0).val = (y 0).val; omega
  | ⟨1, _⟩ => show win0_4.index t (1 : Fin 2) * 1536 + 1 * (y 1).val = (y 1).val; omega

theorem iblk5_eq (c : Dev nD) (t : Fin cfg0.N) : (iblk m c 5 t : FVec Ideal S1024x1536 .bf16) = V m c main_v7 := by
  obtain ⟨e0, e1⟩ := idx5 t
  funext y
  show V m c main_v7 (((cfg0.win 5).blk t).view.emb y) = V m c main_v7 y
  refine congrArg (V m c main_v7) (funext fun a => Fin.ext ?_)
  match a with
  | ⟨0, _⟩ => show win0_5.index t (0 : Fin 2) * 1024 + 1 * (y 0).val = (y 0).val; omega
  | ⟨1, _⟩ => show win0_5.index t (1 : Fin 2) * 1536 + 1 * (y 1).val = (y 1).val; omega

theorem iblk6_eq (c : Dev nD) (t : Fin cfg0.N) : (iblk m c 6 t : FVec Ideal S1024x2048 .bf16) = V m c main_v8 := by
  obtain ⟨e0, e1⟩ := idx6 t
  funext y
  show V m c main_v8 (((cfg0.win 6).blk t).view.emb y) = V m c main_v8 y
  refine congrArg (V m c main_v8) (funext fun a => Fin.ext ?_)
  match a with
  | ⟨0, _⟩ => show win0_6.index t (0 : Fin 2) * 1024 + 1 * (y 0).val = (y 0).val; omega
  | ⟨1, _⟩ => show win0_6.index t (1 : Fin 2) * 2048 + 1 * (y 1).val = (y 1).val; omega

theorem iblk7_eq (c : Dev nD) (t : Fin cfg0.N) : (iblk m c 7 t : FVec Ideal S3x1536 .f32) = V m c main_v4 := by
  obtain ⟨e0, e1⟩ := idx7 t
  funext y
  show V m c main_v4 (((cfg0.win 7).blk t).view.emb y) = V m c main_v4 y
  refine congrArg (V m c main_v4) (funext fun a => Fin.ext ?_)
  match a with
  | ⟨0, _⟩ => show win0_7.index t (0 : Fin 2) * 3 + 1 * (y 0).val = (y 0).val; omega
  | ⟨1, _⟩ => show win0_7.index t (1 : Fin 2) * 1536 + 1 * (y 1).val = (y 1).val; omega

theorem iblk8_eq (c : Dev nD) (t : Fin cfg0.N) : (iblk m c 8 t : FVec Ideal S1x1536 .f32) = V m c main_v10 := by
  obtain ⟨e0, e1⟩ := idx8 t
  funext y
  show V m c main_v10 (((cfg0.win 8).blk t).view.emb y) = V m c main_v10 y
  refine congrArg (V m c main_v10) (funext fun a => Fin.ext ?_)
  match a with
  | ⟨0, _⟩ => show win0_8.index t (0 : Fin 2) * 1 + 1 * (y 0).val = (y 0).val; omega
  | ⟨1, _⟩ => show win0_8.index t (1 : Fin 2) * 1536 + 1 * (y 1).val = (y 1).val; omega

/-! ## The points' blocks, from the arguments -/

theorem gains_row (c : Dev nD) (t : Fin cfg0.N) : rowOf (e := .f32) (iblk m c 3 t : FVec Ideal S1x1024 .f32) 0 = row1 (m ((c : Thread nD τ).loc main_arg1)) := by
  rw [iblk3_eq]
  exact funext fun k => v9_apply m c k

/-- A projected column of a row of the tokens. -/
theorem why_apply (c : Dev nD) (t : Fin cfg0.N) (x : Fin 1024 → EReal) (j : Fin 1536) :
    proj x (matOf (e := .bf16) (iblk m c 5 t : FVec Ideal S1024x1536 .bf16)) j = proj x (mat1 (m ((c : Thread nD τ).loc main_arg2))) ⟨1536 + j.val, by omega⟩ := by
  rw [iblk5_eq]
  exact Finset.sum_congr rfl fun k _ => congrArg (_ * ·) (v7_apply m c k j)

/-- A convolved channel of a block's row is the token's. -/
theorem chan_tok (c : Dev nD) (t : Fin cfg0.N) (p : Fin 1024) (j : Fin 1536) :
    chanRow (firstBit (BitVec.ofNat 32 (grid0.coords t 0).val)) (lastBit (BitVec.ofNat 32 (grid0.coords t 0).val)) (iblk m c 0 t) (iblk m c 1 t) (iblk m c 2 t) (iblk m c 3 t) (iblk m c 5 t) (iblk m c 7 t) (iblk m c 8 t) p j
      = hyM m c (bOf (rowAt t p)) (lOf (rowAt t p)) j := by
  have hN : cfg0.N = 16 := N_eq
  have ht := t.isLt
  have hp := p.isLt
  have h7 : ∀ s : Fin 3, (iblk m c 7 t : FVec Ideal S3x1536 .f32) (ix2 s j) = m ((c : Thread nD τ).loc main_arg3) (ix3 0 s j) := fun s => by
    rw [iblk7_eq]; exact v4_apply m c s j
  have h8 : (iblk m c 8 t : FVec Ideal S1x1536 .f32) (ix2 0 j) = m ((c : Thread nD τ).loc main_arg4) (ix2 0 j) := by
    rw [iblk8_eq]; exact v10_apply m c j
  unfold chanRow hyM hy
  rw [h7 0, h7 1, h7 2, h8, gains_row]
  refine taps_congr _ _ _ _ ?_ ?_ ?_
  · show (if h : p.val = 0 then _ else _) = if h : (1024 * t.val + p.val) % 4096 = 0 then _ else _
    by_cases h : p.val = 0
    · rw [dif_pos h]
      by_cases hf : t.val % 4 = 0
      · rw [if_pos ((first_iff t).mpr hf), dif_pos (by omega)]
      · rw [if_neg (fun e => hf ((first_iff t).mp e)), dif_neg (by omega), why_apply,
          iblk1_row m c t (bOf (rowAt t p)) ⟨(1024 * t.val + p.val) % 4096 - 1, by omega⟩ (by show 1024 * t.val = 4096 * ((1024 * t.val + p.val) / 4096) + ((1024 * t.val + p.val) % 4096 - 1) + 1; omega)]
        rfl
    · rw [dif_neg h, dif_neg (by omega), why_apply,
        iblk0_row m c t ⟨p.val - 1, by omega⟩ (bOf (rowAt t p)) ⟨(1024 * t.val + p.val) % 4096 - 1, by omega⟩ (by show 1024 * t.val + (p.val - 1) = 4096 * ((1024 * t.val + p.val) / 4096) + ((1024 * t.val + p.val) % 4096 - 1); omega)]
      rfl
  · show proj _ _ j = z _ _ _ _ _ _
    rw [why_apply, iblk0_row m c t p (bOf (rowAt t p)) (lOf (rowAt t p)) (by show 1024 * t.val + p.val = 4096 * ((1024 * t.val + p.val) / 4096) + (1024 * t.val + p.val) % 4096; omega)]
    rfl
  · show (if h : p.val = 1023 then _ else _) = if h : (1024 * t.val + p.val) % 4096 + 1 = 4096 then _ else _
    by_cases h : p.val = 1023
    · rw [dif_pos h]
      by_cases hf : t.val % 4 = 3
      · rw [if_pos ((last_iff t).mpr hf), dif_pos (by omega)]
      · rw [if_neg (fun e => hf ((last_iff t).mp e)), dif_neg (by omega), why_apply,
          iblk2_row m c t (bOf (rowAt t p)) ⟨(1024 * t.val + p.val) % 4096 + 1, by omega⟩ (by show 1024 * t.val + 1024 = 4096 * ((1024 * t.val + p.val) / 4096) + ((1024 * t.val + p.val) % 4096 + 1); omega)]
        rfl
    · rw [dif_neg h, dif_neg (by omega), why_apply,
        iblk0_row m c t ⟨p.val + 1, by omega⟩ (bOf (rowAt t p)) ⟨(1024 * t.val + p.val) % 4096 + 1, by omega⟩ (by show 1024 * t.val + (p.val + 1) = 4096 * ((1024 * t.val + p.val) / 4096) + ((1024 * t.val + p.val) % 4096 + 1); omega)]
      rfl

theorem point11 (c : Dev nD) (t : Fin cfg0.N) (p : Fin 1024) (j : Fin 512) :
    out0_11 (F := Ideal) (grid0.coords t) (iblk m c 0 t) (iblk m c 1 t) (iblk m c 2 t) (iblk m c 3 t) (iblk m c 4 t) (iblk m c 5 t) (iblk m c 6 t) (iblk m c 7 t) (iblk m c 8 t) (ix2 p j) = arrX m c (ix2 (rowAt t p) j) := by
  rw [out11_apply, chan_tok]
  rfl

theorem point10 (c : Dev nD) (t : Fin cfg0.N) (p : Fin 1024) (j : Fin 512) :
    out0_10 (F := Ideal) (grid0.coords t) (iblk m c 0 t) (iblk m c 1 t) (iblk m c 2 t) (iblk m c 3 t) (iblk m c 4 t) (iblk m c 5 t) (iblk m c 6 t) (iblk m c 7 t) (iblk m c 8 t) (ix2 p j) = arrU m c (ix2 (rowAt t p) j) := by
  rw [out10_apply, chan_tok, chan_tok]
  rfl

theorem own_row (c : Dev nD) (t : Fin cfg0.N) (p : Fin 1024) :
    rowOf (e := .f32) (iblk m c 0 t : FVec Ideal S1024x1024 .f32) p = tokRow (m ((c : Thread nD τ).loc main_arg0)) (bOf (rowAt t p)) (lOf (rowAt t p)) :=
  iblk0_row m c t p _ _ (by show 1024 * t.val + p.val = 4096 * ((1024 * t.val + p.val) / 4096) + (1024 * t.val + p.val) % 4096; omega)

theorem point9 (c : Dev nD) (t : Fin cfg0.N) (p : Fin 1024) (j : Fin 1536) :
    out0_9 (F := Ideal) (grid0.coords t) (iblk m c 0 t) (iblk m c 1 t) (iblk m c 2 t) (iblk m c 3 t) (iblk m c 4 t) (iblk m c 5 t) (iblk m c 6 t) (iblk m c 7 t) (iblk m c 8 t) (ix2 p j) = arrQ m c (ix2 (rowAt t p) j) := by
  rw [out9_apply, own_row, gains_row, iblk4_eq]
  exact Finset.sum_congr rfl fun k _ => congrArg (_ * ·) (v6_apply m c k j)

theorem point12 (c : Dev nD) (t : Fin cfg0.N) (p : Fin 1024) (j : Fin 2048) :
    out0_12 (F := Ideal) (grid0.coords t) (iblk m c 0 t) (iblk m c 1 t) (iblk m c 2 t) (iblk m c 3 t) (iblk m c 4 t) (iblk m c 5 t) (iblk m c 6 t) (iblk m c 7 t) (iblk m c 8 t) (ix2 p j) = arrG m c (ix2 (rowAt t p) j) := by
  rw [out12_apply, own_row, gains_row, iblk6_eq]
  exact Finset.sum_congr rfl fun k _ => congrArg (_ * ·) (v8_apply m c k j)

/-! ## The arrays after the run -/

theorem flushed9_eq (c : Dev nD) (t : Fin cfg0.N) (hf : (cfg0.win 9).flush t = true) :
    (dats m 0 c).flushed 9 t = ((cfg0.win 9).blk t).view.read (Elt Ideal) (arrQ m c) := by
  rw [Cert.InprojIdeal.Value.flushed9]
  obtain ⟨e0, e1⟩ := idx9 t
  funext y
  have y0 : (y 0).val < 1024 := (y 0).isLt
  have y1 : (y 1).val < 1536 := (y 1).isLt
  show out0_9 (F := Ideal) (grid0.coords t) (iblk m c 0 t) (iblk m c 1 t) (iblk m c 2 t) (iblk m c 3 t) (iblk m c 4 t) (iblk m c 5 t) (iblk m c 6 t) (iblk m c 7 t) (iblk m c 8 t) ((cfg0.win 9).xinj (grid0.coords t) y) = arrQ m c (((cfg0.win 9).blk t).view.emb y)
  have e : (cfg0.win 9).xinj (grid0.coords t) y = ix2 ⟨(y 0).val, y0⟩ ⟨(y 1).val, y1⟩ := funext fun a => Fin.ext (match a with | ⟨0, _⟩ => rfl | ⟨1, _⟩ => rfl)
  rw [e, point9]
  refine congrArg (arrQ m c) (funext fun a => Fin.ext ?_)
  match a with
  | ⟨0, _⟩ => show 1024 * t.val + (y 0).val = win0_9.index t (0 : Fin 2) * 1024 + 1 * (y 0).val; omega
  | ⟨1, _⟩ => show (y 1).val = win0_9.index t (1 : Fin 2) * 1536 + 1 * (y 1).val; omega

theorem mem_blk9 (t : Fin cfg0.N) (i : S16384x1536.Idx) :
    i ∈ ((cfg0.win 9).blk t).view.set ↔ ∀ a : Fin 2, win0_9.index t a * S1024x1536.size a ≤ (i a).val ∧ (i a).val < win0_9.index t a * S1024x1536.size a + S1024x1536.size a := by
  show i ∈ ((View.whole main_v11_0).slice (win0_9.rect t)).set ↔ _
  rw [View.set_slice_whole, Rect.mem_set_unit]
  exact Iff.rfl

theorem flush9 : ∀ t : Fin cfg0.N, (cfg0.win 9).flush t = true :=
  (by decide +kernel : ∀ t : Fin grid0.N, win0_9.flush t = true)

theorem cover9 (i : S16384x1536.Idx) : ∃ t : Fin cfg0.N, (cfg0.win 9).flush t = true ∧ i ∈ ((cfg0.win 9).blk t).view.set := by
  have hi0 : (i 0).val < 16384 := (i 0).isLt
  have hi1 : (i 1).val < 1536 := (i 1).isLt
  have hN : cfg0.N = 16 := N_eq
  obtain ⟨t, ht⟩ : ∃ t : Fin cfg0.N, t.val = (i 0).val / 1024 := ⟨⟨(i 0).val / 1024, by omega⟩, rfl⟩
  refine ⟨t, flush9 t, ?_⟩
  obtain ⟨e0, e1⟩ := idx9 t
  rw [mem_blk9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 1536 ≤ (i 1).val ∧ (i 1).val < win0_9.index t (1 : Fin 2) * 1536 + 1536; omega

theorem final9 (c : Dev nD) : (dats m 0 c).arrAt 9 cfg0.N = arrQ m c :=
  (dats m 0 c).arrAt_eq_of_cover 9 _ (fun t hf => flushed9_eq m c t hf) cover9

theorem flushed10_eq (c : Dev nD) (t : Fin cfg0.N) (hf : (cfg0.win 10).flush t = true) :
    (dats m 0 c).flushed 10 t = ((cfg0.win 10).blk t).view.read (Elt Ideal) (arrU m c) := by
  rw [Cert.InprojIdeal.Value.flushed10]
  obtain ⟨e0, e1⟩ := idx10 t
  funext y
  have y0 : (y 0).val < 1024 := (y 0).isLt
  have y1 : (y 1).val < 512 := (y 1).isLt
  show out0_10 (F := Ideal) (grid0.coords t) (iblk m c 0 t) (iblk m c 1 t) (iblk m c 2 t) (iblk m c 3 t) (iblk m c 4 t) (iblk m c 5 t) (iblk m c 6 t) (iblk m c 7 t) (iblk m c 8 t) ((cfg0.win 10).xinj (grid0.coords t) y) = arrU m c (((cfg0.win 10).blk t).view.emb y)
  have e : (cfg0.win 10).xinj (grid0.coords t) y = ix2 ⟨(y 0).val, y0⟩ ⟨(y 1).val, y1⟩ := funext fun a => Fin.ext (match a with | ⟨0, _⟩ => rfl | ⟨1, _⟩ => rfl)
  rw [e, point10]
  refine congrArg (arrU m c) (funext fun a => Fin.ext ?_)
  match a with
  | ⟨0, _⟩ => show 1024 * t.val + (y 0).val = win0_10.index t (0 : Fin 2) * 1024 + 1 * (y 0).val; omega
  | ⟨1, _⟩ => show (y 1).val = win0_10.index t (1 : Fin 2) * 512 + 1 * (y 1).val; omega

theorem mem_blk10 (t : Fin cfg0.N) (i : S16384x512.Idx) :
    i ∈ ((cfg0.win 10).blk t).view.set ↔ ∀ a : Fin 2, win0_10.index t a * S1024x512.size a ≤ (i a).val ∧ (i a).val < win0_10.index t a * S1024x512.size a + S1024x512.size a := by
  show i ∈ ((View.whole main_v11_1).slice (win0_10.rect t)).set ↔ _
  rw [View.set_slice_whole, Rect.mem_set_unit]
  exact Iff.rfl

theorem flush10 : ∀ t : Fin cfg0.N, (cfg0.win 10).flush t = true :=
  (by decide +kernel : ∀ t : Fin grid0.N, win0_10.flush t = true)

theorem cover10 (i : S16384x512.Idx) : ∃ t : Fin cfg0.N, (cfg0.win 10).flush t = true ∧ i ∈ ((cfg0.win 10).blk t).view.set := by
  have hi0 : (i 0).val < 16384 := (i 0).isLt
  have hi1 : (i 1).val < 512 := (i 1).isLt
  have hN : cfg0.N = 16 := N_eq
  obtain ⟨t, ht⟩ : ∃ t : Fin cfg0.N, t.val = (i 0).val / 1024 := ⟨⟨(i 0).val / 1024, by omega⟩, rfl⟩
  refine ⟨t, flush10 t, ?_⟩
  obtain ⟨e0, e1⟩ := idx10 t
  rw [mem_blk10]
  intro a
  match a with
  | ⟨0, _⟩ => show win0_10.index t (0 : Fin 2) * 1024 ≤ (i 0).val ∧ (i 0).val < win0_10.index t (0 : Fin 2) * 1024 + 1024; omega
  | ⟨1, _⟩ => show win0_10.index t (1 : Fin 2) * 512 ≤ (i 1).val ∧ (i 1).val < win0_10.index t (1 : Fin 2) * 512 + 512; omega

theorem final10 (c : Dev nD) : (dats m 0 c).arrAt 10 cfg0.N = arrU m c :=
  (dats m 0 c).arrAt_eq_of_cover 10 _ (fun t hf => flushed10_eq m c t hf) cover10

theorem flushed11_eq (c : Dev nD) (t : Fin cfg0.N) (hf : (cfg0.win 11).flush t = true) :
    (dats m 0 c).flushed 11 t = ((cfg0.win 11).blk t).view.read (Elt Ideal) (arrX m c) := by
  rw [Cert.InprojIdeal.Value.flushed11]
  obtain ⟨e0, e1⟩ := idx11 t
  funext y
  have y0 : (y 0).val < 1024 := (y 0).isLt
  have y1 : (y 1).val < 512 := (y 1).isLt
  show out0_11 (F := Ideal) (grid0.coords t) (iblk m c 0 t) (iblk m c 1 t) (iblk m c 2 t) (iblk m c 3 t) (iblk m c 4 t) (iblk m c 5 t) (iblk m c 6 t) (iblk m c 7 t) (iblk m c 8 t) ((cfg0.win 11).xinj (grid0.coords t) y) = arrX m c (((cfg0.win 11).blk t).view.emb y)
  have e : (cfg0.win 11).xinj (grid0.coords t) y = ix2 ⟨(y 0).val, y0⟩ ⟨(y 1).val, y1⟩ := funext fun a => Fin.ext (match a with | ⟨0, _⟩ => rfl | ⟨1, _⟩ => rfl)
  rw [e, point11]
  refine congrArg (arrX m c) (funext fun a => Fin.ext ?_)
  match a with
  | ⟨0, _⟩ => show 1024 * t.val + (y 0).val = win0_11.index t (0 : Fin 2) * 1024 + 1 * (y 0).val; omega
  | ⟨1, _⟩ => show (y 1).val = win0_11.index t (1 : Fin 2) * 512 + 1 * (y 1).val; omega

theorem mem_blk11 (t : Fin cfg0.N) (i : S16384x512.Idx) :
    i ∈ ((cfg0.win 11).blk t).view.set ↔ ∀ a : Fin 2, win0_11.index t a * S1024x512.size a ≤ (i a).val ∧ (i a).val < win0_11.index t a * S1024x512.size a + S1024x512.size a := by
  show i ∈ ((View.whole main_v11_2).slice (win0_11.rect t)).set ↔ _
  rw [View.set_slice_whole, Rect.mem_set_unit]
  exact Iff.rfl

theorem flush11 : ∀ t : Fin cfg0.N, (cfg0.win 11).flush t = true :=
  (by decide +kernel : ∀ t : Fin grid0.N, win0_11.flush t = true)

theorem cover11 (i : S16384x512.Idx) : ∃ t : Fin cfg0.N, (cfg0.win 11).flush t = true ∧ i ∈ ((cfg0.win 11).blk t).view.set := by
  have hi0 : (i 0).val < 16384 := (i 0).isLt
  have hi1 : (i 1).val < 512 := (i 1).isLt
  have hN : cfg0.N = 16 := N_eq
  obtain ⟨t, ht⟩ : ∃ t : Fin cfg0.N, t.val = (i 0).val / 1024 := ⟨⟨(i 0).val / 1024, by omega⟩, rfl⟩
  refine ⟨t, flush11 t, ?_⟩
  obtain ⟨e0, e1⟩ := idx11 t
  rw [mem_blk11]
  intro a
  match a with
  | ⟨0, _⟩ => show win0_11.index t (0 : Fin 2) * 1024 ≤ (i 0).val ∧ (i 0).val < win0_11.index t (0 : Fin 2) * 1024 + 1024; omega
  | ⟨1, _⟩ => show win0_11.index t (1 : Fin 2) * 512 ≤ (i 1).val ∧ (i 1).val < win0_11.index t (1 : Fin 2) * 512 + 512; omega

theorem final11 (c : Dev nD) : (dats m 0 c).arrAt 11 cfg0.N = arrX m c :=
  (dats m 0 c).arrAt_eq_of_cover 11 _ (fun t hf => flushed11_eq m c t hf) cover11

theorem flushed12_eq (c : Dev nD) (t : Fin cfg0.N) (hf : (cfg0.win 12).flush t = true) :
    (dats m 0 c).flushed 12 t = ((cfg0.win 12).blk t).view.read (Elt Ideal) (arrG m c) := by
  rw [Cert.InprojIdeal.Value.flushed12]
  obtain ⟨e0, e1⟩ := idx12 t
  funext y
  have y0 : (y 0).val < 1024 := (y 0).isLt
  have y1 : (y 1).val < 2048 := (y 1).isLt
  show out0_12 (F := Ideal) (grid0.coords t) (iblk m c 0 t) (iblk m c 1 t) (iblk m c 2 t) (iblk m c 3 t) (iblk m c 4 t) (iblk m c 5 t) (iblk m c 6 t) (iblk m c 7 t) (iblk m c 8 t) ((cfg0.win 12).xinj (grid0.coords t) y) = arrG m c (((cfg0.win 12).blk t).view.emb y)
  have e : (cfg0.win 12).xinj (grid0.coords t) y = ix2 ⟨(y 0).val, y0⟩ ⟨(y 1).val, y1⟩ := funext fun a => Fin.ext (match a with | ⟨0, _⟩ => rfl | ⟨1, _⟩ => rfl)
  rw [e, point12]
  refine congrArg (arrG m c) (funext fun a => Fin.ext ?_)
  match a with
  | ⟨0, _⟩ => show 1024 * t.val + (y 0).val = win0_12.index t (0 : Fin 2) * 1024 + 1 * (y 0).val; omega
  | ⟨1, _⟩ => show (y 1).val = win0_12.index t (1 : Fin 2) * 2048 + 1 * (y 1).val; omega

theorem mem_blk12 (t : Fin cfg0.N) (i : S16384x2048.Idx) :
    i ∈ ((cfg0.win 12).blk t).view.set ↔ ∀ a : Fin 2, win0_12.index t a * S1024x2048.size a ≤ (i a).val ∧ (i a).val < win0_12.index t a * S1024x2048.size a + S1024x2048.size a := by
  show i ∈ ((View.whole main_v11_3).slice (win0_12.rect t)).set ↔ _
  rw [View.set_slice_whole, Rect.mem_set_unit]
  exact Iff.rfl

theorem flush12 : ∀ t : Fin cfg0.N, (cfg0.win 12).flush t = true :=
  (by decide +kernel : ∀ t : Fin grid0.N, win0_12.flush t = true)

theorem cover12 (i : S16384x2048.Idx) : ∃ t : Fin cfg0.N, (cfg0.win 12).flush t = true ∧ i ∈ ((cfg0.win 12).blk t).view.set := by
  have hi0 : (i 0).val < 16384 := (i 0).isLt
  have hi1 : (i 1).val < 2048 := (i 1).isLt
  have hN : cfg0.N = 16 := N_eq
  obtain ⟨t, ht⟩ : ∃ t : Fin cfg0.N, t.val = (i 0).val / 1024 := ⟨⟨(i 0).val / 1024, by omega⟩, rfl⟩
  refine ⟨t, flush12 t, ?_⟩
  obtain ⟨e0, e1⟩ := idx12 t
  rw [mem_blk12]
  intro a
  match a with
  | ⟨0, _⟩ => show win0_12.index t (0 : Fin 2) * 1024 ≤ (i 0).val ∧ (i 0).val < win0_12.index t (0 : Fin 2) * 1024 + 1024; omega
  | ⟨1, _⟩ => show win0_12.index t (1 : Fin 2) * 2048 ≤ (i 1).val ∧ (i 1).val < win0_12.index t (1 : Fin 2) * 2048 + 2048; omega

theorem final12 (c : Dev nD) : (dats m 0 c).arrAt 12 cfg0.N = arrG m c :=
  (dats m 0 c).arrAt_eq_of_cover 12 _ (fun t hf => flushed12_eq m c t hf) cover12

end Cert.InprojIdeal.Val

end
-- ==== Proof.Inproj.RefValue.lean ====
/- The reference's input projection and short convolution, element by element. -/
module

public import proofs.«01_k».proof.Proof.Gen.InprojReferenceIdeal.Read
public import proofs.«01_k».proof.Proof.Inproj.Rows

@[expose] public section

set_option maxRecDepth 16384

noncomputable section

namespace Cert.InprojReferenceIdeal.Val

open Cert.InprojReferenceIdeal Cert.InprojReferenceIdeal.Gen Cert.InprojReferenceIdeal.Read Idealize.ShloMosaic Idealize.ShloMosaic.TcCoe Idealize.ShloMosaic.Tactic Cert.Token Cert.InRows

variable (x0 : (⟨S4x4096x1024, .f32⟩ : BufTy).Contents (Elt Ideal)) (x1 : (⟨S1x1024, .f32⟩ : BufTy).Contents (Elt Ideal)) (x2 : (⟨S1x1024x5120, .f32⟩ : BufTy).Contents (Elt Ideal))
  (x3 : (⟨S1x3x1536, .f32⟩ : BufTy).Contents (Elt Ideal)) (x4 : (⟨S1x1536, .f32⟩ : BufTy).Contents (Elt Ideal))

theorem normed_apply (b : Fin 4) (l : Fin 4096) (j : Fin 1024) :
    val_main_v13 (F := Ideal) x0 x1 (ix3 b l j) = rms (tokRow x0 b l) (row1 x1) j := by
  pointwise [val_main_v13, val_main_v12, val_main_v11, val_main_v10, val_main_v9, val_main_v8, val_main_v7, val_main_v6, val_main_v5, val_main_v4, val_main_v3, val_main_v2, val_main_v1, val_main_v0,
    val_main_cst, val_main_cst_0, val_main_cst_1]
  rfl

theorem z_apply (b : Fin 4) (l : Fin 4096) (j : Fin 5120) : val_main_v15 (F := Ideal) x0 x1 x2 (ix3 b l j) = z x0 x1 x2 b l j := by
  have e : tokRow (val_main_v13 (F := Ideal) x0 x1) b l = _ := funext fun k => normed_apply x0 x1 b l k
  unfold z
  rw [← e]
  unfold val_main_v15
  generalize val_main_v13 (F := Ideal) x0 x1 = y
  pointwise [val_main_v14]
  rfl

/-- The channels with a zero row on either side. -/
theorem padded_apply (b : Fin 4) (l : Fin 4098) (j : Fin 1536) :
    val_main_v21 (F := Ideal) x0 x1 x2 (ix3 b l j)
      = if h : 1 ≤ l.val ∧ l.val ≤ 4096 then z x0 x1 x2 b ⟨l.val - 1, by omega⟩ ⟨1536 + j.val, by omega⟩ else 0 := by
  have e : ∀ l, val_main_v15 (F := Ideal) x0 x1 x2 (ix3 b l ⟨1536 + j.val, by omega⟩) = _ := fun l => z_apply x0 x1 x2 b l _
  simp only [← e]
  unfold val_main_v21 val_main_v17
  generalize val_main_v15 (F := Ideal) x0 x1 x2 = y
  pointwise [val_main_call0_v0, val_main_c]
  by_cases h : 1 ≤ l.val ∧ l.val ≤ 4096
  · rw [dif_pos h, dif_pos ⟨h.1, by omega⟩]
  · rw [dif_neg h, dif_neg (fun e => h ⟨e.1, by omega⟩)]
    show (((0#32 : BitVec 32).toInt : ℝ) : EReal) = 0
    norm_num

theorem conv_apply (b : Fin 4) (l : Fin 4096) (j : Fin 1536) : val_main_v44 (F := Ideal) x0 x1 x2 x3 x4 (ix3 b l j) = hy x0 x1 x2 x3 x4 b l j := by
  have e0 := padded_apply x0 x1 x2 b ⟨l.val, by omega⟩ j
  have e1 := padded_apply x0 x1 x2 b ⟨1 + l.val, by omega⟩ j
  have e2 := padded_apply x0 x1 x2 b ⟨2 + l.val, by omega⟩ j
  have hv : val_main_v44 (F := Ideal) x0 x1 x2 x3 x4 (ix3 b l j)
      = taps (val_main_v21 (F := Ideal) x0 x1 x2 (ix3 b ⟨l.val, by omega⟩ j)) (val_main_v21 (F := Ideal) x0 x1 x2 (ix3 b ⟨1 + l.val, by omega⟩ j))
          (val_main_v21 (F := Ideal) x0 x1 x2 (ix3 b ⟨2 + l.val, by omega⟩ j)) (x3 (ix3 0 0 j)) (x3 (ix3 0 1 j)) (x3 (ix3 0 2 j)) (x4 (ix2 0 j)) := by
    unfold val_main_v44 val_main_v41 val_main_v40 val_main_v34 val_main_v33 val_main_v27 val_main_v35 val_main_v28 val_main_v22
    generalize val_main_v21 (F := Ideal) x0 x1 x2 = y
    pointwise [val_main_v43, val_main_v42, val_main_v39, val_main_v38, val_main_v37, val_main_v36, val_main_v32, val_main_v31, val_main_v30, val_main_v29, val_main_v26, val_main_v25, val_main_v24, val_main_v23,
      val_main_v20, val_main_v19]
    rfl
  rw [hv, e0, e1, e2]
  unfold hy
  refine taps_congr _ _ _ _ ?_ ?_ ?_
  · by_cases h : l.val = 0
    · rw [dif_pos h, dif_neg (fun e => by have : 1 ≤ l.val := e.1; omega)]
    · rw [dif_neg h, dif_pos ⟨by show 1 ≤ l.val; omega, by show l.val ≤ 4096; omega⟩]
  · rw [dif_pos ⟨by show 1 ≤ 1 + l.val; omega, by show 1 + l.val ≤ 4096; omega⟩]
    exact congrArg (fun q => z x0 x1 x2 b q _) (Fin.ext (by show 1 + l.val - 1 = l.val; omega))
  · by_cases h : l.val + 1 = 4096
    · rw [dif_pos h, dif_neg (fun e => by have : 2 + l.val ≤ 4096 := e.2; omega)]
    · rw [dif_neg h, dif_pos ⟨by show 1 ≤ 2 + l.val; omega, by show 2 + l.val ≤ 4096; omega⟩]
      exact congrArg (fun q => z x0 x1 x2 b q _) (Fin.ext (by show 2 + l.val - 1 = l.val + 1; omega))

/-! ## The results -/

/-- Flat rows read at their batch and place. -/
theorem rows_apply {n : ℕ} (A : (⟨3, ![4, 4096, n]⟩ : Shape).Idx → EReal) (h : (⟨3, ![4, 4096, n]⟩ : Shape).ShapeCasts ⟨2, ![16384, n]⟩) (r : Fin 16384) (k : Fin n) :
    shapeCast (α := EReal) ⟨2, ![16384, n]⟩ A h (ix2 r k) = A (ix3 ⟨r.val / 4096, by omega⟩ ⟨r.val % 4096, by omega⟩ k) := by
  refine shapeCast_apply _ h _ _ ?_
  rw [Shape.rowMajor_val_two, Shape.rowMajor_val_three]
  show (r.val / 4096 * 4096 + r.val % 4096) * n + k.val = r.val * n + k.val
  have : r.val / 4096 * 4096 + r.val % 4096 = r.val := by omega
  rw [this]

theorem q_apply (r : Fin 16384) (j : Fin 1536) :
    val_main_v50 (F := Ideal) x0 x1 x2 (ix2 r j) = z x0 x1 x2 ⟨r.val / 4096, by omega⟩ ⟨r.val % 4096, by omega⟩ ⟨j.val, by omega⟩ := by
  rw [← z_apply]
  refine (rows_apply (val_main_v49 (F := Ideal) x0 x1 x2) _ r j).trans ?_
  unfold val_main_v49 val_main_v16
  generalize val_main_v15 (F := Ideal) x0 x1 x2 = y
  pointwise

theorem g_apply (r : Fin 16384) (j : Fin 2048) :
    val_main_v56 (F := Ideal) x0 x1 x2 (ix2 r j) = z x0 x1 x2 ⟨r.val / 4096, by omega⟩ ⟨r.val % 4096, by omega⟩ ⟨3072 + j.val, by omega⟩ := by
  rw [← z_apply]
  refine (rows_apply (val_main_v55 (F := Ideal) x0 x1 x2) _ r j).trans ?_
  unfold val_main_v55 val_main_v18
  generalize val_main_v15 (F := Ideal) x0 x1 x2 = y
  pointwise

theorem x_apply (r : Fin 16384) (j : Fin 512) :
    val_main_v54 (F := Ideal) x0 x1 x2 x3 x4 (ix2 r j) = hy x0 x1 x2 x3 x4 ⟨r.val / 4096, by omega⟩ ⟨r.val % 4096, by omega⟩ ⟨j.val, by omega⟩ := by
  rw [← conv_apply]
  refine (rows_apply (val_main_v53 (F := Ideal) x0 x1 x2 x3 x4) _ r j).trans ?_
  unfold val_main_v53 val_main_v45
  generalize val_main_v44 (F := Ideal) x0 x1 x2 x3 x4 = y
  pointwise

theorem u_apply (r : Fin 16384) (j : Fin 512) :
    val_main_v52 (F := Ideal) x0 x1 x2 x3 x4 (ix2 r j)
      = hy x0 x1 x2 x3 x4 ⟨r.val / 4096, by omega⟩ ⟨r.val % 4096, by omega⟩ ⟨512 + j.val, by omega⟩
        * hy x0 x1 x2 x3 x4 ⟨r.val / 4096, by omega⟩ ⟨r.val % 4096, by omega⟩ ⟨1024 + j.val, by omega⟩ := by
  rw [← conv_apply, ← conv_apply]
  refine (rows_apply (val_main_v51 (F := Ideal) x0 x1 x2 x3 x4) _ r j).trans ?_
  unfold val_main_v51 val_main_v48 val_main_v46 val_main_v47
  generalize val_main_v44 (F := Ideal) x0 x1 x2 x3 x4 = y
  pointwise

end Cert.InprojReferenceIdeal.Val

end
-- ==== Proof.Inproj.Equal.lean ====
/- The input projection's kernel and the plain formulas leave equal arrays, whatever the arguments. -/
module

public import proofs.«01_k».proof.Defs
public import proofs.«01_k».proof.Proof.Inproj.Array
public import proofs.«01_k».proof.Proof.Inproj.RefValue
public import proofs.«01_k».proof.Proof.Gen.InprojReferenceIdeal.Run

@[expose] public section

set_option maxRecDepth 16384

noncomputable section

namespace Cert.InEqual

open Idealize.ShloMosaic Idealize.ShloMosaic.TcCoe Idealize.SL.Sem Cert.InprojIdeal.Val

/-- An index by its two coordinates. -/
theorem split2 {a b : ℕ} (y : (⟨2, ![a, b]⟩ : Shape).Idx) : y = ix2 ⟨(y 0).val, (y 0).isLt⟩ ⟨(y 1).val, (y 1).isLt⟩ :=
  funext fun x => Fin.ext (match x with | ⟨0, _⟩ => rfl | ⟨1, _⟩ => rfl)

theorem algebraic : Cert.algebraic_InprojIdeal_InprojReferenceIdeal := by
  intro m g m' g' _ hm
  refine ⟨fun c => arrQ m c, fun c => arrU m c, fun c => arrX m c, fun c => arrG m c,
    (θ_run Cert.InprojIdeal.defs _ _).mono (fun r h c => ⟨(h c).1.trans (final9 m c), (h c).2.1.trans (final10 m c), (h c).2.2.1.trans (final11 m c), (h c).2.2.2.1.trans (final12 m c), (h c).2.2.2.2⟩)
      (Cert.InprojIdeal.Value.run_blocks m g), ?_⟩
  refine (θ_run Cert.InprojReferenceIdeal.defs _ _).mono (fun r h c => ⟨(h c).1.trans ?_, (h c).2.1.trans ?_, (h c).2.2.1.trans ?_, (h c).2.2.2.1.trans ?_, (h c).2.2.2.2⟩) (Cert.InprojReferenceIdeal.Value.run m' g')
  all_goals obtain ⟨h0, h1, h2, h3, h4⟩ := hm c
  · rw [Cert.InprojReferenceIdeal.Read.val_main_v50_eq, h0, h1, h2]
    funext y
    refine (congrArg _ (split2 y)).trans ((Cert.InprojReferenceIdeal.Val.q_apply _ _ _ _ _).trans ?_)
    rfl
  · rw [Cert.InprojReferenceIdeal.Read.val_main_v52_eq, h0, h1, h2, h3, h4]
    funext y
    refine (congrArg _ (split2 y)).trans ((Cert.InprojReferenceIdeal.Val.u_apply _ _ _ _ _ _ _).trans ?_)
    rfl
  · rw [Cert.InprojReferenceIdeal.Read.val_main_v54_eq, h0, h1, h2, h3, h4]
    funext y
    refine (congrArg _ (split2 y)).trans ((Cert.InprojReferenceIdeal.Val.x_apply _ _ _ _ _ _ _).trans ?_)
    rfl
  · rw [Cert.InprojReferenceIdeal.Read.val_main_v56_eq, h0, h1, h2]
    funext y
    refine (congrArg _ (split2 y)).trans ((Cert.InprojReferenceIdeal.Val.g_apply _ _ _ _ _).trans ?_)
    rfl

end Cert.InEqual

end
-- ==== Proof.Sample.Array.lean ====
/- The array the merge and feed-forward kernel leaves for the one long sequence, element by element, from the launched arrays. -/
module

public import proofs.«01_k».proof.Proof.Ffn.Block
public import proofs.«01_k».proof.Proof.Gen.FfnSampleIdeal.Frame
public import proofs.«01_k».proof.Proof.Gen.FfnSampleIdeal.Value
public import Idealize.ShloMosaic.Lib.Claim

@[expose] public section

set_option maxRecDepth 16384

noncomputable section

namespace Cert.FfnSampleIdeal.Val

open Cert.FfnSampleIdeal Cert.FfnSampleIdeal.Gen Idealize.ShloMosaic Idealize.ShloMosaic.TcCoe Idealize.ShloMosaic.Tactic Idealize.SL.Sem Cert.Token
open Idealize.ShloMosaic.Pipeline (Dat)
open Cert.FfnIdeal.Val (rowOf matOf)

/-! ## The formula -/

variable (m : (ℓ : Loc nD τ sig) → Buf (Elt Ideal) ℓ) (ρ : Dev nD → PrngReg)

/-- The array the kernel leaves. -/
def kArr (c : Dev nD) : S16384x1024.Idx → EReal := fun y =>
  tok (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    0 ⟨(y 0).val, (y 0).isLt⟩ ⟨(y 1).val, (y 1).isLt⟩

/-! ## The operands at the call, from the arguments -/

/-- Rows with the batch's axis of one dropped. -/
theorem flat_apply {n : ℕ} (A : (⟨3, ![1, 16384, n]⟩ : Shape).Idx → EReal) (h : (⟨3, ![1, 16384, n]⟩ : Shape).ShapeCasts ⟨2, ![16384, n]⟩) (r : Fin 16384) (k : Fin n) :
    shapeCast (α := EReal) ⟨2, ![16384, n]⟩ A h (ix2 r k) = A (ix3 0 r k) := by
  refine shapeCast_apply _ h _ _ ?_
  rw [Shape.rowMajor_val_two, Shape.rowMajor_val_three]
  show (0 * 16384 + r.val) * n + k.val = r.val * n + k.val
  rw [Nat.zero_mul, Nat.zero_add]

theorem v1_apply (c : Dev nD) (r : Fin 16384) (k : Fin 512) :
    (V m c main_v1 : S16384x512.Idx → EReal) (ix2 r k) = m ((c : Thread nD τ).loc main_arg0) (ix3 0 r k) := by
  show V m c main_v1 (ix2 r k) = _
  entry_read
  exact flat_apply _ _ r k

theorem v3_apply (c : Dev nD) (r : Fin 16384) (k : Fin 512) :
    (V m c main_v3 : S16384x512.Idx → EReal) (ix2 r k) = m ((c : Thread nD τ).loc main_arg1) (ix3 0 r k) := by
  show V m c main_v3 (ix2 r k) = _
  entry_read
  exact flat_apply _ _ r k

theorem v5_apply (c : Dev nD) (r : Fin 16384) (k : Fin 512) :
    (V m c main_v5 : S16384x512.Idx → EReal) (ix2 r k) = m ((c : Thread nD τ).loc main_arg2) (ix3 0 r k) := by
  show V m c main_v5 (ix2 r k) = _
  entry_read
  exact flat_apply _ _ r k

theorem v7_apply (c : Dev nD) (r : Fin 16384) (k : Fin 512) :
    (V m c main_v7 : S16384x512.Idx → EReal) (ix2 r k) = m ((c : Thread nD τ).loc main_arg3) (ix3 0 r k) := by
  show V m c main_v7 (ix2 r k) = _
  entry_read
  exact flat_apply _ _ r k

theorem v10_apply (c : Dev nD) (r : Fin 16384) (k : Fin 2048) :
    (V m c main_v10 : S16384x2048.Idx → EReal) (ix2 r k) = m ((c : Thread nD τ).loc main_arg4) (ix3 0 r k) := by
  show V m c main_v10 (ix2 r k) = _
  entry_read
  exact flat_apply _ _ r k

theorem v11_apply (c : Dev nD) (r : Fin 16384) (k : Fin 1024) :
    (V m c main_v11 : S16384x1024.Idx → EReal) (ix2 r k) = m ((c : Thread nD τ).loc main_arg5) (ix3 0 r k) := by
  show V m c main_v11 (ix2 r k) = _
  entry_read
  exact flat_apply _ _ r k

theorem v13_apply (c : Dev nD) (k : Fin 512) (j : Fin 1024) :
    (V m c main_v13 : S512x1024.Idx → EReal) (ix2 k j) = m ((c : Thread nD τ).loc main_arg7) (ix3 0 k j) := by
  show V m c main_v13 (ix2 k j) = _
  entry_read
  pointwise

theorem v15_apply (c : Dev nD) (k : Fin 512) (j : Fin 1024) :
    (V m c main_v15 : S512x1024.Idx → EReal) (ix2 k j) = m ((c : Thread nD τ).loc main_arg8) (ix3 0 k j) := by
  show V m c main_v15 (ix2 k j) = _
  entry_read
  pointwise

theorem v17_apply (c : Dev nD) (k : Fin 1024) (j : Fin 1024) :
    (V m c main_v17 : S1024x1024.Idx → EReal) (ix2 k j) = m ((c : Thread nD τ).loc main_arg9) (ix3 0 k j) := by
  show V m c main_v17 (ix2 k j) = _
  entry_read
  pointwise

theorem v20_apply (c : Dev nD) (k : Fin 1024) (j : Fin 2816) :
    (V m c main_v20 : S1024x2816.Idx → EReal) (ix2 k j) = m ((c : Thread nD τ).loc main_arg11) (ix3 0 k j) := by
  show V m c main_v20 (ix2 k j) = _
  entry_read
  pointwise

theorem v22_apply (c : Dev nD) (k : Fin 1024) (j : Fin 2816) :
    (V m c main_v22 : S1024x2816.Idx → EReal) (ix2 k j) = m ((c : Thread nD τ).loc main_arg12) (ix3 0 k j) := by
  show V m c main_v22 (ix2 k j) = _
  entry_read
  pointwise

theorem v24_apply (c : Dev nD) (k : Fin 2816) (j : Fin 1024) :
    (V m c main_v24 : S2816x1024.Idx → EReal) (ix2 k j) = m ((c : Thread nD τ).loc main_arg13) (ix3 0 k j) := by
  show V m c main_v24 (ix2 k j) = _
  entry_read
  pointwise

theorem v25_apply (c : Dev nD) (k : Fin 512) :
    (V m c main_v25 : S1x512.Idx → EReal) (ix2 0 k) = m ((c : Thread nD τ).loc main_arg6) (ix2 0 k) := by
  show V m c main_v25 (ix2 0 k) = _
  entry_read
  pointwise

theorem v26_apply (c : Dev nD) (k : Fin 1024) :
    (V m c main_v26 : S1x1024.Idx → EReal) (ix2 0 k) = m ((c : Thread nD τ).loc main_arg10) (ix2 0 k) := by
  show V m c main_v26 (ix2 0 k) = _
  entry_read
  pointwise

theorem v27_apply (c : Dev nD) (k : Fin 1024) :
    (V m c main_v27 : S1x1024.Idx → EReal) (ix2 0 k) = m ((c : Thread nD τ).loc main_arg14) (ix1 k) := by
  show V m c main_v27 (ix2 0 k) = _
  entry_read
  pointwise

/-! ## The windows' blocks, read -/

theorem N_eq : cfg0.N = 32 := N_0

/-- Row `p` of block `t`. -/
abbrev rowAt (t : Fin cfg0.N) (p : Fin 512) : Fin 16384 := ⟨512 * t.val + p.val, by have := t.isLt; have := N_eq; omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 1 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)

theorem iblk0_apply (c : Dev nD) (t : Fin cfg0.N) (p : Fin 512) (k : Fin 512) :
    (iblk m c 0 t : FVec Ideal S512x512 .bf16) (ix2 p k)
      = m ((c : Thread nD τ).loc main_arg0) (ix3 0 (rowAt t p) k) := by
  obtain ⟨e0, e1⟩ := idx0 t
  refine Eq.trans ?_ (v1_apply m c (rowAt t p) k)
  show V m c main_v1 (((cfg0.win 0).blk t).view.emb (ix2 p k)) = _
  refine congrArg (V m c main_v1) (funext fun a => Fin.ext ?_)
  match a with
  | ⟨0, _⟩ => show win0_0.index t (0 : Fin 2) * 512 + 1 * p.val = 512 * t.val + p.val; omega
  | ⟨1, _⟩ => show win0_0.index t (1 : Fin 2) * 512 + 1 * k.val = k.val; omega

theorem iblk1_apply (c : Dev nD) (t : Fin cfg0.N) (p : Fin 512) (k : Fin 512) :
    (iblk m c 1 t : FVec Ideal S512x512 .bf16) (ix2 p k)
      = m ((c : Thread nD τ).loc main_arg1) (ix3 0 (rowAt t p) k) := by
  obtain ⟨e0, e1⟩ := idx1 t
  refine Eq.trans ?_ (v3_apply m c (rowAt t p) k)
  show V m c main_v3 (((cfg0.win 1).blk t).view.emb (ix2 p k)) = _
  refine congrArg (V m c main_v3) (funext fun a => Fin.ext ?_)
  match a with
  | ⟨0, _⟩ => show win0_1.index t (0 : Fin 2) * 512 + 1 * p.val = 512 * t.val + p.val; omega
  | ⟨1, _⟩ => show win0_1.index t (1 : Fin 2) * 512 + 1 * k.val = k.val; omega

theorem iblk2_apply (c : Dev nD) (t : Fin cfg0.N) (p : Fin 512) (k : Fin 512) :
    (iblk m c 2 t : FVec Ideal S512x512 .bf16) (ix2 p k)
      = m ((c : Thread nD τ).loc main_arg2) (ix3 0 (rowAt t p) k) := by
  obtain ⟨e0, e1⟩ := idx2 t
  refine Eq.trans ?_ (v5_apply m c (rowAt t p) k)
  show V m c main_v5 (((cfg0.win 2).blk t).view.emb (ix2 p k)) = _
  refine congrArg (V m c main_v5) (funext fun a => Fin.ext ?_)
  match a with
  | ⟨0, _⟩ => show win0_2.index t (0 : Fin 2) * 512 + 1 * p.val = 512 * t.val + p.val; omega
  | ⟨1, _⟩ => show win0_2.index t (1 : Fin 2) * 512 + 1 * k.val = k.val; omega

theorem iblk3_apply (c : Dev nD) (t : Fin cfg0.N) (p : Fin 512) (k : Fin 512) :
    (iblk m c 3 t : FVec Ideal S512x512 .bf16) (ix2 p k)
      = m ((c : Thread nD τ).loc main_arg3) (ix3 0 (rowAt t p) k) := by
  obtain ⟨e0, e1⟩ := idx3 t
  refine Eq.trans ?_ (v7_apply m c (rowAt t p) k)
  show V m c main_v7 (((cfg0.win 3).blk t).view.emb (ix2 p k)) = _
  refine congrArg (V m c main_v7) (funext fun a => Fin.ext ?_)
  match a with
  | ⟨0, _⟩ => show win0_3.index t (0 : Fin 2) * 512 + 1 * p.val = 512 * t.val + p.val; omega
  | ⟨1, _⟩ => show win0_3.index t (1 : Fin 2) * 512 + 1 * k.val = k.val; omega

theorem iblk5_apply (c : Dev nD) (t : Fin cfg0.N) (p : Fin 512) (k : Fin 1024) :
    (iblk m c 5 t : FVec Ideal S512x1024 .bf16) (ix2 p k)
      = m ((c : Thread nD τ).loc main_arg4) (ix3 0 (rowAt t p) ⟨k.val, by omega⟩) := by
  obtain ⟨e0, e1⟩ := idx5 t
  refine Eq.trans ?_ (v10_apply m c (rowAt t p) ⟨k.val, by omega⟩)
  show V m c main_v10 (((cfg0.win 5).blk t).view.emb (ix2 p k)) = _
  refine congrArg (V m c main_v10) (funext fun a => Fin.ext ?_)
  match a with
  | ⟨0, _⟩ => show win0_5.index t (0 : Fin 2) * 512 + 1 * p.val = 512 * t.val + p.val; omega
  | ⟨1, _⟩ => show win0_5.index t (1 : Fin 2) * 1024 + 1 * k.val = k.val; omega

theorem iblk6_apply (c : Dev nD) (t : Fin cfg0.N) (p : Fin 512) (k : Fin 1024) :
    (iblk m c 6 t : FVec Ideal S512x1024 .bf16) (ix2 p k)
      = m ((c : Thread nD τ).loc main_arg4) (ix3 0 (rowAt t p) ⟨1024 + k.val, by omega⟩) := by
  obtain ⟨e0, e1⟩ := idx6 t
  refine Eq.trans ?_ (v10_apply m c (rowAt t p) ⟨1024 + k.val, by omega⟩)
  show V m c main_v10 (((cfg0.win 6).blk t).view.emb (ix2 p k)) = _
  refine congrArg (V m c main_v10) (funext fun a => Fin.ext ?_)
  match a with
  | ⟨0, _⟩ => show win0_6.index t (0 : Fin 2) * 512 + 1 * p.val = 512 * t.val + p.val; omega
  | ⟨1, _⟩ => show win0_6.index t (1 : Fin 2) * 1024 + 1 * k.val = 1024 + k.val; omega

theorem iblk7_apply (c : Dev nD) (t : Fin cfg0.N) (p : Fin 512) (k : Fin 1024) :
    (iblk m c 7 t : FVec Ideal S512x1024 .f32) (ix2 p k)
      = m ((c : Thread nD τ).loc main_arg5) (ix3 0 (rowAt t p) k) := by
  obtain ⟨e0, e1⟩ := idx7 t
  refine Eq.trans ?_ (v11_apply m c (rowAt t p) k)
  show V m c main_v11 (((cfg0.win 7).blk t).view.emb (ix2 p k)) = _
  refine congrArg (V m c main_v11) (funext fun a => Fin.ext ?_)
  match a with
  | ⟨0, _⟩ => show win0_7.index t (0 : Fin 2) * 512 + 1 * p.val = 512 * t.val + p.val; omega
  | ⟨1, _⟩ => show win0_7.index t (1 : Fin 2) * 1024 + 1 * k.val = k.val; omega

theorem iblk4_eq (c : Dev nD) (t : Fin cfg0.N) : (iblk m c 4 t : FVec Ideal S1x512 .f32) = V m c main_v25 := by
  obtain ⟨e0, e1⟩ := idx4 t
  funext y
  show V m c main_v25 (((cfg0.win 4).blk t).view.emb y) = V m c main_v25 y
  refine congrArg (V m c main_v25) (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

theorem iblk8_eq (c : Dev nD) (t : Fin cfg0.N) : (iblk m c 8 t : FVec Ideal S512x1024 .bf16) = V m c main_v13 := by
  obtain ⟨e0, e1⟩ := idx8 t
  funext y
  show V m c main_v13 (((cfg0.win 8).blk t).view.emb y) = V m c main_v13 y
  refine congrArg (V m c main_v13) (funext fun a => Fin.ext ?_)
  match a with
  | ⟨0, _⟩ => show win0_8.index t (0 : Fin 2) * 512 + 1 * (y 0).val = (y 0).val; omega
  | ⟨1, _⟩ => show win0_8.index t (1 : Fin 2) * 1024 + 1 * (y 1).val = (y 1).val; omega

theorem iblk9_eq (c : Dev nD) (t : Fin cfg0.N) : (iblk m c 9 t : FVec Ideal S512x1024 .bf16) = V m c main_v15 := by
  obtain ⟨e0, e1⟩ := idx9 t
  funext y
  show V m c main_v15 (((cfg0.win 9).blk t).view.emb y) = V m c main_v15 y
  refine congrArg (V m c main_v15) (funext fun a => Fin.ext ?_)
  match a with
  | ⟨0, _⟩ => show win0_9.index t (0 : Fin 2) * 512 + 1 * (y 0).val = (y 0).val; omega
  | ⟨1, _⟩ => show win0_9.index t (1 : Fin 2) * 1024 + 1 * (y 1).val = (y 1).val; omega

theorem iblk10_eq (c : Dev nD) (t : Fin cfg0.N) : (iblk m c 10 t : FVec Ideal S1024x1024 .bf16) = V m c main_v17 := by
  obtain ⟨e0, e1⟩ := idx10 t
  funext y
  show V m c main_v17 (((cfg0.win 10).blk t).view.emb y) = V m c main_v17 y
  refine congrArg (V m c main_v17) (funext fun a => Fin.ext ?_)
  match a with
  | ⟨0, _⟩ => show win0_10.index t (0 : Fin 2) * 1024 + 1 * (y 0).val = (y 0).val; omega
  | ⟨1, _⟩ => show win0_10.index t (1 : Fin 2) * 1024 + 1 * (y 1).val = (y 1).val; omega

theorem iblk11_eq (c : Dev nD) (t : Fin cfg0.N) : (iblk m c 11 t : FVec Ideal S1x1024 .f32) = V m c main_v26 := by
  obtain ⟨e0, e1⟩ := idx11 t
  funext y
  show V m c main_v26 (((cfg0.win 11).blk t).view.emb y) = V m c main_v26 y
  refine congrArg (V m c main_v26) (funext fun a => Fin.ext ?_)
  match a with
  | ⟨0, _⟩ => show win0_11.index t (0 : Fin 2) * 1 + 1 * (y 0).val = (y 0).val; omega
  | ⟨1, _⟩ => show win0_11.index t (1 : Fin 2) * 1024 + 1 * (y 1).val = (y 1).val; omega

theorem iblk12_eq (c : Dev nD) (t : Fin cfg0.N) : (iblk m c 12 t : FVec Ideal S1024x2816 .bf16) = V m c main_v20 := by
  obtain ⟨e0, e1⟩ := idx12 t
  funext y
  show V m c main_v20 (((cfg0.win 12).blk t).view.emb y) = V m c main_v20 y
  refine congrArg (V m c main_v20) (funext fun a => Fin.ext ?_)
  match a with
  | ⟨0, _⟩ => show win0_12.index t (0 : Fin 2) * 1024 + 1 * (y 0).val = (y 0).val; omega
  | ⟨1, _⟩ => show win0_12.index t (1 : Fin 2) * 2816 + 1 * (y 1).val = (y 1).val; omega

theorem iblk13_eq (c : Dev nD) (t : Fin cfg0.N) : (iblk m c 13 t : FVec Ideal S1024x2816 .bf16) = V m c main_v22 := by
  obtain ⟨e0, e1⟩ := idx13 t
  funext y
  show V m c main_v22 (((cfg0.win 13).blk t).view.emb y) = V m c main_v22 y
  refine congrArg (V m c main_v22) (funext fun a => Fin.ext ?_)
  match a with
  | ⟨0, _⟩ => show win0_13.index t (0 : Fin 2) * 1024 + 1 * (y 0).val = (y 0).val; omega
  | ⟨1, _⟩ => show win0_13.index t (1 : Fin 2) * 2816 + 1 * (y 1).val = (y 1).val; omega

theorem iblk14_eq (c : Dev nD) (t : Fin cfg0.N) : (iblk m c 14 t : FVec Ideal S2816x1024 .bf16) = V m c main_v24 := by
  obtain ⟨e0, e1⟩ := idx14 t
  funext y
  show V m c main_v24 (((cfg0.win 14).blk t).view.emb y) = V m c main_v24 y
  refine congrArg (V m c main_v24) (funext fun a => Fin.ext ?_)
  match a with
  | ⟨0, _⟩ => show win0_14.index t (0 : Fin 2) * 2816 + 1 * (y 0).val = (y 0).val; omega
  | ⟨1, _⟩ => show win0_14.index t (1 : Fin 2) * 1024 + 1 * (y 1).val = (y 1).val; omega

theorem iblk15_eq (c : Dev nD) (t : Fin cfg0.N) : (iblk m c 15 t : FVec Ideal S1x1024 .f32) = V m c main_v27 := by
  obtain ⟨e0, e1⟩ := idx15 t
  funext y
  show V m c main_v27 (((cfg0.win 15).blk t).view.emb y) = V m c main_v27 y
  refine congrArg (V m c main_v27) (funext fun a => Fin.ext ?_)
  match a with
  | ⟨0, _⟩ => show win0_15.index t (0 : Fin 2) * 1 + 1 * (y 0).val = (y 0).val; omega
  | ⟨1, _⟩ => show win0_15.index t (1 : Fin 2) * 1024 + 1 * (y 1).val = (y 1).val; omega

/-! ## The array -/

/-- The body is the same as at the four shorter sequences. -/
theorem out_same (x0 x1 x2 x3 : FVec Ideal S512x512 .bf16) (x4 : FVec Ideal S1x512 .f32) (x5 x6 : FVec Ideal S512x1024 .bf16) (x7 : FVec Ideal S512x1024 .f32)
    (x8 x9 : FVec Ideal S512x1024 .bf16) (x10 : FVec Ideal S1024x1024 .bf16) (x11 : FVec Ideal S1x1024 .f32) (x12 x13 : FVec Ideal S1024x2816 .bf16)
    (x14 : FVec Ideal S2816x1024 .bf16) (x15 : FVec Ideal S1x1024 .f32) :
    out0_16 (F := Ideal) x0 x1 x2 x3 x4 x5 x6 x7 x8 x9 x10 x11 x12 x13 x14 x15 = Cert.FfnIdeal.Gen.out0_16 (F := Ideal) x0 x1 x2 x3 x4 x5 x6 x7 x8 x9 x10 x11 x12 x13 x14 x15 := rfl

/-- The rows a grid point leaves. -/
theorem point_apply (c : Dev nD) (t : Fin cfg0.N) (p : Fin 512) (j : Fin 1024) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p j) = kArr m c (ix2 (rowAt t p) j) := by
  rw [out_same, Cert.FfnIdeal.Val.out_apply, iblk4_eq, iblk8_eq, iblk9_eq, iblk10_eq, iblk11_eq, iblk12_eq, iblk13_eq, iblk14_eq, iblk15_eq]
  unfold kArr tok
  have h0 := funext fun k => iblk0_apply m c t p k
  have h1 := funext fun k => iblk1_apply m c t p k
  have h2 := funext fun k => iblk2_apply m c t p k
  have h3 := funext fun k => iblk3_apply m c t p k
  have h5 := funext fun k => iblk5_apply m c t p k
  have h6 := funext fun k => iblk6_apply m c t p k
  have h7 := funext fun k => iblk7_apply m c t p k
  have h4 := funext fun k => v25_apply m c k
  have h8 := funext fun k => funext fun j => v13_apply m c k j
  have h9 := funext fun k => funext fun j => v15_apply m c k j
  have h10 := funext fun k => funext fun j => v17_apply m c k j
  have h11 := funext fun k => v26_apply m c k
  have h12 := funext fun k => funext fun j => v20_apply m c k j
  have h13 := funext fun k => funext fun j => v22_apply m c k j
  have h14 := funext fun k => funext fun j => v24_apply m c k j
  have h15 := funext fun k => v27_apply m c k
  unfold rowOf matOf
  rw [h0, h1, h2, h3, h4, h5, h6, h7, h8, h9, h10, h11, h12, h13, h14, h15]
  rfl

/-- What a point writes back is its block of `kArr`. -/
theorem flushed16_eq (c : Dev nD) (t : Fin cfg0.N) (hf : (cfg0.win 16).flush t = true) :
    (dats m 0 c).flushed 16 t = ((cfg0.win 16).blk t).view.read (Elt Ideal) (kArr m c) := by
  rw [Cert.FfnSampleIdeal.Value.flushed16]
  obtain ⟨e0, e1⟩ := idx16 t
  funext y
  have y0 : (y 0).val < 512 := (y 0).isLt
  have y1 : (y 1).val < 1024 := (y 1).isLt
  show out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ((cfg0.win 16).xinj (grid0.coords t) y) = kArr m c (((cfg0.win 16).blk t).view.emb y)
  have e : (cfg0.win 16).xinj (grid0.coords t) y = ix2 ⟨(y 0).val, y0⟩ ⟨(y 1).val, y1⟩ := funext fun a => Fin.ext (match a with | ⟨0, _⟩ => rfl | ⟨1, _⟩ => rfl)
  rw [e, point_apply]
  refine congrArg (kArr m c) (funext fun a => Fin.ext ?_)
  match a with
  | ⟨0, _⟩ => show 512 * t.val + (y 0).val = win0_16.index t (0 : Fin 2) * 512 + 1 * (y 0).val; omega
  | ⟨1, _⟩ => show (y 1).val = win0_16.index t (1 : Fin 2) * 1024 + 1 * (y 1).val; omega

theorem mem_blk16 (t : Fin cfg0.N) (i : S16384x1024.Idx) :
    i ∈ ((cfg0.win 16).blk t).view.set ↔ ∀ a : Fin 2, win0_16.index t a * S512x1024.size a ≤ (i a).val ∧ (i a).val < win0_16.index t a * S512x1024.size a + S512x1024.size a := by
  show i ∈ ((View.whole main_v28).slice (win0_16.rect t)).set ↔ _
  rw [View.set_slice_whole, Rect.mem_set_unit]
  exact Iff.rfl

theorem flush16 : ∀ t : Fin cfg0.N, (cfg0.win 16).flush t = true :=
  (by decide +kernel : ∀ t : Fin grid0.N, win0_16.flush t = true)

/-- Every index lies in a block some point writes back. -/
theorem cover16 (i : S16384x1024.Idx) : ∃ t : Fin cfg0.N, (cfg0.win 16).flush t = true ∧ i ∈ ((cfg0.win 16).blk t).view.set := by
  have hi0 : (i 0).val < 16384 := (i 0).isLt
  have hi1 : (i 1).val < 1024 := (i 1).isLt
  have hN : cfg0.N = 32 := N_eq
  obtain ⟨t, ht⟩ : ∃ t : Fin cfg0.N, t.val = (i 0).val / 512 := ⟨⟨(i 0).val / 512, by omega⟩, rfl⟩
  refine ⟨t, flush16 t, ?_⟩
  obtain ⟨e0, e1⟩ := idx16 t
  rw [mem_blk16]
  intro a
  match a with
  | ⟨0, _⟩ => show win0_16.index t (0 : Fin 2) * 512 ≤ (i 0).val ∧ (i 0).val < win0_16.index t (0 : Fin 2) * 512 + 512; omega
  | ⟨1, _⟩ => show win0_16.index t (1 : Fin 2) * 1024 ≤ (i 1).val ∧ (i 1).val < win0_16.index t (1 : Fin 2) * 1024 + 1024; omega

/-- The array after the run. -/
theorem final16 (c : Dev nD) : (dats m 0 c).arrAt 16 cfg0.N = kArr m c :=
  (dats m 0 c).arrAt_eq_of_cover 16 _ (fun t hf => flushed16_eq m c t hf) cover16

end Cert.FfnSampleIdeal.Val

end
-- ==== Proof.Sample.RefValue.lean ====
/- The reference's merge and feed-forward at the one long sequence, element by element. -/
module

public import proofs.«01_k».proof.Proof.Gen.FfnSampleReferenceIdeal.Read
public import proofs.«01_k».proof.Proof.Ffn.Token

@[expose] public section

set_option maxRecDepth 16384

noncomputable section

namespace Cert.FfnSampleReferenceIdeal.Val

open Cert.FfnSampleReferenceIdeal Cert.FfnSampleReferenceIdeal.Gen Cert.FfnSampleReferenceIdeal.Read Idealize.ShloMosaic Idealize.ShloMosaic.TcCoe Idealize.ShloMosaic.Tactic Cert.Token

variable (x0 x1 x2 x3 : (⟨S1x16384x512, .f32⟩ : BufTy).Contents (Elt Ideal)) (x4 : (⟨S1x16384x2048, .f32⟩ : BufTy).Contents (Elt Ideal))
  (x5 : (⟨S1x16384x1024, .f32⟩ : BufTy).Contents (Elt Ideal)) (x6 : (⟨S1x512, .f32⟩ : BufTy).Contents (Elt Ideal))
  (x7 x8 : (⟨S1x512x1024, .f32⟩ : BufTy).Contents (Elt Ideal)) (x9 : (⟨S1x1024x1024, .f32⟩ : BufTy).Contents (Elt Ideal))
  (x10 : (⟨S1x1024, .f32⟩ : BufTy).Contents (Elt Ideal)) (x11 x12 : (⟨S1x1024x2816, .f32⟩ : BufTy).Contents (Elt Ideal))
  (x13 : (⟨S1x2816x1024, .f32⟩ : BufTy).Contents (Elt Ideal)) (x14 : (⟨S1024, .f32⟩ : BufTy).Contents (Elt Ideal))

theorem merged_apply (l : Fin 16384) (j : Fin 1024) :
    val_main_v26 (F := Ideal) x0 x1 x2 x3 x4 x6 x7 x8 (ix3 0 l j)
      = merged (tokRow x0 0 l) (tokRow x3 0 l) (tokRow x1 0 l) (tokRow x2 0 l) (row1 x6)
          (fun k => x4 (ix3 0 l ⟨k.val, by omega⟩)) (fun k => x4 (ix3 0 l ⟨1024 + k.val, by omega⟩)) (mat1 x7) (mat1 x8) j := by
  pointwise [val_main_v26, val_main_v25, val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4, val_main_v3, val_main_v2, val_main_v1, val_main_v0,
    val_main_cst, val_main_cst_0, val_main_cst_1, val_main_cst_2]
  rfl

/-- The rows after the merge. -/
theorem mid_apply (l : Fin 16384) (j : Fin 1024) :
    val_main_v29 (F := Ideal) x0 x1 x2 x3 x4 x5 x6 x7 x8 x9 (ix3 0 l j)
      = onto (tokRow x5 0 l) (tokRow (val_main_v26 (F := Ideal) x0 x1 x2 x3 x4 x6 x7 x8) 0 l) (mat1 x9) j := by
  unfold val_main_v29 val_main_v28
  generalize val_main_v26 (F := Ideal) x0 x1 x2 x3 x4 x6 x7 x8 = y
  pointwise [val_main_v27]
  rfl

theorem normed_apply (l : Fin 16384) (j : Fin 1024) :
    val_main_v43 (F := Ideal) x0 x1 x2 x3 x4 x5 x6 x7 x8 x9 x10 (ix3 0 l j)
      = rms (tokRow (val_main_v29 (F := Ideal) x0 x1 x2 x3 x4 x5 x6 x7 x8 x9) 0 l) (row1 x10) j := by
  unfold val_main_v43 val_main_v40 val_main_v39 val_main_v38 val_main_v37 val_main_v35 val_main_v33 val_main_v32 val_main_v31
  generalize val_main_v29 (F := Ideal) x0 x1 x2 x3 x4 x5 x6 x7 x8 x9 = y
  pointwise [val_main_v42, val_main_v41, val_main_v30, val_main_v36, val_main_v34, val_main_cst_3, val_main_cst_4, val_main_cst_5]
  rfl

theorem act_apply (l : Fin 16384) (f : Fin 2816) :
    val_main_v49 (F := Ideal) x0 x1 x2 x3 x4 x5 x6 x7 x8 x9 x10 x11 x12 (ix3 0 l f)
      = act (tokRow (val_main_v43 (F := Ideal) x0 x1 x2 x3 x4 x5 x6 x7 x8 x9 x10) 0 l) (mat1 x11) (mat1 x12) f := by
  unfold val_main_v49 val_main_v48 val_main_v46 val_main_call0_v5 val_main_call0_v3 val_main_call0_v1 val_main_call0_v0 val_main_v45
  generalize val_main_v43 (F := Ideal) x0 x1 x2 x3 x4 x5 x6 x7 x8 x9 x10 = y
  pointwise [val_main_call0_v4, val_main_call0_cst_0, val_main_call0_v2, val_main_call0_cst, val_main_v44, val_main_v47]
  rfl

theorem ffn_apply (l : Fin 16384) (j : Fin 1024) :
    val_main_v52 (F := Ideal) x0 x1 x2 x3 x4 x5 x6 x7 x8 x9 x10 x11 x12 x13 (ix3 0 l j)
      = onto (tokRow (val_main_v29 (F := Ideal) x0 x1 x2 x3 x4 x5 x6 x7 x8 x9) 0 l)
          (tokRow (val_main_v49 (F := Ideal) x0 x1 x2 x3 x4 x5 x6 x7 x8 x9 x10 x11 x12) 0 l) (mat1 x13) j := by
  unfold val_main_v52 val_main_v51
  generalize val_main_v49 (F := Ideal) x0 x1 x2 x3 x4 x5 x6 x7 x8 x9 x10 x11 x12 = y
  generalize val_main_v29 (F := Ideal) x0 x1 x2 x3 x4 x5 x6 x7 x8 x9 = z
  pointwise [val_main_v50]
  rfl

theorem last_apply (l : Fin 16384) (j : Fin 1024) :
    val_main_v65 (F := Ideal) x0 x1 x2 x3 x4 x5 x6 x7 x8 x9 x10 x11 x12 x13 x14 (ix3 0 l j)
      = rms (tokRow (val_main_v52 (F := Ideal) x0 x1 x2 x3 x4 x5 x6 x7 x8 x9 x10 x11 x12 x13) 0 l) (fun k => x14 (ix1 k)) j := by
  unfold val_main_v65 val_main_v62 val_main_v61 val_main_v60 val_main_v59 val_main_v57 val_main_v55 val_main_v54 val_main_v53
  generalize val_main_v52 (F := Ideal) x0 x1 x2 x3 x4 x5 x6 x7 x8 x9 x10 x11 x12 x13 = y
  pointwise [val_main_v64, val_main_v63, val_main_v58, val_main_v56, val_main_cst_6, val_main_cst_7, val_main_cst_8]
  rfl

/-- The reference's result at a token. -/
theorem result_apply (y : S16384x1024.Idx) (l : Fin 16384) (j : Fin 1024) (h0 : (y 0).val = l.val) (h1 : (y 1).val = j.val) :
    val_main_v66 (F := Ideal) x0 x1 x2 x3 x4 x5 x6 x7 x8 x9 x10 x11 x12 x13 x14 y
      = tok x0 x1 x2 x3 x4 x5 x6 x7 x8 x9 x10 x11 x12 x13 x14 0 l j := by
  have hv : val_main_v66 (F := Ideal) x0 x1 x2 x3 x4 x5 x6 x7 x8 x9 x10 x11 x12 x13 x14 y
      = val_main_v65 (F := Ideal) x0 x1 x2 x3 x4 x5 x6 x7 x8 x9 x10 x11 x12 x13 x14 (ix3 0 l j) := by
    unfold val_main_v66
    refine shapeCast_apply _ _ _ _ ?_
    rw [Shape.rowMajor_val_two, Shape.rowMajor_val_three]
    show (0 * 16384 + l.val) * 1024 + j.val = (y 0).val * 1024 + (y 1).val
    omega
  rw [hv, last_apply]
  have e26 : tokRow (val_main_v26 (F := Ideal) x0 x1 x2 x3 x4 x6 x7 x8) 0 l = _ := funext fun k => merged_apply x0 x1 x2 x3 x4 x6 x7 x8 l k
  have e29 : tokRow (val_main_v29 (F := Ideal) x0 x1 x2 x3 x4 x5 x6 x7 x8 x9) 0 l = _ := funext fun k => mid_apply x0 x1 x2 x3 x4 x5 x6 x7 x8 x9 l k
  have e43 : tokRow (val_main_v43 (F := Ideal) x0 x1 x2 x3 x4 x5 x6 x7 x8 x9 x10) 0 l = _ := funext fun k => normed_apply x0 x1 x2 x3 x4 x5 x6 x7 x8 x9 x10 l k
  have e49 : tokRow (val_main_v49 (F := Ideal) x0 x1 x2 x3 x4 x5 x6 x7 x8 x9 x10 x11 x12) 0 l = _ := funext fun k => act_apply x0 x1 x2 x3 x4 x5 x6 x7 x8 x9 x10 x11 x12 l k
  have e52 : tokRow (val_main_v52 (F := Ideal) x0 x1 x2 x3 x4 x5 x6 x7 x8 x9 x10 x11 x12 x13) 0 l = _ := funext fun k => ffn_apply x0 x1 x2 x3 x4 x5 x6 x7 x8 x9 x10 x11 x12 x13 l k
  rw [e52, e49, e43, e29, e26]
  rfl

end Cert.FfnSampleReferenceIdeal.Val

end
-- ==== Proof.Sample.Equal.lean ====
/- The merge and feed-forward kernel and the plain formulas leave equal arrays for the one long sequence, whatever the arguments. -/
module

public import proofs.«01_k».proof.Defs
public import proofs.«01_k».proof.Proof.Sample.Array
public import proofs.«01_k».proof.Proof.Sample.RefValue
public import proofs.«01_k».proof.Proof.Gen.FfnSampleReferenceIdeal.Run

@[expose] public section

set_option maxRecDepth 16384

noncomputable section

namespace Cert.SampleEqual

open Idealize.ShloMosaic Idealize.ShloMosaic.TcCoe Idealize.SL.Sem Cert.FfnSampleIdeal.Val

theorem algebraic : Cert.algebraic_FfnSampleIdeal_FfnSampleReferenceIdeal := by
  intro m g m' g' _ hm
  refine ⟨fun c => kArr m c, (θ_run Cert.FfnSampleIdeal.defs _ _).mono (fun r h c => ⟨(h c).1.trans (final16 m c), (h c).2⟩) (Cert.FfnSampleIdeal.Value.run_blocks m g), ?_⟩
  refine (θ_run Cert.FfnSampleReferenceIdeal.defs _ _).mono (fun r h c => ⟨(h c).1.trans ?_, (h c).2⟩) (Cert.FfnSampleReferenceIdeal.Value.run m' g')
  obtain ⟨h0, h1, h2, h3, h4, h5, h6, h7, h8, h9, h10, h11, h12, h13, h14⟩ := hm c
  rw [Cert.FfnSampleReferenceIdeal.Read.val_main_v66_eq, h0, h1, h2, h3, h4, h5, h6, h7, h8, h9, h10, h11, h12, h13, h14]
  funext y
  have y0 : (y 0).val < 16384 := (y 0).isLt
  exact Cert.FfnSampleReferenceIdeal.Val.result_apply _ _ _ _ _ _ _ _ _ _ _ _ _ _ _ y ⟨(y 0).val, y0⟩ ⟨(y 1).val, (y 1).isLt⟩ rfl rfl

end Cert.SampleEqual

end
-- ==== Proof.InSample.Block.lean ====
/- The blocks a grid point of the input projection leaves for the one long sequence, element by element. -/
module

public import proofs.«01_k».proof.Proof.Gen.InprojSampleIdeal.Frame
public import proofs.«01_k».proof.Proof.Inproj.Block

@[expose] public section

set_option maxRecDepth 16384

noncomputable section

namespace Cert.InprojSampleIdeal.Val

open Cert.InprojSampleIdeal Cert.InprojSampleIdeal.Gen Idealize.ShloMosaic Idealize.ShloMosaic.TcCoe Idealize.ShloMosaic.Tactic Cert.Token Cert.InRows
open Cert.InprojIdeal.Val (rowOf matOf chanRow chan_apply wholeX wholeH wholeG)

/-! ## The tile's place -/

/-- The tile's place in its sequence, as the kernel computes it. -/
def place (a : BitVec 32) : BitVec 32 :=
  Scalar.select (Scalar.andi (Scalar.xori (Scalar.cmpi .slt (Scalar.remsi a (Scalar.select (Scalar.cmpi .eq 16#32 0#32) 1#32 16#32)) 0#32) (Scalar.cmpi .slt (Scalar.select (Scalar.cmpi .eq 16#32 0#32) 1#32 16#32) 0#32))
      (Scalar.cmpi .ne (Scalar.remsi a (Scalar.select (Scalar.cmpi .eq 16#32 0#32) 1#32 16#32)) 0#32))
    (Scalar.addi (Scalar.remsi a (Scalar.select (Scalar.cmpi .eq 16#32 0#32) 1#32 16#32)) (Scalar.select (Scalar.cmpi .eq 16#32 0#32) 1#32 16#32))
    (Scalar.remsi a (Scalar.select (Scalar.cmpi .eq 16#32 0#32) 1#32 16#32))
def firstBit (a : BitVec 32) : BitVec 1 := Scalar.cmpi .eq (place a) 0#32
def lastBit (a : BitVec 32) : BitVec 1 := Scalar.cmpi .eq (place a) 15#32

variable (i : grid0.Coords) (x0 : FVec Ideal S1024x1024 .f32) (x1 x2 : FVec Ideal S8x1024 .f32) (x3 : FVec Ideal S1x1024 .f32) (x4 x5 : FVec Ideal S1024x1536 .bf16)
  (x6 : FVec Ideal S1024x2048 .bf16) (x7 : FVec Ideal S3x1536 .f32) (x8 : FVec Ideal S1x1536 .f32)

/-! ## The blocks -/

/-- The first gate's block. -/
theorem out11_apply (p : Fin 1024) (j : Fin 512) :
    out0_11 (F := Ideal) i x0 x1 x2 x3 x4 x5 x6 x7 x8 (ix2 p j) = chanRow (firstBit (BitVec.ofNat 32 (i 0).val)) (lastBit (BitVec.ofNat 32 (i 0).val)) x0 x1 x2 x3 x5 x7 x8 p ⟨j.val, by omega⟩ := by
  unfold_out out0_11
  rw [View.canon_cons_unit_lit (S := S1024x512) _ _ _ (by decide), wholeX x0, wholeH x1, wholeH x2, wholeG x3]
  refine (chan_apply _ _ x0 x1 x2 x3 x5 x7 x8 0 (by omega) _ _ _ p j).trans ?_
  exact congrArg (chanRow (firstBit (BitVec.ofNat 32 (i 0).val)) (lastBit (BitVec.ofNat 32 (i 0).val)) x0 x1 x2 x3 x5 x7 x8 p) (Fin.ext (Nat.zero_add _))

/-- The gated values' block. -/
theorem out10_apply (p : Fin 1024) (j : Fin 512) :
    out0_10 (F := Ideal) i x0 x1 x2 x3 x4 x5 x6 x7 x8 (ix2 p j)
      = chanRow (firstBit (BitVec.ofNat 32 (i 0).val)) (lastBit (BitVec.ofNat 32 (i 0).val)) x0 x1 x2 x3 x5 x7 x8 p ⟨512 + j.val, by omega⟩ * chanRow (firstBit (BitVec.ofNat 32 (i 0).val)) (lastBit (BitVec.ofNat 32 (i 0).val)) x0 x1 x2 x3 x5 x7 x8 p ⟨1024 + j.val, by omega⟩ := by
  unfold_out out0_10
  rw [View.canon_cons_unit_lit (S := S1024x512) _ _ _ (by decide), wholeX x0, wholeH x1, wholeH x2, wholeG x3]
  exact congrArg₂ (· * ·) (chan_apply _ _ x0 x1 x2 x3 x5 x7 x8 512 (by omega) _ _ _ p j) (chan_apply _ _ x0 x1 x2 x3 x5 x7 x8 1024 (by omega) _ _ _ p j)

/-- The attention columns' block, which is computed as for the shorter sequences. -/
theorem out9_apply (p : Fin 1024) (j : Fin 1536) :
    out0_9 (F := Ideal) i x0 x1 x2 x3 x4 x5 x6 x7 x8 (ix2 p j) = proj (rms (rowOf x0 p) (rowOf x3 0)) (matOf x4) j :=
  Cert.InprojIdeal.Val.out9_apply i x0 x1 x2 x3 x4 x5 x6 x7 x8 p j

/-- The gate columns' block, which is computed as for the shorter sequences. -/
theorem out12_apply (p : Fin 1024) (j : Fin 2048) :
    out0_12 (F := Ideal) i x0 x1 x2 x3 x4 x5 x6 x7 x8 (ix2 p j) = proj (rms (rowOf x0 p) (rowOf x3 0)) (matOf x6) j :=
  Cert.InprojIdeal.Val.out12_apply i x0 x1 x2 x3 x4 x5 x6 x7 x8 p j

end Cert.InprojSampleIdeal.Val

end
-- ==== Proof.InSample.Array.lean ====
/- The four arrays the input projection's kernel leaves for the one long sequence, element by element, from the launched arrays. -/
module

public import proofs.«01_k».proof.Proof.InSample.Block
public import proofs.«01_k».proof.Proof.Gen.InprojSampleIdeal.Value
public import Idealize.ShloMosaic.Lib.Claim

@[expose] public section

set_option maxRecDepth 16384

noncomputable section

namespace Cert.InprojSampleIdeal.Val

open Cert.InprojSampleIdeal Cert.InprojSampleIdeal.Gen Idealize.ShloMosaic Idealize.ShloMosaic.TcCoe Idealize.ShloMosaic.Tactic Idealize.SL.Sem Cert.Token Cert.InRows
open Idealize.ShloMosaic.Pipeline (Dat)
open Cert.InprojIdeal.Val (rowOf matOf chanRow)

variable (m : (ℓ : Loc nD τ sig) → Buf (Elt Ideal) ℓ) (ρ : Dev nD → PrngReg)

/-! ## The formulas -/

/-- The projection of flat row `r`, at the launched arrays. -/
def zM (c : Dev nD) (b : Fin 1) (l : Fin 16384) (j : Fin 5120) : EReal :=
  z (m ((c : Thread nD τ).loc main_arg0)) (m ((c : Thread nD τ).loc main_arg1)) (m ((c : Thread nD τ).loc main_arg2)) b l j
/-- The convolved channel of a token, at the launched arrays. -/
def hyM (c : Dev nD) (b : Fin 1) (l : Fin 16384) (j : Fin 1536) : EReal :=
  hy (m ((c : Thread nD τ).loc main_arg0)) (m ((c : Thread nD τ).loc main_arg1)) (m ((c : Thread nD τ).loc main_arg2)) (m ((c : Thread nD τ).loc main_arg3)) (m ((c : Thread nD τ).loc main_arg4)) b l j

/-- The batch of a flat row. -/
abbrev bOf (r : Fin 16384) : Fin 1 := ⟨r.val / 16384, by omega⟩
/-- The place of a flat row in its sequence. -/
abbrev lOf (r : Fin 16384) : Fin 16384 := ⟨r.val % 16384, by omega⟩

/-- The attention columns. -/
def arrQ (c : Dev nD) : S16384x1536.Idx → EReal := fun y =>
  zM m c (bOf ⟨(y 0).val, (y 0).isLt⟩) (lOf ⟨(y 0).val, (y 0).isLt⟩) ⟨(y 1).val, by have : (y 1).val < 1536 := (y 1).isLt; omega⟩
/-- The gated values. -/
def arrU (c : Dev nD) : S16384x512.Idx → EReal := fun y =>
  hyM m c (bOf ⟨(y 0).val, (y 0).isLt⟩) (lOf ⟨(y 0).val, (y 0).isLt⟩) ⟨512 + (y 1).val, by have : (y 1).val < 512 := (y 1).isLt; omega⟩
    * hyM m c (bOf ⟨(y 0).val, (y 0).isLt⟩) (lOf ⟨(y 0).val, (y 0).isLt⟩) ⟨1024 + (y 1).val, by have : (y 1).val < 512 := (y 1).isLt; omega⟩
/-- The first gate. -/
def arrX (c : Dev nD) : S16384x512.Idx → EReal := fun y =>
  hyM m c (bOf ⟨(y 0).val, (y 0).isLt⟩) (lOf ⟨(y 0).val, (y 0).isLt⟩) ⟨(y 1).val, by have : (y 1).val < 512 := (y 1).isLt; omega⟩
/-- The gate columns. -/
def arrG (c : Dev nD) : S16384x2048.Idx → EReal := fun y =>
  zM m c (bOf ⟨(y 0).val, (y 0).isLt⟩) (lOf ⟨(y 0).val, (y 0).isLt⟩) ⟨3072 + (y 1).val, by have : (y 1).val < 2048 := (y 1).isLt; omega⟩

/-! ## The operands at the call, from the arguments -/

/-- Rows with the batch's axis of one dropped. -/
theorem flat_apply {n : ℕ} (A : (⟨3, ![1, 16384, n]⟩ : Shape).Idx → EReal) (h : (⟨3, ![1, 16384, n]⟩ : Shape).ShapeCasts ⟨2, ![16384, n]⟩) (r : Fin 16384) (k : Fin n) :
    shapeCast (α := EReal) ⟨2, ![16384, n]⟩ A h (ix2 r k) = A (ix3 (bOf r) (lOf r) k) := by
  refine shapeCast_apply _ h _ _ ?_
  rw [Shape.rowMajor_val_two, Shape.rowMajor_val_three]
  show (r.val / 16384 * 16384 + r.val % 16384) * n + k.val = r.val * n + k.val
  have : r.val / 16384 * 16384 + r.val % 16384 = r.val := by omega
  rw [this]

theorem v0_apply (c : Dev nD) (r : Fin 16384) (k : Fin 1024) :
    (V m c main_v0 : S16384x1024.Idx → EReal) (ix2 r k) = m ((c : Thread nD τ).loc main_arg0) (ix3 (bOf r) (lOf r) k) := by
  show V m c main_v0 (ix2 r k) = _
  entry_read
  exact flat_apply _ _ r k

theorem v9_apply (c : Dev nD) (k : Fin 1024) : (V m c main_v9 : S1x1024.Idx → EReal) (ix2 0 k) = m ((c : Thread nD τ).loc main_arg1) (ix2 0 k) := by
  show V m c main_v9 (ix2 0 k) = _
  entry_read
  pointwise

theorem v10_apply (c : Dev nD) (k : Fin 1536) : (V m c main_v10 : S1x1536.Idx → EReal) (ix2 0 k) = m ((c : Thread nD τ).loc main_arg4) (ix2 0 k) := by
  show V m c main_v10 (ix2 0 k) = _
  entry_read
  pointwise

theorem v4_apply (c : Dev nD) (s : Fin 3) (k : Fin 1536) : (V m c main_v4 : S3x1536.Idx → EReal) (ix2 s k) = m ((c : Thread nD τ).loc main_arg3) (ix3 0 s k) := by
  show V m c main_v4 (ix2 s k) = _
  entry_read
  pointwise

theorem v6_apply (c : Dev nD) (e : Fin 1024) (k : Fin 1536) :
    (V m c main_v6 : S1024x1536.Idx → EReal) (ix2 e k) = m ((c : Thread nD τ).loc main_arg2) (ix3 0 e ⟨k.val, by omega⟩) := by
  show V m c main_v6 (ix2 e k) = _
  entry_read
  pointwise

theorem v7_apply (c : Dev nD) (e : Fin 1024) (k : Fin 1536) :
    (V m c main_v7 : S1024x1536.Idx → EReal) (ix2 e k) = m ((c : Thread nD τ).loc main_arg2) (ix3 0 e ⟨1536 + k.val, by omega⟩) := by
  show V m c main_v7 (ix2 e k) = _
  entry_read
  pointwise

theorem v8_apply (c : Dev nD) (e : Fin 1024) (k : Fin 2048) :
    (V m c main_v8 : S1024x2048.Idx → EReal) (ix2 e k) = m ((c : Thread nD τ).loc main_arg2) (ix3 0 e ⟨3072 + k.val, by omega⟩) := by
  show V m c main_v8 (ix2 e k) = _
  entry_read
  pointwise

/-! ## The windows' blocks, read -/

theorem N_eq : cfg0.N = 16 := N_0

/-- Row `p` of block `t`. -/
abbrev rowAt (t : Fin cfg0.N) (p : Fin 1024) : Fin 16384 := ⟨1024 * t.val + p.val, by have := t.isLt; have := N_eq; omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 128 * t.val - 1 ∧ win0_1.index t (1 : Fin 2) = 0 :=
  (by decide +kernel : ∀ t : Fin grid0.N, _)
theorem idx2 : ∀ t : Fin cfg0.N, win0_2.index t (0 : Fin 2) = min (128 * (t.val + 1)) 2047 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)

/-- The sequence's first tile. -/
theorem first_iff : ∀ t : Fin cfg0.N, firstBit (BitVec.ofNat 32 (grid0.coords t 0).val) = 1#1 ↔ t.val % 16 = 0 :=
  (by decide +kernel : ∀ t : Fin grid0.N, _)
/-- The sequence's last tile. -/
theorem last_iff : ∀ t : Fin cfg0.N, lastBit (BitVec.ofNat 32 (grid0.coords t 0).val) = 1#1 ↔ t.val % 16 = 15 :=
  (by decide +kernel : ∀ t : Fin grid0.N, _)

theorem iblk0_row (c : Dev nD) (t : Fin cfg0.N) (p : Fin 1024) (b : Fin 1) (l : Fin 16384) (h : 1024 * t.val + p.val = 16384 * b.val + l.val) :
    rowOf (e := .f32) (iblk m c 0 t : FVec Ideal S1024x1024 .f32) p = tokRow (m ((c : Thread nD τ).loc main_arg0)) b l := by
  obtain ⟨e0, e1⟩ := idx0 t
  funext k
  have eb : bOf (rowAt t p) = b := Fin.ext (by show (1024 * t.val + p.val) / 16384 = b.val; omega)
  have el : lOf (rowAt t p) = l := Fin.ext (by show (1024 * t.val + p.val) % 16384 = l.val; omega)
  refine Eq.trans ?_ ((v0_apply m c (rowAt t p) k).trans (by rw [eb, el]))
  show V m c main_v0 (((cfg0.win 0).blk t).view.emb (ix2 p k)) = _
  refine congrArg (V m c main_v0) (funext fun a => Fin.ext ?_)
  match a with
  | ⟨0, _⟩ => show win0_0.index t (0 : Fin 2) * 1024 + 1 * p.val = 1024 * t.val + p.val; omega
  | ⟨1, _⟩ => show win0_0.index t (1 : Fin 2) * 1024 + 1 * k.val = k.val; omega

theorem iblk1_row (c : Dev nD) (t : Fin cfg0.N) (b : Fin 1) (l : Fin 16384) (h : 1024 * t.val = 16384 * b.val + l.val + 1) :
    rowOf (e := .f32) (iblk m c 1 t : FVec Ideal S8x1024 .f32) 7 = tokRow (m ((c : Thread nD τ).loc main_arg0)) b l := by
  obtain ⟨e0, e1⟩ := idx1 t
  funext k
  have hr : 16384 * b.val + l.val < 16384 := by omega
  have eb : bOf ⟨16384 * b.val + l.val, hr⟩ = b := Fin.ext (by show (16384 * b.val + l.val) / 16384 = b.val; omega)
  have el : lOf ⟨16384 * b.val + l.val, hr⟩ = l := Fin.ext (by show (16384 * b.val + l.val) % 16384 = l.val; omega)
  refine Eq.trans ?_ ((v0_apply m c ⟨16384 * b.val + l.val, hr⟩ k).trans (by rw [eb, el]))
  show V m c main_v0 (((cfg0.win 1).blk t).view.emb (ix2 7 k)) = _
  refine congrArg (V m c main_v0) (funext fun a => Fin.ext ?_)
  match a with
  | ⟨0, _⟩ => show win0_1.index t (0 : Fin 2) * 8 + 1 * 7 = 16384 * b.val + l.val; omega
  | ⟨1, _⟩ => show win0_1.index t (1 : Fin 2) * 1024 + 1 * k.val = k.val; omega

theorem iblk2_row (c : Dev nD) (t : Fin cfg0.N) (b : Fin 1) (l : Fin 16384) (h : 1024 * t.val + 1024 = 16384 * b.val + l.val) :
    rowOf (e := .f32) (iblk m c 2 t : FVec Ideal S8x1024 .f32) 0 = tokRow (m ((c : Thread nD τ).loc main_arg0)) b l := by
  obtain ⟨e0, e1⟩ := idx2 t
  funext k
  have hr : 16384 * b.val + l.val < 16384 := by omega
  have eb : bOf ⟨16384 * b.val + l.val, hr⟩ = b := Fin.ext (by show (16384 * b.val + l.val) / 16384 = b.val; omega)
  have el : lOf ⟨16384 * b.val + l.val, hr⟩ = l := Fin.ext (by show (16384 * b.val + l.val) % 16384 = l.val; omega)
  refine Eq.trans ?_ ((v0_apply m c ⟨16384 * b.val + l.val, hr⟩ k).trans (by rw [eb, el]))
  show V m c main_v0 (((cfg0.win 2).blk t).view.emb (ix2 0 k)) = _
  refine congrArg (V m c main_v0) (funext fun a => Fin.ext ?_)
  match a with
  | ⟨0, _⟩ => show win0_2.index t (0 : Fin 2) * 8 + 1 * 0 = 16384 * b.val + l.val; omega
  | ⟨1, _⟩ => show win0_2.index t (1 : Fin 2) * 1024 + 1 * k.val = k.val; omega

theorem iblk3_eq (c : Dev nD) (t : Fin cfg0.N) : (iblk m c 3 t : FVec Ideal S1x1024 .f32) = V m c main_v9 := by
  obtain ⟨e0, e1⟩ := idx3 t
  funext y
  show V m c main_v9 (((cfg0.win 3).blk t).view.emb y) = V m c main_v9 y
  refine congrArg (V m c main_v9) (funext fun a => Fin.ext ?_)
  match a with
  | ⟨0, _⟩ => show win0_3.index t (0 : Fin 2) * 1 + 1 * (y 0).val = (y 0).val; omega
  | ⟨1, _⟩ => show win0_3.index t (1 : Fin 2) * 1024 + 1 * (y 1).val = (y 1).val; omega

theorem iblk4_eq (c : Dev nD) (t : Fin cfg0.N) : (iblk m c 4 t : FVec Ideal S1024x1536 .bf16) = V m c main_v6 := by
  obtain ⟨e0, e1⟩ := idx4 t
  funext y
  show V m c main_v6 (((cfg0.win 4).blk t).view.emb y) = V m c main_v6 y
  refine congrArg (V m c main_v6) (funext fun a => Fin.ext ?_)
  match a with
  | ⟨0, _⟩ => show win0_4.index t (0 : Fin 2) * 1024 + 1 * (y 0).val = (y 0).val; omega
  | ⟨1, _⟩ => show win0_4.index t (1 : Fin 2) * 1536 + 1 * (y 1).val = (y 1).val; omega

theorem iblk5_eq (c : Dev nD) (t : Fin cfg0.N) : (iblk m c 5 t : FVec Ideal S1024x1536 .bf16) = V m c main_v7 := by
  obtain ⟨e0, e1⟩ := idx5 t
  funext y
  show V m c main_v7 (((cfg0.win 5).blk t).view.emb y) = V m c main_v7 y
  refine congrArg (V m c main_v7) (funext fun a => Fin.ext ?_)
  match a with
  | ⟨0, _⟩ => show win0_5.index t (0 : Fin 2) * 1024 + 1 * (y 0).val = (y 0).val; omega
  | ⟨1, _⟩ => show win0_5.index t (1 : Fin 2) * 1536 + 1 * (y 1).val = (y 1).val; omega

theorem iblk6_eq (c : Dev nD) (t : Fin cfg0.N) : (iblk m c 6 t : FVec Ideal S1024x2048 .bf16) = V m c main_v8 := by
  obtain ⟨e0, e1⟩ := idx6 t
  funext y
  show V m c main_v8 (((cfg0.win 6).blk t).view.emb y) = V m c main_v8 y
  refine congrArg (V m c main_v8) (funext fun a => Fin.ext ?_)
  match a with
  | ⟨0, _⟩ => show win0_6.index t (0 : Fin 2) * 1024 + 1 * (y 0).val = (y 0).val; omega
  | ⟨1, _⟩ => show win0_6.index t (1 : Fin 2) * 2048 + 1 * (y 1).val = (y 1).val; omega

theorem iblk7_eq (c : Dev nD) (t : Fin cfg0.N) : (iblk m c 7 t : FVec Ideal S3x1536 .f32) = V m c main_v4 := by
  obtain ⟨e0, e1⟩ := idx7 t
  funext y
  show V m c main_v4 (((cfg0.win 7).blk t).view.emb y) = V m c main_v4 y
  refine congrArg (V m c main_v4) (funext fun a => Fin.ext ?_)
  match a with
  | ⟨0, _⟩ => show win0_7.index t (0 : Fin 2) * 3 + 1 * (y 0).val = (y 0).val; omega
  | ⟨1, _⟩ => show win0_7.index t (1 : Fin 2) * 1536 + 1 * (y 1).val = (y 1).val; omega

theorem iblk8_eq (c : Dev nD) (t : Fin cfg0.N) : (iblk m c 8 t : FVec Ideal S1x1536 .f32) = V m c main_v10 := by
  obtain ⟨e0, e1⟩ := idx8 t
  funext y
  show V m c main_v10 (((cfg0.win 8).blk t).view.emb y) = V m c main_v10 y
  refine congrArg (V m c main_v10) (funext fun a => Fin.ext ?_)
  match a with
  | ⟨0, _⟩ => show win0_8.index t (0 : Fin 2) * 1 + 1 * (y 0).val = (y 0).val; omega
  | ⟨1, _⟩ => show win0_8.index t (1 : Fin 2) * 1536 + 1 * (y 1).val = (y 1).val; omega

/-! ## The points' blocks, from the arguments -/

theorem gains_row (c : Dev nD) (t : Fin cfg0.N) : rowOf (e := .f32) (iblk m c 3 t : FVec Ideal S1x1024 .f32) 0 = row1 (m ((c : Thread nD τ).loc main_arg1)) := by
  rw [iblk3_eq]
  exact funext fun k => v9_apply m c k

/-- A projected column of a row of the tokens. -/
theorem why_apply (c : Dev nD) (t : Fin cfg0.N) (x : Fin 1024 → EReal) (j : Fin 1536) :
    proj x (matOf (e := .bf16) (iblk m c 5 t : FVec Ideal S1024x1536 .bf16)) j = proj x (mat1 (m ((c : Thread nD τ).loc main_arg2))) ⟨1536 + j.val, by omega⟩ := by
  rw [iblk5_eq]
  exact Finset.sum_congr rfl fun k _ => congrArg (_ * ·) (v7_apply m c k j)

/-- A convolved channel of a block's row is the token's. -/
theorem chan_tok (c : Dev nD) (t : Fin cfg0.N) (p : Fin 1024) (j : Fin 1536) :
    chanRow (firstBit (BitVec.ofNat 32 (grid0.coords t 0).val)) (lastBit (BitVec.ofNat 32 (grid0.coords t 0).val)) (iblk m c 0 t) (iblk m c 1 t) (iblk m c 2 t) (iblk m c 3 t) (iblk m c 5 t) (iblk m c 7 t) (iblk m c 8 t) p j
      = hyM m c (bOf (rowAt t p)) (lOf (rowAt t p)) j := by
  have hN : cfg0.N = 16 := N_eq
  have ht := t.isLt
  have hp := p.isLt
  have h7 : ∀ s : Fin 3, (iblk m c 7 t : FVec Ideal S3x1536 .f32) (ix2 s j) = m ((c : Thread nD τ).loc main_arg3) (ix3 0 s j) := fun s => by
    rw [iblk7_eq]; exact v4_apply m c s j
  have h8 : (iblk m c 8 t : FVec Ideal S1x1536 .f32) (ix2 0 j) = m ((c : Thread nD τ).loc main_arg4) (ix2 0 j) := by
    rw [iblk8_eq]; exact v10_apply m c j
  unfold chanRow hyM hy
  rw [h7 0, h7 1, h7 2, h8, gains_row]
  refine taps_congr _ _ _ _ ?_ ?_ ?_
  · show (if h : p.val = 0 then _ else _) = if h : (1024 * t.val + p.val) % 16384 = 0 then _ else _
    by_cases h : p.val = 0
    · rw [dif_pos h]
      by_cases hf : t.val % 16 = 0
      · rw [if_pos ((first_iff t).mpr hf), dif_pos (by omega)]
      · rw [if_neg (fun e => hf ((first_iff t).mp e)), dif_neg (by omega), why_apply,
          iblk1_row m c t (bOf (rowAt t p)) ⟨(1024 * t.val + p.val) % 16384 - 1, by omega⟩ (by show 1024 * t.val = 16384 * ((1024 * t.val + p.val) / 16384) + ((1024 * t.val + p.val) % 16384 - 1) + 1; omega)]
        rfl
    · rw [dif_neg h, dif_neg (by omega), why_apply,
        iblk0_row m c t ⟨p.val - 1, by omega⟩ (bOf (rowAt t p)) ⟨(1024 * t.val + p.val) % 16384 - 1, by omega⟩ (by show 1024 * t.val + (p.val - 1) = 16384 * ((1024 * t.val + p.val) / 16384) + ((1024 * t.val + p.val) % 16384 - 1); omega)]
      rfl
  · show proj _ _ j = z _ _ _ _ _ _
    rw [why_apply, iblk0_row m c t p (bOf (rowAt t p)) (lOf (rowAt t p)) (by show 1024 * t.val + p.val = 16384 * ((1024 * t.val + p.val) / 16384) + (1024 * t.val + p.val) % 16384; omega)]
    rfl
  · show (if h : p.val = 1023 then _ else _) = if h : (1024 * t.val + p.val) % 16384 + 1 = 16384 then _ else _
    by_cases h : p.val = 1023
    · rw [dif_pos h]
      by_cases hf : t.val % 16 = 15
      · rw [if_pos ((last_iff t).mpr hf), dif_pos (by omega)]
      · rw [if_neg (fun e => hf ((last_iff t).mp e)), dif_neg (by omega), why_apply,
          iblk2_row m c t (bOf (rowAt t p)) ⟨(1024 * t.val + p.val) % 16384 + 1, by omega⟩ (by show 1024 * t.val + 1024 = 16384 * ((1024 * t.val + p.val) / 16384) + ((1024 * t.val + p.val) % 16384 + 1); omega)]
        rfl
    · rw [dif_neg h, dif_neg (by omega), why_apply,
        iblk0_row m c t ⟨p.val + 1, by omega⟩ (bOf (rowAt t p)) ⟨(1024 * t.val + p.val) % 16384 + 1, by omega⟩ (by show 1024 * t.val + (p.val + 1) = 16384 * ((1024 * t.val + p.val) / 16384) + ((1024 * t.val + p.val) % 16384 + 1); omega)]
      rfl

theorem point11 (c : Dev nD) (t : Fin cfg0.N) (p : Fin 1024) (j : Fin 512) :
    out0_11 (F := Ideal) (grid0.coords t) (iblk m c 0 t) (iblk m c 1 t) (iblk m c 2 t) (iblk m c 3 t) (iblk m c 4 t) (iblk m c 5 t) (iblk m c 6 t) (iblk m c 7 t) (iblk m c 8 t) (ix2 p j) = arrX m c (ix2 (rowAt t p) j) := by
  rw [out11_apply, chan_tok]
  rfl

theorem point10 (c : Dev nD) (t : Fin cfg0.N) (p : Fin 1024) (j : Fin 512) :
    out0_10 (F := Ideal) (grid0.coords t) (iblk m c 0 t) (iblk m c 1 t) (iblk m c 2 t) (iblk m c 3 t) (iblk m c 4 t) (iblk m c 5 t) (iblk m c 6 t) (iblk m c 7 t) (iblk m c 8 t) (ix2 p j) = arrU m c (ix2 (rowAt t p) j) := by
  rw [out10_apply, chan_tok, chan_tok]
  rfl

theorem own_row (c : Dev nD) (t : Fin cfg0.N) (p : Fin 1024) :
    rowOf (e := .f32) (iblk m c 0 t : FVec Ideal S1024x1024 .f32) p = tokRow (m ((c : Thread nD τ).loc main_arg0)) (bOf (rowAt t p)) (lOf (rowAt t p)) :=
  iblk0_row m c t p _ _ (by show 1024 * t.val + p.val = 16384 * ((1024 * t.val + p.val) / 16384) + (1024 * t.val + p.val) % 16384; omega)

theorem point9 (c : Dev nD) (t : Fin cfg0.N) (p : Fin 1024) (j : Fin 1536) :
    out0_9 (F := Ideal) (grid0.coords t) (iblk m c 0 t) (iblk m c 1 t) (iblk m c 2 t) (iblk m c 3 t) (iblk m c 4 t) (iblk m c 5 t) (iblk m c 6 t) (iblk m c 7 t) (iblk m c 8 t) (ix2 p j) = arrQ m c (ix2 (rowAt t p) j) := by
  rw [out9_apply, own_row, gains_row, iblk4_eq]
  exact Finset.sum_congr rfl fun k _ => congrArg (_ * ·) (v6_apply m c k j)

theorem point12 (c : Dev nD) (t : Fin cfg0.N) (p : Fin 1024) (j : Fin 2048) :
    out0_12 (F := Ideal) (grid0.coords t) (iblk m c 0 t) (iblk m c 1 t) (iblk m c 2 t) (iblk m c 3 t) (iblk m c 4 t) (iblk m c 5 t) (iblk m c 6 t) (iblk m c 7 t) (iblk m c 8 t) (ix2 p j) = arrG m c (ix2 (rowAt t p) j) := by
  rw [out12_apply, own_row, gains_row, iblk6_eq]
  exact Finset.sum_congr rfl fun k _ => congrArg (_ * ·) (v8_apply m c k j)

/-! ## The arrays after the run -/

theorem flushed9_eq (c : Dev nD) (t : Fin cfg0.N) (hf : (cfg0.win 9).flush t = true) :
    (dats m 0 c).flushed 9 t = ((cfg0.win 9).blk t).view.read (Elt Ideal) (arrQ m c) := by
  rw [Cert.InprojSampleIdeal.Value.flushed9]
  obtain ⟨e0, e1⟩ := idx9 t
  funext y
  have y0 : (y 0).val < 1024 := (y 0).isLt
  have y1 : (y 1).val < 1536 := (y 1).isLt
  show out0_9 (F := Ideal) (grid0.coords t) (iblk m c 0 t) (iblk m c 1 t) (iblk m c 2 t) (iblk m c 3 t) (iblk m c 4 t) (iblk m c 5 t) (iblk m c 6 t) (iblk m c 7 t) (iblk m c 8 t) ((cfg0.win 9).xinj (grid0.coords t) y) = arrQ m c (((cfg0.win 9).blk t).view.emb y)
  have e : (cfg0.win 9).xinj (grid0.coords t) y = ix2 ⟨(y 0).val, y0⟩ ⟨(y 1).val, y1⟩ := funext fun a => Fin.ext (match a with | ⟨0, _⟩ => rfl | ⟨1, _⟩ => rfl)
  rw [e, point9]
  refine congrArg (arrQ m c) (funext fun a => Fin.ext ?_)
  match a with
  | ⟨0, _⟩ => show 1024 * t.val + (y 0).val = win0_9.index t (0 : Fin 2) * 1024 + 1 * (y 0).val; omega
  | ⟨1, _⟩ => show (y 1).val = win0_9.index t (1 : Fin 2) * 1536 + 1 * (y 1).val; omega

theorem mem_blk9 (t : Fin cfg0.N) (i : S16384x1536.Idx) :
    i ∈ ((cfg0.win 9).blk t).view.set ↔ ∀ a : Fin 2, win0_9.index t a * S1024x1536.size a ≤ (i a).val ∧ (i a).val < win0_9.index t a * S1024x1536.size a + S1024x1536.size a := by
  show i ∈ ((View.whole main_v11_0).slice (win0_9.rect t)).set ↔ _
  rw [View.set_slice_whole, Rect.mem_set_unit]
  exact Iff.rfl

theorem flush9 : ∀ t : Fin cfg0.N, (cfg0.win 9).flush t = true :=
  (by decide +kernel : ∀ t : Fin grid0.N, win0_9.flush t = true)

theorem cover9 (i : S16384x1536.Idx) : ∃ t : Fin cfg0.N, (cfg0.win 9).flush t = true ∧ i ∈ ((cfg0.win 9).blk t).view.set := by
  have hi0 : (i 0).val < 16384 := (i 0).isLt
  have hi1 : (i 1).val < 1536 := (i 1).isLt
  have hN : cfg0.N = 16 := N_eq
  obtain ⟨t, ht⟩ : ∃ t : Fin cfg0.N, t.val = (i 0).val / 1024 := ⟨⟨(i 0).val / 1024, by omega⟩, rfl⟩
  refine ⟨t, flush9 t, ?_⟩
  obtain ⟨e0, e1⟩ := idx9 t
  rw [mem_blk9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 1536 ≤ (i 1).val ∧ (i 1).val < win0_9.index t (1 : Fin 2) * 1536 + 1536; omega

theorem final9 (c : Dev nD) : (dats m 0 c).arrAt 9 cfg0.N = arrQ m c :=
  (dats m 0 c).arrAt_eq_of_cover 9 _ (fun t hf => flushed9_eq m c t hf) cover9

theorem flushed10_eq (c : Dev nD) (t : Fin cfg0.N) (hf : (cfg0.win 10).flush t = true) :
    (dats m 0 c).flushed 10 t = ((cfg0.win 10).blk t).view.read (Elt Ideal) (arrU m c) := by
  rw [Cert.InprojSampleIdeal.Value.flushed10]
  obtain ⟨e0, e1⟩ := idx10 t
  funext y
  have y0 : (y 0).val < 1024 := (y 0).isLt
  have y1 : (y 1).val < 512 := (y 1).isLt
  show out0_10 (F := Ideal) (grid0.coords t) (iblk m c 0 t) (iblk m c 1 t) (iblk m c 2 t) (iblk m c 3 t) (iblk m c 4 t) (iblk m c 5 t) (iblk m c 6 t) (iblk m c 7 t) (iblk m c 8 t) ((cfg0.win 10).xinj (grid0.coords t) y) = arrU m c (((cfg0.win 10).blk t).view.emb y)
  have e : (cfg0.win 10).xinj (grid0.coords t) y = ix2 ⟨(y 0).val, y0⟩ ⟨(y 1).val, y1⟩ := funext fun a => Fin.ext (match a with | ⟨0, _⟩ => rfl | ⟨1, _⟩ => rfl)
  rw [e, point10]
  refine congrArg (arrU m c) (funext fun a => Fin.ext ?_)
  match a with
  | ⟨0, _⟩ => show 1024 * t.val + (y 0).val = win0_10.index t (0 : Fin 2) * 1024 + 1 * (y 0).val; omega
  | ⟨1, _⟩ => show (y 1).val = win0_10.index t (1 : Fin 2) * 512 + 1 * (y 1).val; omega

theorem mem_blk10 (t : Fin cfg0.N) (i : S16384x512.Idx) :
    i ∈ ((cfg0.win 10).blk t).view.set ↔ ∀ a : Fin 2, win0_10.index t a * S1024x512.size a ≤ (i a).val ∧ (i a).val < win0_10.index t a * S1024x512.size a + S1024x512.size a := by
  show i ∈ ((View.whole main_v11_1).slice (win0_10.rect t)).set ↔ _
  rw [View.set_slice_whole, Rect.mem_set_unit]
  exact Iff.rfl

theorem flush10 : ∀ t : Fin cfg0.N, (cfg0.win 10).flush t = true :=
  (by decide +kernel : ∀ t : Fin grid0.N, win0_10.flush t = true)

theorem cover10 (i : S16384x512.Idx) : ∃ t : Fin cfg0.N, (cfg0.win 10).flush t = true ∧ i ∈ ((cfg0.win 10).blk t).view.set := by
  have hi0 : (i 0).val < 16384 := (i 0).isLt
  have hi1 : (i 1).val < 512 := (i 1).isLt
  have hN : cfg0.N = 16 := N_eq
  obtain ⟨t, ht⟩ : ∃ t : Fin cfg0.N, t.val = (i 0).val / 1024 := ⟨⟨(i 0).val / 1024, by omega⟩, rfl⟩
  refine ⟨t, flush10 t, ?_⟩
  obtain ⟨e0, e1⟩ := idx10 t
  rw [mem_blk10]
  intro a
  match a with
  | ⟨0, _⟩ => show win0_10.index t (0 : Fin 2) * 1024 ≤ (i 0).val ∧ (i 0).val < win0_10.index t (0 : Fin 2) * 1024 + 1024; omega
  | ⟨1, _⟩ => show win0_10.index t (1 : Fin 2) * 512 ≤ (i 1).val ∧ (i 1).val < win0_10.index t (1 : Fin 2) * 512 + 512; omega

theorem final10 (c : Dev nD) : (dats m 0 c).arrAt 10 cfg0.N = arrU m c :=
  (dats m 0 c).arrAt_eq_of_cover 10 _ (fun t hf => flushed10_eq m c t hf) cover10

theorem flushed11_eq (c : Dev nD) (t : Fin cfg0.N) (hf : (cfg0.win 11).flush t = true) :
    (dats m 0 c).flushed 11 t = ((cfg0.win 11).blk t).view.read (Elt Ideal) (arrX m c) := by
  rw [Cert.InprojSampleIdeal.Value.flushed11]
  obtain ⟨e0, e1⟩ := idx11 t
  funext y
  have y0 : (y 0).val < 1024 := (y 0).isLt
  have y1 : (y 1).val < 512 := (y 1).isLt
  show out0_11 (F := Ideal) (grid0.coords t) (iblk m c 0 t) (iblk m c 1 t) (iblk m c 2 t) (iblk m c 3 t) (iblk m c 4 t) (iblk m c 5 t) (iblk m c 6 t) (iblk m c 7 t) (iblk m c 8 t) ((cfg0.win 11).xinj (grid0.coords t) y) = arrX m c (((cfg0.win 11).blk t).view.emb y)
  have e : (cfg0.win 11).xinj (grid0.coords t) y = ix2 ⟨(y 0).val, y0⟩ ⟨(y 1).val, y1⟩ := funext fun a => Fin.ext (match a with | ⟨0, _⟩ => rfl | ⟨1, _⟩ => rfl)
  rw [e, point11]
  refine congrArg (arrX m c) (funext fun a => Fin.ext ?_)
  match a with
  | ⟨0, _⟩ => show 1024 * t.val + (y 0).val = win0_11.index t (0 : Fin 2) * 1024 + 1 * (y 0).val; omega
  | ⟨1, _⟩ => show (y 1).val = win0_11.index t (1 : Fin 2) * 512 + 1 * (y 1).val; omega

theorem mem_blk11 (t : Fin cfg0.N) (i : S16384x512.Idx) :
    i ∈ ((cfg0.win 11).blk t).view.set ↔ ∀ a : Fin 2, win0_11.index t a * S1024x512.size a ≤ (i a).val ∧ (i a).val < win0_11.index t a * S1024x512.size a + S1024x512.size a := by
  show i ∈ ((View.whole main_v11_2).slice (win0_11.rect t)).set ↔ _
  rw [View.set_slice_whole, Rect.mem_set_unit]
  exact Iff.rfl

theorem flush11 : ∀ t : Fin cfg0.N, (cfg0.win 11).flush t = true :=
  (by decide +kernel : ∀ t : Fin grid0.N, win0_11.flush t = true)

theorem cover11 (i : S16384x512.Idx) : ∃ t : Fin cfg0.N, (cfg0.win 11).flush t = true ∧ i ∈ ((cfg0.win 11).blk t).view.set := by
  have hi0 : (i 0).val < 16384 := (i 0).isLt
  have hi1 : (i 1).val < 512 := (i 1).isLt
  have hN : cfg0.N = 16 := N_eq
  obtain ⟨t, ht⟩ : ∃ t : Fin cfg0.N, t.val = (i 0).val / 1024 := ⟨⟨(i 0).val / 1024, by omega⟩, rfl⟩
  refine ⟨t, flush11 t, ?_⟩
  obtain ⟨e0, e1⟩ := idx11 t
  rw [mem_blk11]
  intro a
  match a with
  | ⟨0, _⟩ => show win0_11.index t (0 : Fin 2) * 1024 ≤ (i 0).val ∧ (i 0).val < win0_11.index t (0 : Fin 2) * 1024 + 1024; omega
  | ⟨1, _⟩ => show win0_11.index t (1 : Fin 2) * 512 ≤ (i 1).val ∧ (i 1).val < win0_11.index t (1 : Fin 2) * 512 + 512; omega

theorem final11 (c : Dev nD) : (dats m 0 c).arrAt 11 cfg0.N = arrX m c :=
  (dats m 0 c).arrAt_eq_of_cover 11 _ (fun t hf => flushed11_eq m c t hf) cover11

theorem flushed12_eq (c : Dev nD) (t : Fin cfg0.N) (hf : (cfg0.win 12).flush t = true) :
    (dats m 0 c).flushed 12 t = ((cfg0.win 12).blk t).view.read (Elt Ideal) (arrG m c) := by
  rw [Cert.InprojSampleIdeal.Value.flushed12]
  obtain ⟨e0, e1⟩ := idx12 t
  funext y
  have y0 : (y 0).val < 1024 := (y 0).isLt
  have y1 : (y 1).val < 2048 := (y 1).isLt
  show out0_12 (F := Ideal) (grid0.coords t) (iblk m c 0 t) (iblk m c 1 t) (iblk m c 2 t) (iblk m c 3 t) (iblk m c 4 t) (iblk m c 5 t) (iblk m c 6 t) (iblk m c 7 t) (iblk m c 8 t) ((cfg0.win 12).xinj (grid0.coords t) y) = arrG m c (((cfg0.win 12).blk t).view.emb y)
  have e : (cfg0.win 12).xinj (grid0.coords t) y = ix2 ⟨(y 0).val, y0⟩ ⟨(y 1).val, y1⟩ := funext fun a => Fin.ext (match a with | ⟨0, _⟩ => rfl | ⟨1, _⟩ => rfl)
  rw [e, point12]
  refine congrArg (arrG m c) (funext fun a => Fin.ext ?_)
  match a with
  | ⟨0, _⟩ => show 1024 * t.val + (y 0).val = win0_12.index t (0 : Fin 2) * 1024 + 1 * (y 0).val; omega
  | ⟨1, _⟩ => show (y 1).val = win0_12.index t (1 : Fin 2) * 2048 + 1 * (y 1).val; omega

theorem mem_blk12 (t : Fin cfg0.N) (i : S16384x2048.Idx) :
    i ∈ ((cfg0.win 12).blk t).view.set ↔ ∀ a : Fin 2, win0_12.index t a * S1024x2048.size a ≤ (i a).val ∧ (i a).val < win0_12.index t a * S1024x2048.size a + S1024x2048.size a := by
  show i ∈ ((View.whole main_v11_3).slice (win0_12.rect t)).set ↔ _
  rw [View.set_slice_whole, Rect.mem_set_unit]
  exact Iff.rfl

theorem flush12 : ∀ t : Fin cfg0.N, (cfg0.win 12).flush t = true :=
  (by decide +kernel : ∀ t : Fin grid0.N, win0_12.flush t = true)

theorem cover12 (i : S16384x2048.Idx) : ∃ t : Fin cfg0.N, (cfg0.win 12).flush t = true ∧ i ∈ ((cfg0.win 12).blk t).view.set := by
  have hi0 : (i 0).val < 16384 := (i 0).isLt
  have hi1 : (i 1).val < 2048 := (i 1).isLt
  have hN : cfg0.N = 16 := N_eq
  obtain ⟨t, ht⟩ : ∃ t : Fin cfg0.N, t.val = (i 0).val / 1024 := ⟨⟨(i 0).val / 1024, by omega⟩, rfl⟩
  refine ⟨t, flush12 t, ?_⟩
  obtain ⟨e0, e1⟩ := idx12 t
  rw [mem_blk12]
  intro a
  match a with
  | ⟨0, _⟩ => show win0_12.index t (0 : Fin 2) * 1024 ≤ (i 0).val ∧ (i 0).val < win0_12.index t (0 : Fin 2) * 1024 + 1024; omega
  | ⟨1, _⟩ => show win0_12.index t (1 : Fin 2) * 2048 ≤ (i 1).val ∧ (i 1).val < win0_12.index t (1 : Fin 2) * 2048 + 2048; omega

theorem final12 (c : Dev nD) : (dats m 0 c).arrAt 12 cfg0.N = arrG m c :=
  (dats m 0 c).arrAt_eq_of_cover 12 _ (fun t hf => flushed12_eq m c t hf) cover12

end Cert.InprojSampleIdeal.Val

end
-- ==== Proof.InSample.RefValue.lean ====
/- The reference's input projection and short convolution for the one long sequence, element by element. -/
module

public import proofs.«01_k».proof.Proof.Gen.InprojSampleReferenceIdeal.Read
public import proofs.«01_k».proof.Proof.Inproj.Rows

@[expose] public section

set_option maxRecDepth 16384

noncomputable section

namespace Cert.InprojSampleReferenceIdeal.Val

open Cert.InprojSampleReferenceIdeal Cert.InprojSampleReferenceIdeal.Gen Cert.InprojSampleReferenceIdeal.Read Idealize.ShloMosaic Idealize.ShloMosaic.TcCoe Idealize.ShloMosaic.Tactic Cert.Token Cert.InRows

variable (x0 : (⟨S1x16384x1024, .f32⟩ : BufTy).Contents (Elt Ideal)) (x1 : (⟨S1x1024, .f32⟩ : BufTy).Contents (Elt Ideal)) (x2 : (⟨S1x1024x5120, .f32⟩ : BufTy).Contents (Elt Ideal))
  (x3 : (⟨S1x3x1536, .f32⟩ : BufTy).Contents (Elt Ideal)) (x4 : (⟨S1x1536, .f32⟩ : BufTy).Contents (Elt Ideal))

theorem normed_apply (b : Fin 1) (l : Fin 16384) (j : Fin 1024) :
    val_main_v13 (F := Ideal) x0 x1 (ix3 b l j) = rms (tokRow x0 b l) (row1 x1) j := by
  obtain rfl : b = 0 := Subsingleton.elim b 0
  pointwise [val_main_v13, val_main_v12, val_main_v11, val_main_v10, val_main_v9, val_main_v8, val_main_v7, val_main_v6, val_main_v5, val_main_v4, val_main_v3, val_main_v2, val_main_v1, val_main_v0,
    val_main_cst, val_main_cst_0, val_main_cst_1]
  rfl

theorem z_apply (b : Fin 1) (l : Fin 16384) (j : Fin 5120) : val_main_v15 (F := Ideal) x0 x1 x2 (ix3 b l j) = z x0 x1 x2 b l j := by
  obtain rfl : b = 0 := Subsingleton.elim b 0
  have e : tokRow (val_main_v13 (F := Ideal) x0 x1) 0 l = _ := funext fun k => normed_apply x0 x1 0 l k
  unfold z
  rw [← e]
  unfold val_main_v15
  generalize val_main_v13 (F := Ideal) x0 x1 = y
  pointwise [val_main_v14]
  rfl

/-- The channels with a zero row on either side. -/
theorem padded_apply (b : Fin 1) (l : Fin 16386) (j : Fin 1536) :
    val_main_v21 (F := Ideal) x0 x1 x2 (ix3 b l j)
      = if h : 1 ≤ l.val ∧ l.val ≤ 16384 then z x0 x1 x2 b ⟨l.val - 1, by omega⟩ ⟨1536 + j.val, by omega⟩ else 0 := by
  obtain rfl : b = 0 := Subsingleton.elim b 0
  have e : ∀ l, val_main_v15 (F := Ideal) x0 x1 x2 (ix3 0 l ⟨1536 + j.val, by omega⟩) = _ := fun l => z_apply x0 x1 x2 0 l _
  simp only [← e]
  unfold val_main_v21 val_main_v17
  generalize val_main_v15 (F := Ideal) x0 x1 x2 = y
  pointwise [val_main_call0_v0, val_main_c]
  by_cases h : 1 ≤ l.val ∧ l.val ≤ 16384
  · rw [dif_pos h, dif_pos ⟨h.1, by omega⟩]
  · rw [dif_neg h, dif_neg (fun e => h ⟨e.1, by omega⟩)]
    show (((0#32 : BitVec 32).toInt : ℝ) : EReal) = 0
    norm_num

theorem conv_apply (b : Fin 1) (l : Fin 16384) (j : Fin 1536) : val_main_v44 (F := Ideal) x0 x1 x2 x3 x4 (ix3 b l j) = hy x0 x1 x2 x3 x4 b l j := by
  obtain rfl : b = 0 := Subsingleton.elim b 0
  have e0 := padded_apply x0 x1 x2 0 ⟨l.val, by omega⟩ j
  have e1 := padded_apply x0 x1 x2 0 ⟨1 + l.val, by omega⟩ j
  have e2 := padded_apply x0 x1 x2 0 ⟨2 + l.val, by omega⟩ j
  have hv : val_main_v44 (F := Ideal) x0 x1 x2 x3 x4 (ix3 0 l j)
      = taps (val_main_v21 (F := Ideal) x0 x1 x2 (ix3 0 ⟨l.val, by omega⟩ j)) (val_main_v21 (F := Ideal) x0 x1 x2 (ix3 0 ⟨1 + l.val, by omega⟩ j))
          (val_main_v21 (F := Ideal) x0 x1 x2 (ix3 0 ⟨2 + l.val, by omega⟩ j)) (x3 (ix3 0 0 j)) (x3 (ix3 0 1 j)) (x3 (ix3 0 2 j)) (x4 (ix2 0 j)) := by
    unfold val_main_v44 val_main_v41 val_main_v40 val_main_v34 val_main_v33 val_main_v27 val_main_v35 val_main_v28 val_main_v22
    generalize val_main_v21 (F := Ideal) x0 x1 x2 = y
    pointwise [val_main_v43, val_main_v42, val_main_v39, val_main_v38, val_main_v37, val_main_v36, val_main_v32, val_main_v31, val_main_v30, val_main_v29, val_main_v26, val_main_v25, val_main_v24, val_main_v23,
      val_main_v20, val_main_v19]
    rfl
  rw [hv, e0, e1, e2]
  unfold hy
  refine taps_congr _ _ _ _ ?_ ?_ ?_
  · by_cases h : l.val = 0
    · rw [dif_pos h, dif_neg (fun e => by have : 1 ≤ l.val := e.1; omega)]
    · rw [dif_neg h, dif_pos ⟨by show 1 ≤ l.val; omega, by show l.val ≤ 16384; omega⟩]
  · rw [dif_pos ⟨by show 1 ≤ 1 + l.val; omega, by show 1 + l.val ≤ 16384; omega⟩]
    exact congrArg (fun q => z x0 x1 x2 0 q _) (Fin.ext (by show 1 + l.val - 1 = l.val; omega))
  · by_cases h : l.val + 1 = 16384
    · rw [dif_pos h, dif_neg (fun e => by have : 2 + l.val ≤ 16384 := e.2; omega)]
    · rw [dif_neg h, dif_pos ⟨by show 1 ≤ 2 + l.val; omega, by show 2 + l.val ≤ 16384; omega⟩]
      exact congrArg (fun q => z x0 x1 x2 0 q _) (Fin.ext (by show 2 + l.val - 1 = l.val + 1; omega))

/-! ## The results -/

/-- Flat rows read at their batch and place. -/
theorem rows_apply {n : ℕ} (A : (⟨3, ![1, 16384, n]⟩ : Shape).Idx → EReal) (h : (⟨3, ![1, 16384, n]⟩ : Shape).ShapeCasts ⟨2, ![16384, n]⟩) (r : Fin 16384) (k : Fin n) :
    shapeCast (α := EReal) ⟨2, ![16384, n]⟩ A h (ix2 r k) = A (ix3 ⟨r.val / 16384, by omega⟩ ⟨r.val % 16384, by omega⟩ k) := by
  refine shapeCast_apply _ h _ _ ?_
  rw [Shape.rowMajor_val_two, Shape.rowMajor_val_three]
  show (r.val / 16384 * 16384 + r.val % 16384) * n + k.val = r.val * n + k.val
  have : r.val / 16384 * 16384 + r.val % 16384 = r.val := by omega
  rw [this]

theorem q_apply (r : Fin 16384) (j : Fin 1536) :
    val_main_v50 (F := Ideal) x0 x1 x2 (ix2 r j) = z x0 x1 x2 ⟨r.val / 16384, by omega⟩ ⟨r.val % 16384, by omega⟩ ⟨j.val, by omega⟩ := by
  rw [← z_apply]
  refine (rows_apply (val_main_v49 (F := Ideal) x0 x1 x2) _ r j).trans ?_
  unfold val_main_v49 val_main_v16
  generalize val_main_v15 (F := Ideal) x0 x1 x2 = y
  pointwise

theorem g_apply (r : Fin 16384) (j : Fin 2048) :
    val_main_v56 (F := Ideal) x0 x1 x2 (ix2 r j) = z x0 x1 x2 ⟨r.val / 16384, by omega⟩ ⟨r.val % 16384, by omega⟩ ⟨3072 + j.val, by omega⟩ := by
  rw [← z_apply]
  refine (rows_apply (val_main_v55 (F := Ideal) x0 x1 x2) _ r j).trans ?_
  unfold val_main_v55 val_main_v18
  generalize val_main_v15 (F := Ideal) x0 x1 x2 = y
  pointwise

theorem x_apply (r : Fin 16384) (j : Fin 512) :
    val_main_v54 (F := Ideal) x0 x1 x2 x3 x4 (ix2 r j) = hy x0 x1 x2 x3 x4 ⟨r.val / 16384, by omega⟩ ⟨r.val % 16384, by omega⟩ ⟨j.val, by omega⟩ := by
  rw [← conv_apply]
  refine (rows_apply (val_main_v53 (F := Ideal) x0 x1 x2 x3 x4) _ r j).trans ?_
  unfold val_main_v53 val_main_v45
  generalize val_main_v44 (F := Ideal) x0 x1 x2 x3 x4 = y
  pointwise

theorem u_apply (r : Fin 16384) (j : Fin 512) :
    val_main_v52 (F := Ideal) x0 x1 x2 x3 x4 (ix2 r j)
      = hy x0 x1 x2 x3 x4 ⟨r.val / 16384, by omega⟩ ⟨r.val % 16384, by omega⟩ ⟨512 + j.val, by omega⟩
        * hy x0 x1 x2 x3 x4 ⟨r.val / 16384, by omega⟩ ⟨r.val % 16384, by omega⟩ ⟨1024 + j.val, by omega⟩ := by
  rw [← conv_apply, ← conv_apply]
  refine (rows_apply (val_main_v51 (F := Ideal) x0 x1 x2 x3 x4) _ r j).trans ?_
  unfold val_main_v51 val_main_v48 val_main_v46 val_main_v47
  generalize val_main_v44 (F := Ideal) x0 x1 x2 x3 x4 = y
  pointwise

end Cert.InprojSampleReferenceIdeal.Val

end
-- ==== Proof.InSample.Equal.lean ====
/- The input projection's kernel and the plain formulas leave equal arrays, at the one long sequence, whatever the arguments. -/
module

public import proofs.«01_k».proof.Defs
public import proofs.«01_k».proof.Proof.Inproj.Equal
public import proofs.«01_k».proof.Proof.InSample.Array
public import proofs.«01_k».proof.Proof.InSample.RefValue
public import proofs.«01_k».proof.Proof.Gen.InprojSampleReferenceIdeal.Run

@[expose] public section

set_option maxRecDepth 16384

noncomputable section

namespace Cert.InSampleEqual

open Idealize.ShloMosaic Idealize.ShloMosaic.TcCoe Idealize.SL.Sem Cert.InprojSampleIdeal.Val
open Cert.InEqual (split2)

theorem algebraic : Cert.algebraic_InprojSampleIdeal_InprojSampleReferenceIdeal := by
  intro m g m' g' _ hm
  refine ⟨fun c => arrQ m c, fun c => arrU m c, fun c => arrX m c, fun c => arrG m c,
    (θ_run Cert.InprojSampleIdeal.defs _ _).mono (fun r h c => ⟨(h c).1.trans (final9 m c), (h c).2.1.trans (final10 m c), (h c).2.2.1.trans (final11 m c), (h c).2.2.2.1.trans (final12 m c), (h c).2.2.2.2⟩)
      (Cert.InprojSampleIdeal.Value.run_blocks m g), ?_⟩
  refine (θ_run Cert.InprojSampleReferenceIdeal.defs _ _).mono (fun r h c => ⟨(h c).1.trans ?_, (h c).2.1.trans ?_, (h c).2.2.1.trans ?_, (h c).2.2.2.1.trans ?_, (h c).2.2.2.2⟩) (Cert.InprojSampleReferenceIdeal.Value.run m' g')
  all_goals obtain ⟨h0, h1, h2, h3, h4⟩ := hm c
  · rw [Cert.InprojSampleReferenceIdeal.Read.val_main_v50_eq, h0, h1, h2]
    funext y
    refine (congrArg _ (split2 y)).trans ((Cert.InprojSampleReferenceIdeal.Val.q_apply _ _ _ _ _).trans ?_)
    rfl
  · rw [Cert.InprojSampleReferenceIdeal.Read.val_main_v52_eq, h0, h1, h2, h3, h4]
    funext y
    refine (congrArg _ (split2 y)).trans ((Cert.InprojSampleReferenceIdeal.Val.u_apply _ _ _ _ _ _ _).trans ?_)
    rfl
  · rw [Cert.InprojSampleReferenceIdeal.Read.val_main_v54_eq, h0, h1, h2, h3, h4]
    funext y
    refine (congrArg _ (split2 y)).trans ((Cert.InprojSampleReferenceIdeal.Val.x_apply _ _ _ _ _ _ _).trans ?_)
    rfl
  · rw [Cert.InprojSampleReferenceIdeal.Read.val_main_v56_eq, h0, h1, h2]
    funext y
    refine (congrArg _ (split2 y)).trans ((Cert.InprojSampleReferenceIdeal.Val.g_apply _ _ _ _ _).trans ?_)
    rfl

end Cert.InSampleEqual

end
-- ==== Proof.AttnSample.Run.lean ====
/- The body of the attention call at the long sequence, run at a grid point: at the first point (the bias tiles are built) and at a later one. -/
module

public import proofs.«01_k».proof.Proof.Gen.AttnSampleIdeal.Frame.Runs

@[expose] public section

set_option maxRecDepth 16384

noncomputable section

namespace Cert.AttnSampleIdeal.Attn

open Cert.AttnSampleIdeal Cert.AttnSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The bias tiles the first loop leaves in the scratch: its sixty pieces tile the scratch. -/
theorem tiles_cover (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : cond0_0 i) (x0 : BufTy.Contents (Elt F) arg2.view.ty) (y : S60x64x128.Idx) :
    ∃ pc ∈ (pb_k0_t1 (F := F) Variants.none c none i arg2 harg2 arg3 harg3 arg4 harg4 arg5 harg5 arg6 harg6 arg7 harg7 hc0 x0 (Scf.trips k0_t1_loop.lb k0_t1_loop.ub k0_t1_loop.st)), y ∈ pc.1.set :=
  View.cover_of_tiledL (pb_k0_t1 (F := F) Variants.none c none i arg2 harg2 arg3 harg3 arg4 harg4 arg5 harg5 arg6 harg6 arg7 harg7 hc0 x0 (Scf.trips k0_t1_loop.lb k0_t1_loop.ub k0_t1_loop.st)) S1x64x128.size (by sl_kernel_rfl) y

/-- So what the scratch holds after the loop does not depend on what it held before. -/
theorem tiles_rebase (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : cond0_0 i) (x0 : BufTy.Contents (Elt F) arg2.view.ty) (f : BufTy.Contents (Elt F) arg7.view.ty) :
    arg7.view.writes (Elt F) f (pb_k0_t1 (F := F) Variants.none c none i arg2 harg2 arg3 harg3 arg4 harg4 arg5 harg5 arg6 harg6 arg7 harg7 hc0 x0 (Scf.trips k0_t1_loop.lb k0_t1_loop.ub k0_t1_loop.st))
      = harg7.unread (VS0_0.read (Elt F) (VS0_0.writes (Elt F) VS0_0.junk (pb_k0_t1 (F := F) Variants.none c none i arg2 harg2 arg3 harg3 arg4 harg4 arg5 harg5 arg6 harg6 arg7 harg7 hc0 x0 (Scf.trips k0_t1_loop.lb k0_t1_loop.ub k0_t1_loop.st)))) :=
  harg7.eq_unread (View.read_writes_of_cover _ _ _ _ _ (tiles_cover c i arg2 harg2 arg3 harg3 arg4 harg4 arg5 harg5 arg6 harg6 arg7 harg7 hc0 x0))

-- (the run's proof term is large: the definition's epilogue — `abstractNestedProofs` — walks it past the default budget)
set_option maxHeartbeats 1000000 in
/-- The body at the first point, run: the bias tiles are written over the whole scratch, then the rows of the block are
    computed from them. The pieces stored are found by the run. -/
noncomputable def runA (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : cond0_0 i)
    (x0 : Vec F S3720 .f32) (x1 : Vec F S1x1024x512 .bf16) (x2 : Vec F S1x1536x512 .bf16) (x3 : Vec F S1x1536x512 .bf16) :
    Σ' (L4 : List (View.Piece (Elt F) S1x1024x512 .bf16)), { LS0 : List (View.Piece (Elt F) S60x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0_nbr_attention i arg2 harg2 arg3 harg3 arg4 harg4 arg5 harg5 arg6 harg6 arg7 harg7) K } := by
  refine ⟨?_, pb_k0_t1 (F := F) Variants.none c none i arg2 harg2 arg3 harg3 arg4 harg4 arg5 harg5 arg6 harg6 arg7 harg7 hc0 (harg2.unread x0) (Scf.trips k0_t1_loop.lb k0_t1_loop.ub k0_t1_loop.st), fun E K => ?run⟩
  case run =>
    simp only [cc0_nbr_attention_eq_skeleton]; unfold cc0_nbr_attention_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    rw [tiles_rebase]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists arg7.view.junk; rw [tiles_rebase]; iexact HS0

-- (the run's proof term is large: the definition's epilogue — `abstractNestedProofs` — walks it past the default budget)
set_option maxHeartbeats 1000000 in
/-- The body at a later point, run: the scratch is only read. -/
noncomputable def runB (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : ¬cond0_0 i)
    (x0 : Vec F S3720 .f32) (x1 : Vec F S1x1024x512 .bf16) (x2 : Vec F S1x1536x512 .bf16) (x3 : Vec F S1x1536x512 .bf16) (xs0 : Vec F S60x64x128 .f32) :
    Σ' (L4 : List (View.Piece (Elt F) S1x1024x512 .bf16)), { LS0 : List (View.Piece (Elt F) S60x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc0_nbr_attention i arg2 harg2 arg3 harg3 arg4 harg4 arg5 harg5 arg6 harg6 arg7 harg7) K } := by
  refine ⟨?_, [], fun E K => ?run⟩
  case run =>
    simp only [cc0_nbr_attention_eq_skeleton]; unfold cc0_nbr_attention_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

end Cert.AttnSampleIdeal.Attn

end
-- ==== Proof.AttnSample.Frame.lean ====
/- The frame of the attention call at the long sequence: launch set-up over the runs of `AttnSample.Run`. -/
module

public import proofs.«01_k».proof.Proof.AttnSample.Run
public import Idealize.ShloMosaic.Lib.Claim

@[expose] public section

set_option maxRecDepth 16384

noncomputable section

namespace Cert.AttnSampleIdeal.Attn

open Cert.AttnSampleIdeal Cert.AttnSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Case A's pieces for output 4 tile its block (16 stores of `S1x64x512`, checked by the kernel's evaluation: Lib/Ring.lean `Piece.tiledL`, linear in the pieces, through a loop's `@[irreducible]` trip theorem too), so they cover it. -/
theorem cover0_A_4 (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : cond0_0 i)
    (x0 : Vec F S3720 .f32) (x1 : Vec F S1x1024x512 .bf16) (x2 : Vec F S1x1536x512 .bf16) (x3 : Vec F S1x1536x512 .bf16) (y : S1x1024x512.Idx) :
    ∃ pc ∈ (runA c i arg2 harg2 arg3 harg3 arg4 harg4 arg5 harg5 arg6 harg6 arg7 harg7 hc0 x0 x1 x2 x3).1, y ∈ pc.1.set :=
  View.cover_of_tiledL (runA c i arg2 harg2 arg3 harg3 arg4 harg4 arg5 harg5 arg6 harg6 arg7 harg7 hc0 x0 x1 x2 x3).1 S1x64x512.size (by sl_kernel_rfl) y

/-- What case A leaves in output 4's staging buffer: its pieces read back over junk. -/
def out0_A_4 (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : cond0_0 i)
    (x0 : Vec F S3720 .f32) (x1 : Vec F S1x1024x512 .bf16) (x2 : Vec F S1x1536x512 .bf16) (x3 : Vec F S1x1536x512 .bf16) : Vec F S1x1024x512 .bf16 :=
  VO0_4.read (Elt F) (VO0_4.writes (Elt F) VO0_4.junk (runA c i arg2 harg2 arg3 harg3 arg4 harg4 arg5 harg5 arg6 harg6 arg7 harg7 hc0 x0 x1 x2 x3).1)

/-- Case A's pieces for scratch `arg7`, which the kernel carries between points, cover it: 60 pieces of `S1x64x128` tiling it (Lib/Ring.lean `Piece.tiledL`). -/
theorem scover0_A_0 (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : cond0_0 i)
    (x0 : Vec F S3720 .f32) (x1 : Vec F S1x1024x512 .bf16) (x2 : Vec F S1x1536x512 .bf16) (x3 : Vec F S1x1536x512 .bf16) (y : S60x64x128.Idx) :
    ∃ pc ∈ (runA c i arg2 harg2 arg3 harg3 arg4 harg4 arg5 harg5 arg6 harg6 arg7 harg7 hc0 x0 x1 x2 x3).2.1, y ∈ pc.1.set :=
  View.cover_of_tiledL (runA c i arg2 harg2 arg3 harg3 arg4 harg4 arg5 harg5 arg6 harg6 arg7 harg7 hc0 x0 x1 x2 x3).2.1 S1x64x128.size (by sl_kernel_rfl) y

/-- What case A leaves in scratch `arg7`: its pieces read back over junk. -/
def sout0_A_0 (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : cond0_0 i)
    (x0 : Vec F S3720 .f32) (x1 : Vec F S1x1024x512 .bf16) (x2 : Vec F S1x1536x512 .bf16) (x3 : Vec F S1x1536x512 .bf16) : Vec F S60x64x128 .f32 :=
  VS0_0.read (Elt F) (VS0_0.writes (Elt F) VS0_0.junk (runA c i arg2 harg2 arg3 harg3 arg4 harg4 arg5 harg5 arg6 harg6 arg7 harg7 hc0 x0 x1 x2 x3).2.1)

/-- Case B's pieces for output 4 tile its block (16 stores of `S1x64x512`, checked by the kernel's evaluation: Lib/Ring.lean `Piece.tiledL`, linear in the pieces, through a loop's `@[irreducible]` trip theorem too), so they cover it. -/
theorem cover0_B_4 (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : ¬cond0_0 i)
    (x0 : Vec F S3720 .f32) (x1 : Vec F S1x1024x512 .bf16) (x2 : Vec F S1x1536x512 .bf16) (x3 : Vec F S1x1536x512 .bf16) (xs0 : Vec F S60x64x128 .f32) (y : S1x1024x512.Idx) :
    ∃ pc ∈ (runB c i arg2 harg2 arg3 harg3 arg4 harg4 arg5 harg5 arg6 harg6 arg7 harg7 hc0 x0 x1 x2 x3 xs0).1, y ∈ pc.1.set :=
  View.cover_of_tiledL (runB c i arg2 harg2 arg3 harg3 arg4 harg4 arg5 harg5 arg6 harg6 arg7 harg7 hc0 x0 x1 x2 x3 xs0).1 S1x64x512.size (by sl_kernel_rfl) y

/-- What case B leaves in output 4's staging buffer: its pieces read back over junk. -/
def out0_B_4 (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : ¬cond0_0 i)
    (x0 : Vec F S3720 .f32) (x1 : Vec F S1x1024x512 .bf16) (x2 : Vec F S1x1536x512 .bf16) (x3 : Vec F S1x1536x512 .bf16) (xs0 : Vec F S60x64x128 .f32) : Vec F S1x1024x512 .bf16 :=
  VO0_4.read (Elt F) (VO0_4.writes (Elt F) VO0_4.junk (runB c i arg2 harg2 arg3 harg3 arg4 harg4 arg5 harg5 arg6 harg6 arg7 harg7 hc0 x0 x1 x2 x3 xs0).1)

/-- Case B stores nothing into scratch `arg7`: it holds what the point before left. -/
def sout0_B_0 (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (hc0 : ¬cond0_0 i)
    (x0 : Vec F S3720 .f32) (x1 : Vec F S1x1024x512 .bf16) (x2 : Vec F S1x1536x512 .bf16) (x3 : Vec F S1x1536x512 .bf16) (xs0 : Vec F S60x64x128 .f32) : Vec F S60x64x128 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1024x512 .bf16 × Vec F S60x64x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 16 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at a point of case A: that case's contents. -/
theorem outsAt0_A (c : Dev nD) (t : Fin cfg0.N) (h0 : t.val % 16 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outsAt0_A m c t h0]
      unfold out0_A_4 sout0_A_0; (try dsimp only)
      iintro ⟨⟨HS0, Hg⟩, Ho, ⟨%d0, H0⟩, ⟨%d1, H1⟩, ⟨%d2, H2⟩, ⟨%d3, H3⟩, ⟨%d4, H4⟩⟩
      iapply ((runA c (grid0.coords t) _ _ _ _ _ _ _ _ _ _ _ _ ((hcond0_0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold out0_B_4 sout0_B_0; (try dsimp only)
      iintro ⟨⟨HS0, Hg⟩, Ho, ⟨%d0, H0⟩, ⟨%d1, H1⟩, ⟨%d2, H2⟩, ⟨%d3, H3⟩, ⟨%d4, H4⟩⟩
      iapply ((runB c (grid0.coords t) _ _ _ _ _ _ _ _ _ _ _ _ (fun h => h0 ((hcond0_0 t).mp h)) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_AttnSampleIdeal`'s statement (Defs.lean) at any `F` — Proof.lean cites it at `Bits`:
    `theorem Cert.Proof.claim : Cert.Claim := ⟨Cert.AttnSampleIdeal.Gen.facts, fun m ρ _ => Cert.AttnSampleIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.AttnSampleIdeal.Attn

end
-- ==== Proof.AttnSample.Row.lean ====
/- The pieces one trip of the row loop stores at the long sequence: a row's formula at what the row loads. -/
module

public import proofs.«01_k».proof.Proof.AttnSample.Frame
public import proofs.«01_k».proof.Proof.Attn.Points

@[expose] public section

set_option maxRecDepth 16384

noncomputable section

namespace Cert.AttnSampleIdeal.Attn

open Cert.AttnSampleIdeal Cert.AttnSampleIdeal.Gen Idealize.ShloMosaic Idealize.ShloMosaic.TcCoe Idealize.ShloMosaic.Tactic

open Cert.KernelIdeal.Attn (rowOut)

variable {F : FTy → Type} [FloatOps F] [Named F]

/-! ## What a row loads -/

section Loads

variable (i : grid0.Coords) (k : Fin k0_t2_loop.trips)

/-- The first row's queries. -/
abbrev qA (M : Memref sig .tc .vmem S1x1024x512 .bf16) (X : BufTy.Contents (Elt F) M.view.ty) : Vec F S1x64x512 .bf16 :=
  View.readAt (Elt F) M.view (Rect.unit (s := S1x1024x512) (k0_off4 k) S1x64x512.size (k0_off4_inb k)).toLoadRect X
/-- The queries of row `r + 1`. -/
abbrev qB (r : Fin 7) (M : Memref sig .tc .vmem S1x1024x512 .bf16) (X : BufTy.Contents (Elt F) M.view.ty) : Vec F S1x64x512 .bf16 :=
  View.readAt (Elt F) M.view (Rect.unit (s := S1x1024x512) (k0_off9 k (BitVec.ofNat 32 r.val)) S1x64x512.size (k0_off9_inb k r)).toLoadRect X
/-- The first row's keys, or values, of each head pair. -/
abbrev kA (M : Memref sig .tc .vmem S1x1536x512 .bf16) (X : BufTy.Contents (Elt F) M.view.ty) : Fin 4 → Vec F S1x512x128 .bf16 := fun p => match p with
  | 0 => View.readAt (Elt F) M.view (Rect.unit (s := S1x1536x512) (k0_off5 i k) S1x512x128.size (k0_off5_inb i k)).toLoadRect X
  | 1 => View.readAt (Elt F) M.view (Rect.unit (s := S1x1536x512) (k0_off6 i k) S1x512x128.size (k0_off6_inb i k)).toLoadRect X
  | 2 => View.readAt (Elt F) M.view (Rect.unit (s := S1x1536x512) (k0_off7 i k) S1x512x128.size (k0_off7_inb i k)).toLoadRect X
  | 3 => View.readAt (Elt F) M.view (Rect.unit (s := S1x1536x512) (k0_off8 i k) S1x512x128.size (k0_off8_inb i k)).toLoadRect X
/-- The keys, or values, of row `r + 1`. -/
abbrev kB (r : Fin 7) (M : Memref sig .tc .vmem S1x1536x512 .bf16) (X : BufTy.Contents (Elt F) M.view.ty) : Fin 4 → Vec F S1x512x128 .bf16 := fun p => match p with
  | 0 => View.readAt (Elt F) M.view (Rect.unit (s := S1x1536x512) (k0_off10 i k (BitVec.ofNat 32 r.val)) S1x512x128.size (k0_off10_inb i k r)).toLoadRect X
  | 1 => View.readAt (Elt F) M.view (Rect.unit (s := S1x1536x512) (k0_off11 i k (BitVec.ofNat 32 r.val)) S1x512x128.size (k0_off11_inb i k r)).toLoadRect X
  | 2 => View.readAt (Elt F) M.view (Rect.unit (s := S1x1536x512) (k0_off12 i k (BitVec.ofNat 32 r.val)) S1x512x128.size (k0_off12_inb i k r)).toLoadRect X
  | 3 => View.readAt (Elt F) M.view (Rect.unit (s := S1x1536x512) (k0_off13 i k (BitVec.ofNat 32 r.val)) S1x512x128.size (k0_off13_inb i k r)).toLoadRect X
/-- The first row's bias tiles. -/
abbrev tA (M : Memref sig .tc .vmem S60x64x128 .f32) (X : BufTy.Contents (Elt F) M.view.ty) (p : Fin 4) (c : Fin 8) : Vec F S1x64x128 .f32 :=
  View.readAt (Elt F) M.view (Rect.unit (s := S60x64x128) (k0_off14 i k (BitVec.ofNat 32 (15 * p.val)) (BitVec.ofNat 32 c.val)) S1x64x128.size (k0_off14_inb i k p c)).toLoadRect X
/-- The bias tiles of row `r + 1`. -/
abbrev tB (r : Fin 7) (M : Memref sig .tc .vmem S60x64x128 .f32) (X : BufTy.Contents (Elt F) M.view.ty) (p : Fin 4) (c : Fin 8) : Vec F S1x64x128 .f32 :=
  View.readAt (Elt F) M.view (Rect.unit (s := S60x64x128) (k0_off16 i k (BitVec.ofNat 32 (15 * p.val)) (BitVec.ofNat 32 r.val) (BitVec.ofNat 32 c.val)) S1x64x128.size (k0_off16_inb i k p r c)).toLoadRect X

variable (arg3 : Memref sig .tc .vmem S1x1024x512 .bf16) (arg4 arg5 : Memref sig .tc .vmem S1x1536x512 .bf16) (arg7 : Memref sig .tc .vmem S60x64x128 .f32)
  (X3 : BufTy.Contents (Elt F) arg3.view.ty) (X4 : BufTy.Contents (Elt F) arg4.view.ty) (X5 : BufTy.Contents (Elt F) arg5.view.ty) (X7 : BufTy.Contents (Elt F) arg7.view.ty)

/-- The first row's piece. -/
def pieceA : View.Piece (Elt F) S1x1024x512 .bf16 :=
  ⟨Rect.unit (s := S1x1024x512) (k0_off15 k 0#32) S1x64x512.size (k0_off15_inb k 0), rowOut (qA k arg3 X3) (kA i k arg4 X4) (kA i k arg5 X5) (tA i k arg7 X7)⟩
/-- The piece of row `r + 1`. -/
def pieceB (r : Fin 7) : View.Piece (Elt F) S1x1024x512 .bf16 :=
  ⟨Rect.unit (s := S1x1024x512) (k0_off15 k (BitVec.ofNat 32 (r.val + 1))) S1x64x512.size (k0_off15_inb k r.succ),
    rowOut (qB k r arg3 X3) (kB i k r arg4 X4) (kB i k r arg5 X5) (tB i k r arg7 X7)⟩

end Loads

/-- What one trip of the row loop stores. -/
theorem trip_rows (𝒱 : Variants) (c : Dev nD) (bd : Option 𝒱.V) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) (arg1 : BitVec 32) (v12 : BitVec 32) (X3 : BufTy.Contents (Elt F) arg3.view.ty) (X4 : BufTy.Contents (Elt F) arg4.view.ty) (X5 : BufTy.Contents (Elt F) arg5.view.ty) (X7 : BufTy.Contents (Elt F) arg7.view.ty) (k : Fin k0_t2_loop.trips) :
    tripL_k0_t2 (F := F) 𝒱 c bd i arg2 harg2 arg3 harg3 arg4 harg4 arg5 harg5 arg6 harg6 arg7 harg7 arg1 v12 X3 X4 X5 X7 k
      = [pieceB i k arg3 arg4 arg5 arg7 X3 X4 X5 X7 6, pieceB i k arg3 arg4 arg5 arg7 X3 X4 X5 X7 5, pieceB i k arg3 arg4 arg5 arg7 X3 X4 X5 X7 4,
         pieceB i k arg3 arg4 arg5 arg7 X3 X4 X5 X7 3, pieceB i k arg3 arg4 arg5 arg7 X3 X4 X5 X7 2, pieceB i k arg3 arg4 arg5 arg7 X3 X4 X5 X7 1,
         pieceB i k arg3 arg4 arg5 arg7 X3 X4 X5 X7 0, pieceA i k arg3 arg4 arg5 arg7 X3 X4 X5 X7] := by
  sl_kernel_rfl

end Cert.AttnSampleIdeal.Attn

end
-- ==== Proof.AttnSample.Offsets.lean ====
/- Where each load of the row loop starts, in numbers: the query row, the first key row of its window, its first bias tile. -/
module

public import proofs.«01_k».proof.Proof.AttnSample.Row

@[expose] public section

set_option maxRecDepth 16384

namespace Cert.AttnSampleIdeal.Attn

open Cert.AttnSampleIdeal Cert.AttnSampleIdeal.Gen Idealize.ShloMosaic

/-- The image row of row `x` of the block at point `i`. -/
abbrev imgRow (i : grid0.Coords) (x : ℕ) : ℕ := 16 * (i 1).val + x
/-- The first key row of a query row's window. -/
abbrev winRow (r : ℕ) : ℕ := min (r - 4) 248
/-- The first key row the block holds. -/
abbrev blkRow (i : grid0.Coords) : ℕ := min (16 * (i 1).val - 4) 232

theorem off5_eq : ∀ (i : grid0.Coords) (k : Fin k0_t2_loop.trips), k0_off5 i k = ![0, 64 * (winRow (imgRow i (8 * k.val)) - blkRow i), 0] := by decide +kernel
theorem off6_eq : ∀ (i : grid0.Coords) (k : Fin k0_t2_loop.trips), k0_off6 i k = ![0, 64 * (winRow (imgRow i (8 * k.val)) - blkRow i), 128] := by decide +kernel
theorem off7_eq : ∀ (i : grid0.Coords) (k : Fin k0_t2_loop.trips), k0_off7 i k = ![0, 64 * (winRow (imgRow i (8 * k.val)) - blkRow i), 256] := by decide +kernel
theorem off8_eq : ∀ (i : grid0.Coords) (k : Fin k0_t2_loop.trips), k0_off8 i k = ![0, 64 * (winRow (imgRow i (8 * k.val)) - blkRow i), 384] := by decide +kernel
theorem off10_eq : ∀ (i : grid0.Coords) (k : Fin k0_t2_loop.trips) (r : Fin 7), k0_off10 i k (BitVec.ofNat 32 r.val) = ![0, 64 * (winRow (imgRow i (8 * k.val + (r.val + 1))) - blkRow i), 0] := by decide +kernel
theorem off11_eq : ∀ (i : grid0.Coords) (k : Fin k0_t2_loop.trips) (r : Fin 7), k0_off11 i k (BitVec.ofNat 32 r.val) = ![0, 64 * (winRow (imgRow i (8 * k.val + (r.val + 1))) - blkRow i), 128] := by decide +kernel
theorem off12_eq : ∀ (i : grid0.Coords) (k : Fin k0_t2_loop.trips) (r : Fin 7), k0_off12 i k (BitVec.ofNat 32 r.val) = ![0, 64 * (winRow (imgRow i (8 * k.val + (r.val + 1))) - blkRow i), 256] := by decide +kernel
theorem off13_eq : ∀ (i : grid0.Coords) (k : Fin k0_t2_loop.trips) (r : Fin 7), k0_off13 i k (BitVec.ofNat 32 r.val) = ![0, 64 * (winRow (imgRow i (8 * k.val + (r.val + 1))) - blkRow i), 384] := by decide +kernel
theorem off14_eq : ∀ (i : grid0.Coords) (k : Fin k0_t2_loop.trips) (p : Fin 4) (c : Fin 8), k0_off14 i k (BitVec.ofNat 32 (15 * p.val)) (BitVec.ofNat 32 c.val)
    = ![15 * p.val + (winRow (imgRow i (8 * k.val)) + 7 - imgRow i (8 * k.val)) + c.val, 0, 0] := by decide +kernel
theorem off16_eq : ∀ (i : grid0.Coords) (k : Fin k0_t2_loop.trips) (p : Fin 4) (r : Fin 7) (c : Fin 8), k0_off16 i k (BitVec.ofNat 32 (15 * p.val)) (BitVec.ofNat 32 r.val) (BitVec.ofNat 32 c.val)
    = ![15 * p.val + (winRow (imgRow i (8 * k.val + (r.val + 1))) + 7 - imgRow i (8 * k.val + (r.val + 1))) + c.val, 0, 0] := by decide +kernel
theorem off4_eq' : ∀ (k : Fin k0_t2_loop.trips), k0_off4 k = ![0, 64 * (8 * k.val), 0] := by decide +kernel
theorem off9_eq' : ∀ (k : Fin k0_t2_loop.trips) (r : Fin 7), k0_off9 k (BitVec.ofNat 32 r.val) = ![0, 64 * (8 * k.val + (r.val + 1)), 0] := by decide +kernel
theorem off15_eq' : ∀ (k : Fin k0_t2_loop.trips) (r : Fin 8), k0_off15 k (BitVec.ofNat 32 r.val) = ![0, 64 * (8 * k.val + r.val), 0] := by decide +kernel
theorem off1_eq : ∀ (k : Fin k0_t1_loop.trips) (r : Fin 31), k0_off1 k (BitVec.ofNat 32 r.val) = ![465 * (2 * (k.val / 15)) + 31 * (k.val % 15) + r.val] := by decide +kernel
theorem off2_eq : ∀ (k : Fin k0_t1_loop.trips) (r : Fin 31), k0_off2 k (BitVec.ofNat 32 r.val) = ![465 * (2 * (k.val / 15) + 1) + 31 * (k.val % 15) + r.val] := by decide +kernel

end Cert.AttnSampleIdeal.Attn

end
-- ==== Proof.AttnSample.Block.lean ====
/- What the row loop leaves in the block at the long sequence, element by element, from the block's queries, keys, values and bias tiles. -/
module

public import proofs.«01_k».proof.Proof.AttnSample.Offsets
public import Idealize.ShloMosaic.Lib.Pipeline.ValueKit.Tiles

@[expose] public section

set_option maxRecDepth 16384

noncomputable section

namespace Cert.AttnSampleIdeal.Attn

open Cert.AttnSampleIdeal Cert.AttnSampleIdeal.Gen Idealize.ShloMosaic Idealize.ShloMosaic.TcCoe Idealize.ShloMosaic.Tactic

open Cert.KernelIdeal.Attn (rowOut rowOut_apply rowScore soft2 qs piece_at row_idx)

theorem col_lt (i : grid0.Coords) : (i 1).val < 16 := (i 1).isLt

/-- How far into the block's keys a window starts, at most. -/
theorem win_le (i : grid0.Coords) (x : Fin 16) : winRow (imgRow i x.val) - blkRow i ≤ 16 := by
  have := col_lt i; show min (16 * (i 1).val + x.val - 4) 248 - min (16 * (i 1).val - 4) 232 ≤ 16; omega

/-- The first row distance of a window, at most. -/
theorem dist_le (i : grid0.Coords) (x : Fin 16) : winRow (imgRow i x.val) + 7 - imgRow i x.val ≤ 7 := by
  have := col_lt i; show min (16 * (i 1).val + x.val - 4) 248 + 7 - (16 * (i 1).val + x.val) ≤ 7; omega

/-- The biased score of key `j` of the window of row `x` of the block, for the query in column `qc` and head `h`. -/
def blkScore (i : grid0.Coords) (x3 : FVec Ideal S1x1024x512 .bf16) (x4 : FVec Ideal S1x1536x512 .bf16) (x7 : FVec Ideal S60x64x128 .f32)
    (x : Fin 16) (qc : Fin 64) (h : Fin 8) (j : Fin 512) : EReal :=
  (∑ d : Fin 64, x4 (ix3 0 ⟨64 * (winRow (imgRow i x.val) - blkRow i) + j.val, by have := win_le i x; omega⟩ ⟨64 * h.val + d.val, by omega⟩)
      * (x3 (ix3 0 ⟨64 * x.val + qc.val, by omega⟩ ⟨64 * h.val + d.val, by omega⟩) * qs))
    + x7 (ix3 ⟨15 * (h.val / 2) + (winRow (imgRow i x.val) + 7 - imgRow i x.val) + j.val / 64, by have := dist_le i x; omega⟩ ⟨j.val % 64, by omega⟩
        ⟨64 * (h.val % 2) + qc.val, by omega⟩)

/-- An element of the block the kernel leaves. -/
def blkOut (i : grid0.Coords) (x3 : FVec Ideal S1x1024x512 .bf16) (x4 x5 : FVec Ideal S1x1536x512 .bf16) (x7 : FVec Ideal S60x64x128 .f32)
    (x : Fin 16) (qc : Fin 64) (h : Fin 8) (d : Fin 64) : EReal :=
  soft2 (blkScore i x3 x4 x7 x qc h) (fun j => x5 (ix3 0 ⟨64 * (winRow (imgRow i x.val) - blkRow i) + j.val, by have := win_le i x; omega⟩ ⟨64 * h.val + d.val, by omega⟩))

/-- The block the kernel leaves. -/
def blk (i : grid0.Coords) (x3 : FVec Ideal S1x1024x512 .bf16) (x4 x5 : FVec Ideal S1x1536x512 .bf16) (x7 : FVec Ideal S60x64x128 .f32) : S1x1024x512.Idx → EReal :=
  fun y => blkOut i x3 x4 x5 x7 ⟨(y 1).val / 64, by have : (y 1).val < 1024 := (y 1).isLt; omega⟩ ⟨(y 1).val % 64, by omega⟩
    ⟨(y 2).val / 64, by have : (y 2).val < 512 := (y 2).isLt; omega⟩ ⟨(y 2).val % 64, by omega⟩

/-- A row of the block, whatever loads read it. -/
theorem row_eq (i : grid0.Coords) (x3 : FVec Ideal S1x1024x512 .bf16) (x4 x5 : FVec Ideal S1x1536x512 .bf16) (x7 : FVec Ideal S60x64x128 .f32)
    (q : Vec Ideal S1x64x512 .bf16) (kv vv : Fin 4 → Vec Ideal S1x512x128 .bf16) (tt : Fin 4 → Fin 8 → Vec Ideal S1x64x128 .f32) (x : Fin 16)
    (hq : ∀ (qc : Fin 64) (l : Fin 512), q (ix3 0 qc l) = x3 (ix3 0 ⟨64 * x.val + qc.val, by omega⟩ l))
    (hk : ∀ (p : Fin 4) (j : Fin 512) (l : Fin 128), kv p (ix3 0 j l) = x4 (ix3 0 ⟨64 * (winRow (imgRow i x.val) - blkRow i) + j.val, by have := win_le i x; omega⟩ ⟨128 * p.val + l.val, by omega⟩))
    (hv : ∀ (p : Fin 4) (j : Fin 512) (l : Fin 128), vv p (ix3 0 j l) = x5 (ix3 0 ⟨64 * (winRow (imgRow i x.val) - blkRow i) + j.val, by have := win_le i x; omega⟩ ⟨128 * p.val + l.val, by omega⟩))
    (ht : ∀ (p : Fin 4) (c : Fin 8) (kc : Fin 64) (l : Fin 128), tt p c (ix3 0 kc l) = x7 (ix3 ⟨15 * p.val + (winRow (imgRow i x.val) + 7 - imgRow i x.val) + c.val, by have := dist_le i x; omega⟩ kc l))
    (qc : Fin 64) (l : Fin 512) :
    rowOut q kv vv tt (ix3 0 qc l) = blkOut i x3 x4 x5 x7 x qc ⟨l.val / 64, by omega⟩ ⟨l.val % 64, by omega⟩ := by
  obtain ⟨p, hp⟩ : ∃ p : Fin 4, p.val = l.val / 128 := ⟨⟨l.val / 128, by omega⟩, rfl⟩
  obtain ⟨hd, hhd⟩ : ∃ hd : Fin 2, hd.val = l.val / 64 % 2 := ⟨⟨l.val / 64 % 2, by omega⟩, rfl⟩
  obtain ⟨d, hd'⟩ : ∃ d : Fin 64, d.val = l.val % 64 := ⟨⟨l.val % 64, by omega⟩, rfl⟩
  have hb : 128 * p.val + (64 * hd.val + d.val) < 512 := by clear hp hhd hd'; omega
  have hl : l = ⟨128 * p.val + (64 * hd.val + d.val), hb⟩ := by
    apply Fin.ext; show l.val = 128 * p.val + (64 * hd.val + d.val); omega
  clear hp hhd hd'
  subst hl
  rw [rowOut_apply]
  have hh : ∀ h : (128 * p.val + (64 * hd.val + d.val)) / 64 < 8, (⟨(128 * p.val + (64 * hd.val + d.val)) / 64, h⟩ : Fin 8) = ⟨2 * p.val + hd.val, by omega⟩ := fun _ => Fin.ext (by simp only; omega)
  have hdd : ∀ h : (128 * p.val + (64 * hd.val + d.val)) % 64 < 64, (⟨(128 * p.val + (64 * hd.val + d.val)) % 64, h⟩ : Fin 64) = d := fun _ => Fin.ext (by simp only; omega)
  simp only [hh, hdd]
  unfold blkOut
  have e1 : ∀ (d : Fin 64) (h : 64 * (2 * p.val + hd.val) + d.val < 512), (⟨64 * (2 * p.val + hd.val) + d.val, h⟩ : Fin 512) = ⟨128 * p.val + (64 * hd.val + d.val), by omega⟩ := fun _ _ => Fin.ext (by simp only; omega)
  congr 1
  · funext j
    unfold rowScore blkScore
    simp only [hq, hk, ht, e1]
    congr 2
    have ea : ∀ (a a' : Fin 60) (b b' : Fin 128), a = a' → b = b' → ix3 a (⟨j.val % 64, by omega⟩ : Fin 64) b = ix3 a' ⟨j.val % 64, by omega⟩ b' := by rintro _ _ _ _ rfl rfl; rfl
    apply ea <;> apply Fin.ext <;> simp only <;> omega
  · funext j
    simp only [hv, e1]

/-- The block at an index told by its row and lane. -/
theorem blk_at (i : grid0.Coords) (x3 : FVec Ideal S1x1024x512 .bf16) (x4 x5 : FVec Ideal S1x1536x512 .bf16) (x7 : FVec Ideal S60x64x128 .f32)
    (z : S1x1024x512.Idx) (x : Fin 16) (qc : Fin 64) (l : Fin 512) (h1 : (z 1).val = 64 * x.val + qc.val) (h2 : (z 2).val = l.val) :
    blk i x3 x4 x5 x7 z = blkOut i x3 x4 x5 x7 x qc ⟨l.val / 64, by omega⟩ ⟨l.val % 64, by omega⟩ := by
  unfold blk
  congr 1 <;> apply Fin.ext <;> simp only [h1, h2] <;> omega

/-- A load of 64 query rows from row `n`. -/
theorem load_q (M : Memref sig .tc .vmem S1x1024x512 .bf16) (hM : M.IsWhole) (x : FVec Ideal S1x1024x512 .bf16) (off : Fin 3 → ℕ)
    (inb : ∀ a, off a + S1x64x512.size a ≤ S1x1024x512.size a) (n : ℕ) (ho : off = ![0, n, 0]) (qc : Fin 64) (l : Fin 512) (hn : n + qc.val < 1024) :
    View.readAt (Elt Ideal) M.view (Rect.unit (s := S1x1024x512) off S1x64x512.size inb).toLoadRect (hM.unread x) (ix3 0 qc l) = x (ix3 0 ⟨n + qc.val, hn⟩ l) := by
  subst ho
  rw [View.readAt_eq_ld, hM.read_unread]
  exact View.ld_unit_apply_of (Val := Elt Ideal) (e := .bf16) (S := S1x1024x512) x ![0, n, 0] S1x64x512.size inb (ix3 0 qc l) (ix3 0 ⟨n + qc.val, hn⟩ l) (fun a => by fin_cases a <;> simp)

/-- A load of a window's keys, or values, from row `n` and column `e`. -/
theorem load_k (M : Memref sig .tc .vmem S1x1536x512 .bf16) (hM : M.IsWhole) (x : FVec Ideal S1x1536x512 .bf16) (off : Fin 3 → ℕ)
    (inb : ∀ a, off a + S1x512x128.size a ≤ S1x1536x512.size a) (n e : ℕ) (ho : off = ![0, n, e]) (j : Fin 512) (l : Fin 128) (hn : n + j.val < 1536) (he : e + l.val < 512) :
    View.readAt (Elt Ideal) M.view (Rect.unit (s := S1x1536x512) off S1x512x128.size inb).toLoadRect (hM.unread x) (ix3 0 j l) = x (ix3 0 ⟨n + j.val, hn⟩ ⟨e + l.val, he⟩) := by
  subst ho
  rw [View.readAt_eq_ld, hM.read_unread]
  exact View.ld_unit_apply_of (Val := Elt Ideal) (e := .bf16) (S := S1x1536x512) x ![0, n, e] S1x512x128.size inb (ix3 0 j l) (ix3 0 ⟨n + j.val, hn⟩ ⟨e + l.val, he⟩) (fun a => by fin_cases a <;> simp)

/-- A load of bias tile `n`. -/
theorem load_t (M : Memref sig .tc .vmem S60x64x128 .f32) (hM : M.IsWhole) (x : FVec Ideal S60x64x128 .f32) (off : Fin 3 → ℕ)
    (inb : ∀ a, off a + S1x64x128.size a ≤ S60x64x128.size a) (n : ℕ) (ho : off = ![n, 0, 0]) (kc : Fin 64) (l : Fin 128) (hn : n < 60) :
    View.readAt (Elt Ideal) M.view (Rect.unit (s := S60x64x128) off S1x64x128.size inb).toLoadRect (hM.unread x) (ix3 0 kc l) = x (ix3 ⟨n, hn⟩ kc l) := by
  subst ho
  rw [View.readAt_eq_ld, hM.read_unread]
  exact View.ld_unit_apply_of (Val := Elt Ideal) (e := .f32) (S := S60x64x128) x ![n, 0, 0] S1x64x128.size inb (ix3 0 kc l) (ix3 ⟨n, hn⟩ kc l) (fun a => by fin_cases a <;> simp)

section Pieces

variable (i : grid0.Coords) (k : Fin k0_t2_loop.trips) (arg3 : Memref sig .tc .vmem S1x1024x512 .bf16) (harg3 : arg3.IsWhole) (arg4 arg5 : Memref sig .tc .vmem S1x1536x512 .bf16) (harg4 : arg4.IsWhole) (harg5 : arg5.IsWhole)
  (arg7 : Memref sig .tc .vmem S60x64x128 .f32) (harg7 : arg7.IsWhole)
  (x3 : FVec Ideal S1x1024x512 .bf16) (x4 x5 : FVec Ideal S1x1536x512 .bf16) (x7 : FVec Ideal S60x64x128 .f32)

theorem trips2 (k : Fin k0_t2_loop.trips) : k.val < 2 := k.isLt

/-- The first row's piece is the block's values there. -/
theorem pieceA_eq (y : (pieceA (F := Ideal) i k arg3 arg4 arg5 arg7 (harg3.unread (Val := Elt Ideal) x3) (harg4.unread (Val := Elt Ideal) x4) (harg5.unread (Val := Elt Ideal) x5) (harg7.unread (Val := Elt Ideal) x7)).1.shape.Idx) :
    (pieceA (F := Ideal) i k arg3 arg4 arg5 arg7 (harg3.unread (Val := Elt Ideal) x3) (harg4.unread (Val := Elt Ideal) x4) (harg5.unread (Val := Elt Ideal) x5) (harg7.unread (Val := Elt Ideal) x7)).2 y
      = blk i x3 x4 x5 x7 ((pieceA (F := Ideal) i k arg3 arg4 arg5 arg7 (harg3.unread (Val := Elt Ideal) x3) (harg4.unread (Val := Elt Ideal) x4) (harg5.unread (Val := Elt Ideal) x5) (harg7.unread (Val := Elt Ideal) x7)).1.emb y) := by
  have hk2 := trips2 k
  have hw := win_le i ⟨8 * k.val, by omega⟩
  have hs := dist_le i ⟨8 * k.val, by omega⟩
  simp only at hw hs
  obtain ⟨h1, h2⟩ := piece_at _ (k0_off15_inb k 0) _ (off15_eq' k 0) y
  have e := row_eq i x3 x4 x5 x7 (qA k arg3 (harg3.unread (Val := Elt Ideal) x3)) (kA i k arg4 (harg4.unread (Val := Elt Ideal) x4)) (kA i k arg5 (harg5.unread (Val := Elt Ideal) x5)) (tA i k arg7 (harg7.unread (Val := Elt Ideal) x7))
    ⟨8 * k.val, by omega⟩
    (fun qc l => load_q arg3 harg3 x3 _ _ _ (off4_eq' k) qc l (by show 64 * (8 * k.val) + qc.val < 1024; omega))
    (fun p j l => match p with
      | 0 => load_k arg4 harg4 x4 _ _ _ _ (off5_eq i k) j l (by show 64 * (winRow (imgRow i (8 * k.val)) - blkRow i) + j.val < 1536; omega) (by omega)
      | 1 => load_k arg4 harg4 x4 _ _ _ _ (off6_eq i k) j l (by show 64 * (winRow (imgRow i (8 * k.val)) - blkRow i) + j.val < 1536; omega) (by omega)
      | 2 => load_k arg4 harg4 x4 _ _ _ _ (off7_eq i k) j l (by show 64 * (winRow (imgRow i (8 * k.val)) - blkRow i) + j.val < 1536; omega) (by omega)
      | 3 => load_k arg4 harg4 x4 _ _ _ _ (off8_eq i k) j l (by show 64 * (winRow (imgRow i (8 * k.val)) - blkRow i) + j.val < 1536; omega) (by omega))
    (fun p j l => match p with
      | 0 => load_k arg5 harg5 x5 _ _ _ _ (off5_eq i k) j l (by show 64 * (winRow (imgRow i (8 * k.val)) - blkRow i) + j.val < 1536; omega) (by omega)
      | 1 => load_k arg5 harg5 x5 _ _ _ _ (off6_eq i k) j l (by show 64 * (winRow (imgRow i (8 * k.val)) - blkRow i) + j.val < 1536; omega) (by omega)
      | 2 => load_k arg5 harg5 x5 _ _ _ _ (off7_eq i k) j l (by show 64 * (winRow (imgRow i (8 * k.val)) - blkRow i) + j.val < 1536; omega) (by omega)
      | 3 => load_k arg5 harg5 x5 _ _ _ _ (off8_eq i k) j l (by show 64 * (winRow (imgRow i (8 * k.val)) - blkRow i) + j.val < 1536; omega) (by omega))
    (fun p c kc l => load_t arg7 harg7 x7 _ _ _ (off14_eq i k p c) kc l (by show 15 * p.val + (winRow (imgRow i (8 * k.val)) + 7 - imgRow i (8 * k.val)) + c.val < 60; omega))
    (y 1) (y 2)
  exact Eq.trans (congrArg _ (row_idx y)) (e.trans (blk_at i x3 x4 x5 x7 _ _ (y 1) (y 2) (h1.trans (by rfl)) h2).symm)

/-- A later row's piece is the block's values there. -/
theorem pieceB_eq (r : Fin 7) (y : (pieceB (F := Ideal) i k arg3 arg4 arg5 arg7 (harg3.unread (Val := Elt Ideal) x3) (harg4.unread (Val := Elt Ideal) x4) (harg5.unread (Val := Elt Ideal) x5) (harg7.unread (Val := Elt Ideal) x7) r).1.shape.Idx) :
    (pieceB (F := Ideal) i k arg3 arg4 arg5 arg7 (harg3.unread (Val := Elt Ideal) x3) (harg4.unread (Val := Elt Ideal) x4) (harg5.unread (Val := Elt Ideal) x5) (harg7.unread (Val := Elt Ideal) x7) r).2 y
      = blk i x3 x4 x5 x7 ((pieceB (F := Ideal) i k arg3 arg4 arg5 arg7 (harg3.unread (Val := Elt Ideal) x3) (harg4.unread (Val := Elt Ideal) x4) (harg5.unread (Val := Elt Ideal) x5) (harg7.unread (Val := Elt Ideal) x7) r).1.emb y) := by
  have hk2 := trips2 k
  have hw := win_le i ⟨8 * k.val + (r.val + 1), by omega⟩
  have hs := dist_le i ⟨8 * k.val + (r.val + 1), by omega⟩
  simp only at hw hs
  obtain ⟨h1, h2⟩ := piece_at _ (k0_off15_inb k r.succ) _ (off15_eq' k r.succ) y
  have e := row_eq i x3 x4 x5 x7 (qB k r arg3 (harg3.unread (Val := Elt Ideal) x3)) (kB i k r arg4 (harg4.unread (Val := Elt Ideal) x4)) (kB i k r arg5 (harg5.unread (Val := Elt Ideal) x5)) (tB i k r arg7 (harg7.unread (Val := Elt Ideal) x7))
    ⟨8 * k.val + (r.val + 1), by omega⟩
    (fun qc l => load_q arg3 harg3 x3 _ _ _ (off9_eq' k r) qc l (by show 64 * (8 * k.val + (r.val + 1)) + qc.val < 1024; omega))
    (fun p j l => match p with
      | 0 => load_k arg4 harg4 x4 _ _ _ _ (off10_eq i k r) j l (by show 64 * (winRow (imgRow i (8 * k.val + (r.val + 1))) - blkRow i) + j.val < 1536; omega) (by omega)
      | 1 => load_k arg4 harg4 x4 _ _ _ _ (off11_eq i k r) j l (by show 64 * (winRow (imgRow i (8 * k.val + (r.val + 1))) - blkRow i) + j.val < 1536; omega) (by omega)
      | 2 => load_k arg4 harg4 x4 _ _ _ _ (off12_eq i k r) j l (by show 64 * (winRow (imgRow i (8 * k.val + (r.val + 1))) - blkRow i) + j.val < 1536; omega) (by omega)
      | 3 => load_k arg4 harg4 x4 _ _ _ _ (off13_eq i k r) j l (by show 64 * (winRow (imgRow i (8 * k.val + (r.val + 1))) - blkRow i) + j.val < 1536; omega) (by omega))
    (fun p j l => match p with
      | 0 => load_k arg5 harg5 x5 _ _ _ _ (off10_eq i k r) j l (by show 64 * (winRow (imgRow i (8 * k.val + (r.val + 1))) - blkRow i) + j.val < 1536; omega) (by omega)
      | 1 => load_k arg5 harg5 x5 _ _ _ _ (off11_eq i k r) j l (by show 64 * (winRow (imgRow i (8 * k.val + (r.val + 1))) - blkRow i) + j.val < 1536; omega) (by omega)
      | 2 => load_k arg5 harg5 x5 _ _ _ _ (off12_eq i k r) j l (by show 64 * (winRow (imgRow i (8 * k.val + (r.val + 1))) - blkRow i) + j.val < 1536; omega) (by omega)
      | 3 => load_k arg5 harg5 x5 _ _ _ _ (off13_eq i k r) j l (by show 64 * (winRow (imgRow i (8 * k.val + (r.val + 1))) - blkRow i) + j.val < 1536; omega) (by omega))
    (fun p c kc l => load_t arg7 harg7 x7 _ _ _ (off16_eq i k p r c) kc l (by show 15 * p.val + (winRow (imgRow i (8 * k.val + (r.val + 1))) + 7 - imgRow i (8 * k.val + (r.val + 1))) + c.val < 60; omega))
    (y 1) (y 2)
  exact Eq.trans (congrArg _ (row_idx y)) (e.trans (blk_at i x3 x4 x5 x7 _ _ (y 1) (y 2) (h1.trans (by rfl)) h2).symm)

end Pieces

end Cert.AttnSampleIdeal.Attn

end
-- ==== Proof.AttnSample.Tile.lean ====
/- The bias tile one trip of the tile loop stores at the long sequence: the tile's formula at the words the trip loads. -/
module

public import proofs.«01_k».proof.Proof.AttnSample.Offsets
public import Idealize.ShloMosaic.Lib.Pointwise

@[expose] public section

set_option maxRecDepth 16384

noncomputable section

namespace Cert.AttnSampleIdeal.Attn

open Cert.AttnSampleIdeal Cert.AttnSampleIdeal.Gen Idealize.ShloMosaic Idealize.ShloMosaic.TcCoe Idealize.ShloMosaic.Tactic

open Cert.KernelIdeal.Attn (tileOf)

section Generic

variable {F : FTy → Type} [FloatOps F] [Named F]

variable (i : grid0.Coords) (h1 : k0_cond1 i = 1#1) (k : Fin k0_t1_loop.trips) (arg2 : Memref sig .tc .smem S3720 .f32) (X : BufTy.Contents (Elt F) arg2.view.ty)

/-- The first head's words. -/
abbrev wordA (n : Fin 31) : Elt F .f32 :=
  View.readAt (Elt F) arg2.view (Rect.unit (s := S3720) (k0_off1 k (BitVec.ofNat 32 n.val)) S1.size (k0_off1_inb i k h1 n)).toLoadRect X (Shape.Idx.first Nat.one_pos)
/-- The second head's words. -/
abbrev wordB (n : Fin 31) : Elt F .f32 :=
  View.readAt (Elt F) arg2.view (Rect.unit (s := S3720) (k0_off2 k (BitVec.ofNat 32 n.val)) S1.size (k0_off2_inb i k h1 n)).toLoadRect X (Shape.Idx.first Nat.one_pos)

/-- What one trip of the tile loop stores. -/
theorem trip_tile (𝒱 : Variants) (c : Dev nD) (bd : Option 𝒱.V) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole) :
    tripL_k0_t1 (F := F) 𝒱 c bd i arg2 harg2 arg3 harg3 arg4 harg4 arg5 harg5 arg6 harg6 arg7 harg7 h1 X k
      = [⟨Rect.unit (s := S60x64x128) (k0_off3 k) S1x64x128.size (k0_off3_inb i k h1), tileOf (wordA i h1 k arg2 X) (wordB i h1 k arg2 X)⟩] := by
  sl_kernel_rfl

end Generic

end Cert.AttnSampleIdeal.Attn

end
-- ==== Proof.AttnSample.Points.lean ====
/- What a grid point leaves at the long sequence, in closed form: its block of the output, and the bias tiles every point reads. -/
module

public import proofs.«01_k».proof.Proof.AttnSample.Block
public import proofs.«01_k».proof.Proof.AttnSample.Tile

@[expose] public section

set_option maxRecDepth 16384

noncomputable section

namespace Cert.AttnSampleIdeal.Attn

open Cert.AttnSampleIdeal Cert.AttnSampleIdeal.Gen Idealize.ShloMosaic Idealize.ShloMosaic.TcCoe Idealize.ShloMosaic.Tactic

open Cert.KernelIdeal.Attn (tileOf tileOf_apply tiles tiles_at)

/-- A word of the table. -/
theorem load_w (M : Memref sig .tc .smem S3720 .f32) (hM : M.IsWhole) (x : FVec Ideal S3720 .f32) (off : Fin 1 → ℕ)
    (inb : ∀ a, off a + S1.size a ≤ S3720.size a) (n : ℕ) (ho : off = ![n]) (hn : n < 3720) :
    View.readAt (Elt Ideal) M.view (Rect.unit (s := S3720) off S1.size inb).toLoadRect (hM.unread (Val := Elt Ideal) x) (Shape.Idx.first Nat.one_pos) = x (ix1 ⟨n, hn⟩) := by
  subst ho
  rw [View.readAt_eq_ld, hM.read_unread]
  exact View.ld_unit_apply_of (Val := Elt Ideal) (e := .f32) (S := S3720) x ![n] S1.size inb _ (ix1 ⟨n, hn⟩) (fun a => by fin_cases a; rfl)

section

variable (c : Dev nD) (i : grid0.Coords) (arg2 : Memref sig .tc .smem S3720 .f32) (harg2 : arg2.IsWhole) (arg3 : Memref sig .tc .vmem S1x1024x512 .bf16) (harg3 : arg3.IsWhole) (arg4 : Memref sig .tc .vmem S1x1536x512 .bf16) (harg4 : arg4.IsWhole) (arg5 : Memref sig .tc .vmem S1x1536x512 .bf16) (harg5 : arg5.IsWhole) (arg6 : Memref sig .tc .vmem S1x1024x512 .bf16) (harg6 : arg6.IsWhole) (arg7 : Memref sig .tc .vmem S60x64x128 .f32) (harg7 : arg7.IsWhole)
  (x0 : FVec Ideal S3720 .f32) (x1 : FVec Ideal S1x1024x512 .bf16) (x2 x3 : FVec Ideal S1x1536x512 .bf16) (xs0 : FVec Ideal S60x64x128 .f32)

theorem t1_lt (k : Fin k0_t1_loop.trips) : k.val < 60 := k.isLt

/-- The tile one trip stores is `tiles` there. -/
theorem tile_piece (h1 : k0_cond1 i = 1#1) (k : Fin k0_t1_loop.trips) (y : (Rect.unit (s := S60x64x128) (k0_off3 k) S1x64x128.size (k0_off3_inb i k h1)).shape.Idx) :
    tileOf (F := Ideal) (wordA i h1 k arg2 (harg2.unread (Val := Elt Ideal) x0)) (wordB i h1 k arg2 (harg2.unread (Val := Elt Ideal) x0)) y
      = tiles x0 ((Rect.unit (s := S60x64x128) (k0_off3 k) S1x64x128.size (k0_off3_inb i k h1)).emb y) := by
  have hk := t1_lt k
  have hy : y = ix3 0 (y 1) (y 2) := by
    funext a; fin_cases a
    · exact Fin.ext (by have : (y 0).val < 1 := (y 0).isLt; show (y 0).val = 0; omega)
    · rfl
    · rfl
  have hc : ∀ a, ((Rect.unit (s := S60x64x128) (k0_off3 k) S1x64x128.size (k0_off3_inb i k h1)).emb y a).val = (![k.val, 0, 0] : Fin 3 → ℕ) a + 1 * (y a).val := fun a => by
    exact congrArg (· + 1 * (y a).val) (congrFun (k0_off3_eq k) a)
  have hy0 : (y 0).val < 1 := (y 0).isLt
  have e0 := hc 0
  have e1 := hc 1
  have e2 := hc 2
  change _ = k.val + 1 * (y 0).val at e0
  change _ = 0 + 1 * (y 1).val at e1
  change _ = 0 + 1 * (y 2).val at e2
  have hA : ∀ n : Fin 31, wordA (F := Ideal) i h1 k arg2 (harg2.unread (Val := Elt Ideal) x0) n = x0 (ix1 ⟨465 * (2 * (k.val / 15)) + 31 * (k.val % 15) + n.val, by omega⟩) :=
    fun n => load_w arg2 harg2 x0 _ _ _ (off1_eq k n) _
  have hB : ∀ n : Fin 31, wordB (F := Ideal) i h1 k arg2 (harg2.unread (Val := Elt Ideal) x0) n = x0 (ix1 ⟨465 * (2 * (k.val / 15) + 1) + 31 * (k.val % 15) + n.val, by omega⟩) :=
    fun n => load_w arg2 harg2 x0 _ _ _ (off2_eq k n) _
  refine (congrArg _ hy).trans ((tileOf_apply _ _ (y 1) (y 2)).trans ?_)
  rw [hA, hB]
  exact (tiles_at x0 _ ⟨k.val, hk⟩ (y 1) (y 2) (e0.trans (by show _ = k.val; omega)) (e1.trans (by omega)) (e2.trans (by omega))).symm

/-- Every piece of the tile loop is `tiles` there. -/
theorem tile_pieces (h1 : k0_cond1 i = 1#1) : ∀ n ≤ k0_t1_loop.trips, ∀ p ∈ pb_k0_t1 (F := Ideal) Variants.none c none i arg2 harg2 arg3 harg3 arg4 harg4 arg5 harg5 arg6 harg6 arg7 harg7 h1 (harg2.unread (Val := Elt Ideal) x0) n,
    ∀ y, p.2 y = tiles x0 (p.1.emb y)
  | 0, _ => fun p hp => absurd hp List.not_mem_nil
  | n + 1, h => fun p hp => by
    rw [pb_k0_t1_succ Variants.none c none i arg2 harg2 arg3 harg3 arg4 harg4 arg5 harg5 arg6 harg6 arg7 harg7 h1 _ ⟨n, h⟩, trip_tile] at hp
    rcases List.mem_append.mp hp with hp | hp
    · rw [List.mem_singleton.mp hp]
      exact tile_piece i arg2 harg2 x0 h1 ⟨n, h⟩
    · exact tile_pieces h1 n (Nat.le_of_succ_le h) p hp

/-- Every piece of the row loop is the block's values there. -/
theorem row_pieces (w1 w2 : BitVec 32) : ∀ n ≤ k0_t2_loop.trips, ∀ p ∈ pb_k0_t2 (F := Ideal) Variants.none c none i arg2 harg2 arg3 harg3 arg4 harg4 arg5 harg5 arg6 harg6 arg7 harg7 w1 w2
      (harg3.unread (Val := Elt Ideal) x1) (harg4.unread (Val := Elt Ideal) x2) (harg5.unread (Val := Elt Ideal) x3) (harg7.unread (Val := Elt Ideal) xs0) n,
    ∀ y, p.2 y = blk i x1 x2 x3 xs0 (p.1.emb y)
  | 0, _ => fun p hp => absurd hp List.not_mem_nil
  | n + 1, h => fun p hp => by
    rw [pb_k0_t2_succ Variants.none c none i arg2 harg2 arg3 harg3 arg4 harg4 arg5 harg5 arg6 harg6 arg7 harg7 w1 w2 _ _ _ _ ⟨n, h⟩, trip_rows] at hp
    rcases List.mem_append.mp hp with hp | hp
    · simp only [List.mem_cons, List.not_mem_nil, or_false] at hp
      rcases hp with rfl | rfl | rfl | rfl | rfl | rfl | rfl | rfl
      · exact pieceB_eq i ⟨n, h⟩ arg3 harg3 arg4 arg5 harg4 harg5 arg7 harg7 x1 x2 x3 xs0 6
      · exact pieceB_eq i ⟨n, h⟩ arg3 harg3 arg4 arg5 harg4 harg5 arg7 harg7 x1 x2 x3 xs0 5
      · exact pieceB_eq i ⟨n, h⟩ arg3 harg3 arg4 arg5 harg4 harg5 arg7 harg7 x1 x2 x3 xs0 4
      · exact pieceB_eq i ⟨n, h⟩ arg3 harg3 arg4 arg5 harg4 harg5 arg7 harg7 x1 x2 x3 xs0 3
      · exact pieceB_eq i ⟨n, h⟩ arg3 harg3 arg4 arg5 harg4 harg5 arg7 harg7 x1 x2 x3 xs0 2
      · exact pieceB_eq i ⟨n, h⟩ arg3 harg3 arg4 arg5 harg4 harg5 arg7 harg7 x1 x2 x3 xs0 1
      · exact pieceB_eq i ⟨n, h⟩ arg3 harg3 arg4 arg5 harg4 harg5 arg7 harg7 x1 x2 x3 xs0 0
      · exact pieceA_eq i ⟨n, h⟩ arg3 harg3 arg4 arg5 harg4 harg5 arg7 harg7 x1 x2 x3 xs0
    · exact row_pieces w1 w2 n (Nat.le_of_succ_le h) p hp

/-- The bias tiles the first point leaves. -/
theorem sout0_A_0_eq (hc0 : cond0_0 i) : sout0_A_0 (F := Ideal) c i arg2 harg2 arg3 harg3 arg4 harg4 arg5 harg5 arg6 harg6 arg7 harg7 hc0 x0 x1 x2 x3 = tiles x0 := by
  funext y
  exact View.read_writes_apply_of_pieces VS0_0 _ (tiles x0) _ (tile_pieces c i arg2 harg2 arg3 harg3 arg4 harg4 arg5 harg5 arg6 harg6 arg7 harg7 x0 hc0 _ le_rfl) y
    (scover0_A_0 (F := Ideal) c i arg2 harg2 arg3 harg3 arg4 harg4 arg5 harg5 arg6 harg6 arg7 harg7 hc0 x0 x1 x2 x3 y)

/-- The block a later point leaves. -/
theorem out0_B_4_eq (hc0 : ¬cond0_0 i) : out0_B_4 (F := Ideal) c i arg2 harg2 arg3 harg3 arg4 harg4 arg5 harg5 arg6 harg6 arg7 harg7 hc0 x0 x1 x2 x3 xs0 = blk i x1 x2 x3 xs0 := by
  have hL : ∃ w1 w2, (runB (F := Ideal) c i arg2 harg2 arg3 harg3 arg4 harg4 arg5 harg5 arg6 harg6 arg7 harg7 hc0 x0 x1 x2 x3 xs0).1
      = pb_k0_t2 (F := Ideal) Variants.none c none i arg2 harg2 arg3 harg3 arg4 harg4 arg5 harg5 arg6 harg6 arg7 harg7 w1 w2
      (harg3.unread (Val := Elt Ideal) x1) (harg4.unread (Val := Elt Ideal) x2) (harg5.unread (Val := Elt Ideal) x3) (harg7.unread (Val := Elt Ideal) xs0) k0_t2_loop.trips := ⟨_, _, rfl⟩
  obtain ⟨w1, w2, hL⟩ := hL
  funext y
  refine View.read_writes_apply_of_pieces VO0_4 _ (blk i x1 x2 x3 xs0) _ ?_ y
    (cover0_B_4 (F := Ideal) c i arg2 harg2 arg3 harg3 arg4 harg4 arg5 harg5 arg6 harg6 arg7 harg7 hc0 x0 x1 x2 x3 xs0 y)
  rw [hL]
  exact row_pieces c i arg2 harg2 arg3 harg3 arg4 harg4 arg5 harg5 arg6 harg6 arg7 harg7 x1 x2 x3 xs0 w1 w2 _ le_rfl

/-- The block the first point leaves. -/
theorem out0_A_4_eq (hc0 : cond0_0 i) : out0_A_4 (F := Ideal) c i arg2 harg2 arg3 harg3 arg4 harg4 arg5 harg5 arg6 harg6 arg7 harg7 hc0 x0 x1 x2 x3 = blk i x1 x2 x3 (tiles x0) := by
  have hL : ∃ w1 w2, (runA (F := Ideal) c i arg2 harg2 arg3 harg3 arg4 harg4 arg5 harg5 arg6 harg6 arg7 harg7 hc0 x0 x1 x2 x3).1
      = pb_k0_t2 (F := Ideal) Variants.none c none i arg2 harg2 arg3 harg3 arg4 harg4 arg5 harg5 arg6 harg6 arg7 harg7 w1 w2
      (harg3.unread (Val := Elt Ideal) x1) (harg4.unread (Val := Elt Ideal) x2) (harg5.unread (Val := Elt Ideal) x3)
      (harg7.unread (Val := Elt Ideal) (sout0_A_0 (F := Ideal) c i arg2 harg2 arg3 harg3 arg4 harg4 arg5 harg5 arg6 harg6 arg7 harg7 hc0 x0 x1 x2 x3)) k0_t2_loop.trips := ⟨_, _, rfl⟩
  obtain ⟨w1, w2, hL⟩ := hL
  rw [sout0_A_0_eq] at hL
  funext y
  refine View.read_writes_apply_of_pieces VO0_4 _ (blk i x1 x2 x3 (tiles x0)) _ ?_ y
    (cover0_A_4 (F := Ideal) c i arg2 harg2 arg3 harg3 arg4 harg4 arg5 harg5 arg6 harg6 arg7 harg7 hc0 x0 x1 x2 x3 y)
  rw [hL]
  exact row_pieces c i arg2 harg2 arg3 harg3 arg4 harg4 arg5 harg5 arg6 harg6 arg7 harg7 x1 x2 x3 (tiles x0) w1 w2 _ le_rfl

end

variable (m : (ℓ : Loc nD τ sig) → Buf (Elt Ideal) ℓ)

/-- The scratch holds the same tiles after every point. -/
theorem scratch_eq (c : Dev nD) : ∀ (n : ℕ) (hn : n < cfg0.N), (outsAt0 (F := Ideal) m c n hn).2 = tiles (iblk m c 0 ⟨0, Nat.lt_of_le_of_lt (Nat.zero_le _) hn⟩)
  | 0, hn => by
    rw [show outsAt0 (F := Ideal) m c 0 hn = _ from outsAt0_A m c ⟨0, hn⟩ (Nat.zero_mod _)]
    exact sout0_A_0_eq ..
  | n + 1, hn => by
    have h16 : cfg0.N = 16 := rfl
    rw [show outsAt0 (F := Ideal) m c (n + 1) hn = _ from outsAt0_B m c ⟨n + 1, hn⟩ (by show ¬ (n + 1) % 16 = 0; omega)]
    exact scratch_eq c n (Nat.lt_of_succ_lt hn)

/-- What a point leaves in its block. -/
theorem point_eq (c : Dev nD) (t : Fin cfg0.N) : (outsAt0 (F := Ideal) m c t.val t.isLt).1
    = blk (grid0.coords t) (iblk m c 1 t) (iblk m c 2 t) (iblk m c 3 t) (tiles (iblk m c 0 ⟨0, Nat.lt_of_le_of_lt (Nat.zero_le _) t.isLt⟩)) := by
  have h16 : cfg0.N = 16 := rfl
  have ht := t.isLt
  by_cases h : t.val % 16 = 0
  · have ht0 : (⟨0, Nat.lt_of_le_of_lt (Nat.zero_le _) t.isLt⟩ : Fin cfg0.N) = t := Fin.ext (by show 0 = t.val; omega)
    rw [outsAt0_A m c _ h, ht0]
    exact out0_A_4_eq ..
  · rw [outsAt0_B m c t h]
    refine (out0_B_4_eq ..).trans ?_
    rw [scratch_eq]

end Cert.AttnSampleIdeal.Attn

end
-- ==== Proof.AttnSample.Array.lean ====
/- The array the attention kernel leaves at the long sequence, element by element, from the launched arrays. -/
module

public import proofs.«01_k».proof.Proof.AttnSample.Points
public import proofs.«01_k».proof.Proof.AttnSample.Frame
public import proofs.«01_k».proof.Proof.Attn.Array
public import Idealize.ShloMosaic.Lib.Claim

@[expose] public section

set_option maxRecDepth 16384

noncomputable section

namespace Cert.AttnSampleIdeal.Attn

open Cert.AttnSampleIdeal Cert.AttnSampleIdeal.Gen Idealize.ShloMosaic Idealize.ShloMosaic.TcCoe Idealize.ShloMosaic.Tactic Idealize.SL.Sem
open Idealize.ShloMosaic.Pipeline (Dat)

open Cert.KernelIdeal.Attn (tiles tiles_pair soft2 qs l2e neg)

/-! ## The formula -/

theorem winRow_le (r : ℕ) : winRow r ≤ 248 := by show min (r - 4) 248 ≤ 248; omega

theorem winDist_le (r : ℕ) (h : r < 256) : winRow r + 7 - r ≤ 7 := by show min (r - 4) 248 + 7 - r ≤ 7; omega

/-- The scaled, biased score the kernel gives key `j` of the window of the query at row `r` and column `qc`. -/
def kScore (Z : S1x16384x1536.Idx → EReal) (T : S3720.Idx → EReal) (b : Fin 1) (r : Fin 256) (qc : Fin 64) (h : Fin 8) (j : Fin 512) : EReal :=
  (∑ d : Fin 64, Z (ix3 b ⟨64 * winRow r.val + j.val, by have := winRow_le r.val; omega⟩ ⟨512 + (64 * h.val + d.val), by omega⟩)
      * (Z (ix3 b ⟨64 * r.val + qc.val, by omega⟩ ⟨64 * h.val + d.val, by omega⟩) * qs))
    + (if min (qc.val - 8) 48 ≤ j.val % 64 ∧ j.val % 64 < min (qc.val - 8) 48 + 16 then
        T (ix1 ⟨465 * h.val + 31 * (winRow r.val + 7 - r.val + j.val / 64) + min (j.val % 64 + 15 - qc.val) 30, by have := winDist_le r.val r.isLt; omega⟩) * l2e
      else neg)

/-- An element of the attention, as the kernel computes it. -/
def kOut (Z : S1x16384x1536.Idx → EReal) (T : S3720.Idx → EReal) (b : Fin 1) (r : Fin 256) (qc : Fin 64) (h : Fin 8) (d : Fin 64) : EReal :=
  soft2 (kScore Z T b r qc h) (fun j => Z (ix3 b ⟨64 * winRow r.val + j.val, by have := winRow_le r.val; omega⟩ ⟨1024 + (64 * h.val + d.val), by omega⟩))

/-- The array the kernel leaves. -/
def kArr (Z : S1x16384x1536.Idx → EReal) (T : S3720.Idx → EReal) : S1x16384x512.Idx → EReal := fun y =>
  kOut Z T ⟨(y 0).val, (y 0).isLt⟩ ⟨(y 1).val / 64, by have : (y 1).val < 16384 := (y 1).isLt; omega⟩ ⟨(y 1).val % 64, by omega⟩
    ⟨(y 2).val / 64, by have : (y 2).val < 512 := (y 2).isLt; omega⟩ ⟨(y 2).val % 64, by omega⟩

/-! ## A block of it -/

theorem win_blk (i : grid0.Coords) (x : Fin 16) : 64 * blkRow i + 64 * (winRow (imgRow i x.val) - blkRow i) = 64 * winRow (imgRow i x.val) := by
  have := col_lt i
  show 64 * min (16 * (i 1).val - 4) 232 + 64 * (min (16 * (i 1).val + x.val - 4) 248 - min (16 * (i 1).val - 4) 232) = 64 * min (16 * (i 1).val + x.val - 4) 248
  omega

theorem blkRow_le (i : grid0.Coords) : blkRow i ≤ 232 := by show min (16 * (i 1).val - 4) 232 ≤ 232; omega

/-- The block a grid point leaves is its block of `kArr`. -/
theorem blk_eq (i : grid0.Coords) (x1 : FVec Ideal S1x1024x512 .bf16) (x2 x3 : FVec Ideal S1x1536x512 .bf16) (Z : S1x16384x1536.Idx → EReal) (T : FVec Ideal S3720 .f32) (b : Fin 1)
    (h1 : ∀ (x : Fin 1024) (l : Fin 512), x1 (ix3 0 x l) = Z (ix3 b ⟨1024 * (i 1).val + x.val, by have := col_lt i; omega⟩ ⟨l.val, by omega⟩))
    (h2 : ∀ (x : Fin 1536) (l : Fin 512), x2 (ix3 0 x l) = Z (ix3 b ⟨64 * blkRow i + x.val, by have := blkRow_le i; omega⟩ ⟨512 + l.val, by omega⟩))
    (h3 : ∀ (x : Fin 1536) (l : Fin 512), x3 (ix3 0 x l) = Z (ix3 b ⟨64 * blkRow i + x.val, by have := blkRow_le i; omega⟩ ⟨1024 + l.val, by omega⟩))
    (y : S1x1024x512.Idx) (z : S1x16384x512.Idx) (hz0 : (z 0).val = b.val) (hz1 : (z 1).val = 1024 * (i 1).val + (y 1).val) (hz2 : (z 2).val = (y 2).val) :
    blk i x1 x2 x3 (tiles T) y = kArr Z T z := by
  have hc := col_lt i
  have hy1 : (y 1).val < 1024 := (y 1).isLt
  have hy2 : (y 2).val < 512 := (y 2).isLt
  unfold blk kArr
  generalize hx : (⟨(y 1).val / 64, by omega⟩ : Fin 16) = x
  generalize hq : (⟨(y 1).val % 64, by omega⟩ : Fin 64) = qc
  generalize hh : (⟨(y 2).val / 64, by omega⟩ : Fin 8) = h
  generalize hd : (⟨(y 2).val % 64, by omega⟩ : Fin 64) = d
  have hxv : x.val = (y 1).val / 64 := by rw [← hx]
  have e0 : (⟨(z 0).val, (z 0).isLt⟩ : Fin 1) = b := Fin.ext hz0
  have e1 : (⟨(z 1).val / 64, by have : (z 1).val < 16384 := (z 1).isLt; omega⟩ : Fin 256) = ⟨imgRow i x.val, by show 16 * (i 1).val + x.val < 256; omega⟩ :=
    Fin.ext (by show (z 1).val / 64 = 16 * (i 1).val + x.val; omega)
  have e2 : (⟨(z 1).val % 64, by omega⟩ : Fin 64) = qc := by rw [← hq]; exact Fin.ext (by show (z 1).val % 64 = (y 1).val % 64; omega)
  have e3 : (⟨(z 2).val / 64, by have : (z 2).val < 512 := (z 2).isLt; omega⟩ : Fin 8) = h := by rw [← hh]; exact Fin.ext (by show (z 2).val / 64 = (y 2).val / 64; omega)
  have e4 : (⟨(z 2).val % 64, by omega⟩ : Fin 64) = d := by rw [← hd]; exact Fin.ext (by show (z 2).val % 64 = (y 2).val % 64; omega)
  rw [e0, e1, e2, e3, e4]
  have hw := win_blk i x
  have hdl := dist_le i x
  unfold blkOut kOut
  refine congrArg₂ soft2 (funext fun j => ?_) (funext fun j => ?_)
  · unfold blkScore kScore
    refine congrArg₂ (· + ·) (Finset.sum_congr rfl fun d _ => ?_) ?_
    · rw [h2, h1]
      refine congrArg₂ (· * ·) (congrArg Z (congrArg (fun n => ix3 b n _) (Fin.ext ?_))) (congrArg (· * qs) (congrArg Z (congrArg (fun n => ix3 b n _) (Fin.ext ?_))))
      · show 64 * blkRow i + (64 * (winRow (imgRow i x.val) - blkRow i) + j.val) = 64 * winRow (imgRow i x.val) + j.val
        omega
      · show 1024 * (i 1).val + (64 * x.val + qc.val) = 64 * (16 * (i 1).val + x.val) + qc.val
        omega
    · have hjj : j.val / 64 < 8 := by omega
      have e : (⟨15 * (h.val / 2) + (winRow (imgRow i x.val) + 7 - imgRow i x.val) + j.val / 64, by omega⟩ : Fin 60)
          = ⟨15 * (h.val / 2) + ((winRow (imgRow i x.val) + 7 - imgRow i x.val) + j.val / 64), by omega⟩ := Fin.ext (by show _ + _ + _ = _ + (_ + _); omega)
      rw [e, tiles_pair T h _ (by omega) ⟨j.val % 64, by omega⟩ qc]
  · rw [h3]
    refine congrArg Z (congrArg (fun n => ix3 b n _) (Fin.ext ?_))
    show 64 * blkRow i + (64 * (winRow (imgRow i x.val) - blkRow i) + j.val) = 64 * winRow (imgRow i x.val) + j.val
    omega

/-! ## The windows' blocks, read -/

variable (m : (ℓ : Loc nD τ sig) → Buf (Elt Ideal) ℓ) (ρ : Dev nD → PrngReg)

/-- The rows of queries, keys and values the call reads. -/
abbrev zv (c : Dev nD) : S1x16384x1536.Idx → EReal := V m c main_v0
/-- The table's words the call reads. -/
abbrev tb (c : Dev nD) : S3720.Idx → EReal := V m c main_v2

theorem idx1 : ∀ t : Fin cfg0.N, win0_1.index t (0 : Fin 3) = (grid0.coords t 0).val ∧ win0_1.index t (1 : Fin 3) = (grid0.coords t 1).val ∧ win0_1.index t (2 : Fin 3) = 0 :=
  (by decide +kernel : ∀ t : Fin grid0.N, _)
theorem off2 : ∀ t : Fin cfg0.N, cc0_transform_2 (grid0.coords t) (0 : Fin 3) = (grid0.coords t 0).val ∧ cc0_transform_2 (grid0.coords t) (1 : Fin 3) = 64 * min (16 * (grid0.coords t 1).val - 4) 232 ∧ cc0_transform_2 (grid0.coords t) (2 : Fin 3) = 512 :=
  (by decide +kernel : ∀ t : Fin grid0.N, _)
theorem off3 : ∀ t : Fin cfg0.N, cc0_transform_3 (grid0.coords t) (0 : Fin 3) = (grid0.coords t 0).val ∧ cc0_transform_3 (grid0.coords t) (1 : Fin 3) = 64 * min (16 * (grid0.coords t 1).val - 4) 232 ∧ cc0_transform_3 (grid0.coords t) (2 : Fin 3) = 1024 :=
  (by decide +kernel : ∀ t : Fin grid0.N, _)
theorem idx4 : ∀ t : Fin cfg0.N, win0_4.index t (0 : Fin 3) = (grid0.coords t 0).val ∧ win0_4.index t (1 : Fin 3) = (grid0.coords t 1).val ∧ win0_4.index t (2 : Fin 3) = 0 :=
  (by decide +kernel : ∀ t : Fin grid0.N, _)

theorem coord0_lt (t : Fin cfg0.N) : (grid0.coords t 0).val < 1 := (grid0.coords t 0).isLt

theorem iblk0_eq (c : Dev nD) (t : Fin cfg0.N) : iblk m c 0 t = tb m c := by
  funext y
  show V m c main_v2 (((cfg0.win 0).blk t).view.emb y) = V m c main_v2 y
  refine congrArg (V m c main_v2) (funext fun a => Fin.ext ?_)
  fin_cases a
  show 0 * 3720 + 1 * (y 0).val = (y 0).val
  omega

theorem iblk1_apply (c : Dev nD) (t : Fin cfg0.N) (x : Fin 1024) (l : Fin 512) :
    (iblk m c 1 t : FVec Ideal S1x1024x512 .bf16) (ix3 0 x l) = zv m c (ix3 ⟨(grid0.coords t 0).val, coord0_lt t⟩ ⟨1024 * (grid0.coords t 1).val + x.val, by have := col_lt (grid0.coords t); omega⟩ ⟨l.val, by omega⟩) := by
  obtain ⟨e0, e1, e2⟩ := idx1 t
  show V m c main_v0 (((cfg0.win 1).blk t).view.emb (ix3 0 x l)) = _
  refine congrArg (V m c main_v0) (funext fun a => Fin.ext ?_)
  match a with
  | ⟨0, _⟩ => show win0_1.index t (0 : Fin 3) * 1 + 1 * 0 = (grid0.coords t 0).val; omega
  | ⟨1, _⟩ => show win0_1.index t (1 : Fin 3) * 1024 + 1 * x.val = 1024 * (grid0.coords t 1).val + x.val; omega
  | ⟨2, _⟩ => show win0_1.index t (2 : Fin 3) * 512 + 1 * l.val = l.val; omega

theorem iblk2_apply (c : Dev nD) (t : Fin cfg0.N) (x : Fin 1536) (l : Fin 512) :
    (iblk m c 2 t : FVec Ideal S1x1536x512 .bf16) (ix3 0 x l) = zv m c (ix3 ⟨(grid0.coords t 0).val, coord0_lt t⟩ ⟨64 * blkRow (grid0.coords t) + x.val, by have := blkRow_le (grid0.coords t); omega⟩ ⟨512 + l.val, by omega⟩) := by
  obtain ⟨e0, e1, e2⟩ := off2 t
  show V m c main_v0 (((cfg0.win 2).blk t).view.emb (ix3 0 x l)) = _
  refine congrArg (V m c main_v0) (funext fun a => Fin.ext ?_)
  match a with
  | ⟨0, _⟩ => show cc0_transform_2 (grid0.coords t) (0 : Fin 3) + 1 * 0 = (grid0.coords t 0).val; omega
  | ⟨1, _⟩ => show cc0_transform_2 (grid0.coords t) (1 : Fin 3) + 1 * x.val = 64 * min (16 * (grid0.coords t 1).val - 4) 232 + x.val; omega
  | ⟨2, _⟩ => show cc0_transform_2 (grid0.coords t) (2 : Fin 3) + 1 * l.val = 512 + l.val; omega

theorem iblk3_apply (c : Dev nD) (t : Fin cfg0.N) (x : Fin 1536) (l : Fin 512) :
    (iblk m c 3 t : FVec Ideal S1x1536x512 .bf16) (ix3 0 x l) = zv m c (ix3 ⟨(grid0.coords t 0).val, coord0_lt t⟩ ⟨64 * blkRow (grid0.coords t) + x.val, by have := blkRow_le (grid0.coords t); omega⟩ ⟨1024 + l.val, by omega⟩) := by
  obtain ⟨e0, e1, e2⟩ := off3 t
  show V m c main_v0 (((cfg0.win 3).blk t).view.emb (ix3 0 x l)) = _
  refine congrArg (V m c main_v0) (funext fun a => Fin.ext ?_)
  match a with
  | ⟨0, _⟩ => show cc0_transform_3 (grid0.coords t) (0 : Fin 3) + 1 * 0 = (grid0.coords t 0).val; omega
  | ⟨1, _⟩ => show cc0_transform_3 (grid0.coords t) (1 : Fin 3) + 1 * x.val = 64 * min (16 * (grid0.coords t 1).val - 4) 232 + x.val; omega
  | ⟨2, _⟩ => show cc0_transform_3 (grid0.coords t) (2 : Fin 3) + 1 * l.val = 1024 + l.val; omega

/-! ## The array -/

/-- What a point writes back is its block of `kArr`. -/
theorem flushed4_eq (c : Dev nD) (t : Fin cfg0.N) (hf : (cfg0.win 4).flush t = true) :
    (dats m 0 c).flushed 4 t = ((cfg0.win 4).blk t).view.read (Elt Ideal) (kArr (zv m c) (tb m c)) := by
  show (cfg0.win 4).cut (grid0.coords t) ((dats m 0 c).after 4 t) = _
  rw [after0_4]
  obtain ⟨e0, e1, e2⟩ := idx4 t
  funext y
  show (outsAt0 m c t.val t.isLt).1 ((cfg0.win 4).xinj (grid0.coords t) y) = kArr (zv m c) (tb m c) (((cfg0.win 4).blk t).view.emb y)
  rw [point_eq, iblk0_eq]
  refine blk_eq _ _ _ _ _ _ ⟨(grid0.coords t 0).val, coord0_lt t⟩ (iblk1_apply m c t) (iblk2_apply m c t) (iblk3_apply m c t) _ _ ?_ ?_ ?_
  · have : (y 0).val < 1 := (y 0).isLt
    show win0_4.index t (0 : Fin 3) * 1 + 1 * (y 0).val = (grid0.coords t 0).val
    omega
  · show win0_4.index t (1 : Fin 3) * 1024 + 1 * (y 1).val = 1024 * (grid0.coords t 1).val + (y 1).val
    omega
  · show win0_4.index t (2 : Fin 3) * 512 + 1 * (y 2).val = (y 2).val
    omega

theorem mem_blk4 (t : Fin cfg0.N) (i : S1x16384x512.Idx) :
    i ∈ ((cfg0.win 4).blk t).view.set ↔ ∀ a : Fin 3, win0_4.index t a * S1x1024x512.size a ≤ (i a).val ∧ (i a).val < win0_4.index t a * S1x1024x512.size a + S1x1024x512.size a := by
  show i ∈ ((View.whole main_v3).slice (win0_4.rect t)).set ↔ _
  rw [View.set_slice_whole, Rect.mem_set_unit]
  exact Iff.rfl

/-- The point that writes block `(q0, q1)`. -/
abbrev ptOf (q0 : Fin 1) (q1 : Fin 16) : Fin grid0.N := ⟨16 * q0.val + q1.val, lt_of_lt_of_eq (by omega) N_0.symm⟩
theorem onto4 : ∀ (q0 : Fin 1) (q1 : Fin 16), win0_4.flush (ptOf q0 q1) = true ∧ win0_4.index (ptOf q0 q1) = ![q0.val, q1.val, 0] :=
  (by decide +kernel : ∀ (q0 : Fin 1) (q1 : Fin 16), win0_4.flush (ptOf q0 q1) = true ∧ win0_4.index (ptOf q0 q1) = ![q0.val, q1.val, 0])

/-- Every index lies in a block some point writes back. -/
theorem cover4 (i : S1x16384x512.Idx) : ∃ t : Fin cfg0.N, (cfg0.win 4).flush t = true ∧ i ∈ ((cfg0.win 4).blk t).view.set := by
  have hi0 : (i 0).val < 1 := (i 0).isLt
  have hi1 : (i 1).val < 16384 := (i 1).isLt
  have hi2 : (i 2).val < 512 := (i 2).isLt
  obtain ⟨hf, ht⟩ := onto4 ⟨(i 0).val, hi0⟩ ⟨(i 1).val / 1024, by omega⟩
  have q0 : win0_4.index (ptOf ⟨(i 0).val, hi0⟩ ⟨(i 1).val / 1024, by omega⟩) (0 : Fin 3) = (i 0).val := congrFun ht 0
  have q1 : win0_4.index (ptOf ⟨(i 0).val, hi0⟩ ⟨(i 1).val / 1024, by omega⟩) (1 : Fin 3) = (i 1).val / 1024 := congrFun ht 1
  have q2 : win0_4.index (ptOf ⟨(i 0).val, hi0⟩ ⟨(i 1).val / 1024, by omega⟩) (2 : Fin 3) = 0 := congrFun ht 2
  refine ⟨ptOf ⟨(i 0).val, hi0⟩ ⟨(i 1).val / 1024, by omega⟩, hf, ?_⟩
  rw [mem_blk4]
  generalize ptOf ⟨(i 0).val, hi0⟩ ⟨(i 1).val / 1024, by omega⟩ = t at *
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 512 ≤ (i 2).val ∧ (i 2).val < win0_4.index t (2 : Fin 3) * 512 + 512; omega

/-- The array after the run. -/
theorem final4 (c : Dev nD) : (dats m 0 c).arrAt 4 cfg0.N = kArr (zv m c) (tb m c) :=
  (dats m 0 c).arrAt_eq_of_cover 4 _ (fun t hf => flushed4_eq m c t hf) cover4

/-- The launched rows. -/
theorem zv_eq (c : Dev nD) : zv m c = m ((c : Thread nD τ).loc main_arg0) := by
  funext y
  show V m c main_v0 y = _
  entry_read
  rfl

/-- The launched table, read flat. -/
theorem tb_apply (c : Dev nD) (h : Fin 8) (e : Fin 15) (f : Fin 31) :
    tb m c (ix1 ⟨465 * h.val + 31 * e.val + f.val, by omega⟩) = m ((c : Thread nD τ).loc main_arg1) (ix4 0 h e f) := by
  show V m c main_v2 _ = _
  entry_read
  pointwise

/-- The run, its result named. -/
theorem run : θ_run defs (onTc (τ := τ) (main (F := Ideal))) ⟨m, fun _ => 0, ρ⟩ fun r => ∀ c : Dev nD,
      r.2.mem ((c : Thread nD τ).loc main_v3) = kArr (zv m c) (tb m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 4).trans (final4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.AttnSampleIdeal.Attn

end
-- ==== Proof.AttnSample.RefIndex.lean ====
/- The reference's index arithmetic at the long sequence: which rows of keys and values, and which words of the table, its gathers read. -/
module

public import proofs.«01_k».proof.Proof.Gen.AttnSampleReferenceIdeal.Read
public import Idealize.ShloMosaic.Lib.Pointwise

@[expose] public section

set_option maxRecDepth 16384

noncomputable section

namespace Cert.AttnSampleReferenceIdeal.Attn

open Cert.AttnSampleReferenceIdeal Cert.AttnSampleReferenceIdeal.Gen Cert.AttnSampleReferenceIdeal.Read Idealize.ShloMosaic Idealize.ShloMosaic.TcCoe Idealize.ShloMosaic.Tactic

/-- The gather of key rows, at an index. -/
theorem rows_apply {α : Type} (x : S1x256x64x8x64.Idx → α) (idx : IVec S256x8x1 32) (b : Fin 1) (r : Fin 256) (i : Fin 8) (kc : Fin 64) (h : Fin 8) (d : Fin 64) (n : Fin 256)
    (hn : min (idx (ix3 r i 0)).toInt.toNat 255 = n.val) :
    Host.gather gather_S1x256x64x8x64_S256x8x1_S1x256x8x64x8x64_0345_1_n_n_1_2_1164864 x idx (ix6 b r i kc h d) = x (ix5 b n kc h d) := by
  unfold Host.gather
  congr 1
  funext a
  refine Fin.ext ?_
  generalize hg : gather_S1x256x64x8x64_S256x8x1_S1x256x8x64x8x64_0345_1_n_n_1_2_1164864 = g
  show g.start (ix6 b r i kc h d) idx a + g.batchCoord (ix6 b r i kc h d) a + g.offCoord (ix6 b r i kc h d) a = _
  subst hg
  match a with
  | ⟨0, _⟩ => exact (Nat.zero_add _)
  | ⟨1, _⟩ =>
    show _ = n.val
    have hsi : ∀ q, q.val = 0 → gather_S1x256x64x8x64_S256x8x1_S1x256x8x64x8x64_0345_1_n_n_1_2_1164864.siIdx (ix6 b r i kc h d) q = ix3 r i 0 := fun q hq => by
      funext b; refine Fin.ext ?_
      match b with
      | ⟨0, _⟩ => rfl
      | ⟨1, _⟩ => rfl
      | ⟨2, _⟩ => exact hq
    rw [← hn, ← hsi ⟨0, by decide⟩ rfl]
    rfl
  | ⟨2, _⟩ => exact (Nat.zero_add _)
  | ⟨3, _⟩ => exact (Nat.zero_add _)
  | ⟨4, _⟩ => exact (Nat.zero_add _)

/-- The gather of the table's words, at an index. -/
theorem words_apply {α : Type} (x : S8x15x31.Idx → α) (idx : IVec S256x64x8x64x2 32) (h : Fin 8) (r : Fin 256) (qc : Fin 64) (i : Fin 8) (kc : Fin 64) (e : Fin 15) (f : Fin 31)
    (he : min (idx (ix5 r qc i kc 0)).toInt.toNat 14 = e.val) (hf : min (idx (ix5 r qc i kc 1)).toInt.toNat 30 = f.val) :
    Host.gather gather_S8x15x31_S256x64x8x64x2_S8x256x64x8x64_0_12_n_n_12_4_811 x idx (ix5 h r qc i kc) = x (ix3 h e f) := by
  unfold Host.gather
  congr 1
  funext a
  refine Fin.ext ?_
  generalize hg : gather_S8x15x31_S256x64x8x64x2_S8x256x64x8x64_0_12_n_n_12_4_811 = g
  show g.start (ix5 h r qc i kc) idx a + g.batchCoord (ix5 h r qc i kc) a + g.offCoord (ix5 h r qc i kc) a = _
  subst hg
  match a with
  | ⟨0, _⟩ => exact (Nat.zero_add _)
  | ⟨1, _⟩ =>
    show _ = e.val
    have hsi : ∀ q, q.val = 0 → gather_S8x15x31_S256x64x8x64x2_S8x256x64x8x64_0_12_n_n_12_4_811.siIdx (ix5 h r qc i kc) q = ix5 r qc i kc 0 := fun q hq => by
      funext b; refine Fin.ext ?_
      match b with
      | ⟨0, _⟩ => rfl
      | ⟨1, _⟩ => rfl
      | ⟨2, _⟩ => rfl
      | ⟨3, _⟩ => rfl
      | ⟨4, _⟩ => exact hq
    rw [← he, ← hsi ⟨0, by decide⟩ rfl]
    rfl
  | ⟨2, _⟩ =>
    show _ = f.val
    have hsi : ∀ q, q.val = 1 → gather_S8x15x31_S256x64x8x64x2_S8x256x64x8x64_0_12_n_n_12_4_811.siIdx (ix5 h r qc i kc) q = ix5 r qc i kc 1 := fun q hq => by
      funext b; refine Fin.ext ?_
      match b with
      | ⟨0, _⟩ => rfl
      | ⟨1, _⟩ => rfl
      | ⟨2, _⟩ => rfl
      | ⟨3, _⟩ => rfl
      | ⟨4, _⟩ => exact hq
    rw [← hf, ← hsi ⟨1, by decide⟩ rfl]
    rfl

theorem key_row (r : Fin 256) (i : Fin 8) : min ((val_main_v22 (F := Ideal)) (ix3 r i 0)).toInt.toNat 255 = min (r.val - 4) 248 + i.val := by
  revert r i; decide +kernel

theorem val_row (r : Fin 256) (i : Fin 8) : min ((val_main_v29 (F := Ideal)) (ix3 r i 0)).toInt.toNat 255 = min (r.val - 4) 248 + i.val := by
  revert r i; decide +kernel

theorem row_dist (r : Fin 256) (i : Fin 8) : min ((val_main_v67 (F := Ideal)) (ix4 r 0 i 0)).toInt.toNat 14 = min (r.val - 4) 248 + 7 - r.val + i.val := by
  revert r i; decide +kernel

theorem col_dist (qc kc : Fin 64) : min ((val_main_v72 (F := Ideal)) (ix4 0 qc 0 kc)).toInt.toNat 30 = min (kc.val + 15 - qc.val) 30 := by
  revert qc kc; decide +kernel

theorem col_mask (qc kc : Fin 64) : (val_main_v47 (F := Ideal)) (ix2 qc kc) = if min (qc.val - 8) 48 ≤ kc.val ∧ kc.val < min (qc.val - 8) 48 + 16 then 1#1 else 0#1 := by
  revert qc kc; decide +kernel

end Cert.AttnSampleReferenceIdeal.Attn

end
-- ==== Proof.AttnSample.RefValue.lean ====
/- The reference's attention at the long sequence, element by element. -/
module

public import proofs.«01_k».proof.Proof.AttnSample.RefIndex
public import proofs.«01_k».proof.Proof.Attn.RefValue
public import Idealize.ShloMosaic.Lib.ValueIdxRank6
public import Idealize.ShloMosaic.Lib.TwoAxisContraction

@[expose] public section

set_option maxRecDepth 16384

noncomputable section

namespace Cert.AttnSampleReferenceIdeal.Attn

open Cert.AttnSampleReferenceIdeal Cert.AttnSampleReferenceIdeal.Gen Cert.AttnSampleReferenceIdeal.Read Idealize.ShloMosaic Idealize.ShloMosaic.TcCoe Idealize.ShloMosaic.Tactic

/-- The scaled, biased, masked score the reference gives key `j` of the window of the query at row `r` and column `qc`. -/
def rScore (Z : S1x16384x1536.Idx → EReal) (B : S1x8x15x31.Idx → EReal) (b : Fin 1) (r : Fin 256) (qc : Fin 64) (h : Fin 8) (j : Fin 512) : EReal :=
  if min (qc.val - 8) 48 ≤ j.val % 64 ∧ j.val % 64 < min (qc.val - 8) 48 + 16 then
    (∑ d : Fin 64, Z (ix3 b ⟨64 * r.val + qc.val, by omega⟩ ⟨64 * h.val + d.val, by omega⟩)
      * Z (ix3 b ⟨64 * min (r.val - 4) 248 + j.val, by omega⟩ ⟨512 + (64 * h.val + d.val), by omega⟩)) * ((8⁻¹ : ℝ) : EReal)
    + B (ix4 0 h ⟨min (r.val - 4) 248 + 7 - r.val + j.val / 64, by omega⟩ ⟨min (j.val % 64 + 15 - qc.val) 30, by omega⟩)
  else ⊥

/-- An element of the attention, as the reference computes it: each probability its own quotient. -/
def rOut (Z : S1x16384x1536.Idx → EReal) (B : S1x8x15x31.Idx → EReal) (b : Fin 1) (r : Fin 256) (qc : Fin 64) (h : Fin 8) (d : Fin 64) : EReal :=
  ∑ j : Fin 512, Z (ix3 b ⟨64 * min (r.val - 4) 248 + j.val, by omega⟩ ⟨1024 + (64 * h.val + d.val), by omega⟩)
    * Ideal.div (Ideal.exp (rScore Z B b r qc h j - Finset.univ.sup (rScore Z B b r qc h))) (∑ k, Ideal.exp (rScore Z B b r qc h k - Finset.univ.sup (rScore Z B b r qc h)))

variable (x0 : (⟨S1x16384x1536, .f32⟩ : BufTy).Contents (Elt Ideal)) (x1 : (⟨S1x8x15x31, .f32⟩ : BufTy).Contents (Elt Ideal))

open Cert.ReferenceIdeal.Attn (neg_inf eighth zero_bits sum_keys)

theorem query_apply (b : Fin 1) (r : Fin 256) (qc : Fin 64) (h : Fin 8) (d : Fin 64) :
    val_main_v4 (F := Ideal) x0 (ix5 b r qc h d) = x0 (ix3 b ⟨64 * r.val + qc.val, by omega⟩ ⟨64 * h.val + d.val, by omega⟩) := by
  obtain rfl : b = 0 := Subsingleton.elim b 0
  rw [val_main_v4_apply, val_main_v1_apply]
  refine congrArg x0 (funext fun a => Fin.ext ?_)
  match a with
  | ⟨0, _⟩ => rfl
  | ⟨1, _⟩ => show (((((0 : Fin 1).val * 256 + r.val) * 64 + qc.val) * 8 + h.val) * 64 + d.val) / 512 % 16384 = 64 * r.val + qc.val; omega
  | ⟨2, _⟩ => show (((((0 : Fin 1).val * 256 + r.val) * 64 + qc.val) * 8 + h.val) * 64 + d.val) % 512 = 64 * h.val + d.val; omega

theorem key_apply (b : Fin 1) (r : Fin 256) (i : Fin 8) (kc : Fin 64) (h : Fin 8) (d : Fin 64) :
    val_main_v23 (F := Ideal) x0 (ix6 b r i kc h d) = x0 (ix3 b ⟨64 * min (r.val - 4) 248 + (64 * i.val + kc.val), by omega⟩ ⟨512 + (64 * h.val + d.val), by omega⟩) := by
  obtain rfl : b = 0 := Subsingleton.elim b 0
  unfold val_main_v23
  rw [rows_apply _ _ 0 r i kc h d ⟨min (r.val - 4) 248 + i.val, by omega⟩ (key_row r i), val_main_v5_apply, val_main_v2_apply]
  refine congrArg x0 (funext fun a => Fin.ext ?_)
  match a with
  | ⟨0, _⟩ => rfl
  | ⟨1, _⟩ => show (((((0 : Fin 1).val * 256 + (min (r.val - 4) 248 + i.val)) * 64 + kc.val) * 8 + h.val) * 64 + d.val) / 512 % 16384 = 64 * min (r.val - 4) 248 + (64 * i.val + kc.val); omega
  | ⟨2, _⟩ => show 512 + (((((0 : Fin 1).val * 256 + (min (r.val - 4) 248 + i.val)) * 64 + kc.val) * 8 + h.val) * 64 + d.val) % 512 = 512 + (64 * h.val + d.val); omega

theorem value_apply (b : Fin 1) (r : Fin 256) (i : Fin 8) (kc : Fin 64) (h : Fin 8) (d : Fin 64) :
    val_main_v30 (F := Ideal) x0 (ix6 b r i kc h d) = x0 (ix3 b ⟨64 * min (r.val - 4) 248 + (64 * i.val + kc.val), by omega⟩ ⟨1024 + (64 * h.val + d.val), by omega⟩) := by
  obtain rfl : b = 0 := Subsingleton.elim b 0
  unfold val_main_v30
  rw [rows_apply _ _ 0 r i kc h d ⟨min (r.val - 4) 248 + i.val, by omega⟩ (val_row r i), val_main_v6_apply, val_main_v3_apply]
  refine congrArg x0 (funext fun a => Fin.ext ?_)
  match a with
  | ⟨0, _⟩ => rfl
  | ⟨1, _⟩ => show (((((0 : Fin 1).val * 256 + (min (r.val - 4) 248 + i.val)) * 64 + kc.val) * 8 + h.val) * 64 + d.val) / 512 % 16384 = 64 * min (r.val - 4) 248 + (64 * i.val + kc.val); omega
  | ⟨2, _⟩ => show 1024 + (((((0 : Fin 1).val * 256 + (min (r.val - 4) 248 + i.val)) * 64 + kc.val) * 8 + h.val) * 64 + d.val) % 512 = 1024 + (64 * h.val + d.val); omega

theorem table_apply (h : Fin 8) (e : Fin 15) (f : Fin 31) : val_main_v0 (F := Ideal) x1 (ix3 h e f) = x1 (ix4 0 h e f) := by
  rw [val_main_v0_apply]
  refine congrArg x1 (funext fun a => Fin.ext ?_)
  match a with
  | ⟨0, _⟩ => rfl
  | ⟨1, _⟩ => show ((h.val * 15 + e.val) * 31 + f.val) / 465 % 8 = h.val; omega
  | ⟨2, _⟩ => show ((h.val * 15 + e.val) * 31 + f.val) / 31 % 15 = e.val; omega
  | ⟨3, _⟩ => show ((h.val * 15 + e.val) * 31 + f.val) % 31 = f.val; omega

theorem word0 (r : Fin 256) (qc : Fin 64) (i : Fin 8) (kc : Fin 64) : val_main_v77 (F := Ideal) (ix5 r qc i kc 0) = val_main_v67 (F := Ideal) (ix4 r 0 i 0) := by
  unfold val_main_v77
  rw [concatenate_pair_apply_left 4 (val_main_v75 (F := Ideal)) (val_main_v76 (F := Ideal)) concatenates_S256x64x8x64x1_S256x64x8x64x1_S256x64x8x64x2_d4 (ix5 r qc i kc 0) rfl (ix5 r qc i kc 0) (fun b => by fin_cases b <;> rfl),
    val_main_v75_apply, val_main_v73_apply]
  refine congrArg (val_main_v67 (F := Ideal)) (funext fun a => Fin.ext ?_)
  match a with
  | ⟨0, _⟩ => rfl
  | ⟨1, _⟩ => rfl
  | ⟨2, _⟩ => rfl
  | ⟨3, _⟩ => rfl

theorem word1 (r : Fin 256) (qc : Fin 64) (i : Fin 8) (kc : Fin 64) : val_main_v77 (F := Ideal) (ix5 r qc i kc 1) = val_main_v72 (F := Ideal) (ix4 0 qc 0 kc) := by
  unfold val_main_v77
  rw [concatenate_pair_apply_right 4 (val_main_v75 (F := Ideal)) (val_main_v76 (F := Ideal)) concatenates_S256x64x8x64x1_S256x64x8x64x1_S256x64x8x64x2_d4 (ix5 r qc i kc 1) rfl rfl (ix5 r qc i kc 0) (fun b hb => by fin_cases b <;> first | rfl | exact absurd rfl hb) rfl,
    val_main_v76_apply, val_main_v74_apply]
  refine congrArg (val_main_v72 (F := Ideal)) (funext fun a => Fin.ext ?_)
  match a with
  | ⟨0, _⟩ => rfl
  | ⟨1, _⟩ => rfl
  | ⟨2, _⟩ => rfl
  | ⟨3, _⟩ => rfl

theorem bias_apply (h : Fin 8) (r : Fin 256) (qc : Fin 64) (i : Fin 8) (kc : Fin 64) :
    val_main_v78 (F := Ideal) x1 (ix5 h r qc i kc) = x1 (ix4 0 h ⟨min (r.val - 4) 248 + 7 - r.val + i.val, by omega⟩ ⟨min (kc.val + 15 - qc.val) 30, by omega⟩) := by
  unfold val_main_v78
  rw [words_apply _ _ h r qc i kc ⟨min (r.val - 4) 248 + 7 - r.val + i.val, by omega⟩ ⟨min (kc.val + 15 - qc.val) 30, by omega⟩
    (by rw [word0]; exact row_dist r i) (by rw [word1]; exact col_dist qc kc), table_apply]

theorem score_apply (b : Fin 1) (r : Fin 256) (h : Fin 8) (qc : Fin 64) (i : Fin 8) (kc : Fin 64) (j : Fin 512) (hj : j.val = 64 * i.val + kc.val) :
    val_main_v86 (F := Ideal) x0 x1 (ix6 b r h qc i kc) = rScore x0 x1 b r qc h j := by
  obtain rfl : b = 0 := Subsingleton.elim b 0
  have hb : 64 * i.val + kc.val < 512 := by have := i.isLt; have := kc.isLt; clear hj; omega
  obtain rfl : j = ⟨64 * i.val + kc.val, hb⟩ := Fin.ext hj
  have em : val_main_call3_v1 (F := Ideal) (ix6 0 r h qc i kc) = (if min (qc.val - 8) 48 ≤ kc.val ∧ kc.val < min (qc.val - 8) 48 + 16 then 1#1 else 0#1 : BitVec 1) := by
    rw [val_main_call3_v1_apply, val_main_v85_apply, ← col_mask qc kc]
    refine congrArg (val_main_v47 (F := Ideal)) (funext fun a => Fin.ext ?_)
    match a with
    | ⟨0, _⟩ => rfl
    | ⟨1, _⟩ => rfl
  have eb : val_main_v83 (F := Ideal) x1 (ix6 0 r h qc i kc) = x1 (ix4 0 h ⟨min (r.val - 4) 248 + 7 - r.val + i.val, by omega⟩ ⟨min (kc.val + 15 - qc.val) 30, by omega⟩) := by
    rw [val_main_v83_apply, val_main_v79_apply, ← bias_apply x1 h r qc i kc]
    refine congrArg (val_main_v78 (F := Ideal) x1) (funext fun a => Fin.ext ?_)
    match a with
    | ⟨0, _⟩ => rfl
    | ⟨1, _⟩ => rfl
    | ⟨2, _⟩ => rfl
    | ⟨3, _⟩ => rfl
    | ⟨4, _⟩ => rfl
  have ed : val_main_v80 (F := Ideal) x0 (ix6 0 r h qc i kc) = ∑ d : Fin 64, x0 (ix3 0 ⟨64 * r.val + qc.val, by omega⟩ ⟨64 * h.val + d.val, by omega⟩)
      * x0 (ix3 0 ⟨64 * min (r.val - 4) 248 + (64 * i.val + kc.val), by omega⟩ ⟨512 + (64 * h.val + d.val), by omega⟩) := by
    rw [val_main_v80_apply]
    refine Finset.sum_congr rfl fun d _ => ?_
    rw [← query_apply x0 0 r qc h d, ← key_apply x0 0 r i kc h d]
    refine congrArg₂ (· * ·) (congrArg (val_main_v4 (F := Ideal) x0) (funext fun a => Fin.ext ?_)) (congrArg (val_main_v23 (F := Ideal) x0) (funext fun a => Fin.ext ?_))
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
      | ⟨2, _⟩ => rfl
      | ⟨3, _⟩ => rfl
      | ⟨4, _⟩ => rfl
      | ⟨5, _⟩ => rfl
  have e8 : val_main_v81 (F := Ideal) (ix6 0 r h qc i kc) = ((8⁻¹ : ℝ) : EReal) := by
    rw [val_main_v81_apply, val_main_cst_apply, eighth]
  have en : val_main_call3_v2 (F := Ideal) (ix6 0 r h qc i kc) = (⊥ : EReal) := by
    rw [val_main_call3_v2_apply, val_main_call3_v0_apply, val_main_cst_18_apply, neg_inf]
  rw [val_main_v86_apply, em, en, val_main_v84_apply, val_main_v82_apply, ed, e8, eb]
  unfold rScore
  have h1 : (64 * i.val + kc.val) % 64 = kc.val := by omega
  have h2 : (64 * i.val + kc.val) / 64 = i.val := by omega
  simp only [h1, h2]
  split <;> rfl

theorem flat_apply (b : Fin 1) (r : Fin 256) (h : Fin 8) (qc : Fin 64) (j : Fin 512) :
    val_main_v87 (F := Ideal) x0 x1 (ix5 b r h qc j) = rScore x0 x1 b r qc h j := by
  obtain rfl : b = 0 := Subsingleton.elim b 0
  unfold val_main_v87
  rw [← score_apply x0 x1 0 r h qc ⟨j.val / 64, by omega⟩ ⟨j.val % 64, by omega⟩ j (by show j.val = 64 * (j.val / 64) + j.val % 64; omega)]
  refine shapeCast_apply _ shapeCasts_S1x256x8x64x8x64_S1x256x8x64x512 _ _ ?_
  rw [Shape.rowMajor_val_six, Shape.rowMajor_val_five]
  show (((((0 : Fin 1).val * 256 + r.val) * 8 + h.val) * 64 + qc.val) * 8 + j.val / 64) * 64 + j.val % 64 = ((((0 : Fin 1).val * 256 + r.val) * 8 + h.val) * 64 + qc.val) * 512 + j.val
  omega

theorem max_apply (b : Fin 1) (r : Fin 256) (h : Fin 8) (qc : Fin 64) :
    val_main_v90 (F := Ideal) x0 x1 (ix4 b r h qc) = Finset.univ.sup (rScore x0 x1 b r qc h) := by
  obtain rfl : b = 0 := Subsingleton.elim b 0
  have e : val_main_v88 (F := Ideal) x0 x1 (ix4 0 r h qc) = Finset.univ.sup (rScore x0 x1 0 r qc h) := by
    unfold val_main_v88
    pointwise
    rw [val_main_cst_19_apply, neg_inf]
    refine Finset.sup_congr rfl fun j _ => ?_
    exact flat_apply x0 x1 0 r h qc j
  rw [val_main_v90_apply, e, val_main_v89_apply, val_main_cst_20_apply, neg_inf]
  exact max_eq_right bot_le

theorem exp_apply (b : Fin 1) (r : Fin 256) (h : Fin 8) (qc : Fin 64) (j : Fin 512) :
    val_main_v94 (F := Ideal) x0 x1 (ix5 b r h qc j) = Ideal.exp (rScore x0 x1 b r qc h j - Finset.univ.sup (rScore x0 x1 b r qc h)) := by
  obtain rfl : b = 0 := Subsingleton.elim b 0
  have e : val_main_v92 (F := Ideal) x0 x1 (ix5 0 r h qc j) = Finset.univ.sup (rScore x0 x1 0 r qc h) := by
    rw [val_main_v92_apply, val_main_v91_apply, ← max_apply x0 x1 0 r h qc]
    refine congrArg (val_main_v90 (F := Ideal) x0 x1) (funext fun a => Fin.ext ?_)
    match a with
    | ⟨0, _⟩ => rfl
    | ⟨1, _⟩ => rfl
    | ⟨2, _⟩ => rfl
    | ⟨3, _⟩ => rfl
  rw [val_main_v94_apply, val_main_v93_apply, e, flat_apply]
  rfl

theorem total_apply (b : Fin 1) (r : Fin 256) (h : Fin 8) (qc : Fin 64) (j : Fin 512) :
    val_main_v97 (F := Ideal) x0 x1 (ix5 b r h qc j) = ∑ k, Ideal.exp (rScore x0 x1 b r qc h k - Finset.univ.sup (rScore x0 x1 b r qc h)) := by
  obtain rfl : b = 0 := Subsingleton.elim b 0
  rw [val_main_v97_apply, val_main_v96_apply, val_main_v95_apply, val_main_cst_21_apply, zero_bits, zero_add]
  refine Finset.sum_congr rfl fun k _ => ?_
  rw [← exp_apply x0 x1 0 r h qc k]
  refine congrArg (val_main_v94 (F := Ideal) x0 x1) (funext fun a => Fin.ext ?_)
  match a with
  | ⟨0, _⟩ => rfl
  | ⟨1, _⟩ => rfl
  | ⟨2, _⟩ => rfl
  | ⟨3, _⟩ => rfl
  | ⟨4, _⟩ => rfl

theorem prob_apply (b : Fin 1) (r : Fin 256) (h : Fin 8) (qc : Fin 64) (i : Fin 8) (kc : Fin 64) (j : Fin 512) (hj : j.val = 64 * i.val + kc.val) :
    val_main_v99 (F := Ideal) x0 x1 (ix6 b r h qc i kc)
      = Ideal.div (Ideal.exp (rScore x0 x1 b r qc h j - Finset.univ.sup (rScore x0 x1 b r qc h))) (∑ k, Ideal.exp (rScore x0 x1 b r qc h k - Finset.univ.sup (rScore x0 x1 b r qc h))) := by
  obtain rfl : b = 0 := Subsingleton.elim b 0
  have e : val_main_v99 (F := Ideal) x0 x1 (ix6 0 r h qc i kc) = val_main_v98 (F := Ideal) x0 x1 (ix5 0 r h qc j) := by
    unfold val_main_v99
    refine shapeCast_apply _ shapeCasts_S1x256x8x64x512_S1x256x8x64x8x64 _ _ ?_
    rw [Shape.rowMajor_val_six, Shape.rowMajor_val_five]
    show ((((0 : Fin 1).val * 256 + r.val) * 8 + h.val) * 64 + qc.val) * 512 + j.val = (((((0 : Fin 1).val * 256 + r.val) * 8 + h.val) * 64 + qc.val) * 8 + i.val) * 64 + kc.val
    omega
  rw [e, val_main_v98_apply, exp_apply, total_apply]
  rfl

/-- The second contraction, over the window's rows and columns. -/
theorem mix_apply (b : Fin 1) (r : Fin 256) (h : Fin 8) (d qc : Fin 64) :
    val_main_v100 (F := Ideal) x0 x1 (ix5 b r h d qc) = ∑ i : Fin 8, ∑ kc : Fin 64, val_main_v30 (F := Ideal) x0 (ix6 b r i kc h d) * val_main_v99 (F := Ideal) x0 x1 (ix6 b r h qc i kc) := by
  obtain rfl : b = 0 := Subsingleton.elim b 0
  unfold val_main_v100
  generalize val_main_v30 (F := Ideal) x0 = L
  generalize val_main_v99 (F := Ideal) x0 x1 = R
  simp only [Host.dotGeneral]
  rw [Ideal.dotGeneral_apply, ValueIdx.sum_contr2 dot_S1x256x8x64x8x64_S1x256x8x64x8x64_S1x256x8x64x64_23_45_5_3_014_012 8 64 rfl rfl rfl]
  refine Finset.sum_congr rfl fun i _ => Finset.sum_congr rfl fun kc _ => ?_
  have h0 := ValueIdx.contrEquiv2_symm_val0 dot_S1x256x8x64x8x64_S1x256x8x64x8x64_S1x256x8x64x64_23_45_5_3_014_012 8 64 rfl rfl rfl (i, kc)
  have h1 := ValueIdx.contrEquiv2_symm_val1 dot_S1x256x8x64x8x64_S1x256x8x64x8x64_S1x256x8x64x64_23_45_5_3_014_012 8 64 rfl rfl rfl (i, kc)
  generalize (ValueIdx.contrEquiv2 dot_S1x256x8x64x8x64_S1x256x8x64x8x64_S1x256x8x64x64_23_45_5_3_014_012 8 64 rfl rfl rfl).symm (i, kc) = q at h0 h1
  refine congrArg₂ (· * ·) (congrArg L (funext fun a => Fin.ext ?_)) (congrArg R (funext fun a => Fin.ext ?_))
  · match a with
    | ⟨0, _⟩ => rfl
    | ⟨1, _⟩ => rfl
    | ⟨2, _⟩ => exact h0
    | ⟨3, _⟩ => exact h1
    | ⟨4, _⟩ => rfl
    | ⟨5, _⟩ => rfl
  · match a with
    | ⟨0, _⟩ => rfl
    | ⟨1, _⟩ => rfl
    | ⟨2, _⟩ => rfl
    | ⟨3, _⟩ => rfl
    | ⟨4, _⟩ => exact h0
    | ⟨5, _⟩ => exact h1

/-- The array the reference leaves. -/
theorem result_apply (b : Fin 1) (r : Fin 256) (qc : Fin 64) (h : Fin 8) (d : Fin 64) (y : S1x16384x512.Idx) (h0 : (y 0).val = b.val) (h1 : (y 1).val = 64 * r.val + qc.val) (h2 : (y 2).val = 64 * h.val + d.val) :
    val_main_v103 (F := Ideal) x0 x1 y = rOut x0 x1 b r qc h d := by
  obtain rfl : b = 0 := Subsingleton.elim b 0
  have e : val_main_v102 (F := Ideal) x0 x1 y = val_main_v100 (F := Ideal) x0 x1 (ix5 0 r h d qc) := by
    rw [val_main_v102_apply, val_main_v101_apply]
    refine congrArg (val_main_v100 (F := Ideal) x0 x1) (funext fun a => Fin.ext ?_)
    match a with
    | ⟨0, _⟩ => rfl
    | ⟨1, _⟩ => show (((y 0).val * 16384 + (y 1).val) * 512 + (y 2).val) / 32768 % 256 = r.val; omega
    | ⟨2, _⟩ => show (((y 0).val * 16384 + (y 1).val) * 512 + (y 2).val) / 64 % 8 = h.val; omega
    | ⟨3, _⟩ => show (((y 0).val * 16384 + (y 1).val) * 512 + (y 2).val) % 64 = d.val; omega
    | ⟨4, _⟩ => show (((y 0).val * 16384 + (y 1).val) * 512 + (y 2).val) / 512 % 64 = qc.val; omega
  show val_main_v102 (F := Ideal) x0 x1 y = _
  rw [e, mix_apply]
  unfold rOut
  rw [← sum_keys]
  refine Finset.sum_congr rfl fun i _ => Finset.sum_congr rfl fun kc _ => ?_
  rw [value_apply, prob_apply x0 x1 0 r h qc i kc ⟨64 * i.val + kc.val, by omega⟩ rfl]

end Cert.AttnSampleReferenceIdeal.Attn

end
-- ==== Proof.AttnSample.Equal.lean ====
/- The attention kernel and the plain attention leave equal arrays at the long sequence, from finite arguments. -/
module

public import proofs.«01_k».proof.Defs
public import proofs.«01_k».proof.Proof.Attn.Equal
public import proofs.«01_k».proof.Proof.AttnSample.Array
public import proofs.«01_k».proof.Proof.AttnSample.RefValue
public import proofs.«01_k».proof.Proof.Gen.AttnSampleReferenceIdeal.Run
public import proofs.«01_k».proof.Proof.Gen.Pre_finite_sample
public import Idealize.ShloMosaic.Lib.ReduceAll
public import Idealize.ShloMosaic.Lib.KernelVsHost

@[expose] public section

set_option maxRecDepth 16384

noncomputable section

namespace Cert.AttnSampleEqual

open Idealize.ShloMosaic Idealize.ShloMosaic.TcCoe Idealize.SL.Sem Cert.AttnSampleIdeal.Attn Cert.AttnSampleReferenceIdeal.Attn

open Cert.Attn (named_l2e named_neg named_qs real_of dot_scaled dot_real soft2_eq log2_inv_pos)

instance : Subsingleton Cert.Pre_finite_sample.S_.Idx := ⟨fun a b => funext fun i => i.elim0⟩

/-- What the precondition says: both arrays are of real numbers. -/
theorem finite_spec [Cert.Pre_finite_sample.Facts] (Z : FVec Ideal Cert.Pre_finite_sample.S1x16384x1536 .f32) (B : FVec Ideal Cert.Pre_finite_sample.S1x8x15x31 .f32)
    (h : Cert.Pre_finite_sample.fn (F := Ideal) Z B = fun _ => 1#1) : (∀ i, ∃ a : ℝ, (Z i : EReal) = a) ∧ (∀ i, ∃ a : ℝ, (B i : EReal) = a) := by
  have h0 := congrFun h (fun i => i.elim0)
  have hand : ∀ a b : BitVec 1, IntOp.andi a b = 1#1 → a = 1#1 ∧ b = 1#1 := by decide
  obtain ⟨ha, hb⟩ := hand _ _ h0
  exact ⟨fun i => real_of _ (Host.reduce_andi_all _ _ _ _ _ ha i), fun i => real_of _ (Host.reduce_andi_all _ _ _ _ _ hb i)⟩

variable (z : Cert.AttnSampleIdeal.S1x16384x1536.Idx → ℝ) (w : Cert.AttnSampleReferenceIdeal.S1x8x15x31.Idx → ℝ)

/-- The kernel's scores are the reference's, scaled. -/
theorem score_scaled (Z : Cert.AttnSampleIdeal.S1x16384x1536.Idx → EReal) (T : Cert.AttnSampleIdeal.S3720.Idx → EReal) (B : Cert.AttnSampleReferenceIdeal.S1x8x15x31.Idx → EReal)
    (hZ : ∀ i, Z i = z i) (hB : ∀ i, B i = w i)
    (hT : ∀ (h : Fin 8) (e : Fin 15) (f : Fin 31), T (ix1 ⟨465 * h.val + 31 * e.val + f.val, by omega⟩) = B (ix4 0 h e f))
    (b : Fin 1) (r : Fin 256) (qc : Fin 64) (h : Fin 8) (j : Fin 512) :
    kScore Z T b r qc h j = rScore Z B b r qc h j * (((Real.log 2)⁻¹ : ℝ) : EReal) := by
  unfold kScore rScore
  have hb : min (r.val - 4) 248 + 7 - r.val + j.val / 64 < 15 := by omega
  have hc : min (j.val % 64 + 15 - qc.val) 30 < 31 := by omega
  have eT := hT h ⟨min (r.val - 4) 248 + 7 - r.val + j.val / 64, hb⟩ ⟨min (j.val % 64 + 15 - qc.val) 30, hc⟩
  rw [named_l2e, named_neg, named_qs]
  simp only [hZ]
  rw [dot_scaled, dot_real]
  by_cases hv : min (qc.val - 8) 48 ≤ j.val % 64 ∧ j.val % 64 < min (qc.val - 8) 48 + 16
  · rw [if_pos hv, if_pos hv]
    have eT' : T (ix1 ⟨465 * h.val + 31 * (winRow r.val + 7 - r.val + j.val / 64) + min (j.val % 64 + 15 - qc.val) 30, by have := winDist_le r.val r.isLt; omega⟩) = (w (ix4 0 h ⟨min (r.val - 4) 248 + 7 - r.val + j.val / 64, hb⟩ ⟨min (j.val % 64 + 15 - qc.val) 30, hc⟩) : EReal) := eT.trans (hB _)
    rw [eT', hB]
    simp only [← EReal.coe_mul, ← EReal.coe_add]
    congr 1
    ring
  · rw [if_neg hv, if_neg hv, EReal.add_bot, EReal.bot_mul_coe_of_pos log2_inv_pos]

/-- The two arrays at an element. -/
theorem out_eq (Z : Cert.AttnSampleIdeal.S1x16384x1536.Idx → EReal) (T : Cert.AttnSampleIdeal.S3720.Idx → EReal) (B : Cert.AttnSampleReferenceIdeal.S1x8x15x31.Idx → EReal)
    (hZ : ∀ i, Z i = z i) (hB : ∀ i, B i = w i)
    (hT : ∀ (h : Fin 8) (e : Fin 15) (f : Fin 31), T (ix1 ⟨465 * h.val + 31 * e.val + f.val, by omega⟩) = B (ix4 0 h e f))
    (b : Fin 1) (r : Fin 256) (qc : Fin 64) (h : Fin 8) (d : Fin 64) : kOut Z T b r qc h d = rOut Z B b r qc h d := by
  have real : ∀ j : Fin 512, (min (qc.val - 8) 48 ≤ j.val % 64 ∧ j.val % 64 < min (qc.val - 8) 48 + 16) → ∃ x : ℝ, rScore Z B b r qc h j = x := by
    intro j hv
    unfold rScore
    rw [if_pos hv]
    simp only [hZ]
    rw [dot_real, hB, ← EReal.coe_mul, ← EReal.coe_add]
    exact ⟨_, rfl⟩
  unfold kOut rOut
  have ev : (fun j : Fin 512 => Z (ix3 b ⟨64 * winRow r.val + j.val, by have := winRow_le r.val; omega⟩ ⟨1024 + (64 * h.val + d.val), by omega⟩))
      = fun j => ((z (ix3 b ⟨64 * winRow r.val + j.val, by have := winRow_le r.val; omega⟩ ⟨1024 + (64 * h.val + d.val), by omega⟩) : ℝ) : EReal) := funext fun j => hZ _
  rw [ev]
  refine (soft2_eq _ (rScore Z B b r qc h) _ (fun j => ?_) ?_ (score_scaled z w Z T B hZ hB hT b r qc h)).trans ?_
  · by_cases hv : min (qc.val - 8) 48 ≤ j.val % 64 ∧ j.val % 64 < min (qc.val - 8) 48 + 16
    · exact Or.inr (real j hv)
    · refine Or.inl ?_
      unfold rScore
      rw [if_neg hv]
  · refine ⟨⟨min (qc.val - 8) 48, by omega⟩, real _ ?_⟩
    show min (qc.val - 8) 48 ≤ min (qc.val - 8) 48 % 64 ∧ min (qc.val - 8) 48 % 64 < min (qc.val - 8) 48 + 16
    omega
  · exact Finset.sum_congr rfl fun j _ => congrArg₂ (· * ·) (hZ _).symm rfl

theorem algebraic [hP : Cert.Pre_finite_sample.Facts] : algebraic_AttnSampleIdeal_AttnSampleReferenceIdeal_pre_finite_sample := by
  intro m g m' g' hpre hm
  refine ⟨fun c => kArr (zv m c) (tb m c), Cert.AttnSampleIdeal.Attn.run m g, ?_⟩
  refine (θ_run Cert.AttnSampleReferenceIdeal.defs _ _).mono (fun r h c => ⟨(h c).1.trans ?_, (h c).2⟩) (Cert.AttnSampleReferenceIdeal.Value.run m' g')
  rw [Cert.AttnSampleReferenceIdeal.Read.val_main_v103_eq, (hm c).1, (hm c).2]
  obtain ⟨hZ, hB⟩ := finite_spec _ _ (hpre c)
  choose z hz using hZ
  choose w hw using hB
  funext y
  have y1 : (y 1).val < 16384 := (y 1).isLt
  have y2 : (y 2).val < 512 := (y 2).isLt
  rw [result_apply _ _ ⟨(y 0).val, (y 0).isLt⟩ ⟨(y 1).val / 64, by omega⟩ ⟨(y 1).val % 64, by omega⟩ ⟨(y 2).val / 64, by omega⟩ ⟨(y 2).val % 64, by omega⟩ y rfl
    (by show (y 1).val = 64 * ((y 1).val / 64) + (y 1).val % 64; omega) (by show (y 2).val = 64 * ((y 2).val / 64) + (y 2).val % 64; omega)]
  refine ((out_eq z w _ _ _ ?_ ?_ ?_ _ _ _ _ _).symm)
  · intro i; exact hz i
  · intro i; exact hw i
  · intro h e f; exact tb_apply m c h e f

end Cert.AttnSampleEqual

end
-- ==== Proof.lean ====
module

public import proofs.«01_k».proof.Defs
public import proofs.«01_k».proof.Proof.Attn.Frame
public import proofs.«01_k».proof.Proof.AttnBits.Frame
public import proofs.«01_k».proof.Proof.Attn.Equal
public import proofs.«01_k».proof.Proof.Ffn.Equal
public import proofs.«01_k».proof.Proof.Inproj.Equal
public import proofs.«01_k».proof.Proof.Sample.Equal
public import proofs.«01_k».proof.Proof.InSample.Equal
public import proofs.«01_k».proof.Proof.AttnSample.Frame
public import proofs.«01_k».proof.Proof.AttnSampleBits.Frame
public import proofs.«01_k».proof.Proof.AttnSample.Equal
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.ReferenceIdeal.Read
public import proofs.«01_k».proof.Proof.Gen.FfnSample
public import proofs.«01_k».proof.Proof.Gen.FfnSample.Frame
public import proofs.«01_k».proof.Proof.Gen.FfnSampleIdeal
public import proofs.«01_k».proof.Proof.Gen.FfnSampleIdeal.Frame
public import proofs.«01_k».proof.Proof.Gen.FfnSampleIdeal.Value
public import proofs.«01_k».proof.Proof.Gen.FfnSampleReferenceIdeal
public import proofs.«01_k».proof.Proof.Gen.FfnSampleReferenceIdeal.Run
public import proofs.«01_k».proof.Proof.Gen.FfnSampleReferenceIdeal.Read
public import proofs.«01_k».proof.Proof.Gen.InprojSample
public import proofs.«01_k».proof.Proof.Gen.InprojSample.Frame
public import proofs.«01_k».proof.Proof.Gen.InprojSampleIdeal
public import proofs.«01_k».proof.Proof.Gen.InprojSampleIdeal.Frame
public import proofs.«01_k».proof.Proof.Gen.InprojSampleIdeal.Value
public import proofs.«01_k».proof.Proof.Gen.InprojSampleReferenceIdeal
public import proofs.«01_k».proof.Proof.Gen.InprojSampleReferenceIdeal.Run
public import proofs.«01_k».proof.Proof.Gen.InprojSampleReferenceIdeal.Read
public import proofs.«01_k».proof.Proof.Gen.AttnSample
public import proofs.«01_k».proof.Proof.Gen.AttnSampleIdeal
public import proofs.«01_k».proof.Proof.Gen.AttnSampleReferenceIdeal
public import proofs.«01_k».proof.Proof.Gen.Pre_finite_sample
public import proofs.«01_k».proof.Proof.Gen.AttnSample.Frame.Runs
public import proofs.«01_k».proof.Proof.Gen.AttnSampleIdeal.Frame.Runs
public import proofs.«01_k».proof.Proof.Gen.AttnSampleReferenceIdeal.Run
public import proofs.«01_k».proof.Proof.Gen.AttnSampleReferenceIdeal.Read
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.InprojReferenceIdeal.Read
public import Idealize.ShloMosaic.Adequacy
public import Idealize.ShloMosaic.Init

@[expose] public section

noncomputable section

namespace Cert.Proof

open Idealize.ShloMosaic Idealize.SL.Sem Cert.Kernel

/-- The plain attention runs, leaves its arguments as they were, and has no counter. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run m g)

/-- The plain attention at the long sequence runs, leaves its arguments as they were, and has no counter. -/
theorem sample_reference_frame (m : (ℓ : Loc Cert.AttnSampleReferenceIdeal.nD Cert.AttnSampleReferenceIdeal.τ Cert.AttnSampleReferenceIdeal.sig) → Buf (Elt Ideal) ℓ) (g : Dev Cert.AttnSampleReferenceIdeal.nD → PrngReg) :
    θ_run (Cert.AttnSampleReferenceIdeal.defs (F := Ideal)) (onTc (τ := Cert.AttnSampleReferenceIdeal.τ) (Cert.AttnSampleReferenceIdeal.main (F := Ideal))) ⟨m, fun _ => 0, g⟩ (fun r => (∀ c : Dev Cert.AttnSampleReferenceIdeal.nD,
      r.2.mem ((c.tc : Thread Cert.AttnSampleReferenceIdeal.nD Cert.AttnSampleReferenceIdeal.τ).loc Cert.AttnSampleReferenceIdeal.main_arg0) = m ((c.tc : Thread Cert.AttnSampleReferenceIdeal.nD Cert.AttnSampleReferenceIdeal.τ).loc Cert.AttnSampleReferenceIdeal.main_arg0)
      ∧ r.2.mem ((c.tc : Thread Cert.AttnSampleReferenceIdeal.nD Cert.AttnSampleReferenceIdeal.τ).loc Cert.AttnSampleReferenceIdeal.main_arg1) = m ((c.tc : Thread Cert.AttnSampleReferenceIdeal.nD Cert.AttnSampleReferenceIdeal.τ).loc Cert.AttnSampleReferenceIdeal.main_arg1))
      ∧ r.2.sem = fun _ => 0) :=
  (θ_run Cert.AttnSampleReferenceIdeal.defs _ _).mono (fun r h => ⟨fun c => (h c).2, Idealize.ShloMosaic.sem_eq_zero_of_no_sems (by decide) r.2⟩)
    (Cert.AttnSampleReferenceIdeal.Value.run m g)

theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.FfnSample.Gen.facts, Cert.FfnSampleIdeal.Gen.facts, Cert.FfnSampleReferenceIdeal.Gen.facts,
    Cert.Inproj.Gen.facts, Cert.InprojIdeal.Gen.facts, Cert.InprojReferenceIdeal.Gen.facts,
    Cert.InprojSample.Gen.facts, Cert.InprojSampleIdeal.Gen.facts, Cert.InprojSampleReferenceIdeal.Gen.facts,
    Cert.AttnSample.Gen.facts, Cert.AttnSampleIdeal.Gen.facts, Cert.AttnSampleReferenceIdeal.Gen.facts,
    Cert.Pre_finite.Gen.facts, Cert.Pre_finite_sample.Gen.facts,
    fun m g _ => Cert.Kernel.Attn.frame m g,
    fun m g _ => Cert.KernelIdeal.Attn.frame m g,
    fun m g _ => Cert.KernelIdeal.Attn.frame m g,
    fun m g _ => reference_frame m g,
    fun m g _ => reference_frame m g,
    fun m g _ => Cert.Ffn.Gen.frame m g,
    fun m g _ => Cert.FfnIdeal.Gen.frame m g,
    fun m g _ => (θ_run Cert.FfnReferenceIdeal.defs _ _).mono
      (fun r h => ⟨fun c => (h c).2, Idealize.ShloMosaic.sem_eq_zero_of_no_sems (by decide) r.2⟩) (Cert.FfnReferenceIdeal.Value.run m g),
    fun m g _ => Cert.FfnSample.Gen.frame m g,
    fun m g _ => Cert.FfnSampleIdeal.Gen.frame m g,
    fun m g _ => (θ_run Cert.FfnSampleReferenceIdeal.defs _ _).mono
      (fun r h => ⟨fun c => (h c).2, Idealize.ShloMosaic.sem_eq_zero_of_no_sems (by decide) r.2⟩) (Cert.FfnSampleReferenceIdeal.Value.run m g),
    fun m g _ => Cert.Inproj.Gen.frame m g,
    fun m g _ => Cert.InprojIdeal.Gen.frame m g,
    fun m g _ => (θ_run Cert.InprojReferenceIdeal.defs _ _).mono
      (fun r h => ⟨fun c => (h c).2.2.2.2, Idealize.ShloMosaic.sem_eq_zero_of_no_sems (by decide) r.2⟩) (Cert.InprojReferenceIdeal.Value.run m g),
    fun m g _ => Cert.InprojSample.Gen.frame m g,
    fun m g _ => Cert.InprojSampleIdeal.Gen.frame m g,
    fun m g _ => (θ_run Cert.InprojSampleReferenceIdeal.defs _ _).mono
      (fun r h => ⟨fun c => (h c).2.2.2.2, Idealize.ShloMosaic.sem_eq_zero_of_no_sems (by decide) r.2⟩) (Cert.InprojSampleReferenceIdeal.Value.run m g),
    fun m g _ => Cert.AttnSample.Attn.frame m g,
    fun m g _ => Cert.AttnSampleIdeal.Attn.frame m g,
    fun m g _ => Cert.AttnSampleIdeal.Attn.frame m g,
    fun m g _ => sample_reference_frame m g,
    fun m g _ => sample_reference_frame m g,
    ⟨IdealRules.named_const.statement Cert.KernelIdeal.κ "log2e" .f32 0x3FB8AA3B#32 (((Real.log 2)⁻¹ : ℝ) : EReal) rfl,
      IdealRules.named_const.statement Cert.KernelIdeal.κ "neg" .f32 0xF149F2CA#32 ⊥ rfl,
      IdealRules.named_const.statement Cert.KernelIdeal.κ "qscale" .f32 0x3E38AA3B#32 ((8⁻¹ * (Real.log 2)⁻¹ : ℝ) : EReal) rfl⟩,
    Cert.Attn.algebraic,
    trivial,
    Cert.FfnEqual.algebraic,
    trivial,
    Cert.SampleEqual.algebraic,
    trivial,
    Cert.InEqual.algebraic,
    trivial,
    Cert.InSampleEqual.algebraic,
    ⟨IdealRules.named_const.statement Cert.AttnSampleIdeal.κ "log2e" .f32 0x3FB8AA3B#32 (((Real.log 2)⁻¹ : ℝ) : EReal) rfl,
      IdealRules.named_const.statement Cert.AttnSampleIdeal.κ "neg" .f32 0xF149F2CA#32 ⊥ rfl,
      IdealRules.named_const.statement Cert.AttnSampleIdeal.κ "qscale" .f32 0x3E38AA3B#32 ((8⁻¹ * (Real.log 2)⁻¹ : ℝ) : EReal) rfl⟩,
    Cert.AttnSampleEqual.algebraic⟩

end Cert.Proof

end
